-- ==== Defs.lean ====
def Pre_Kernel [hPre_domain : Cert.Pre_domain.Facts] (m : (ℓ : Loc Cert.Kernel.nD Cert.Kernel.τ Cert.Kernel.sig) → Buf (Elt Bits) ℓ) : Prop :=
  ∀ c : Dev Cert.Kernel.nD,
    (Cert.Pre_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_domain : Cert.Pre_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel) (hPre_domain := hPre_domain)
    ∧ quiescent_KernelIdeal (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal (hKernelIdeal := hKernelIdeal) (hReferenceIdeal := hReferenceIdeal) (hPre_domain := hPre_domain)
-- ==== Pre_domain.lean ====
abbrev S8x32x8 : Shape := ⟨3, ![8, 32, 8]⟩
abbrev S8x32 : Shape := ⟨2, ![8, 32]⟩
abbrev S8 : Shape := ⟨1, ![8]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩

class Facts : Prop where
  bcast_S_S8x32x8 : S_.BroadcastsInDim S8x32x8 (![] : Fin 0 → Fin S8x32x8.rank)
  reducesTo_S8x32x8_S_d0_1_2 : S8x32x8.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v15 : IVec S_ 1) (main_v16 : FVec F S4096 .f32) : IVec S_ 1 :=
  let main_cst_5 : FVec F S_ .f32 := constant S_ .f32 0x7F800000#32
  let main_v17 : FVec F S4096 .f32 := broadcastInDim S4096 ![] bcast_S_S4096 main_cst_5
  let main_v18 : IVec S4096 1 := cmpf .olt main_v16 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v15 main_v19
  main_v20

def fn {F : FTy → Type} [FloatOps F] (main_arg0 : IVec S8x32x8 32) (main_arg1 : IVec S8x32 32) (main_arg2 : IVec S8 32) (main_arg3 : FVec F S4096x128 .f32) (main_arg4 : FVec F S4096x128 .f32) (main_arg5 : FVec F S4096x4096 .f32) (main_arg6 : FVec F S4096 .f32) (main_arg7 : FVec F S4096 .f32) : IVec S_ 1 :=
  let main_c : IVec S_ 32 := constantI S_ 32 0#32
  let main_v0 : IVec S8x32x8 32 := broadcastInDim S8x32x8 ![] bcast_S_S8x32x8 main_c
  let main_v1 : IVec S8x32x8 1 := cmpi .sge main_arg0 main_v0
  let main_c_0 : IVec S_ 32 := constantI S_ 32 4096#32
  let main_v2 : IVec S8x32x8 32 := broadcastInDim S8x32x8 ![] bcast_S_S8x32x8 main_c_0
  let main_v3 : IVec S8x32x8 1 := cmpi .slt main_arg0 main_v2
  let main_v4 : IVec S8x32x8 1 := andi main_v1 main_v3
  let main_c_1 : IVec S_ 1 := constantI S_ 1 1#1
  let main_v5 : IVec S_ 1 := (fun x v => Host.reduce IntOp.andi x v reducesTo_S8x32x8_S_d0_1_2 h_S_) main_v4 main_c_1
  let main_v6 : FVec F S4096x4096 .f32 := Host.absf main_arg5
  let main_cst : FVec F S_ .f32 := constant S_ .f32 0x7F800000#32
  let main_v7 : FVec F S4096x4096 .f32 := broadcastInDim S4096x4096 ![] bcast_S_S4096x4096 main_cst
  let main_v8 : IVec S4096x4096 1 := cmpf .olt main_v6 main_v7
  let main_c_2 : IVec S_ 1 := constantI S_ 1 1#1
  let main_v9 : IVec S_ 1 := (fun x v => Host.reduce IntOp.andi x v reducesTo_S4096x4096_S_d0_1 h_S_) main_v8 main_c_2
  let main_v10 : IVec S_ 1 := andi main_v5 main_v9
  let main_v11 : FVec F S4096 .f32 := Host.absf main_arg6
  let main_cst_3 : FVec F S_ .f32 := constant S_ .f32 0x7F800000#32
  let main_v12 : FVec F S4096 .f32 := broadcastInDim S4096 ![] bcast_S_S4096 main_cst_3
  let main_v13 : IVec S4096 1 := cmpf .olt main_v11 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v10 main_v14
  let main_v16 : FVec F S4096 .f32 := Host.absf main_arg7
  fn_part1 (F := F) main_v15 main_v16
-- ==== Kernel.lean ====
abbrev S8x32x8 : Shape := ⟨3, ![8, 32, 8]⟩
abbrev S8x32 : Shape := ⟨2, ![8, 32]⟩
abbrev S8 : Shape := ⟨1, ![8]⟩
abbrev S4096x128 : Shape := ⟨2, ![4096, 128]⟩
abbrev S4096x4096 : Shape := ⟨2, ![4096, 4096]⟩
abbrev S4096 : Shape := ⟨1, ![4096]⟩
abbrev S1x1x8 : Shape := ⟨3, ![1, 1, 8]⟩
abbrev S8x32x1 : Shape := ⟨3, ![8, 32, 1]⟩
abbrev S32 : Shape := ⟨1, ![32]⟩
abbrev S1x32x1 : Shape := ⟨3, ![1, 32, 1]⟩
abbrev S8x1x1 : Shape := ⟨3, ![8, 1, 1]⟩
abbrev S_ : Shape := ⟨0, ![]⟩
abbrev S2048 : Shape := ⟨1, ![2048]⟩
abbrev S32x8x8 : Shape := ⟨3, ![32, 8, 8]⟩
abbrev S8x4096 : Shape := ⟨2, ![8, 4096]⟩
abbrev S8x1 : Shape := ⟨2, ![8, 1]⟩
abbrev S8x256 : Shape := ⟨2, ![8, 256]⟩
abbrev S8x256x1 : Shape := ⟨3, ![8, 256, 1]⟩
abbrev S8x256x2 : Shape := ⟨3, ![8, 256, 2]⟩
abbrev S1x4096 : Shape := ⟨2, ![1, 4096]⟩
abbrev S256x128 : Shape := ⟨2, ![256, 128]⟩
abbrev S8x32x128 : Shape := ⟨3, ![8, 32, 128]⟩
abbrev S1x8x8 : Shape := ⟨3, ![1, 8, 8]⟩
abbrev S4x8x8x4096 : Shape := ⟨4, ![4, 8, 8, 4096]⟩
abbrev S256x4096 : Shape := ⟨2, ![256, 4096]⟩
abbrev S4 : Shape := ⟨1, ![4]⟩
abbrev S1 : Shape := ⟨1, ![1]⟩
abbrev S1x1x1x4096 : Shape := ⟨4, ![1, 1, 1, 4096]⟩
abbrev S8x128 : Shape := ⟨2, ![8, 128]⟩
abbrev S1x128 : Shape := ⟨2, ![1, 128]⟩
abbrev S8x8 : Shape := ⟨2, ![8, 8]⟩
abbrev S1x1x8x4096 : Shape := ⟨4, ![1, 1, 8, 4096]⟩

abbrev nBuf : Space → Nat
  | .hbm => 63
  | .vmem => 12
  | .smem => 2
  | _ => 0

abbrev bufTy : (tb : Table) → Fin (tcTables nBuf tb) → BufTy
  | .hbm, ⟨0, _⟩ => ⟨S8x32x8, .i32⟩
  | .hbm, ⟨1, _⟩ => ⟨S8x32, .i32⟩
  | .hbm, ⟨2, _⟩ => ⟨S4096x128, .f32⟩
  | .hbm, ⟨3, _⟩ => ⟨S4096x128, .f32⟩
  | .hbm, ⟨4, _⟩ => ⟨S4096x4096, .f32⟩
  | .hbm, ⟨5, _⟩ => ⟨S4096, .f32⟩
  | .hbm, ⟨6, _⟩ => ⟨S4096, .f32⟩
  | .hbm, ⟨7, _⟩ => ⟨S8, .i32⟩
  | .hbm, ⟨8, _⟩ => ⟨S1x1x8, .i32⟩
  | .hbm, ⟨9, _⟩ => ⟨S8x32x1, .i32⟩
  | .hbm, ⟨10, _⟩ => ⟨S8x32x8, .i32⟩
  | .hbm, ⟨11, _⟩ => ⟨S8x32x8, .i32⟩
  | .hbm, ⟨12, _⟩ => ⟨S8x32x8, .i1⟩
  | .hbm, ⟨13, _⟩ => ⟨S32, .i32⟩
  | .hbm, ⟨14, _⟩ => ⟨S1x32x1, .i32⟩
  | .hbm, ⟨15, _⟩ => ⟨S8x1x1, .i32⟩
  | .hbm, ⟨16, _⟩ => ⟨S8x32x1, .i32⟩
  | .hbm, ⟨17, _⟩ => ⟨S8x32x1, .i32⟩
  | .hbm, ⟨18, _⟩ => ⟨S8x32x1, .i1⟩
  | .hbm, ⟨19, _⟩ => ⟨S8x32x8, .i1⟩
  | .hbm, ⟨20, _⟩ => ⟨S8x32x8, .i1⟩
  | .hbm, ⟨21, _⟩ => ⟨S8x32x8, .f32⟩
  | .hbm, ⟨22, _⟩ => ⟨S_, .i32⟩
  | .hbm, ⟨23, _⟩ => ⟨S8x32, .i32⟩
  | .hbm, ⟨24, _⟩ => ⟨S8x32, .i32⟩
  | .hbm, ⟨25, _⟩ => ⟨S8x32x1, .i32⟩
  | .hbm, ⟨26, _⟩ => ⟨S8x32x1, .f32⟩
  | .hbm, ⟨27, _⟩ => ⟨S8x32x8, .f32⟩
  | .hbm, ⟨28, _⟩ => ⟨S8x32x8, .f32⟩
  | .hbm, ⟨29, _⟩ => ⟨S32x8x8, .f32⟩
  | .hbm, ⟨30, _⟩ => ⟨S_, .f32⟩
  | .hbm, ⟨31, _⟩ => ⟨S8x4096, .f32⟩
  | .hbm, ⟨32, _⟩ => ⟨S8, .i32⟩
  | .hbm, ⟨33, _⟩ => ⟨S8x1, .i32⟩
  | .hbm, ⟨34, _⟩ => ⟨S8x256, .i32⟩
  | .hbm, ⟨35, _⟩ => ⟨S8x256, .f32⟩
  | .hbm, ⟨36, _⟩ => ⟨S8x1, .i32⟩
  | .hbm, ⟨37, _⟩ => ⟨S8x1, .f32⟩
  | .hbm, ⟨38, _⟩ => ⟨S8x256, .f32⟩
  | .hbm, ⟨39, _⟩ => ⟨S8x256, .f32⟩
  | .hbm, ⟨40, _⟩ => ⟨S_, .i32⟩
  | .hbm, ⟨41, _⟩ => ⟨S8x1, .i32⟩
  | .hbm, ⟨42, _⟩ => ⟨S8x1, .i1⟩
  | .hbm, ⟨43, _⟩ => ⟨S_, .i32⟩
  | .hbm, ⟨44, _⟩ => ⟨S8x1, .i32⟩
  | .hbm, ⟨45, _⟩ => ⟨S8x1, .i32⟩
  | .hbm, ⟨46, _⟩ => ⟨S8x1, .i32⟩
  | .hbm, ⟨47, _⟩ => ⟨S_, .i32⟩
  | .hbm, ⟨48, _⟩ => ⟨S8x256, .i32⟩
  | .hbm, ⟨49, _⟩ => ⟨S8x256, .i1⟩
  | .hbm, ⟨50, _⟩ => ⟨S_, .i32⟩
  | .hbm, ⟨51, _⟩ => ⟨S8x256, .i32⟩
  | .hbm, ⟨52, _⟩ => ⟨S8x256, .i32⟩
  | .hbm, ⟨53, _⟩ => ⟨S8x256, .i32⟩
  | .hbm, ⟨54, _⟩ => ⟨S8x256, .i32⟩
  | .hbm, ⟨55, _⟩ => ⟨S8x256x1, .i32⟩
  | .hbm, ⟨56, _⟩ => ⟨S8x256x1, .i32⟩
  | .hbm, ⟨57, _⟩ => ⟨S8x256x2, .i32⟩
  | .hbm, ⟨58, _⟩ => ⟨S8x4096, .f32⟩
  | .hbm, ⟨59, _⟩ => ⟨S1x4096, .f32⟩
  | .hbm, ⟨60, _⟩ => ⟨S1x4096, .f32⟩
  | .hbm, ⟨61, _⟩ => ⟨S256x128, .f32⟩
  | .hbm, ⟨62, _⟩ => ⟨S8x32x128, .f32⟩
  | .local _ .vmem, ⟨0, _⟩ => ⟨S1x8x8, .f32⟩
  | .local _ .vmem, ⟨1, _⟩ => ⟨S1x8x8, .f32⟩
  | .local _ .vmem, ⟨2, _⟩ => ⟨S8x4096, .f32⟩
  | .local _ .vmem, ⟨3, _⟩ => ⟨S4096x128, .f32⟩
  | .local _ .vmem, ⟨4, _⟩ => ⟨S4096x128, .f32⟩
  | .local _ .vmem, ⟨5, _⟩ => ⟨S1x4096, .f32⟩
  | .local _ .vmem, ⟨6, _⟩ => ⟨S1x4096, .f32⟩
  | .local _ .vmem, ⟨7, _⟩ => ⟨S256x128, .f32⟩
  | .local _ .vmem, ⟨8, _⟩ => ⟨S4x8x8x4096, .f32⟩
  | .local _ .vmem, ⟨9, _⟩ => ⟨S8x4096, .f32⟩
  | .local _ .vmem, ⟨10, _⟩ => ⟨S1x4096, .f32⟩
  | .local _ .vmem, ⟨11, _⟩ => ⟨S256x4096, .f32⟩
  | .local _ .smem, ⟨0, _⟩ => ⟨S2048, .i32⟩
  | .local _ .smem, ⟨1, _⟩ => ⟨S8, .i32⟩
  | _, _ => ⟨S8x32x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_c : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v22 : Ref sig .tc := ⟨.hbm, 29, rfl⟩
abbrev main_call0_cst : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_v27 : Ref sig .tc := ⟨.hbm, 35, rfl⟩
abbrev main_call0_v28 : Ref sig .tc := ⟨.hbm, 36, rfl⟩
abbrev main_call0_v29 : Ref sig .tc := ⟨.hbm, 37, rfl⟩
abbrev main_call0_v30 : Ref sig .tc := ⟨.hbm, 38, rfl⟩
abbrev main_call0_v31 : Ref sig .tc := ⟨.hbm, 39, rfl⟩
abbrev main_call0_c_0 : Ref sig .tc := ⟨.hbm, 40, rfl⟩
abbrev main_call0_v32 : Ref sig .tc := ⟨.hbm, 41, rfl⟩
abbrev main_call0_v33 : Ref sig .tc := ⟨.hbm, 42, rfl⟩
abbrev main_call0_c_1 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_c_2 : Ref sig .tc := ⟨.hbm, 47, rfl⟩
abbrev main_call0_v37 : Ref sig .tc := ⟨.hbm, 48, rfl⟩
abbrev main_call0_v38 : Ref sig .tc := ⟨.hbm, 49, rfl⟩
abbrev main_call0_c_3 : Ref sig .tc := ⟨.hbm, 50, rfl⟩
abbrev main_call0_v39 : Ref sig .tc := ⟨.hbm, 51, rfl⟩
abbrev main_call0_v40 : Ref sig .tc := ⟨.hbm, 52, rfl⟩
abbrev main_call0_v41 : Ref sig .tc := ⟨.hbm, 53, rfl⟩
abbrev main_call0_v42 : Ref sig .tc := ⟨.hbm, 54, rfl⟩
abbrev main_call0_v43 : Ref sig .tc := ⟨.hbm, 55, rfl⟩
abbrev main_call0_v44 : Ref sig .tc := ⟨.hbm, 56, rfl⟩
abbrev main_call0_v45 : Ref sig .tc := ⟨.hbm, 57, rfl⟩
abbrev main_call0_v46 : Ref sig .tc := ⟨.hbm, 58, rfl⟩
abbrev main_call0_v47 : Ref sig .tc := ⟨.hbm, 59, rfl⟩
abbrev main_call0_v48 : Ref sig .tc := ⟨.hbm, 60, rfl⟩
abbrev main_call0_v49 : Ref sig .tc := ⟨.hbm, 61, rfl⟩
abbrev main_v0 : Ref sig .tc := ⟨.hbm, 62, rfl⟩
abbrev main_call0_v21 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_call0_v21.idx, main_arg2.idx], fun | 0 => main_call0_v21.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v100 : BitVec 32) : Fin 2 → Nat :=
  let c0_i32_58 : BitVec 32 := 0#32
  ![v100.toNat, 0]
def k0_cond2 (v41 : BitVec 32) : BitVec 1 :=
  let c0_i32_16 : BitVec 32 := 0#32
  let c4_i32_17 : BitVec 32 := 4#32
  let v42 : BitVec 32 := Scalar.remsi c0_i32_16 c4_i32_17
  let c8_i32_18 : BitVec 32 := 8#32
  let v43 : BitVec 32 := Scalar.muli v42 c8_i32_18
  let v44 : BitVec 1 := Scalar.cmpi .sgt v41 v43
  let v45 : BitVec 32 := Scalar.extui v44
  let c0_i32_19 : BitVec 32 := 0#32
  let v46 : BitVec 1 := Scalar.cmpi .ne v45 c0_i32_19
  v46

def k0_chk1 (i : grid0.Coords) (v41 : BitVec 32) (v100 : BitVec 32) : Prop :=
  (∀ (k0_h1 : k0_cond1 i = 1#1), ∀ (k0_h2 : k0_cond2 v41 = 1#1), ∀ a, (k0_off1 v100) a + S1x4096.size a ≤ S4096x4096.size a)
theorem k0_off1_inb : ∀ (i : grid0.Coords) (v41 : BitVec 32) (v100 : BitVec 32) (k0_hw1 : k0_chk1 i v41 v100), ∀ (k0_h1 : k0_cond1 i = 1#1), ∀ (k0_h2 : k0_cond2 v41 = 1#1), ∀ a, (k0_off1 v100) a + S1x4096.size a ≤ S4096x4096.size a := fun i v41 v100 k0_hw1 k0_h1 k0_h2 => k0_hw1 k0_h1 k0_h2

def k0_off2 (v106 : BitVec 32) : Fin 2 → Nat :=
  let c0_i32_64 : BitVec 32 := 0#32
  ![v106.toNat, 0]

def k0_chk2 (i : grid0.Coords) (v41 : BitVec 32) (v106 : BitVec 32) : Prop :=
  (∀ (k0_h1 : k0_cond1 i = 1#1), ∀ (k0_h2 : k0_cond2 v41 = 1#1), ∀ a, (k0_off2 v106) a + S1x4096.size a ≤ S4096x4096.size a)
theorem k0_off2_inb : ∀ (i : grid0.Coords) (v41 : BitVec 32) (v106 : BitVec 32) (k0_hw2 : k0_chk2 i v41 v106), ∀ (k0_h1 : k0_cond1 i = 1#1), ∀ (k0_h2 : k0_cond2 v41 = 1#1), ∀ a, (k0_off2 v106) a + S1x4096.size a ≤ S4096x4096.size a := fun i v41 v106 k0_hw2 k0_h1 k0_h2 => k0_hw2 k0_h1 k0_h2

def k0_off3 (v112 : BitVec 32) : Fin 2 → Nat :=
  let c0_i32_70 : BitVec 32 := 0#32
  ![v112.toNat, 0]

def k0_chk3 (i : grid0.Coords) (v41 : BitVec 32) (v112 : BitVec 32) : Prop :=
  (∀ (k0_h1 : k0_cond1 i = 1#1), ∀ (k0_h2 : k0_cond2 v41 = 1#1), ∀ a, (k0_off3 v112) a + S1x4096.size a ≤ S4096x4096.size a)
theorem k0_off3_inb : ∀ (i : grid0.Coords) (v41 : BitVec 32) (v112 : BitVec 32) (k0_hw3 : k0_chk3 i v41 v112), ∀ (k0_h1 : k0_cond1 i = 1#1), ∀ (k0_h2 : k0_cond2 v41 = 1#1), ∀ a, (k0_off3 v112) a + S1x4096.size a ≤ S4096x4096.size a := fun i v41 v112 k0_hw3 k0_h1 k0_h2 => k0_hw3 k0_h1 k0_h2

def k0_off4 (v118 : BitVec 32) : Fin 2 → Nat :=
  let c0_i32_75 : BitVec 32 := 0#32
  ![v118.toNat, 0]

def k0_chk4 (i : grid0.Coords) (v41 : BitVec 32) (v118 : BitVec 32) : Prop :=
  (∀ (k0_h1 : k0_cond1 i = 1#1), ∀ (k0_h2 : k0_cond2 v41 = 1#1), ∀ a, (k0_off4 v118) a + S1x4096.size a ≤ S4096x4096.size a)
theorem k0_off4_inb : ∀ (i : grid0.Coords) (v41 : BitVec 32) (v118 : BitVec 32) (k0_hw4 : k0_chk4 i v41 v118), ∀ (k0_h1 : k0_cond1 i = 1#1), ∀ (k0_h2 : k0_cond2 v41 = 1#1), ∀ a, (k0_off4 v118) a + S1x4096.size a ≤ S4096x4096.size a := fun i v41 v118 k0_hw4 k0_h1 k0_h2 => k0_hw4 k0_h1 k0_h2

def k0_off5 (v124 : BitVec 32) : Fin 2 → Nat :=
  let c0_i32_81 : BitVec 32 := 0#32
  ![v124.toNat, 0]

def k0_chk5 (i : grid0.Coords) (v41 : BitVec 32) (v124 : BitVec 32) : Prop :=
  (∀ (k0_h1 : k0_cond1 i = 1#1), ∀ (k0_h2 : k0_cond2 v41 = 1#1), ∀ a, (k0_off5 v124) a + S1x4096.size a ≤ S4096x4096.size a)
theorem k0_off5_inb : ∀ (i : grid0.Coords) (v41 : BitVec 32) (v124 : BitVec 32) (k0_hw5 : k0_chk5 i v41 v124), ∀ (k0_h1 : k0_cond1 i = 1#1), ∀ (k0_h2 : k0_cond2 v41 = 1#1), ∀ a, (k0_off5 v124) a + S1x4096.size a ≤ S4096x4096.size a := fun i v41 v124 k0_hw5 k0_h1 k0_h2 => k0_hw5 k0_h1 k0_h2

def k0_off6 (v130 : BitVec 32) : Fin 2 → Nat :=
  let c0_i32_86 : BitVec 32 := 0#32
  ![v130.toNat, 0]

def k0_chk6 (i : grid0.Coords) (v41 : BitVec 32) (v130 : BitVec 32) : Prop :=
  (∀ (k0_h1 : k0_cond1 i = 1#1), ∀ (k0_h2 : k0_cond2 v41 = 1#1), ∀ a, (k0_off6 v130) a + S1x4096.size a ≤ S4096x4096.size a)
theorem k0_off6_inb : ∀ (i : grid0.Coords) (v41 : BitVec 32) (v130 : BitVec 32) (k0_hw6 : k0_chk6 i v41 v130), ∀ (k0_h1 : k0_cond1 i = 1#1), ∀ (k0_h2 : k0_cond2 v41 = 1#1), ∀ a, (k0_off6 v130) a + S1x4096.size a ≤ S4096x4096.size a := fun i v41 v130 k0_hw6 k0_h1 k0_h2 => k0_hw6 k0_h1 k0_h2

def k0_off7 (v136 : BitVec 32) : Fin 2 → Nat :=
  let c0_i32_91 : BitVec 32 := 0#32
  ![v136.toNat, 0]

def k0_chk7 (i : grid0.Coords) (v41 : BitVec 32) (v136 : BitVec 32) : Prop :=
  (∀ (k0_h1 : k0_cond1 i = 1#1), ∀ (k0_h2 : k0_cond2 v41 = 1#1), ∀ a, (k0_off7 v136) a + S1x4096.size a ≤ S4096x4096.size a)
theorem k0_off7_inb : ∀ (i : grid0.Coords) (v41 : BitVec 32) (v136 : BitVec 32) (k0_hw7 : k0_chk7 i v41 v136), ∀ (k0_h1 : k0_cond1 i = 1#1), ∀ (k0_h2 : k0_cond2 v41 = 1#1), ∀ a, (k0_off7 v136) a + S1x4096.size a ≤ S4096x4096.size a := fun i v41 v136 k0_hw7 k0_h1 k0_h2 => k0_hw7 k0_h1 k0_h2

def k0_off8 (v142 : BitVec 32) : Fin 2 → Nat :=
  let c0_i32_96 : BitVec 32 := 0#32
  ![v142.toNat, 0]

def k0_chk8 (i : grid0.Coords) (v41 : BitVec 32) (v142 : BitVec 32) : Prop :=
  (∀ (k0_h1 : k0_cond1 i = 1#1), ∀ (k0_h2 : k0_cond2 v41 = 1#1), ∀ a, (k0_off8 v142) a + S1x4096.size a ≤ S4096x4096.size a)
theorem k0_off8_inb : ∀ (i : grid0.Coords) (v41 : BitVec 32) (v142 : BitVec 32) (k0_hw8 : k0_chk8 i v41 v142), ∀ (k0_h1 : k0_cond1 i = 1#1), ∀ (k0_h2 : k0_cond2 v41 = 1#1), ∀ a, (k0_off8 v142) a + S1x4096.size a ≤ S4096x4096.size a := fun i v41 v142 k0_hw8 k0_h1 k0_h2 => k0_hw8 k0_h1 k0_h2

def k0_off9 (v148 : BitVec 32) : Fin 2 → Nat :=
  let c0_i32_102 : BitVec 32 := 0#32
  ![v148.toNat, 0]

def k0_chk9 (i : grid0.Coords) (v41 : BitVec 32) (v148 : BitVec 32) : Prop :=
  (∀ (k0_h1 : k0_cond1 i = 1#1), ∀ (k0_h2 : k0_cond2 v41 = 1#1), ∀ a, (k0_off9 v148) a + S1x4096.size a ≤ S4096x4096.size a)
theorem k0_off9_inb : ∀ (i : grid0.Coords) (v41 : BitVec 32) (v148 : BitVec 32) (k0_hw9 : k0_chk9 i v41 v148), ∀ (k0_h1 : k0_cond1 i = 1#1), ∀ (k0_h2 : k0_cond2 v41 = 1#1), ∀ a, (k0_off9 v148) a + S1x4096.size a ≤ S4096x4096.size a := fun i v41 v148 k0_hw9 k0_h1 k0_h2 => k0_hw9 k0_h1 k0_h2

def k0_off10 (v154 : BitVec 32) : Fin 2 → Nat :=
  let c0_i32_108 : BitVec 32 := 0#32
  ![v154.toNat, 0]

def k0_chk10 (i : grid0.Coords) (v41 : BitVec 32) (v154 : BitVec 32) : Prop :=
  (∀ (k0_h1 : k0_cond1 i = 1#1), ∀ (k0_h2 : k0_cond2 v41 = 1#1), ∀ a, (k0_off10 v154) a + S1x4096.size a ≤ S4096x4096.size a)
theorem k0_off10_inb : ∀ (i : grid0.Coords) (v41 : BitVec 32) (v154 : BitVec 32) (k0_hw10 : k0_chk10 i v41 v154), ∀ (k0_h1 : k0_cond1 i = 1#1), ∀ (k0_h2 : k0_cond2 v41 = 1#1), ∀ a, (k0_off10 v154) a + S1x4096.size a ≤ S4096x4096.size a := fun i v41 v154 k0_hw10 k0_h1 k0_h2 => k0_hw10 k0_h1 k0_h2

def k0_off11 (v160 : BitVec 32) : Fin 2 → Nat :=
  let c0_i32_114 : BitVec 32 := 0#32
  ![v160.toNat, 0]

def k0_chk11 (i : grid0.Coords) (v41 : BitVec 32) (v160 : BitVec 32) : Prop :=
  (∀ (k0_h1 : k0_cond1 i = 1#1), ∀ (k0_h2 : k0_cond2 v41 = 1#1), ∀ a, (k0_off11 v160) a + S1x4096.size a ≤ S4096x4096.size a)
theorem k0_off11_inb : ∀ (i : grid0.Coords) (v41 : BitVec 32) (v160 : BitVec 32) (k0_hw11 : k0_chk11 i v41 v160), ∀ (k0_h1 : k0_cond1 i = 1#1), ∀ (k0_h2 : k0_cond2 v41 = 1#1), ∀ a, (k0_off11 v160) a + S1x4096.size a ≤ S4096x4096.size a := fun i v41 v160 k0_hw11 k0_h1 k0_h2 => k0_hw11 k0_h1 k0_h2

def k0_off12 (v166 : BitVec 32) : Fin 2 → Nat :=
  let c0_i32_120 : BitVec 32 := 0#32
  ![v166.toNat, 0]

def k0_chk12 (i : grid0.Coords) (v41 : BitVec 32) (v166 : BitVec 32) : Prop :=
  (∀ (k0_h1 : k0_cond1 i = 1#1), ∀ (k0_h2 : k0_cond2 v41 = 1#1), ∀ a, (k0_off12 v166) a + S1x4096.size a ≤ S4096x4096.size a)
theorem k0_off12_inb : ∀ (i : grid0.Coords) (v41 : BitVec 32) (v166 : BitVec 32) (k0_hw12 : k0_chk12 i v41 v166), ∀ (k0_h1 : k0_cond1 i = 1#1), ∀ (k0_h2 : k0_cond2 v41 = 1#1), ∀ a, (k0_off12 v166) a + S1x4096.size a ≤ S4096x4096.size a := fun i v41 v166 k0_hw12 k0_h1 k0_h2 => k0_hw12 k0_h1 k0_h2

def k0_off13 (v172 : BitVec 32) : Fin 2 → Nat :=
  let c0_i32_126 : BitVec 32 := 0#32
  ![v172.toNat, 0]

def k0_chk13 (i : grid0.Coords) (v41 : BitVec 32) (v172 : BitVec 32) : Prop :=
  (∀ (k0_h1 : k0_cond1 i = 1#1), ∀ (k0_h2 : k0_cond2 v41 = 1#1), ∀ a, (k0_off13 v172) a + S1x4096.size a ≤ S4096x4096.size a)
theorem k0_off13_inb : ∀ (i : grid0.Coords) (v41 : BitVec 32) (v172 : BitVec 32) (k0_hw13 : k0_chk13 i v41 v172), ∀ (k0_h1 : k0_cond1 i = 1#1), ∀ (k0_h2 : k0_cond2 v41 = 1#1), ∀ a, (k0_off13 v172) a + S1x4096.size a ≤ S4096x4096.size a := fun i v41 v172 k0_hw13 k0_h1 k0_h2 => k0_hw13 k0_h1 k0_h2

def k0_off14 (v178 : BitVec 32) : Fin 2 → Nat :=
  let c0_i32_132 : BitVec 32 := 0#32
  ![v178.toNat, 0]

def k0_chk14 (i : grid0.Coords) (v41 : BitVec 32) (v178 : BitVec 32) : Prop :=
  (∀ (k0_h1 : k0_cond1 i = 1#1), ∀ (k0_h2 : k0_cond2 v41 = 1#1), ∀ a, (k0_off14 v178) a + S1x4096.size a ≤ S4096x4096.size a)
theorem k0_off14_inb : ∀ (i : grid0.Coords) (v41 : BitVec 32) (v178 : BitVec 32) (k0_hw14 : k0_chk14 i v41 v178), ∀ (k0_h1 : k0_cond1 i = 1#1), ∀ (k0_h2 : k0_cond2 v41 = 1#1), ∀ a, (k0_off14 v178) a + S1x4096.size a ≤ S4096x4096.size a := fun i v41 v178 k0_hw14 k0_h1 k0_h2 => k0_hw14 k0_h1 k0_h2

def k0_off15 (v184 : BitVec 32) : Fin 2 → Nat :=
  let c0_i32_138 : BitVec 32 := 0#32
  ![v184.toNat, 0]

def k0_chk15 (i : grid0.Coords) (v41 : BitVec 32) (v184 : BitVec 32) : Prop :=
  (∀ (k0_h1 : k0_cond1 i = 1#1), ∀ (k0_h2 : k0_cond2 v41 = 1#1), ∀ a, (k0_off15 v184) a + S1x4096.size a ≤ S4096x4096.size a)
theorem k0_off15_inb : ∀ (i : grid0.Coords) (v41 : BitVec 32) (v184 : BitVec 32) (k0_hw15 : k0_chk15 i v41 v184), ∀ (k0_h1 : k0_cond1 i = 1#1), ∀ (k0_h2 : k0_cond2 v41 = 1#1), ∀ a, (k0_off15 v184) a + S1x4096.size a ≤ S4096x4096.size a := fun i v41 v184 k0_hw15 k0_h1 k0_h2 => k0_hw15 k0_h1 k0_h2

def k0_off16 (v190 : BitVec 32) : Fin 2 → Nat :=
  let c0_i32_144 : BitVec 32 := 0#32
  ![v190.toNat, 0]

def k0_chk16 (i : grid0.Coords) (v41 : BitVec 32) (v190 : BitVec 32) : Prop :=
  (∀ (k0_h1 : k0_cond1 i = 1#1), ∀ (k0_h2 : k0_cond2 v41 = 1#1), ∀ a, (k0_off16 v190) a + S1x4096.size a ≤ S4096x4096.size a)
theorem k0_off16_inb : ∀ (i : grid0.Coords) (v41 : BitVec 32) (v190 : BitVec 32) (k0_hw16 : k0_chk16 i v41 v190), ∀ (k0_h1 : k0_cond1 i = 1#1), ∀ (k0_h2 : k0_cond2 v41 = 1#1), ∀ a, (k0_off16 v190) a + S1x4096.size a ≤ S4096x4096.size a := fun i v41 v190 k0_hw16 k0_h1 k0_h2 => k0_hw16 k0_h1 k0_h2

def k0_off17 (v196 : BitVec 32) : Fin 2 → Nat :=
  let c0_i32_150 : BitVec 32 := 0#32
  ![v196.toNat, 0]

def k0_chk17 (i : grid0.Coords) (v41 : BitVec 32) (v196 : BitVec 32) : Prop :=
  (∀ (k0_h1 : k0_cond1 i = 1#1), ∀ (k0_h2 : k0_cond2 v41 = 1#1), ∀ a, (k0_off17 v196) a + S1x4096.size a ≤ S4096x4096.size a)
theorem k0_off17_inb : ∀ (i : grid0.Coords) (v41 : BitVec 32) (v196 : BitVec 32) (k0_hw17 : k0_chk17 i v41 v196), ∀ (k0_h1 : k0_cond1 i = 1#1), ∀ (k0_h2 : k0_cond2 v41 = 1#1), ∀ a, (k0_off17 v196) a + S1x4096.size a ≤ S4096x4096.size a := fun i v41 v196 k0_hw17 k0_h1 k0_h2 => k0_hw17 k0_h1 k0_h2

def k0_off18 (v202 : BitVec 32) : Fin 2 → Nat :=
  let c0_i32_156 : BitVec 32 := 0#32
  ![v202.toNat, 0]

def k0_chk18 (i : grid0.Coords) (v41 : BitVec 32) (v202 : BitVec 32) : Prop :=
  (∀ (k0_h1 : k0_cond1 i = 1#1), ∀ (k0_h2 : k0_cond2 v41 = 1#1), ∀ a, (k0_off18 v202) a + S1x4096.size a ≤ S4096x4096.size a)
theorem k0_off18_inb : ∀ (i : grid0.Coords) (v41 : BitVec 32) (v202 : BitVec 32) (k0_hw18 : k0_chk18 i v41 v202), ∀ (k0_h1 : k0_cond1 i = 1#1), ∀ (k0_h2 : k0_cond2 v41 = 1#1), ∀ a, (k0_off18 v202) a + S1x4096.size a ≤ S4096x4096.size a := fun i v41 v202 k0_hw18 k0_h1 k0_h2 => k0_hw18 k0_h1 k0_h2

def k0_off19 (v208 : BitVec 32) : Fin 2 → Nat :=
  let c0_i32_162 : BitVec 32 := 0#32
  ![v208.toNat, 0]

def k0_chk19 (i : grid0.Coords) (v41 : BitVec 32) (v208 : BitVec 32) : Prop :=
  (∀ (k0_h1 : k0_cond1 i = 1#1), ∀ (k0_h2 : k0_cond2 v41 = 1#1), ∀ a, (k0_off19 v208) a + S1x4096.size a ≤ S4096x4096.size a)
theorem k0_off19_inb : ∀ (i : grid0.Coords) (v41 : BitVec 32) (v208 : BitVec 32) (k0_hw19 : k0_chk19 i v41 v208), ∀ (k0_h1 : k0_cond1 i = 1#1), ∀ (k0_h2 : k0_cond2 v41 = 1#1), ∀ a, (k0_off19 v208) a + S1x4096.size a ≤ S4096x4096.size a := fun i v41 v208 k0_hw19 k0_h1 k0_h2 => k0_hw19 k0_h1 k0_h2

def k0_off20 (v214 : BitVec 32) : Fin 2 → Nat :=
  let c0_i32_168 : BitVec 32 := 0#32
  ![v214.toNat, 0]

def k0_chk20 (i : grid0.Coords) (v41 : BitVec 32) (v214 : BitVec 32) : Prop :=
  (∀ (k0_h1 : k0_cond1 i = 1#1), ∀ (k0_h2 : k0_cond2 v41 = 1#1), ∀ a, (k0_off20 v214) a + S1x4096.size a ≤ S4096x4096.size a)
theorem k0_off20_inb : ∀ (i : grid0.Coords) (v41 : BitVec 32) (v214 : BitVec 32) (k0_hw20 : k0_chk20 i v41 v214), ∀ (k0_h1 : k0_cond1 i = 1#1), ∀ (k0_h2 : k0_cond2 v41 = 1#1), ∀ a, (k0_off20 v214) a + S1x4096.size a ≤ S4096x4096.size a := fun i v41 v214 k0_hw20 k0_h1 k0_h2 => k0_hw20 k0_h1 k0_h2

def k0_off21 (v220 : BitVec 32) : Fin 2 → Nat :=
  let c0_i32_174 : BitVec 32 := 0#32
  ![v220.toNat, 0]

def k0_chk21 (i : grid0.Coords) (v41 : BitVec 32) (v220 : BitVec 32) : Prop :=
  (∀ (k0_h1 : k0_cond1 i = 1#1), ∀ (k0_h2 : k0_cond2 v41 = 1#1), ∀ a, (k0_off21 v220) a + S1x4096.size a ≤ S4096x4096.size a)
theorem k0_off21_inb : ∀ (i : grid0.Coords) (v41 : BitVec 32) (v220 : BitVec 32) (k0_hw21 : k0_chk21 i v41 v220), ∀ (k0_h1 : k0_cond1 i = 1#1), ∀ (k0_h2 : k0_cond2 v41 = 1#1), ∀ a, (k0_off21 v220) a + S1x4096.size a ≤ S4096x4096.size a := fun i v41 v220 k0_hw21 k0_h1 k0_h2 => k0_hw21 k0_h1 k0_h2

def k0_off22 (v226 : BitVec 32) : Fin 2 → Nat :=
  let c0_i32_180 : BitVec 32 := 0#32
  ![v226.toNat, 0]

def k0_chk22 (i : grid0.Coords) (v41 : BitVec 32) (v226 : BitVec 32) : Prop :=
  (∀ (k0_h1 : k0_cond1 i = 1#1), ∀ (k0_h2 : k0_cond2 v41 = 1#1), ∀ a, (k0_off22 v226) a + S1x4096.size a ≤ S4096x4096.size a)
theorem k0_off22_inb : ∀ (i : grid0.Coords) (v41 : BitVec 32) (v226 : BitVec 32) (k0_hw22 : k0_chk22 i v41 v226), ∀ (k0_h1 : k0_cond1 i = 1#1), ∀ (k0_h2 : k0_cond2 v41 = 1#1), ∀ a, (k0_off22 v226) a + S1x4096.size a ≤ S4096x4096.size a := fun i v41 v226 k0_hw22 k0_h1 k0_h2 => k0_hw22 k0_h1 k0_h2

def k0_off23 (v232 : BitVec 32) : Fin 2 → Nat :=
  let c0_i32_186 : BitVec 32 := 0#32
  ![v232.toNat, 0]

def k0_chk23 (i : grid0.Coords) (v41 : BitVec 32) (v232 : BitVec 32) : Prop :=
  (∀ (k0_h1 : k0_cond1 i = 1#1), ∀ (k0_h2 : k0_cond2 v41 = 1#1), ∀ a, (k0_off23 v232) a + S1x4096.size a ≤ S4096x4096.size a)
theorem k0_off23_inb : ∀ (i : grid0.Coords) (v41 : BitVec 32) (v232 : BitVec 32) (k0_hw23 : k0_chk23 i v41 v232), ∀ (k0_h1 : k0_cond1 i = 1#1), ∀ (k0_h2 : k0_cond2 v41 = 1#1), ∀ a, (k0_off23 v232) a + S1x4096.size a ≤ S4096x4096.size a := fun i v41 v232 k0_hw23 k0_h1 k0_h2 => k0_hw23 k0_h1 k0_h2

def k0_off24 (v238 : BitVec 32) : Fin 2 → Nat :=
  let c0_i32_192 : BitVec 32 := 0#32
  ![v238.toNat, 0]

def k0_chk24 (i : grid0.Coords) (v41 : BitVec 32) (v238 : BitVec 32) : Prop :=
  (∀ (k0_h1 : k0_cond1 i = 1#1), ∀ (k0_h2 : k0_cond2 v41 = 1#1), ∀ a, (k0_off24 v238) a + S1x4096.size a ≤ S4096x4096.size a)
theorem k0_off24_inb : ∀ (i : grid0.Coords) (v41 : BitVec 32) (v238 : BitVec 32) (k0_hw24 : k0_chk24 i v41 v238), ∀ (k0_h1 : k0_cond1 i = 1#1), ∀ (k0_h2 : k0_cond2 v41 = 1#1), ∀ a, (k0_off24 v238) a + S1x4096.size a ≤ S4096x4096.size a := fun i v41 v238 k0_hw24 k0_h1 k0_h2 => k0_hw24 k0_h1 k0_h2

def k0_off25 (v244 : BitVec 32) : Fin 2 → Nat :=
  let c0_i32_198 : BitVec 32 := 0#32
  ![v244.toNat, 0]

def k0_chk25 (i : grid0.Coords) (v41 : BitVec 32) (v244 : BitVec 32) : Prop :=
  (∀ (k0_h1 : k0_cond1 i = 1#1), ∀ (k0_h2 : k0_cond2 v41 = 1#1), ∀ a, (k0_off25 v244) a + S1x4096.size a ≤ S4096x4096.size a)
theorem k0_off25_inb : ∀ (i : grid0.Coords) (v41 : BitVec 32) (v244 : BitVec 32) (k0_hw25 : k0_chk25 i v41 v244), ∀ (k0_h1 : k0_cond1 i = 1#1), ∀ (k0_h2 : k0_cond2 v41 = 1#1), ∀ a, (k0_off25 v244) a + S1x4096.size a ≤ S4096x4096.size a := fun i v41 v244 k0_hw25 k0_h1 k0_h2 => k0_hw25 k0_h1 k0_h2

def k0_off26 (v250 : BitVec 32) : Fin 2 → Nat :=
  let c0_i32_204 : BitVec 32 := 0#32
  ![v250.toNat, 0]

def k0_chk26 (i : grid0.Coords) (v41 : BitVec 32) (v250 : BitVec 32) : Prop :=
  (∀ (k0_h1 : k0_cond1 i = 1#1), ∀ (k0_h2 : k0_cond2 v41 = 1#1), ∀ a, (k0_off26 v250) a + S1x4096.size a ≤ S4096x4096.size a)
theorem k0_off26_inb : ∀ (i : grid0.Coords) (v41 : BitVec 32) (v250 : BitVec 32) (k0_hw26 : k0_chk26 i v41 v250), ∀ (k0_h1 : k0_cond1 i = 1#1), ∀ (k0_h2 : k0_cond2 v41 = 1#1), ∀ a, (k0_off26 v250) a + S1x4096.size a ≤ S4096x4096.size a := fun i v41 v250 k0_hw26 k0_h1 k0_h2 => k0_hw26 k0_h1 k0_h2

def k0_off27 (v256 : BitVec 32) : Fin 2 → Nat :=
  let c0_i32_210 : BitVec 32 := 0#32
  ![v256.toNat, 0]

def k0_chk27 (i : grid0.Coords) (v41 : BitVec 32) (v256 : BitVec 32) : Prop :=
  (∀ (k0_h1 : k0_cond1 i = 1#1), ∀ (k0_h2 : k0_cond2 v41 = 1#1), ∀ a, (k0_off27 v256) a + S1x4096.size a ≤ S4096x4096.size a)
theorem k0_off27_inb : ∀ (i : grid0.Coords) (v41 : BitVec 32) (v256 : BitVec 32) (k0_hw27 : k0_chk27 i v41 v256), ∀ (k0_h1 : k0_cond1 i = 1#1), ∀ (k0_h2 : k0_cond2 v41 = 1#1), ∀ a, (k0_off27 v256) a + S1x4096.size a ≤ S4096x4096.size a := fun i v41 v256 k0_hw27 k0_h1 k0_h2 => k0_hw27 k0_h1 k0_h2

def k0_off28 (v262 : BitVec 32) : Fin 2 → Nat :=
  let c0_i32_216 : BitVec 32 := 0#32
  ![v262.toNat, 0]

def k0_chk28 (i : grid0.Coords) (v41 : BitVec 32) (v262 : BitVec 32) : Prop :=
  (∀ (k0_h1 : k0_cond1 i = 1#1), ∀ (k0_h2 : k0_cond2 v41 = 1#1), ∀ a, (k0_off28 v262) a + S1x4096.size a ≤ S4096x4096.size a)
theorem k0_off28_inb : ∀ (i : grid0.Coords) (v41 : BitVec 32) (v262 : BitVec 32) (k0_hw28 : k0_chk28 i v41 v262), ∀ (k0_h1 : k0_cond1 i = 1#1), ∀ (k0_h2 : k0_cond2 v41 = 1#1), ∀ a, (k0_off28 v262) a + S1x4096.size a ≤ S4096x4096.size a := fun i v41 v262 k0_hw28 k0_h1 k0_h2 => k0_hw28 k0_h1 k0_h2

def k0_off29 (v268 : BitVec 32) : Fin 2 → Nat :=
  let c0_i32_222 : BitVec 32 := 0#32
  ![v268.toNat, 0]

def k0_chk29 (i : grid0.Coords) (v41 : BitVec 32) (v268 : BitVec 32) : Prop :=
  (∀ (k0_h1 : k0_cond1 i = 1#1), ∀ (k0_h2 : k0_cond2 v41 = 1#1), ∀ a, (k0_off29 v268) a + S1x4096.size a ≤ S4096x4096.size a)
theorem k0_off29_inb : ∀ (i : grid0.Coords) (v41 : BitVec 32) (v268 : BitVec 32) (k0_hw29 : k0_chk29 i v41 v268), ∀ (k0_h1 : k0_cond1 i = 1#1), ∀ (k0_h2 : k0_cond2 v41 = 1#1), ∀ a, (k0_off29 v268) a + S1x4096.size a ≤ S4096x4096.size a := fun i v41 v268 k0_hw29 k0_h1 k0_h2 => k0_hw29 k0_h1 k0_h2

def k0_off30 (v274 : BitVec 32) : Fin 2 → Nat :=
  let c0_i32_228 : BitVec 32 := 0#32
  ![v274.toNat, 0]

def k0_chk30 (i : grid0.Coords) (v41 : BitVec 32) (v274 : BitVec 32) : Prop :=
  (∀ (k0_h1 : k0_cond1 i = 1#1), ∀ (k0_h2 : k0_cond2 v41 = 1#1), ∀ a, (k0_off30 v274) a + S1x4096.size a ≤ S4096x4096.size a)
theorem k0_off30_inb : ∀ (i : grid0.Coords) (v41 : BitVec 32) (v274 : BitVec 32) (k0_hw30 : k0_chk30 i v41 v274), ∀ (k0_h1 : k0_cond1 i = 1#1), ∀ (k0_h2 : k0_cond2 v41 = 1#1), ∀ a, (k0_off30 v274) a + S1x4096.size a ≤ S4096x4096.size a := fun i v41 v274 k0_hw30 k0_h1 k0_h2 => k0_hw30 k0_h1 k0_h2

def k0_off31 (v280 : BitVec 32) : Fin 2 → Nat :=
  let c0_i32_234 : BitVec 32 := 0#32
  ![v280.toNat, 0]

def k0_chk31 (i : grid0.Coords) (v41 : BitVec 32) (v280 : BitVec 32) : Prop :=
  (∀ (k0_h1 : k0_cond1 i = 1#1), ∀ (k0_h2 : k0_cond2 v41 = 1#1), ∀ a, (k0_off31 v280) a + S1x4096.size a ≤ S4096x4096.size a)
theorem k0_off31_inb : ∀ (i : grid0.Coords) (v41 : BitVec 32) (v280 : BitVec 32) (k0_hw31 : k0_chk31 i v41 v280), ∀ (k0_h1 : k0_cond1 i = 1#1), ∀ (k0_h2 : k0_cond2 v41 = 1#1), ∀ a, (k0_off31 v280) a + S1x4096.size a ≤ S4096x4096.size a := fun i v41 v280 k0_hw31 k0_h1 k0_h2 => k0_hw31 k0_h1 k0_h2

def k0_off32 (v286 : BitVec 32) : Fin 2 → Nat :=
  let c0_i32_240 : BitVec 32 := 0#32
  ![v286.toNat, 0]

def k0_chk32 (i : grid0.Coords) (v41 : BitVec 32) (v286 : BitVec 32) : Prop :=
  (∀ (k0_h1 : k0_cond1 i = 1#1), ∀ (k0_h2 : k0_cond2 v41 = 1#1), ∀ a, (k0_off32 v286) a + S1x4096.size a ≤ S4096x4096.size a)
theorem k0_off32_inb : ∀ (i : grid0.Coords) (v41 : BitVec 32) (v286 : BitVec 32) (k0_hw32 : k0_chk32 i v41 v286), ∀ (k0_h1 : k0_cond1 i = 1#1), ∀ (k0_h2 : k0_cond2 v41 = 1#1), ∀ a, (k0_off32 v286) a + S1x4096.size a ≤ S4096x4096.size a := fun i v41 v286 k0_hw32 k0_h1 k0_h2 => k0_hw32 k0_h1 k0_h2

def k0_off33 (v292 : BitVec 32) : Fin 2 → Nat :=
  let c0_i32_246 : BitVec 32 := 0#32
  ![v292.toNat, 0]

def k0_chk33 (i : grid0.Coords) (v41 : BitVec 32) (v292 : BitVec 32) : Prop :=
  (∀ (k0_h1 : k0_cond1 i = 1#1), ∀ (k0_h2 : k0_cond2 v41 = 1#1), ∀ a, (k0_off33 v292) a + S1x4096.size a ≤ S4096x4096.size a)
theorem k0_off33_inb : ∀ (i : grid0.Coords) (v41 : BitVec 32) (v292 : BitVec 32) (k0_hw33 : k0_chk33 i v41 v292), ∀ (k0_h1 : k0_cond1 i = 1#1), ∀ (k0_h2 : k0_cond2 v41 = 1#1), ∀ a, (k0_off33 v292) a + S1x4096.size a ≤ S4096x4096.size a := fun i v41 v292 k0_hw33 k0_h1 k0_h2 => k0_hw33 k0_h1 k0_h2

def k0_off34 (v298 : BitVec 32) : Fin 2 → Nat :=
  let c0_i32_252 : BitVec 32 := 0#32
  ![v298.toNat, 0]

def k0_chk34 (i : grid0.Coords) (v41 : BitVec 32) (v298 : BitVec 32) : Prop :=
  (∀ (k0_h1 : k0_cond1 i = 1#1), ∀ (k0_h2 : k0_cond2 v41 = 1#1), ∀ a, (k0_off34 v298) a + S1x4096.size a ≤ S4096x4096.size a)
theorem k0_off34_inb : ∀ (i : grid0.Coords) (v41 : BitVec 32) (v298 : BitVec 32) (k0_hw34 : k0_chk34 i v41 v298), ∀ (k0_h1 : k0_cond1 i = 1#1), ∀ (k0_h2 : k0_cond2 v41 = 1#1), ∀ a, (k0_off34 v298) a + S1x4096.size a ≤ S4096x4096.size a := fun i v41 v298 k0_hw34 k0_h1 k0_h2 => k0_hw34 k0_h1 k0_h2

def k0_off35 (v304 : BitVec 32) : Fin 2 → Nat :=
  let c0_i32_258 : BitVec 32 := 0#32
  ![v304.toNat, 0]

def k0_chk35 (i : grid0.Coords) (v41 : BitVec 32) (v304 : BitVec 32) : Prop :=
  (∀ (k0_h1 : k0_cond1 i = 1#1), ∀ (k0_h2 : k0_cond2 v41 = 1#1), ∀ a, (k0_off35 v304) a + S1x4096.size a ≤ S4096x4096.size a)
theorem k0_off35_inb : ∀ (i : grid0.Coords) (v41 : BitVec 32) (v304 : BitVec 32) (k0_hw35 : k0_chk35 i v41 v304), ∀ (k0_h1 : k0_cond1 i = 1#1), ∀ (k0_h2 : k0_cond2 v41 = 1#1), ∀ a, (k0_off35 v304) a + S1x4096.size a ≤ S4096x4096.size a := fun i v41 v304 k0_hw35 k0_h1 k0_h2 => k0_hw35 k0_h1 k0_h2

def k0_off36 (v310 : BitVec 32) : Fin 2 → Nat :=
  let c0_i32_264 : BitVec 32 := 0#32
  ![v310.toNat, 0]

def k0_chk36 (i : grid0.Coords) (v41 : BitVec 32) (v310 : BitVec 32) : Prop :=
  (∀ (k0_h1 : k0_cond1 i = 1#1), ∀ (k0_h2 : k0_cond2 v41 = 1#1), ∀ a, (k0_off36 v310) a + S1x4096.size a ≤ S4096x4096.size a)
theorem k0_off36_inb : ∀ (i : grid0.Coords) (v41 : BitVec 32) (v310 : BitVec 32) (k0_hw36 : k0_chk36 i v41 v310), ∀ (k0_h1 : k0_cond1 i = 1#1), ∀ (k0_h2 : k0_cond2 v41 = 1#1), ∀ a, (k0_off36 v310) a + S1x4096.size a ≤ S4096x4096.size a := fun i v41 v310 k0_hw36 k0_h1 k0_h2 => k0_hw36 k0_h1 k0_h2

def k0_off37 (v316 : BitVec 32) : Fin 2 → Nat :=
  let c0_i32_270 : BitVec 32 := 0#32
  ![v316.toNat, 0]

def k0_chk37 (i : grid0.Coords) (v41 : BitVec 32) (v316 : BitVec 32) : Prop :=
  (∀ (k0_h1 : k0_cond1 i = 1#1), ∀ (k0_h2 : k0_cond2 v41 = 1#1), ∀ a, (k0_off37 v316) a + S1x4096.size a ≤ S4096x4096.size a)
theorem k0_off37_inb : ∀ (i : grid0.Coords) (v41 : BitVec 32) (v316 : BitVec 32) (k0_hw37 : k0_chk37 i v41 v316), ∀ (k0_h1 : k0_cond1 i = 1#1), ∀ (k0_h2 : k0_cond2 v41 = 1#1), ∀ a, (k0_off37 v316) a + S1x4096.size a ≤ S4096x4096.size a := fun i v41 v316 k0_hw37 k0_h1 k0_h2 => k0_hw37 k0_h1 k0_h2

def k0_off38 (v322 : BitVec 32) : Fin 2 → Nat :=
  let c0_i32_276 : BitVec 32 := 0#32
  ![v322.toNat, 0]

def k0_chk38 (i : grid0.Coords) (v41 : BitVec 32) (v322 : BitVec 32) : Prop :=
  (∀ (k0_h1 : k0_cond1 i = 1#1), ∀ (k0_h2 : k0_cond2 v41 = 1#1), ∀ a, (k0_off38 v322) a + S1x4096.size a ≤ S4096x4096.size a)
theorem k0_off38_inb : ∀ (i : grid0.Coords) (v41 : BitVec 32) (v322 : BitVec 32) (k0_hw38 : k0_chk38 i v41 v322), ∀ (k0_h1 : k0_cond1 i = 1#1), ∀ (k0_h2 : k0_cond2 v41 = 1#1), ∀ a, (k0_off38 v322) a + S1x4096.size a ≤ S4096x4096.size a := fun i v41 v322 k0_hw38 k0_h1 k0_h2 => k0_hw38 k0_h1 k0_h2

def k0_off39 (v328 : BitVec 32) : Fin 2 → Nat :=
  let c0_i32_282 : BitVec 32 := 0#32
  ![v328.toNat, 0]

def k0_chk39 (i : grid0.Coords) (v41 : BitVec 32) (v328 : BitVec 32) : Prop :=
  (∀ (k0_h1 : k0_cond1 i = 1#1), ∀ (k0_h2 : k0_cond2 v41 = 1#1), ∀ a, (k0_off39 v328) a + S1x4096.size a ≤ S4096x4096.size a)
theorem k0_off39_inb : ∀ (i : grid0.Coords) (v41 : BitVec 32) (v328 : BitVec 32) (k0_hw39 : k0_chk39 i v41 v328), ∀ (k0_h1 : k0_cond1 i = 1#1), ∀ (k0_h2 : k0_cond2 v41 = 1#1), ∀ a, (k0_off39 v328) a + S1x4096.size a ≤ S4096x4096.size a := fun i v41 v328 k0_hw39 k0_h1 k0_h2 => k0_hw39 k0_h1 k0_h2

def k0_off40 (v334 : BitVec 32) : Fin 2 → Nat :=
  let c0_i32_288 : BitVec 32 := 0#32
  ![v334.toNat, 0]

def k0_chk40 (i : grid0.Coords) (v41 : BitVec 32) (v334 : BitVec 32) : Prop :=
  (∀ (k0_h1 : k0_cond1 i = 1#1), ∀ (k0_h2 : k0_cond2 v41 = 1#1), ∀ a, (k0_off40 v334) a + S1x4096.size a ≤ S4096x4096.size a)
theorem k0_off40_inb : ∀ (i : grid0.Coords) (v41 : BitVec 32) (v334 : BitVec 32) (k0_hw40 : k0_chk40 i v41 v334), ∀ (k0_h1 : k0_cond1 i = 1#1), ∀ (k0_h2 : k0_cond2 v41 = 1#1), ∀ a, (k0_off40 v334) a + S1x4096.size a ≤ S4096x4096.size a := fun i v41 v334 k0_hw40 k0_h1 k0_h2 => k0_hw40 k0_h1 k0_h2

def k0_off41 (v340 : BitVec 32) : Fin 2 → Nat :=
  let c0_i32_294 : BitVec 32 := 0#32
  ![v340.toNat, 0]

def k0_chk41 (i : grid0.Coords) (v41 : BitVec 32) (v340 : BitVec 32) : Prop :=
  (∀ (k0_h1 : k0_cond1 i = 1#1), ∀ (k0_h2 : k0_cond2 v41 = 1#1), ∀ a, (k0_off41 v340) a + S1x4096.size a ≤ S4096x4096.size a)
theorem k0_off41_inb : ∀ (i : grid0.Coords) (v41 : BitVec 32) (v340 : BitVec 32) (k0_hw41 : k0_chk41 i v41 v340), ∀ (k0_h1 : k0_cond1 i = 1#1), ∀ (k0_h2 : k0_cond2 v41 = 1#1), ∀ a, (k0_off41 v340) a + S1x4096.size a ≤ S4096x4096.size a := fun i v41 v340 k0_hw41 k0_h1 k0_h2 => k0_hw41 k0_h1 k0_h2

def k0_off42 (v346 : BitVec 32) : Fin 2 → Nat :=
  let c0_i32_300 : BitVec 32 := 0#32
  ![v346.toNat, 0]

def k0_chk42 (i : grid0.Coords) (v41 : BitVec 32) (v346 : BitVec 32) : Prop :=
  (∀ (k0_h1 : k0_cond1 i = 1#1), ∀ (k0_h2 : k0_cond2 v41 = 1#1), ∀ a, (k0_off42 v346) a + S1x4096.size a ≤ S4096x4096.size a)
theorem k0_off42_inb : ∀ (i : grid0.Coords) (v41 : BitVec 32) (v346 : BitVec 32) (k0_hw42 : k0_chk42 i v41 v346), ∀ (k0_h1 : k0_cond1 i = 1#1), ∀ (k0_h2 : k0_cond2 v41 = 1#1), ∀ a, (k0_off42 v346) a + S1x4096.size a ≤ S4096x4096.size a := fun i v41 v346 k0_hw42 k0_h1 k0_h2 => k0_hw42 k0_h1 k0_h2

def k0_off43 (v352 : BitVec 32) : Fin 2 → Nat :=
  let c0_i32_306 : BitVec 32 := 0#32
  ![v352.toNat, 0]

def k0_chk43 (i : grid0.Coords) (v41 : BitVec 32) (v352 : BitVec 32) : Prop :=
  (∀ (k0_h1 : k0_cond1 i = 1#1), ∀ (k0_h2 : k0_cond2 v41 = 1#1), ∀ a, (k0_off43 v352) a + S1x4096.size a ≤ S4096x4096.size a)
theorem k0_off43_inb : ∀ (i : grid0.Coords) (v41 : BitVec 32) (v352 : BitVec 32) (k0_hw43 : k0_chk43 i v41 v352), ∀ (k0_h1 : k0_cond1 i = 1#1), ∀ (k0_h2 : k0_cond2 v41 = 1#1), ∀ a, (k0_off43 v352) a + S1x4096.size a ≤ S4096x4096.size a := fun i v41 v352 k0_hw43 k0_h1 k0_h2 => k0_hw43 k0_h1 k0_h2

def k0_off44 (v358 : BitVec 32) : Fin 2 → Nat :=
  let c0_i32_312 : BitVec 32 := 0#32
  ![v358.toNat, 0]

def k0_chk44 (i : grid0.Coords) (v41 : BitVec 32) (v358 : BitVec 32) : Prop :=
  (∀ (k0_h1 : k0_cond1 i = 1#1), ∀ (k0_h2 : k0_cond2 v41 = 1#1), ∀ a, (k0_off44 v358) a + S1x4096.size a ≤ S4096x4096.size a)
theorem k0_off44_inb : ∀ (i : grid0.Coords) (v41 : BitVec 32) (v358 : BitVec 32) (k0_hw44 : k0_chk44 i v41 v358), ∀ (k0_h1 : k0_cond1 i = 1#1), ∀ (k0_h2 : k0_cond2 v41 = 1#1), ∀ a, (k0_off44 v358) a + S1x4096.size a ≤ S4096x4096.size a := fun i v41 v358 k0_hw44 k0_h1 k0_h2 => k0_hw44 k0_h1 k0_h2

def k0_off45 (v364 : BitVec 32) : Fin 2 → Nat :=
  let c0_i32_318 : BitVec 32 := 0#32
  ![v364.toNat, 0]

def k0_chk45 (i : grid0.Coords) (v41 : BitVec 32) (v364 : BitVec 32) : Prop :=
  (∀ (k0_h1 : k0_cond1 i = 1#1), ∀ (k0_h2 : k0_cond2 v41 = 1#1), ∀ a, (k0_off45 v364) a + S1x4096.size a ≤ S4096x4096.size a)
theorem k0_off45_inb : ∀ (i : grid0.Coords) (v41 : BitVec 32) (v364 : BitVec 32) (k0_hw45 : k0_chk45 i v41 v364), ∀ (k0_h1 : k0_cond1 i = 1#1), ∀ (k0_h2 : k0_cond2 v41 = 1#1), ∀ a, (k0_off45 v364) a + S1x4096.size a ≤ S4096x4096.size a := fun i v41 v364 k0_hw45 k0_h1 k0_h2 => k0_hw45 k0_h1 k0_h2

def k0_off46 (v370 : BitVec 32) : Fin 2 → Nat :=
  let c0_i32_324 : BitVec 32 := 0#32
  ![v370.toNat, 0]

def k0_chk46 (i : grid0.Coords) (v41 : BitVec 32) (v370 : BitVec 32) : Prop :=
  (∀ (k0_h1 : k0_cond1 i = 1#1), ∀ (k0_h2 : k0_cond2 v41 = 1#1), ∀ a, (k0_off46 v370) a + S1x4096.size a ≤ S4096x4096.size a)
theorem k0_off46_inb : ∀ (i : grid0.Coords) (v41 : BitVec 32) (v370 : BitVec 32) (k0_hw46 : k0_chk46 i v41 v370), ∀ (k0_h1 : k0_cond1 i = 1#1), ∀ (k0_h2 : k0_cond2 v41 = 1#1), ∀ a, (k0_off46 v370) a + S1x4096.size a ≤ S4096x4096.size a := fun i v41 v370 k0_hw46 k0_h1 k0_h2 => k0_hw46 k0_h1 k0_h2

def k0_off47 (v376 : BitVec 32) : Fin 2 → Nat :=
  let c0_i32_330 : BitVec 32 := 0#32
  ![v376.toNat, 0]

def k0_chk47 (i : grid0.Coords) (v41 : BitVec 32) (v376 : BitVec 32) : Prop :=
  (∀ (k0_h1 : k0_cond1 i = 1#1), ∀ (k0_h2 : k0_cond2 v41 = 1#1), ∀ a, (k0_off47 v376) a + S1x4096.size a ≤ S4096x4096.size a)
theorem k0_off47_inb : ∀ (i : grid0.Coords) (v41 : BitVec 32) (v376 : BitVec 32) (k0_hw47 : k0_chk47 i v41 v376), ∀ (k0_h1 : k0_cond1 i = 1#1), ∀ (k0_h2 : k0_cond2 v41 = 1#1), ∀ a, (k0_off47 v376) a + S1x4096.size a ≤ S4096x4096.size a := fun i v41 v376 k0_hw47 k0_h1 k0_h2 => k0_hw47 k0_h1 k0_h2

def k0_off48 (v382 : BitVec 32) : Fin 2 → Nat :=
  let c0_i32_336 : BitVec 32 := 0#32
  ![v382.toNat, 0]

def k0_chk48 (i : grid0.Coords) (v41 : BitVec 32) (v382 : BitVec 32) : Prop :=
  (∀ (k0_h1 : k0_cond1 i = 1#1), ∀ (k0_h2 : k0_cond2 v41 = 1#1), ∀ a, (k0_off48 v382) a + S1x4096.size a ≤ S4096x4096.size a)
theorem k0_off48_inb : ∀ (i : grid0.Coords) (v41 : BitVec 32) (v382 : BitVec 32) (k0_hw48 : k0_chk48 i v41 v382), ∀ (k0_h1 : k0_cond1 i = 1#1), ∀ (k0_h2 : k0_cond2 v41 = 1#1), ∀ a, (k0_off48 v382) a + S1x4096.size a ≤ S4096x4096.size a := fun i v41 v382 k0_hw48 k0_h1 k0_h2 => k0_hw48 k0_h1 k0_h2

def k0_off49 (v388 : BitVec 32) : Fin 2 → Nat :=
  let c0_i32_342 : BitVec 32 := 0#32
  ![v388.toNat, 0]

def k0_chk49 (i : grid0.Coords) (v41 : BitVec 32) (v388 : BitVec 32) : Prop :=
  (∀ (k0_h1 : k0_cond1 i = 1#1), ∀ (k0_h2 : k0_cond2 v41 = 1#1), ∀ a, (k0_off49 v388) a + S1x4096.size a ≤ S4096x4096.size a)
theorem k0_off49_inb : ∀ (i : grid0.Coords) (v41 : BitVec 32) (v388 : BitVec 32) (k0_hw49 : k0_chk49 i v41 v388), ∀ (k0_h1 : k0_cond1 i = 1#1), ∀ (k0_h2 : k0_cond2 v41 = 1#1), ∀ a, (k0_off49 v388) a + S1x4096.size a ≤ S4096x4096.size a := fun i v41 v388 k0_hw49 k0_h1 k0_h2 => k0_hw49 k0_h1 k0_h2

def k0_off50 (v394 : BitVec 32) : Fin 2 → Nat :=
  let c0_i32_348 : BitVec 32 := 0#32
  ![v394.toNat, 0]

def k0_chk50 (i : grid0.Coords) (v41 : BitVec 32) (v394 : BitVec 32) : Prop :=
  (∀ (k0_h1 : k0_cond1 i = 1#1), ∀ (k0_h2 : k0_cond2 v41 = 1#1), ∀ a, (k0_off50 v394) a + S1x4096.size a ≤ S4096x4096.size a)
theorem k0_off50_inb : ∀ (i : grid0.Coords) (v41 : BitVec 32) (v394 : BitVec 32) (k0_hw50 : k0_chk50 i v41 v394), ∀ (k0_h1 : k0_cond1 i = 1#1), ∀ (k0_h2 : k0_cond2 v41 = 1#1), ∀ a, (k0_off50 v394) a + S1x4096.size a ≤ S4096x4096.size a := fun i v41 v394 k0_hw50 k0_h1 k0_h2 => k0_hw50 k0_h1 k0_h2

def k0_off51 (v400 : BitVec 32) : Fin 2 → Nat :=
  let c0_i32_354 : BitVec 32 := 0#32
  ![v400.toNat, 0]

def k0_chk51 (i : grid0.Coords) (v41 : BitVec 32) (v400 : BitVec 32) : Prop :=
  (∀ (k0_h1 : k0_cond1 i = 1#1), ∀ (k0_h2 : k0_cond2 v41 = 1#1), ∀ a, (k0_off51 v400) a + S1x4096.size a ≤ S4096x4096.size a)
theorem k0_off51_inb : ∀ (i : grid0.Coords) (v41 : BitVec 32) (v400 : BitVec 32) (k0_hw51 : k0_chk51 i v41 v400), ∀ (k0_h1 : k0_cond1 i = 1#1), ∀ (k0_h2 : k0_cond2 v41 = 1#1), ∀ a, (k0_off51 v400) a + S1x4096.size a ≤ S4096x4096.size a := fun i v41 v400 k0_hw51 k0_h1 k0_h2 => k0_hw51 k0_h1 k0_h2

def k0_off52 (v406 : BitVec 32) : Fin 2 → Nat :=
  let c0_i32_360 : BitVec 32 := 0#32
  ![v406.toNat, 0]

def k0_chk52 (i : grid0.Coords) (v41 : BitVec 32) (v406 : BitVec 32) : Prop :=
  (∀ (k0_h1 : k0_cond1 i = 1#1), ∀ (k0_h2 : k0_cond2 v41 = 1#1), ∀ a, (k0_off52 v406) a + S1x4096.size a ≤ S4096x4096.size a)
theorem k0_off52_inb : ∀ (i : grid0.Coords) (v41 : BitVec 32) (v406 : BitVec 32) (k0_hw52 : k0_chk52 i v41 v406), ∀ (k0_h1 : k0_cond1 i = 1#1), ∀ (k0_h2 : k0_cond2 v41 = 1#1), ∀ a, (k0_off52 v406) a + S1x4096.size a ≤ S4096x4096.size a := fun i v41 v406 k0_hw52 k0_h1 k0_h2 => k0_hw52 k0_h1 k0_h2

def k0_off53 (v412 : BitVec 32) : Fin 2 → Nat :=
  let c0_i32_366 : BitVec 32 := 0#32
  ![v412.toNat, 0]

def k0_chk53 (i : grid0.Coords) (v41 : BitVec 32) (v412 : BitVec 32) : Prop :=
  (∀ (k0_h1 : k0_cond1 i = 1#1), ∀ (k0_h2 : k0_cond2 v41 = 1#1), ∀ a, (k0_off53 v412) a + S1x4096.size a ≤ S4096x4096.size a)
theorem k0_off53_inb : ∀ (i : grid0.Coords) (v41 : BitVec 32) (v412 : BitVec 32) (k0_hw53 : k0_chk53 i v41 v412), ∀ (k0_h1 : k0_cond1 i = 1#1), ∀ (k0_h2 : k0_cond2 v41 = 1#1), ∀ a, (k0_off53 v412) a + S1x4096.size a ≤ S4096x4096.size a := fun i v41 v412 k0_hw53 k0_h1 k0_h2 => k0_hw53 k0_h1 k0_h2

def k0_off54 (v418 : BitVec 32) : Fin 2 → Nat :=
  let c0_i32_372 : BitVec 32 := 0#32
  ![v418.toNat, 0]

def k0_chk54 (i : grid0.Coords) (v41 : BitVec 32) (v418 : BitVec 32) : Prop :=
  (∀ (k0_h1 : k0_cond1 i = 1#1), ∀ (k0_h2 : k0_cond2 v41 = 1#1), ∀ a, (k0_off54 v418) a + S1x4096.size a ≤ S4096x4096.size a)
theorem k0_off54_inb : ∀ (i : grid0.Coords) (v41 : BitVec 32) (v418 : BitVec 32) (k0_hw54 : k0_chk54 i v41 v418), ∀ (k0_h1 : k0_cond1 i = 1#1), ∀ (k0_h2 : k0_cond2 v41 = 1#1), ∀ a, (k0_off54 v418) a + S1x4096.size a ≤ S4096x4096.size a := fun i v41 v418 k0_hw54 k0_h1 k0_h2 => k0_hw54 k0_h1 k0_h2

def k0_off55 (v424 : BitVec 32) : Fin 2 → Nat :=
  let c0_i32_378 : BitVec 32 := 0#32
  ![v424.toNat, 0]

def k0_chk55 (i : grid0.Coords) (v41 : BitVec 32) (v424 : BitVec 32) : Prop :=
  (∀ (k0_h1 : k0_cond1 i = 1#1), ∀ (k0_h2 : k0_cond2 v41 = 1#1), ∀ a, (k0_off55 v424) a + S1x4096.size a ≤ S4096x4096.size a)
theorem k0_off55_inb : ∀ (i : grid0.Coords) (v41 : BitVec 32) (v424 : BitVec 32) (k0_hw55 : k0_chk55 i v41 v424), ∀ (k0_h1 : k0_cond1 i = 1#1), ∀ (k0_h2 : k0_cond2 v41 = 1#1), ∀ a, (k0_off55 v424) a + S1x4096.size a ≤ S4096x4096.size a := fun i v41 v424 k0_hw55 k0_h1 k0_h2 => k0_hw55 k0_h1 k0_h2

def k0_off56 (v430 : BitVec 32) : Fin 2 → Nat :=
  let c0_i32_384 : BitVec 32 := 0#32
  ![v430.toNat, 0]

def k0_chk56 (i : grid0.Coords) (v41 : BitVec 32) (v430 : BitVec 32) : Prop :=
  (∀ (k0_h1 : k0_cond1 i = 1#1), ∀ (k0_h2 : k0_cond2 v41 = 1#1), ∀ a, (k0_off56 v430) a + S1x4096.size a ≤ S4096x4096.size a)
theorem k0_off56_inb : ∀ (i : grid0.Coords) (v41 : BitVec 32) (v430 : BitVec 32) (k0_hw56 : k0_chk56 i v41 v430), ∀ (k0_h1 : k0_cond1 i = 1#1), ∀ (k0_h2 : k0_cond2 v41 = 1#1), ∀ a, (k0_off56 v430) a + S1x4096.size a ≤ S4096x4096.size a := fun i v41 v430 k0_hw56 k0_h1 k0_h2 => k0_hw56 k0_h1 k0_h2

def k0_off57 (v436 : BitVec 32) : Fin 2 → Nat :=
  let c0_i32_390 : BitVec 32 := 0#32
  ![v436.toNat, 0]

def k0_chk57 (i : grid0.Coords) (v41 : BitVec 32) (v436 : BitVec 32) : Prop :=
  (∀ (k0_h1 : k0_cond1 i = 1#1), ∀ (k0_h2 : k0_cond2 v41 = 1#1), ∀ a, (k0_off57 v436) a + S1x4096.size a ≤ S4096x4096.size a)
theorem k0_off57_inb : ∀ (i : grid0.Coords) (v41 : BitVec 32) (v436 : BitVec 32) (k0_hw57 : k0_chk57 i v41 v436), ∀ (k0_h1 : k0_cond1 i = 1#1), ∀ (k0_h2 : k0_cond2 v41 = 1#1), ∀ a, (k0_off57 v436) a + S1x4096.size a ≤ S4096x4096.size a := fun i v41 v436 k0_hw57 k0_h1 k0_h2 => k0_hw57 k0_h1 k0_h2

def k0_off58 (v442 : BitVec 32) : Fin 2 → Nat :=
  let c0_i32_396 : BitVec 32 := 0#32
  ![v442.toNat, 0]

def k0_chk58 (i : grid0.Coords) (v41 : BitVec 32) (v442 : BitVec 32) : Prop :=
  (∀ (k0_h1 : k0_cond1 i = 1#1), ∀ (k0_h2 : k0_cond2 v41 = 1#1), ∀ a, (k0_off58 v442) a + S1x4096.size a ≤ S4096x4096.size a)
theorem k0_off58_inb : ∀ (i : grid0.Coords) (v41 : BitVec 32) (v442 : BitVec 32) (k0_hw58 : k0_chk58 i v41 v442), ∀ (k0_h1 : k0_cond1 i = 1#1), ∀ (k0_h2 : k0_cond2 v41 = 1#1), ∀ a, (k0_off58 v442) a + S1x4096.size a ≤ S4096x4096.size a := fun i v41 v442 k0_hw58 k0_h1 k0_h2 => k0_hw58 k0_h1 k0_h2

def k0_off59 (v448 : BitVec 32) : Fin 2 → Nat :=
  let c0_i32_402 : BitVec 32 := 0#32
  ![v448.toNat, 0]

def k0_chk59 (i : grid0.Coords) (v41 : BitVec 32) (v448 : BitVec 32) : Prop :=
  (∀ (k0_h1 : k0_cond1 i = 1#1), ∀ (k0_h2 : k0_cond2 v41 = 1#1), ∀ a, (k0_off59 v448) a + S1x4096.size a ≤ S4096x4096.size a)
theorem k0_off59_inb : ∀ (i : grid0.Coords) (v41 : BitVec 32) (v448 : BitVec 32) (k0_hw59 : k0_chk59 i v41 v448), ∀ (k0_h1 : k0_cond1 i = 1#1), ∀ (k0_h2 : k0_cond2 v41 = 1#1), ∀ a, (k0_off59 v448) a + S1x4096.size a ≤ S4096x4096.size a := fun i v41 v448 k0_hw59 k0_h1 k0_h2 => k0_hw59 k0_h1 k0_h2

def k0_off60 (v454 : BitVec 32) : Fin 2 → Nat :=
  let c0_i32_408 : BitVec 32 := 0#32
  ![v454.toNat, 0]

def k0_chk60 (i : grid0.Coords) (v41 : BitVec 32) (v454 : BitVec 32) : Prop :=
  (∀ (k0_h1 : k0_cond1 i = 1#1), ∀ (k0_h2 : k0_cond2 v41 = 1#1), ∀ a, (k0_off60 v454) a + S1x4096.size a ≤ S4096x4096.size a)
theorem k0_off60_inb : ∀ (i : grid0.Coords) (v41 : BitVec 32) (v454 : BitVec 32) (k0_hw60 : k0_chk60 i v41 v454), ∀ (k0_h1 : k0_cond1 i = 1#1), ∀ (k0_h2 : k0_cond2 v41 = 1#1), ∀ a, (k0_off60 v454) a + S1x4096.size a ≤ S4096x4096.size a := fun i v41 v454 k0_hw60 k0_h1 k0_h2 => k0_hw60 k0_h1 k0_h2

def k0_off61 (v460 : BitVec 32) : Fin 2 → Nat :=
  let c0_i32_414 : BitVec 32 := 0#32
  ![v460.toNat, 0]

def k0_chk61 (i : grid0.Coords) (v41 : BitVec 32) (v460 : BitVec 32) : Prop :=
  (∀ (k0_h1 : k0_cond1 i = 1#1), ∀ (k0_h2 : k0_cond2 v41 = 1#1), ∀ a, (k0_off61 v460) a + S1x4096.size a ≤ S4096x4096.size a)
theorem k0_off61_inb : ∀ (i : grid0.Coords) (v41 : BitVec 32) (v460 : BitVec 32) (k0_hw61 : k0_chk61 i v41 v460), ∀ (k0_h1 : k0_cond1 i = 1#1), ∀ (k0_h2 : k0_cond2 v41 = 1#1), ∀ a, (k0_off61 v460) a + S1x4096.size a ≤ S4096x4096.size a := fun i v41 v460 k0_hw61 k0_h1 k0_h2 => k0_hw61 k0_h1 k0_h2

def k0_off62 (v466 : BitVec 32) : Fin 2 → Nat :=
  let c0_i32_420 : BitVec 32 := 0#32
  ![v466.toNat, 0]

def k0_chk62 (i : grid0.Coords) (v41 : BitVec 32) (v466 : BitVec 32) : Prop :=
  (∀ (k0_h1 : k0_cond1 i = 1#1), ∀ (k0_h2 : k0_cond2 v41 = 1#1), ∀ a, (k0_off62 v466) a + S1x4096.size a ≤ S4096x4096.size a)
theorem k0_off62_inb : ∀ (i : grid0.Coords) (v41 : BitVec 32) (v466 : BitVec 32) (k0_hw62 : k0_chk62 i v41 v466), ∀ (k0_h1 : k0_cond1 i = 1#1), ∀ (k0_h2 : k0_cond2 v41 = 1#1), ∀ a, (k0_off62 v466) a + S1x4096.size a ≤ S4096x4096.size a := fun i v41 v466 k0_hw62 k0_h1 k0_h2 => k0_hw62 k0_h1 k0_h2

def k0_off63 (v472 : BitVec 32) : Fin 2 → Nat :=
  let c0_i32_426 : BitVec 32 := 0#32
  ![v472.toNat, 0]

def k0_chk63 (i : grid0.Coords) (v41 : BitVec 32) (v472 : BitVec 32) : Prop :=
  (∀ (k0_h1 : k0_cond1 i = 1#1), ∀ (k0_h2 : k0_cond2 v41 = 1#1), ∀ a, (k0_off63 v472) a + S1x4096.size a ≤ S4096x4096.size a)
theorem k0_off63_inb : ∀ (i : grid0.Coords) (v41 : BitVec 32) (v472 : BitVec 32) (k0_hw63 : k0_chk63 i v41 v472), ∀ (k0_h1 : k0_cond1 i = 1#1), ∀ (k0_h2 : k0_cond2 v41 = 1#1), ∀ a, (k0_off63 v472) a + S1x4096.size a ≤ S4096x4096.size a := fun i v41 v472 k0_hw63 k0_h1 k0_h2 => k0_hw63 k0_h1 k0_h2

def k0_off64 (v478 : BitVec 32) : Fin 2 → Nat :=
  let c0_i32_432 : BitVec 32 := 0#32
  ![v478.toNat, 0]

def k0_chk64 (i : grid0.Coords) (v41 : BitVec 32) (v478 : BitVec 32) : Prop :=
  (∀ (k0_h1 : k0_cond1 i = 1#1), ∀ (k0_h2 : k0_cond2 v41 = 1#1), ∀ a, (k0_off64 v478) a + S1x4096.size a ≤ S4096x4096.size a)
theorem k0_off64_inb : ∀ (i : grid0.Coords) (v41 : BitVec 32) (v478 : BitVec 32) (k0_hw64 : k0_chk64 i v41 v478), ∀ (k0_h1 : k0_cond1 i = 1#1), ∀ (k0_h2 : k0_cond2 v41 = 1#1), ∀ a, (k0_off64 v478) a + S1x4096.size a ≤ S4096x4096.size a := fun i v41 v478 k0_hw64 k0_h1 k0_h2 => k0_hw64 k0_h1 k0_h2

def k0_off65 (v100 : BitVec 32) : Fin 2 → Nat :=
  let c0_i32_57 : BitVec 32 := 0#32
  ![v100.toNat, 0]
def k0_cond3 (v47 : BitVec 32) : BitVec 1 :=
  let c1_i32_21 : BitVec 32 := 1#32
  let c4_i32_22 : BitVec 32 := 4#32
  let v48 : BitVec 32 := Scalar.remsi c1_i32_21 c4_i32_22
  let c8_i32_23 : BitVec 32 := 8#32
  let v49 : BitVec 32 := Scalar.muli v48 c8_i32_23
  let v50 : BitVec 1 := Scalar.cmpi .sgt v47 v49
  let v51 : BitVec 32 := Scalar.extui v50
  let c0_i32_24 : BitVec 32 := 0#32
  let v52 : BitVec 1 := Scalar.cmpi .ne v51 c0_i32_24
  v52

def k0_chk65 (i : grid0.Coords) (v47 : BitVec 32) (v100 : BitVec 32) : Prop :=
  (∀ (k0_h1 : k0_cond1 i = 1#1), ∀ (k0_h3 : k0_cond3 v47 = 1#1), ∀ a, (k0_off65 v100) a + S1x4096.size a ≤ S4096x4096.size a)
theorem k0_off65_inb : ∀ (i : grid0.Coords) (v47 : BitVec 32) (v100 : BitVec 32) (k0_hw65 : k0_chk65 i v47 v100), ∀ (k0_h1 : k0_cond1 i = 1#1), ∀ (k0_h3 : k0_cond3 v47 = 1#1), ∀ a, (k0_off65 v100) a + S1x4096.size a ≤ S4096x4096.size a := fun i v47 v100 k0_hw65 k0_h1 k0_h3 => k0_hw65 k0_h1 k0_h3

def k0_off66 (v106 : BitVec 32) : Fin 2 → Nat :=
  let c0_i32_63 : BitVec 32 := 0#32
  ![v106.toNat, 0]

def k0_chk66 (i : grid0.Coords) (v47 : BitVec 32) (v106 : BitVec 32) : Prop :=
  (∀ (k0_h1 : k0_cond1 i = 1#1), ∀ (k0_h3 : k0_cond3 v47 = 1#1), ∀ a, (k0_off66 v106) a + S1x4096.size a ≤ S4096x4096.size a)
theorem k0_off66_inb : ∀ (i : grid0.Coords) (v47 : BitVec 32) (v106 : BitVec 32) (k0_hw66 : k0_chk66 i v47 v106), ∀ (k0_h1 : k0_cond1 i = 1#1), ∀ (k0_h3 : k0_cond3 v47 = 1#1), ∀ a, (k0_off66 v106) a + S1x4096.size a ≤ S4096x4096.size a := fun i v47 v106 k0_hw66 k0_h1 k0_h3 => k0_hw66 k0_h1 k0_h3

def k0_off67 (v112 : BitVec 32) : Fin 2 → Nat :=
  let c0_i32_69 : BitVec 32 := 0#32
  ![v112.toNat, 0]

def k0_chk67 (i : grid0.Coords) (v47 : BitVec 32) (v112 : BitVec 32) : Prop :=
  (∀ (k0_h1 : k0_cond1 i = 1#1), ∀ (k0_h3 : k0_cond3 v47 = 1#1), ∀ a, (k0_off67 v112) a + S1x4096.size a ≤ S4096x4096.size a)
theorem k0_off67_inb : ∀ (i : grid0.Coords) (v47 : BitVec 32) (v112 : BitVec 32) (k0_hw67 : k0_chk67 i v47 v112), ∀ (k0_h1 : k0_cond1 i = 1#1), ∀ (k0_h3 : k0_cond3 v47 = 1#1), ∀ a, (k0_off67 v112) a + S1x4096.size a ≤ S4096x4096.size a := fun i v47 v112 k0_hw67 k0_h1 k0_h3 => k0_hw67 k0_h1 k0_h3

def k0_off68 (v118 : BitVec 32) : Fin 2 → Nat :=
  let c0_i32_74 : BitVec 32 := 0#32
  ![v118.toNat, 0]

def k0_chk68 (i : grid0.Coords) (v47 : BitVec 32) (v118 : BitVec 32) : Prop :=
  (∀ (k0_h1 : k0_cond1 i = 1#1), ∀ (k0_h3 : k0_cond3 v47 = 1#1), ∀ a, (k0_off68 v118) a + S1x4096.size a ≤ S4096x4096.size a)
theorem k0_off68_inb : ∀ (i : grid0.Coords) (v47 : BitVec 32) (v118 : BitVec 32) (k0_hw68 : k0_chk68 i v47 v118), ∀ (k0_h1 : k0_cond1 i = 1#1), ∀ (k0_h3 : k0_cond3 v47 = 1#1), ∀ a, (k0_off68 v118) a + S1x4096.size a ≤ S4096x4096.size a := fun i v47 v118 k0_hw68 k0_h1 k0_h3 => k0_hw68 k0_h1 k0_h3

def k0_off69 (v124 : BitVec 32) : Fin 2 → Nat :=
  let c0_i32_80 : BitVec 32 := 0#32
  ![v124.toNat, 0]

def k0_chk69 (i : grid0.Coords) (v47 : BitVec 32) (v124 : BitVec 32) : Prop :=
  (∀ (k0_h1 : k0_cond1 i = 1#1), ∀ (k0_h3 : k0_cond3 v47 = 1#1), ∀ a, (k0_off69 v124) a + S1x4096.size a ≤ S4096x4096.size a)
theorem k0_off69_inb : ∀ (i : grid0.Coords) (v47 : BitVec 32) (v124 : BitVec 32) (k0_hw69 : k0_chk69 i v47 v124), ∀ (k0_h1 : k0_cond1 i = 1#1), ∀ (k0_h3 : k0_cond3 v47 = 1#1), ∀ a, (k0_off69 v124) a + S1x4096.size a ≤ S4096x4096.size a := fun i v47 v124 k0_hw69 k0_h1 k0_h3 => k0_hw69 k0_h1 k0_h3

def k0_off70 (v130 : BitVec 32) : Fin 2 → Nat :=
  let c0_i32_85 : BitVec 32 := 0#32
  ![v130.toNat, 0]

def k0_chk70 (i : grid0.Coords) (v47 : BitVec 32) (v130 : BitVec 32) : Prop :=
  (∀ (k0_h1 : k0_cond1 i = 1#1), ∀ (k0_h3 : k0_cond3 v47 = 1#1), ∀ a, (k0_off70 v130) a + S1x4096.size a ≤ S4096x4096.size a)
theorem k0_off70_inb : ∀ (i : grid0.Coords) (v47 : BitVec 32) (v130 : BitVec 32) (k0_hw70 : k0_chk70 i v47 v130), ∀ (k0_h1 : k0_cond1 i = 1#1), ∀ (k0_h3 : k0_cond3 v47 = 1#1), ∀ a, (k0_off70 v130) a + S1x4096.size a ≤ S4096x4096.size a := fun i v47 v130 k0_hw70 k0_h1 k0_h3 => k0_hw70 k0_h1 k0_h3

def k0_off71 (v136 : BitVec 32) : Fin 2 → Nat :=
  let c0_i32_90 : BitVec 32 := 0#32
  ![v136.toNat, 0]

def k0_chk71 (i : grid0.Coords) (v47 : BitVec 32) (v136 : BitVec 32) : Prop :=
  (∀ (k0_h1 : k0_cond1 i = 1#1), ∀ (k0_h3 : k0_cond3 v47 = 1#1), ∀ a, (k0_off71 v136) a + S1x4096.size a ≤ S4096x4096.size a)
theorem k0_off71_inb : ∀ (i : grid0.Coords) (v47 : BitVec 32) (v136 : BitVec 32) (k0_hw71 : k0_chk71 i v47 v136), ∀ (k0_h1 : k0_cond1 i = 1#1), ∀ (k0_h3 : k0_cond3 v47 = 1#1), ∀ a, (k0_off71 v136) a + S1x4096.size a ≤ S4096x4096.size a := fun i v47 v136 k0_hw71 k0_h1 k0_h3 => k0_hw71 k0_h1 k0_h3

def k0_off72 (v142 : BitVec 32) : Fin 2 → Nat :=
  let c0_i32_95 : BitVec 32 := 0#32
  ![v142.toNat, 0]

def k0_chk72 (i : grid0.Coords) (v47 : BitVec 32) (v142 : BitVec 32) : Prop :=
  (∀ (k0_h1 : k0_cond1 i = 1#1), ∀ (k0_h3 : k0_cond3 v47 = 1#1), ∀ a, (k0_off72 v142) a + S1x4096.size a ≤ S4096x4096.size a)
theorem k0_off72_inb : ∀ (i : grid0.Coords) (v47 : BitVec 32) (v142 : BitVec 32) (k0_hw72 : k0_chk72 i v47 v142), ∀ (k0_h1 : k0_cond1 i = 1#1), ∀ (k0_h3 : k0_cond3 v47 = 1#1), ∀ a, (k0_off72 v142) a + S1x4096.size a ≤ S4096x4096.size a := fun i v47 v142 k0_hw72 k0_h1 k0_h3 => k0_hw72 k0_h1 k0_h3

def k0_off73 (v148 : BitVec 32) : Fin 2 → Nat :=
  let c0_i32_101 : BitVec 32 := 0#32
  ![v148.toNat, 0]

def k0_chk73 (i : grid0.Coords) (v47 : BitVec 32) (v148 : BitVec 32) : Prop :=
  (∀ (k0_h1 : k0_cond1 i = 1#1), ∀ (k0_h3 : k0_cond3 v47 = 1#1), ∀ a, (k0_off73 v148) a + S1x4096.size a ≤ S4096x4096.size a)
theorem k0_off73_inb : ∀ (i : grid0.Coords) (v47 : BitVec 32) (v148 : BitVec 32) (k0_hw73 : k0_chk73 i v47 v148), ∀ (k0_h1 : k0_cond1 i = 1#1), ∀ (k0_h3 : k0_cond3 v47 = 1#1), ∀ a, (k0_off73 v148) a + S1x4096.size a ≤ S4096x4096.size a := fun i v47 v148 k0_hw73 k0_h1 k0_h3 => k0_hw73 k0_h1 k0_h3

def k0_off74 (v154 : BitVec 32) : Fin 2 → Nat :=
  let c0_i32_107 : BitVec 32 := 0#32
  ![v154.toNat, 0]

def k0_chk74 (i : grid0.Coords) (v47 : BitVec 32) (v154 : BitVec 32) : Prop :=
  (∀ (k0_h1 : k0_cond1 i = 1#1), ∀ (k0_h3 : k0_cond3 v47 = 1#1), ∀ a, (k0_off74 v154) a + S1x4096.size a ≤ S4096x4096.size a)
theorem k0_off74_inb : ∀ (i : grid0.Coords) (v47 : BitVec 32) (v154 : BitVec 32) (k0_hw74 : k0_chk74 i v47 v154), ∀ (k0_h1 : k0_cond1 i = 1#1), ∀ (k0_h3 : k0_cond3 v47 = 1#1), ∀ a, (k0_off74 v154) a + S1x4096.size a ≤ S4096x4096.size a := fun i v47 v154 k0_hw74 k0_h1 k0_h3 => k0_hw74 k0_h1 k0_h3

def k0_off75 (v160 : BitVec 32) : Fin 2 → Nat :=
  let c0_i32_113 : BitVec 32 := 0#32
  ![v160.toNat, 0]

def k0_chk75 (i : grid0.Coords) (v47 : BitVec 32) (v160 : BitVec 32) : Prop :=
  (∀ (k0_h1 : k0_cond1 i = 1#1), ∀ (k0_h3 : k0_cond3 v47 = 1#1), ∀ a, (k0_off75 v160) a + S1x4096.size a ≤ S4096x4096.size a)
theorem k0_off75_inb : ∀ (i : grid0.Coords) (v47 : BitVec 32) (v160 : BitVec 32) (k0_hw75 : k0_chk75 i v47 v160), ∀ (k0_h1 : k0_cond1 i = 1#1), ∀ (k0_h3 : k0_cond3 v47 = 1#1), ∀ a, (k0_off75 v160) a + S1x4096.size a ≤ S4096x4096.size a := fun i v47 v160 k0_hw75 k0_h1 k0_h3 => k0_hw75 k0_h1 k0_h3

def k0_off76 (v166 : BitVec 32) : Fin 2 → Nat :=
  let c0_i32_119 : BitVec 32 := 0#32
  ![v166.toNat, 0]

def k0_chk76 (i : grid0.Coords) (v47 : BitVec 32) (v166 : BitVec 32) : Prop :=
  (∀ (k0_h1 : k0_cond1 i = 1#1), ∀ (k0_h3 : k0_cond3 v47 = 1#1), ∀ a, (k0_off76 v166) a + S1x4096.size a ≤ S4096x4096.size a)
theorem k0_off76_inb : ∀ (i : grid0.Coords) (v47 : BitVec 32) (v166 : BitVec 32) (k0_hw76 : k0_chk76 i v47 v166), ∀ (k0_h1 : k0_cond1 i = 1#1), ∀ (k0_h3 : k0_cond3 v47 = 1#1), ∀ a, (k0_off76 v166) a + S1x4096.size a ≤ S4096x4096.size a := fun i v47 v166 k0_hw76 k0_h1 k0_h3 => k0_hw76 k0_h1 k0_h3

def k0_off77 (v172 : BitVec 32) : Fin 2 → Nat :=
  let c0_i32_125 : BitVec 32 := 0#32
  ![v172.toNat, 0]

def k0_chk77 (i : grid0.Coords) (v47 : BitVec 32) (v172 : BitVec 32) : Prop :=
  (∀ (k0_h1 : k0_cond1 i = 1#1), ∀ (k0_h3 : k0_cond3 v47 = 1#1), ∀ a, (k0_off77 v172) a + S1x4096.size a ≤ S4096x4096.size a)
theorem k0_off77_inb : ∀ (i : grid0.Coords) (v47 : BitVec 32) (v172 : BitVec 32) (k0_hw77 : k0_chk77 i v47 v172), ∀ (k0_h1 : k0_cond1 i = 1#1), ∀ (k0_h3 : k0_cond3 v47 = 1#1), ∀ a, (k0_off77 v172) a + S1x4096.size a ≤ S4096x4096.size a := fun i v47 v172 k0_hw77 k0_h1 k0_h3 => k0_hw77 k0_h1 k0_h3

def k0_off78 (v178 : BitVec 32) : Fin 2 → Nat :=
  let c0_i32_131 : BitVec 32 := 0#32
  ![v178.toNat, 0]

def k0_chk78 (i : grid0.Coords) (v47 : BitVec 32) (v178 : BitVec 32) : Prop :=
  (∀ (k0_h1 : k0_cond1 i = 1#1), ∀ (k0_h3 : k0_cond3 v47 = 1#1), ∀ a, (k0_off78 v178) a + S1x4096.size a ≤ S4096x4096.size a)
theorem k0_off78_inb : ∀ (i : grid0.Coords) (v47 : BitVec 32) (v178 : BitVec 32) (k0_hw78 : k0_chk78 i v47 v178), ∀ (k0_h1 : k0_cond1 i = 1#1), ∀ (k0_h3 : k0_cond3 v47 = 1#1), ∀ a, (k0_off78 v178) a + S1x4096.size a ≤ S4096x4096.size a := fun i v47 v178 k0_hw78 k0_h1 k0_h3 => k0_hw78 k0_h1 k0_h3

def k0_off79 (v184 : BitVec 32) : Fin 2 → Nat :=
  let c0_i32_137 : BitVec 32 := 0#32
  ![v184.toNat, 0]

def k0_chk79 (i : grid0.Coords) (v47 : BitVec 32) (v184 : BitVec 32) : Prop :=
  (∀ (k0_h1 : k0_cond1 i = 1#1), ∀ (k0_h3 : k0_cond3 v47 = 1#1), ∀ a, (k0_off79 v184) a + S1x4096.size a ≤ S4096x4096.size a)
theorem k0_off79_inb : ∀ (i : grid0.Coords) (v47 : BitVec 32) (v184 : BitVec 32) (k0_hw79 : k0_chk79 i v47 v184), ∀ (k0_h1 : k0_cond1 i = 1#1), ∀ (k0_h3 : k0_cond3 v47 = 1#1), ∀ a, (k0_off79 v184) a + S1x4096.size a ≤ S4096x4096.size a := fun i v47 v184 k0_hw79 k0_h1 k0_h3 => k0_hw79 k0_h1 k0_h3

def k0_off80 (v190 : BitVec 32) : Fin 2 → Nat :=
  let c0_i32_143 : BitVec 32 := 0#32
  ![v190.toNat, 0]

def k0_chk80 (i : grid0.Coords) (v47 : BitVec 32) (v190 : BitVec 32) : Prop :=
  (∀ (k0_h1 : k0_cond1 i = 1#1), ∀ (k0_h3 : k0_cond3 v47 = 1#1), ∀ a, (k0_off80 v190) a + S1x4096.size a ≤ S4096x4096.size a)
theorem k0_off80_inb : ∀ (i : grid0.Coords) (v47 : BitVec 32) (v190 : BitVec 32) (k0_hw80 : k0_chk80 i v47 v190), ∀ (k0_h1 : k0_cond1 i = 1#1), ∀ (k0_h3 : k0_cond3 v47 = 1#1), ∀ a, (k0_off80 v190) a + S1x4096.size a ≤ S4096x4096.size a := fun i v47 v190 k0_hw80 k0_h1 k0_h3 => k0_hw80 k0_h1 k0_h3

def k0_off81 (v196 : BitVec 32) : Fin 2 → Nat :=
  let c0_i32_149 : BitVec 32 := 0#32
  ![v196.toNat, 0]

def k0_chk81 (i : grid0.Coords) (v47 : BitVec 32) (v196 : BitVec 32) : Prop :=
  (∀ (k0_h1 : k0_cond1 i = 1#1), ∀ (k0_h3 : k0_cond3 v47 = 1#1), ∀ a, (k0_off81 v196) a + S1x4096.size a ≤ S4096x4096.size a)
theorem k0_off81_inb : ∀ (i : grid0.Coords) (v47 : BitVec 32) (v196 : BitVec 32) (k0_hw81 : k0_chk81 i v47 v196), ∀ (k0_h1 : k0_cond1 i = 1#1), ∀ (k0_h3 : k0_cond3 v47 = 1#1), ∀ a, (k0_off81 v196) a + S1x4096.size a ≤ S4096x4096.size a := fun i v47 v196 k0_hw81 k0_h1 k0_h3 => k0_hw81 k0_h1 k0_h3

def k0_off82 (v202 : BitVec 32) : Fin 2 → Nat :=
  let c0_i32_155 : BitVec 32 := 0#32
  ![v202.toNat, 0]

def k0_chk82 (i : grid0.Coords) (v47 : BitVec 32) (v202 : BitVec 32) : Prop :=
  (∀ (k0_h1 : k0_cond1 i = 1#1), ∀ (k0_h3 : k0_cond3 v47 = 1#1), ∀ a, (k0_off82 v202) a + S1x4096.size a ≤ S4096x4096.size a)
theorem k0_off82_inb : ∀ (i : grid0.Coords) (v47 : BitVec 32) (v202 : BitVec 32) (k0_hw82 : k0_chk82 i v47 v202), ∀ (k0_h1 : k0_cond1 i = 1#1), ∀ (k0_h3 : k0_cond3 v47 = 1#1), ∀ a, (k0_off82 v202) a + S1x4096.size a ≤ S4096x4096.size a := fun i v47 v202 k0_hw82 k0_h1 k0_h3 => k0_hw82 k0_h1 k0_h3

def k0_off83 (v208 : BitVec 32) : Fin 2 → Nat :=
  let c0_i32_161 : BitVec 32 := 0#32
  ![v208.toNat, 0]

def k0_chk83 (i : grid0.Coords) (v47 : BitVec 32) (v208 : BitVec 32) : Prop :=
  (∀ (k0_h1 : k0_cond1 i = 1#1), ∀ (k0_h3 : k0_cond3 v47 = 1#1), ∀ a, (k0_off83 v208) a + S1x4096.size a ≤ S4096x4096.size a)
theorem k0_off83_inb : ∀ (i : grid0.Coords) (v47 : BitVec 32) (v208 : BitVec 32) (k0_hw83 : k0_chk83 i v47 v208), ∀ (k0_h1 : k0_cond1 i = 1#1), ∀ (k0_h3 : k0_cond3 v47 = 1#1), ∀ a, (k0_off83 v208) a + S1x4096.size a ≤ S4096x4096.size a := fun i v47 v208 k0_hw83 k0_h1 k0_h3 => k0_hw83 k0_h1 k0_h3

def k0_off84 (v214 : BitVec 32) : Fin 2 → Nat :=
  let c0_i32_167 : BitVec 32 := 0#32
  ![v214.toNat, 0]

def k0_chk84 (i : grid0.Coords) (v47 : BitVec 32) (v214 : BitVec 32) : Prop :=
  (∀ (k0_h1 : k0_cond1 i = 1#1), ∀ (k0_h3 : k0_cond3 v47 = 1#1), ∀ a, (k0_off84 v214) a + S1x4096.size a ≤ S4096x4096.size a)
theorem k0_off84_inb : ∀ (i : grid0.Coords) (v47 : BitVec 32) (v214 : BitVec 32) (k0_hw84 : k0_chk84 i v47 v214), ∀ (k0_h1 : k0_cond1 i = 1#1), ∀ (k0_h3 : k0_cond3 v47 = 1#1), ∀ a, (k0_off84 v214) a + S1x4096.size a ≤ S4096x4096.size a := fun i v47 v214 k0_hw84 k0_h1 k0_h3 => k0_hw84 k0_h1 k0_h3

def k0_off85 (v220 : BitVec 32) : Fin 2 → Nat :=
  let c0_i32_173 : BitVec 32 := 0#32
  ![v220.toNat, 0]

def k0_chk85 (i : grid0.Coords) (v47 : BitVec 32) (v220 : BitVec 32) : Prop :=
  (∀ (k0_h1 : k0_cond1 i = 1#1), ∀ (k0_h3 : k0_cond3 v47 = 1#1), ∀ a, (k0_off85 v220) a + S1x4096.size a ≤ S4096x4096.size a)
theorem k0_off85_inb : ∀ (i : grid0.Coords) (v47 : BitVec 32) (v220 : BitVec 32) (k0_hw85 : k0_chk85 i v47 v220), ∀ (k0_h1 : k0_cond1 i = 1#1), ∀ (k0_h3 : k0_cond3 v47 = 1#1), ∀ a, (k0_off85 v220) a + S1x4096.size a ≤ S4096x4096.size a := fun i v47 v220 k0_hw85 k0_h1 k0_h3 => k0_hw85 k0_h1 k0_h3

def k0_off86 (v226 : BitVec 32) : Fin 2 → Nat :=
  let c0_i32_179 : BitVec 32 := 0#32
  ![v226.toNat, 0]

def k0_chk86 (i : grid0.Coords) (v47 : BitVec 32) (v226 : BitVec 32) : Prop :=
  (∀ (k0_h1 : k0_cond1 i = 1#1), ∀ (k0_h3 : k0_cond3 v47 = 1#1), ∀ a, (k0_off86 v226) a + S1x4096.size a ≤ S4096x4096.size a)
theorem k0_off86_inb : ∀ (i : grid0.Coords) (v47 : BitVec 32) (v226 : BitVec 32) (k0_hw86 : k0_chk86 i v47 v226), ∀ (k0_h1 : k0_cond1 i = 1#1), ∀ (k0_h3 : k0_cond3 v47 = 1#1), ∀ a, (k0_off86 v226) a + S1x4096.size a ≤ S4096x4096.size a := fun i v47 v226 k0_hw86 k0_h1 k0_h3 => k0_hw86 k0_h1 k0_h3

def k0_off87 (v232 : BitVec 32) : Fin 2 → Nat :=
  let c0_i32_185 : BitVec 32 := 0#32
  ![v232.toNat, 0]

def k0_chk87 (i : grid0.Coords) (v47 : BitVec 32) (v232 : BitVec 32) : Prop :=
  (∀ (k0_h1 : k0_cond1 i = 1#1), ∀ (k0_h3 : k0_cond3 v47 = 1#1), ∀ a, (k0_off87 v232) a + S1x4096.size a ≤ S4096x4096.size a)
theorem k0_off87_inb : ∀ (i : grid0.Coords) (v47 : BitVec 32) (v232 : BitVec 32) (k0_hw87 : k0_chk87 i v47 v232), ∀ (k0_h1 : k0_cond1 i = 1#1), ∀ (k0_h3 : k0_cond3 v47 = 1#1), ∀ a, (k0_off87 v232) a + S1x4096.size a ≤ S4096x4096.size a := fun i v47 v232 k0_hw87 k0_h1 k0_h3 => k0_hw87 k0_h1 k0_h3

def k0_off88 (v238 : BitVec 32) : Fin 2 → Nat :=
  let c0_i32_191 : BitVec 32 := 0#32
  ![v238.toNat, 0]

def k0_chk88 (i : grid0.Coords) (v47 : BitVec 32) (v238 : BitVec 32) : Prop :=
  (∀ (k0_h1 : k0_cond1 i = 1#1), ∀ (k0_h3 : k0_cond3 v47 = 1#1), ∀ a, (k0_off88 v238) a + S1x4096.size a ≤ S4096x4096.size a)
theorem k0_off88_inb : ∀ (i : grid0.Coords) (v47 : BitVec 32) (v238 : BitVec 32) (k0_hw88 : k0_chk88 i v47 v238), ∀ (k0_h1 : k0_cond1 i = 1#1), ∀ (k0_h3 : k0_cond3 v47 = 1#1), ∀ a, (k0_off88 v238) a + S1x4096.size a ≤ S4096x4096.size a := fun i v47 v238 k0_hw88 k0_h1 k0_h3 => k0_hw88 k0_h1 k0_h3

def k0_off89 (v244 : BitVec 32) : Fin 2 → Nat :=
  let c0_i32_197 : BitVec 32 := 0#32
  ![v244.toNat, 0]

def k0_chk89 (i : grid0.Coords) (v47 : BitVec 32) (v244 : BitVec 32) : Prop :=
  (∀ (k0_h1 : k0_cond1 i = 1#1), ∀ (k0_h3 : k0_cond3 v47 = 1#1), ∀ a, (k0_off89 v244) a + S1x4096.size a ≤ S4096x4096.size a)
theorem k0_off89_inb : ∀ (i : grid0.Coords) (v47 : BitVec 32) (v244 : BitVec 32) (k0_hw89 : k0_chk89 i v47 v244), ∀ (k0_h1 : k0_cond1 i = 1#1), ∀ (k0_h3 : k0_cond3 v47 = 1#1), ∀ a, (k0_off89 v244) a + S1x4096.size a ≤ S4096x4096.size a := fun i v47 v244 k0_hw89 k0_h1 k0_h3 => k0_hw89 k0_h1 k0_h3

def k0_off90 (v250 : BitVec 32) : Fin 2 → Nat :=
  let c0_i32_203 : BitVec 32 := 0#32
  ![v250.toNat, 0]

def k0_chk90 (i : grid0.Coords) (v47 : BitVec 32) (v250 : BitVec 32) : Prop :=
  (∀ (k0_h1 : k0_cond1 i = 1#1), ∀ (k0_h3 : k0_cond3 v47 = 1#1), ∀ a, (k0_off90 v250) a + S1x4096.size a ≤ S4096x4096.size a)
theorem k0_off90_inb : ∀ (i : grid0.Coords) (v47 : BitVec 32) (v250 : BitVec 32) (k0_hw90 : k0_chk90 i v47 v250), ∀ (k0_h1 : k0_cond1 i = 1#1), ∀ (k0_h3 : k0_cond3 v47 = 1#1), ∀ a, (k0_off90 v250) a + S1x4096.size a ≤ S4096x4096.size a := fun i v47 v250 k0_hw90 k0_h1 k0_h3 => k0_hw90 k0_h1 k0_h3

def k0_off91 (v256 : BitVec 32) : Fin 2 → Nat :=
  let c0_i32_209 : BitVec 32 := 0#32
  ![v256.toNat, 0]

def k0_chk91 (i : grid0.Coords) (v47 : BitVec 32) (v256 : BitVec 32) : Prop :=
  (∀ (k0_h1 : k0_cond1 i = 1#1), ∀ (k0_h3 : k0_cond3 v47 = 1#1), ∀ a, (k0_off91 v256) a + S1x4096.size a ≤ S4096x4096.size a)
theorem k0_off91_inb : ∀ (i : grid0.Coords) (v47 : BitVec 32) (v256 : BitVec 32) (k0_hw91 : k0_chk91 i v47 v256), ∀ (k0_h1 : k0_cond1 i = 1#1), ∀ (k0_h3 : k0_cond3 v47 = 1#1), ∀ a, (k0_off91 v256) a + S1x4096.size a ≤ S4096x4096.size a := fun i v47 v256 k0_hw91 k0_h1 k0_h3 => k0_hw91 k0_h1 k0_h3

def k0_off92 (v262 : BitVec 32) : Fin 2 → Nat :=
  let c0_i32_215 : BitVec 32 := 0#32
  ![v262.toNat, 0]

def k0_chk92 (i : grid0.Coords) (v47 : BitVec 32) (v262 : BitVec 32) : Prop :=
  (∀ (k0_h1 : k0_cond1 i = 1#1), ∀ (k0_h3 : k0_cond3 v47 = 1#1), ∀ a, (k0_off92 v262) a + S1x4096.size a ≤ S4096x4096.size a)
theorem k0_off92_inb : ∀ (i : grid0.Coords) (v47 : BitVec 32) (v262 : BitVec 32) (k0_hw92 : k0_chk92 i v47 v262), ∀ (k0_h1 : k0_cond1 i = 1#1), ∀ (k0_h3 : k0_cond3 v47 = 1#1), ∀ a, (k0_off92 v262) a + S1x4096.size a ≤ S4096x4096.size a := fun i v47 v262 k0_hw92 k0_h1 k0_h3 => k0_hw92 k0_h1 k0_h3

def k0_off93 (v268 : BitVec 32) : Fin 2 → Nat :=
  let c0_i32_221 : BitVec 32 := 0#32
  ![v268.toNat, 0]

def k0_chk93 (i : grid0.Coords) (v47 : BitVec 32) (v268 : BitVec 32) : Prop :=
  (∀ (k0_h1 : k0_cond1 i = 1#1), ∀ (k0_h3 : k0_cond3 v47 = 1#1), ∀ a, (k0_off93 v268) a + S1x4096.size a ≤ S4096x4096.size a)
theorem k0_off93_inb : ∀ (i : grid0.Coords) (v47 : BitVec 32) (v268 : BitVec 32) (k0_hw93 : k0_chk93 i v47 v268), ∀ (k0_h1 : k0_cond1 i = 1#1), ∀ (k0_h3 : k0_cond3 v47 = 1#1), ∀ a, (k0_off93 v268) a + S1x4096.size a ≤ S4096x4096.size a := fun i v47 v268 k0_hw93 k0_h1 k0_h3 => k0_hw93 k0_h1 k0_h3

def k0_off94 (v274 : BitVec 32) : Fin 2 → Nat :=
  let c0_i32_227 : BitVec 32 := 0#32
  ![v274.toNat, 0]

def k0_chk94 (i : grid0.Coords) (v47 : BitVec 32) (v274 : BitVec 32) : Prop :=
  (∀ (k0_h1 : k0_cond1 i = 1#1), ∀ (k0_h3 : k0_cond3 v47 = 1#1), ∀ a, (k0_off94 v274) a + S1x4096.size a ≤ S4096x4096.size a)
theorem k0_off94_inb : ∀ (i : grid0.Coords) (v47 : BitVec 32) (v274 : BitVec 32) (k0_hw94 : k0_chk94 i v47 v274), ∀ (k0_h1 : k0_cond1 i = 1#1), ∀ (k0_h3 : k0_cond3 v47 = 1#1), ∀ a, (k0_off94 v274) a + S1x4096.size a ≤ S4096x4096.size a := fun i v47 v274 k0_hw94 k0_h1 k0_h3 => k0_hw94 k0_h1 k0_h3

def k0_off95 (v280 : BitVec 32) : Fin 2 → Nat :=
  let c0_i32_233 : BitVec 32 := 0#32
  ![v280.toNat, 0]

def k0_chk95 (i : grid0.Coords) (v47 : BitVec 32) (v280 : BitVec 32) : Prop :=
  (∀ (k0_h1 : k0_cond1 i = 1#1), ∀ (k0_h3 : k0_cond3 v47 = 1#1), ∀ a, (k0_off95 v280) a + S1x4096.size a ≤ S4096x4096.size a)
theorem k0_off95_inb : ∀ (i : grid0.Coords) (v47 : BitVec 32) (v280 : BitVec 32) (k0_hw95 : k0_chk95 i v47 v280), ∀ (k0_h1 : k0_cond1 i = 1#1), ∀ (k0_h3 : k0_cond3 v47 = 1#1), ∀ a, (k0_off95 v280) a + S1x4096.size a ≤ S4096x4096.size a := fun i v47 v280 k0_hw95 k0_h1 k0_h3 => k0_hw95 k0_h1 k0_h3

def k0_off96 (v286 : BitVec 32) : Fin 2 → Nat :=
  let c0_i32_239 : BitVec 32 := 0#32
  ![v286.toNat, 0]

def k0_chk96 (i : grid0.Coords) (v47 : BitVec 32) (v286 : BitVec 32) : Prop :=
  (∀ (k0_h1 : k0_cond1 i = 1#1), ∀ (k0_h3 : k0_cond3 v47 = 1#1), ∀ a, (k0_off96 v286) a + S1x4096.size a ≤ S4096x4096.size a)
theorem k0_off96_inb : ∀ (i : grid0.Coords) (v47 : BitVec 32) (v286 : BitVec 32) (k0_hw96 : k0_chk96 i v47 v286), ∀ (k0_h1 : k0_cond1 i = 1#1), ∀ (k0_h3 : k0_cond3 v47 = 1#1), ∀ a, (k0_off96 v286) a + S1x4096.size a ≤ S4096x4096.size a := fun i v47 v286 k0_hw96 k0_h1 k0_h3 => k0_hw96 k0_h1 k0_h3

def k0_off97 (v292 : BitVec 32) : Fin 2 → Nat :=
  let c0_i32_245 : BitVec 32 := 0#32
  ![v292.toNat, 0]

def k0_chk97 (i : grid0.Coords) (v47 : BitVec 32) (v292 : BitVec 32) : Prop :=
  (∀ (k0_h1 : k0_cond1 i = 1#1), ∀ (k0_h3 : k0_cond3 v47 = 1#1), ∀ a, (k0_off97 v292) a + S1x4096.size a ≤ S4096x4096.size a)
theorem k0_off97_inb : ∀ (i : grid0.Coords) (v47 : BitVec 32) (v292 : BitVec 32) (k0_hw97 : k0_chk97 i v47 v292), ∀ (k0_h1 : k0_cond1 i = 1#1), ∀ (k0_h3 : k0_cond3 v47 = 1#1), ∀ a, (k0_off97 v292) a + S1x4096.size a ≤ S4096x4096.size a := fun i v47 v292 k0_hw97 k0_h1 k0_h3 => k0_hw97 k0_h1 k0_h3

def k0_off98 (v298 : BitVec 32) : Fin 2 → Nat :=
  let c0_i32_251 : BitVec 32 := 0#32
  ![v298.toNat, 0]

def k0_chk98 (i : grid0.Coords) (v47 : BitVec 32) (v298 : BitVec 32) : Prop :=
  (∀ (k0_h1 : k0_cond1 i = 1#1), ∀ (k0_h3 : k0_cond3 v47 = 1#1), ∀ a, (k0_off98 v298) a + S1x4096.size a ≤ S4096x4096.size a)
theorem k0_off98_inb : ∀ (i : grid0.Coords) (v47 : BitVec 32) (v298 : BitVec 32) (k0_hw98 : k0_chk98 i v47 v298), ∀ (k0_h1 : k0_cond1 i = 1#1), ∀ (k0_h3 : k0_cond3 v47 = 1#1), ∀ a, (k0_off98 v298) a + S1x4096.size a ≤ S4096x4096.size a := fun i v47 v298 k0_hw98 k0_h1 k0_h3 => k0_hw98 k0_h1 k0_h3

def k0_off99 (v304 : BitVec 32) : Fin 2 → Nat :=
  let c0_i32_257 : BitVec 32 := 0#32
  ![v304.toNat, 0]

def k0_chk99 (i : grid0.Coords) (v47 : BitVec 32) (v304 : BitVec 32) : Prop :=
  (∀ (k0_h1 : k0_cond1 i = 1#1), ∀ (k0_h3 : k0_cond3 v47 = 1#1), ∀ a, (k0_off99 v304) a + S1x4096.size a ≤ S4096x4096.size a)
theorem k0_off99_inb : ∀ (i : grid0.Coords) (v47 : BitVec 32) (v304 : BitVec 32) (k0_hw99 : k0_chk99 i v47 v304), ∀ (k0_h1 : k0_cond1 i = 1#1), ∀ (k0_h3 : k0_cond3 v47 = 1#1), ∀ a, (k0_off99 v304) a + S1x4096.size a ≤ S4096x4096.size a := fun i v47 v304 k0_hw99 k0_h1 k0_h3 => k0_hw99 k0_h1 k0_h3

def k0_off100 (v310 : BitVec 32) : Fin 2 → Nat :=
  let c0_i32_263 : BitVec 32 := 0#32
  ![v310.toNat, 0]

def k0_chk100 (i : grid0.Coords) (v47 : BitVec 32) (v310 : BitVec 32) : Prop :=
  (∀ (k0_h1 : k0_cond1 i = 1#1), ∀ (k0_h3 : k0_cond3 v47 = 1#1), ∀ a, (k0_off100 v310) a + S1x4096.size a ≤ S4096x4096.size a)
theorem k0_off100_inb : ∀ (i : grid0.Coords) (v47 : BitVec 32) (v310 : BitVec 32) (k0_hw100 : k0_chk100 i v47 v310), ∀ (k0_h1 : k0_cond1 i = 1#1), ∀ (k0_h3 : k0_cond3 v47 = 1#1), ∀ a, (k0_off100 v310) a + S1x4096.size a ≤ S4096x4096.size a := fun i v47 v310 k0_hw100 k0_h1 k0_h3 => k0_hw100 k0_h1 k0_h3

def k0_off101 (v316 : BitVec 32) : Fin 2 → Nat :=
  let c0_i32_269 : BitVec 32 := 0#32
  ![v316.toNat, 0]

def k0_chk101 (i : grid0.Coords) (v47 : BitVec 32) (v316 : BitVec 32) : Prop :=
  (∀ (k0_h1 : k0_cond1 i = 1#1), ∀ (k0_h3 : k0_cond3 v47 = 1#1), ∀ a, (k0_off101 v316) a + S1x4096.size a ≤ S4096x4096.size a)
theorem k0_off101_inb : ∀ (i : grid0.Coords) (v47 : BitVec 32) (v316 : BitVec 32) (k0_hw101 : k0_chk101 i v47 v316), ∀ (k0_h1 : k0_cond1 i = 1#1), ∀ (k0_h3 : k0_cond3 v47 = 1#1), ∀ a, (k0_off101 v316) a + S1x4096.size a ≤ S4096x4096.size a := fun i v47 v316 k0_hw101 k0_h1 k0_h3 => k0_hw101 k0_h1 k0_h3

def k0_off102 (v322 : BitVec 32) : Fin 2 → Nat :=
  let c0_i32_275 : BitVec 32 := 0#32
  ![v322.toNat, 0]

def k0_chk102 (i : grid0.Coords) (v47 : BitVec 32) (v322 : BitVec 32) : Prop :=
  (∀ (k0_h1 : k0_cond1 i = 1#1), ∀ (k0_h3 : k0_cond3 v47 = 1#1), ∀ a, (k0_off102 v322) a + S1x4096.size a ≤ S4096x4096.size a)
theorem k0_off102_inb : ∀ (i : grid0.Coords) (v47 : BitVec 32) (v322 : BitVec 32) (k0_hw102 : k0_chk102 i v47 v322), ∀ (k0_h1 : k0_cond1 i = 1#1), ∀ (k0_h3 : k0_cond3 v47 = 1#1), ∀ a, (k0_off102 v322) a + S1x4096.size a ≤ S4096x4096.size a := fun i v47 v322 k0_hw102 k0_h1 k0_h3 => k0_hw102 k0_h1 k0_h3

def k0_off103 (v328 : BitVec 32) : Fin 2 → Nat :=
  let c0_i32_281 : BitVec 32 := 0#32
  ![v328.toNat, 0]

def k0_chk103 (i : grid0.Coords) (v47 : BitVec 32) (v328 : BitVec 32) : Prop :=
  (∀ (k0_h1 : k0_cond1 i = 1#1), ∀ (k0_h3 : k0_cond3 v47 = 1#1), ∀ a, (k0_off103 v328) a + S1x4096.size a ≤ S4096x4096.size a)
theorem k0_off103_inb : ∀ (i : grid0.Coords) (v47 : BitVec 32) (v328 : BitVec 32) (k0_hw103 : k0_chk103 i v47 v328), ∀ (k0_h1 : k0_cond1 i = 1#1), ∀ (k0_h3 : k0_cond3 v47 = 1#1), ∀ a, (k0_off103 v328) a + S1x4096.size a ≤ S4096x4096.size a := fun i v47 v328 k0_hw103 k0_h1 k0_h3 => k0_hw103 k0_h1 k0_h3

def k0_off104 (v334 : BitVec 32) : Fin 2 → Nat :=
  let c0_i32_287 : BitVec 32 := 0#32
  ![v334.toNat, 0]

def k0_chk104 (i : grid0.Coords) (v47 : BitVec 32) (v334 : BitVec 32) : Prop :=
  (∀ (k0_h1 : k0_cond1 i = 1#1), ∀ (k0_h3 : k0_cond3 v47 = 1#1), ∀ a, (k0_off104 v334) a + S1x4096.size a ≤ S4096x4096.size a)
theorem k0_off104_inb : ∀ (i : grid0.Coords) (v47 : BitVec 32) (v334 : BitVec 32) (k0_hw104 : k0_chk104 i v47 v334), ∀ (k0_h1 : k0_cond1 i = 1#1), ∀ (k0_h3 : k0_cond3 v47 = 1#1), ∀ a, (k0_off104 v334) a + S1x4096.size a ≤ S4096x4096.size a := fun i v47 v334 k0_hw104 k0_h1 k0_h3 => k0_hw104 k0_h1 k0_h3

def k0_off105 (v340 : BitVec 32) : Fin 2 → Nat :=
  let c0_i32_293 : BitVec 32 := 0#32
  ![v340.toNat, 0]

def k0_chk105 (i : grid0.Coords) (v47 : BitVec 32) (v340 : BitVec 32) : Prop :=
  (∀ (k0_h1 : k0_cond1 i = 1#1), ∀ (k0_h3 : k0_cond3 v47 = 1#1), ∀ a, (k0_off105 v340) a + S1x4096.size a ≤ S4096x4096.size a)
theorem k0_off105_inb : ∀ (i : grid0.Coords) (v47 : BitVec 32) (v340 : BitVec 32) (k0_hw105 : k0_chk105 i v47 v340), ∀ (k0_h1 : k0_cond1 i = 1#1), ∀ (k0_h3 : k0_cond3 v47 = 1#1), ∀ a, (k0_off105 v340) a + S1x4096.size a ≤ S4096x4096.size a := fun i v47 v340 k0_hw105 k0_h1 k0_h3 => k0_hw105 k0_h1 k0_h3

def k0_off106 (v346 : BitVec 32) : Fin 2 → Nat :=
  let c0_i32_299 : BitVec 32 := 0#32
  ![v346.toNat, 0]

def k0_chk106 (i : grid0.Coords) (v47 : BitVec 32) (v346 : BitVec 32) : Prop :=
  (∀ (k0_h1 : k0_cond1 i = 1#1), ∀ (k0_h3 : k0_cond3 v47 = 1#1), ∀ a, (k0_off106 v346) a + S1x4096.size a ≤ S4096x4096.size a)
theorem k0_off106_inb : ∀ (i : grid0.Coords) (v47 : BitVec 32) (v346 : BitVec 32) (k0_hw106 : k0_chk106 i v47 v346), ∀ (k0_h1 : k0_cond1 i = 1#1), ∀ (k0_h3 : k0_cond3 v47 = 1#1), ∀ a, (k0_off106 v346) a + S1x4096.size a ≤ S4096x4096.size a := fun i v47 v346 k0_hw106 k0_h1 k0_h3 => k0_hw106 k0_h1 k0_h3

def k0_off107 (v352 : BitVec 32) : Fin 2 → Nat :=
  let c0_i32_305 : BitVec 32 := 0#32
  ![v352.toNat, 0]

def k0_chk107 (i : grid0.Coords) (v47 : BitVec 32) (v352 : BitVec 32) : Prop :=
  (∀ (k0_h1 : k0_cond1 i = 1#1), ∀ (k0_h3 : k0_cond3 v47 = 1#1), ∀ a, (k0_off107 v352) a + S1x4096.size a ≤ S4096x4096.size a)
theorem k0_off107_inb : ∀ (i : grid0.Coords) (v47 : BitVec 32) (v352 : BitVec 32) (k0_hw107 : k0_chk107 i v47 v352), ∀ (k0_h1 : k0_cond1 i = 1#1), ∀ (k0_h3 : k0_cond3 v47 = 1#1), ∀ a, (k0_off107 v352) a + S1x4096.size a ≤ S4096x4096.size a := fun i v47 v352 k0_hw107 k0_h1 k0_h3 => k0_hw107 k0_h1 k0_h3

def k0_off108 (v358 : BitVec 32) : Fin 2 → Nat :=
  let c0_i32_311 : BitVec 32 := 0#32
  ![v358.toNat, 0]

def k0_chk108 (i : grid0.Coords) (v47 : BitVec 32) (v358 : BitVec 32) : Prop :=
  (∀ (k0_h1 : k0_cond1 i = 1#1), ∀ (k0_h3 : k0_cond3 v47 = 1#1), ∀ a, (k0_off108 v358) a + S1x4096.size a ≤ S4096x4096.size a)
theorem k0_off108_inb : ∀ (i : grid0.Coords) (v47 : BitVec 32) (v358 : BitVec 32) (k0_hw108 : k0_chk108 i v47 v358), ∀ (k0_h1 : k0_cond1 i = 1#1), ∀ (k0_h3 : k0_cond3 v47 = 1#1), ∀ a, (k0_off108 v358) a + S1x4096.size a ≤ S4096x4096.size a := fun i v47 v358 k0_hw108 k0_h1 k0_h3 => k0_hw108 k0_h1 k0_h3

def k0_off109 (v364 : BitVec 32) : Fin 2 → Nat :=
  let c0_i32_317 : BitVec 32 := 0#32
  ![v364.toNat, 0]

def k0_chk109 (i : grid0.Coords) (v47 : BitVec 32) (v364 : BitVec 32) : Prop :=
  (∀ (k0_h1 : k0_cond1 i = 1#1), ∀ (k0_h3 : k0_cond3 v47 = 1#1), ∀ a, (k0_off109 v364) a + S1x4096.size a ≤ S4096x4096.size a)
theorem k0_off109_inb : ∀ (i : grid0.Coords) (v47 : BitVec 32) (v364 : BitVec 32) (k0_hw109 : k0_chk109 i v47 v364), ∀ (k0_h1 : k0_cond1 i = 1#1), ∀ (k0_h3 : k0_cond3 v47 = 1#1), ∀ a, (k0_off109 v364) a + S1x4096.size a ≤ S4096x4096.size a := fun i v47 v364 k0_hw109 k0_h1 k0_h3 => k0_hw109 k0_h1 k0_h3

def k0_off110 (v370 : BitVec 32) : Fin 2 → Nat :=
  let c0_i32_323 : BitVec 32 := 0#32
  ![v370.toNat, 0]

def k0_chk110 (i : grid0.Coords) (v47 : BitVec 32) (v370 : BitVec 32) : Prop :=
  (∀ (k0_h1 : k0_cond1 i = 1#1), ∀ (k0_h3 : k0_cond3 v47 = 1#1), ∀ a, (k0_off110 v370) a + S1x4096.size a ≤ S4096x4096.size a)
theorem k0_off110_inb : ∀ (i : grid0.Coords) (v47 : BitVec 32) (v370 : BitVec 32) (k0_hw110 : k0_chk110 i v47 v370), ∀ (k0_h1 : k0_cond1 i = 1#1), ∀ (k0_h3 : k0_cond3 v47 = 1#1), ∀ a, (k0_off110 v370) a + S1x4096.size a ≤ S4096x4096.size a := fun i v47 v370 k0_hw110 k0_h1 k0_h3 => k0_hw110 k0_h1 k0_h3

def k0_off111 (v376 : BitVec 32) : Fin 2 → Nat :=
  let c0_i32_329 : BitVec 32 := 0#32
  ![v376.toNat, 0]

def k0_chk111 (i : grid0.Coords) (v47 : BitVec 32) (v376 : BitVec 32) : Prop :=
  (∀ (k0_h1 : k0_cond1 i = 1#1), ∀ (k0_h3 : k0_cond3 v47 = 1#1), ∀ a, (k0_off111 v376) a + S1x4096.size a ≤ S4096x4096.size a)
theorem k0_off111_inb : ∀ (i : grid0.Coords) (v47 : BitVec 32) (v376 : BitVec 32) (k0_hw111 : k0_chk111 i v47 v376), ∀ (k0_h1 : k0_cond1 i = 1#1), ∀ (k0_h3 : k0_cond3 v47 = 1#1), ∀ a, (k0_off111 v376) a + S1x4096.size a ≤ S4096x4096.size a := fun i v47 v376 k0_hw111 k0_h1 k0_h3 => k0_hw111 k0_h1 k0_h3

def k0_off112 (v382 : BitVec 32) : Fin 2 → Nat :=
  let c0_i32_335 : BitVec 32 := 0#32
  ![v382.toNat, 0]

def k0_chk112 (i : grid0.Coords) (v47 : BitVec 32) (v382 : BitVec 32) : Prop :=
  (∀ (k0_h1 : k0_cond1 i = 1#1), ∀ (k0_h3 : k0_cond3 v47 = 1#1), ∀ a, (k0_off112 v382) a + S1x4096.size a ≤ S4096x4096.size a)
theorem k0_off112_inb : ∀ (i : grid0.Coords) (v47 : BitVec 32) (v382 : BitVec 32) (k0_hw112 : k0_chk112 i v47 v382), ∀ (k0_h1 : k0_cond1 i = 1#1), ∀ (k0_h3 : k0_cond3 v47 = 1#1), ∀ a, (k0_off112 v382) a + S1x4096.size a ≤ S4096x4096.size a := fun i v47 v382 k0_hw112 k0_h1 k0_h3 => k0_hw112 k0_h1 k0_h3

def k0_off113 (v388 : BitVec 32) : Fin 2 → Nat :=
  let c0_i32_341 : BitVec 32 := 0#32
  ![v388.toNat, 0]

def k0_chk113 (i : grid0.Coords) (v47 : BitVec 32) (v388 : BitVec 32) : Prop :=
  (∀ (k0_h1 : k0_cond1 i = 1#1), ∀ (k0_h3 : k0_cond3 v47 = 1#1), ∀ a, (k0_off113 v388) a + S1x4096.size a ≤ S4096x4096.size a)
theorem k0_off113_inb : ∀ (i : grid0.Coords) (v47 : BitVec 32) (v388 : BitVec 32) (k0_hw113 : k0_chk113 i v47 v388), ∀ (k0_h1 : k0_cond1 i = 1#1), ∀ (k0_h3 : k0_cond3 v47 = 1#1), ∀ a, (k0_off113 v388) a + S1x4096.size a ≤ S4096x4096.size a := fun i v47 v388 k0_hw113 k0_h1 k0_h3 => k0_hw113 k0_h1 k0_h3

def k0_off114 (v394 : BitVec 32) : Fin 2 → Nat :=
  let c0_i32_347 : BitVec 32 := 0#32
  ![v394.toNat, 0]

def k0_chk114 (i : grid0.Coords) (v47 : BitVec 32) (v394 : BitVec 32) : Prop :=
  (∀ (k0_h1 : k0_cond1 i = 1#1), ∀ (k0_h3 : k0_cond3 v47 = 1#1), ∀ a, (k0_off114 v394) a + S1x4096.size a ≤ S4096x4096.size a)
theorem k0_off114_inb : ∀ (i : grid0.Coords) (v47 : BitVec 32) (v394 : BitVec 32) (k0_hw114 : k0_chk114 i v47 v394), ∀ (k0_h1 : k0_cond1 i = 1#1), ∀ (k0_h3 : k0_cond3 v47 = 1#1), ∀ a, (k0_off114 v394) a + S1x4096.size a ≤ S4096x4096.size a := fun i v47 v394 k0_hw114 k0_h1 k0_h3 => k0_hw114 k0_h1 k0_h3

def k0_off115 (v400 : BitVec 32) : Fin 2 → Nat :=
  let c0_i32_353 : BitVec 32 := 0#32
  ![v400.toNat, 0]

def k0_chk115 (i : grid0.Coords) (v47 : BitVec 32) (v400 : BitVec 32) : Prop :=
  (∀ (k0_h1 : k0_cond1 i = 1#1), ∀ (k0_h3 : k0_cond3 v47 = 1#1), ∀ a, (k0_off115 v400) a + S1x4096.size a ≤ S4096x4096.size a)
theorem k0_off115_inb : ∀ (i : grid0.Coords) (v47 : BitVec 32) (v400 : BitVec 32) (k0_hw115 : k0_chk115 i v47 v400), ∀ (k0_h1 : k0_cond1 i = 1#1), ∀ (k0_h3 : k0_cond3 v47 = 1#1), ∀ a, (k0_off115 v400) a + S1x4096.size a ≤ S4096x4096.size a := fun i v47 v400 k0_hw115 k0_h1 k0_h3 => k0_hw115 k0_h1 k0_h3

def k0_off116 (v406 : BitVec 32) : Fin 2 → Nat :=
  let c0_i32_359 : BitVec 32 := 0#32
  ![v406.toNat, 0]

def k0_chk116 (i : grid0.Coords) (v47 : BitVec 32) (v406 : BitVec 32) : Prop :=
  (∀ (k0_h1 : k0_cond1 i = 1#1), ∀ (k0_h3 : k0_cond3 v47 = 1#1), ∀ a, (k0_off116 v406) a + S1x4096.size a ≤ S4096x4096.size a)
theorem k0_off116_inb : ∀ (i : grid0.Coords) (v47 : BitVec 32) (v406 : BitVec 32) (k0_hw116 : k0_chk116 i v47 v406), ∀ (k0_h1 : k0_cond1 i = 1#1), ∀ (k0_h3 : k0_cond3 v47 = 1#1), ∀ a, (k0_off116 v406) a + S1x4096.size a ≤ S4096x4096.size a := fun i v47 v406 k0_hw116 k0_h1 k0_h3 => k0_hw116 k0_h1 k0_h3

def k0_off117 (v412 : BitVec 32) : Fin 2 → Nat :=
  let c0_i32_365 : BitVec 32 := 0#32
  ![v412.toNat, 0]

def k0_chk117 (i : grid0.Coords) (v47 : BitVec 32) (v412 : BitVec 32) : Prop :=
  (∀ (k0_h1 : k0_cond1 i = 1#1), ∀ (k0_h3 : k0_cond3 v47 = 1#1), ∀ a, (k0_off117 v412) a + S1x4096.size a ≤ S4096x4096.size a)
theorem k0_off117_inb : ∀ (i : grid0.Coords) (v47 : BitVec 32) (v412 : BitVec 32) (k0_hw117 : k0_chk117 i v47 v412), ∀ (k0_h1 : k0_cond1 i = 1#1), ∀ (k0_h3 : k0_cond3 v47 = 1#1), ∀ a, (k0_off117 v412) a + S1x4096.size a ≤ S4096x4096.size a := fun i v47 v412 k0_hw117 k0_h1 k0_h3 => k0_hw117 k0_h1 k0_h3

def k0_off118 (v418 : BitVec 32) : Fin 2 → Nat :=
  let c0_i32_371 : BitVec 32 := 0#32
  ![v418.toNat, 0]

def k0_chk118 (i : grid0.Coords) (v47 : BitVec 32) (v418 : BitVec 32) : Prop :=
  (∀ (k0_h1 : k0_cond1 i = 1#1), ∀ (k0_h3 : k0_cond3 v47 = 1#1), ∀ a, (k0_off118 v418) a + S1x4096.size a ≤ S4096x4096.size a)
theorem k0_off118_inb : ∀ (i : grid0.Coords) (v47 : BitVec 32) (v418 : BitVec 32) (k0_hw118 : k0_chk118 i v47 v418), ∀ (k0_h1 : k0_cond1 i = 1#1), ∀ (k0_h3 : k0_cond3 v47 = 1#1), ∀ a, (k0_off118 v418) a + S1x4096.size a ≤ S4096x4096.size a := fun i v47 v418 k0_hw118 k0_h1 k0_h3 => k0_hw118 k0_h1 k0_h3

def k0_off119 (v424 : BitVec 32) : Fin 2 → Nat :=
  let c0_i32_377 : BitVec 32 := 0#32
  ![v424.toNat, 0]

def k0_chk119 (i : grid0.Coords) (v47 : BitVec 32) (v424 : BitVec 32) : Prop :=
  (∀ (k0_h1 : k0_cond1 i = 1#1), ∀ (k0_h3 : k0_cond3 v47 = 1#1), ∀ a, (k0_off119 v424) a + S1x4096.size a ≤ S4096x4096.size a)
theorem k0_off119_inb : ∀ (i : grid0.Coords) (v47 : BitVec 32) (v424 : BitVec 32) (k0_hw119 : k0_chk119 i v47 v424), ∀ (k0_h1 : k0_cond1 i = 1#1), ∀ (k0_h3 : k0_cond3 v47 = 1#1), ∀ a, (k0_off119 v424) a + S1x4096.size a ≤ S4096x4096.size a := fun i v47 v424 k0_hw119 k0_h1 k0_h3 => k0_hw119 k0_h1 k0_h3

def k0_off120 (v430 : BitVec 32) : Fin 2 → Nat :=
  let c0_i32_383 : BitVec 32 := 0#32
  ![v430.toNat, 0]

def k0_chk120 (i : grid0.Coords) (v47 : BitVec 32) (v430 : BitVec 32) : Prop :=
  (∀ (k0_h1 : k0_cond1 i = 1#1), ∀ (k0_h3 : k0_cond3 v47 = 1#1), ∀ a, (k0_off120 v430) a + S1x4096.size a ≤ S4096x4096.size a)
theorem k0_off120_inb : ∀ (i : grid0.Coords) (v47 : BitVec 32) (v430 : BitVec 32) (k0_hw120 : k0_chk120 i v47 v430), ∀ (k0_h1 : k0_cond1 i = 1#1), ∀ (k0_h3 : k0_cond3 v47 = 1#1), ∀ a, (k0_off120 v430) a + S1x4096.size a ≤ S4096x4096.size a := fun i v47 v430 k0_hw120 k0_h1 k0_h3 => k0_hw120 k0_h1 k0_h3

def k0_off121 (v436 : BitVec 32) : Fin 2 → Nat :=
  let c0_i32_389 : BitVec 32 := 0#32
  ![v436.toNat, 0]

def k0_chk121 (i : grid0.Coords) (v47 : BitVec 32) (v436 : BitVec 32) : Prop :=
  (∀ (k0_h1 : k0_cond1 i = 1#1), ∀ (k0_h3 : k0_cond3 v47 = 1#1), ∀ a, (k0_off121 v436) a + S1x4096.size a ≤ S4096x4096.size a)
theorem k0_off121_inb : ∀ (i : grid0.Coords) (v47 : BitVec 32) (v436 : BitVec 32) (k0_hw121 : k0_chk121 i v47 v436), ∀ (k0_h1 : k0_cond1 i = 1#1), ∀ (k0_h3 : k0_cond3 v47 = 1#1), ∀ a, (k0_off121 v436) a + S1x4096.size a ≤ S4096x4096.size a := fun i v47 v436 k0_hw121 k0_h1 k0_h3 => k0_hw121 k0_h1 k0_h3

def k0_off122 (v442 : BitVec 32) : Fin 2 → Nat :=
  let c0_i32_395 : BitVec 32 := 0#32
  ![v442.toNat, 0]

def k0_chk122 (i : grid0.Coords) (v47 : BitVec 32) (v442 : BitVec 32) : Prop :=
  (∀ (k0_h1 : k0_cond1 i = 1#1), ∀ (k0_h3 : k0_cond3 v47 = 1#1), ∀ a, (k0_off122 v442) a + S1x4096.size a ≤ S4096x4096.size a)
theorem k0_off122_inb : ∀ (i : grid0.Coords) (v47 : BitVec 32) (v442 : BitVec 32) (k0_hw122 : k0_chk122 i v47 v442), ∀ (k0_h1 : k0_cond1 i = 1#1), ∀ (k0_h3 : k0_cond3 v47 = 1#1), ∀ a, (k0_off122 v442) a + S1x4096.size a ≤ S4096x4096.size a := fun i v47 v442 k0_hw122 k0_h1 k0_h3 => k0_hw122 k0_h1 k0_h3

def k0_off123 (v448 : BitVec 32) : Fin 2 → Nat :=
  let c0_i32_401 : BitVec 32 := 0#32
  ![v448.toNat, 0]

def k0_chk123 (i : grid0.Coords) (v47 : BitVec 32) (v448 : BitVec 32) : Prop :=
  (∀ (k0_h1 : k0_cond1 i = 1#1), ∀ (k0_h3 : k0_cond3 v47 = 1#1), ∀ a, (k0_off123 v448) a + S1x4096.size a ≤ S4096x4096.size a)
theorem k0_off123_inb : ∀ (i : grid0.Coords) (v47 : BitVec 32) (v448 : BitVec 32) (k0_hw123 : k0_chk123 i v47 v448), ∀ (k0_h1 : k0_cond1 i = 1#1), ∀ (k0_h3 : k0_cond3 v47 = 1#1), ∀ a, (k0_off123 v448) a + S1x4096.size a ≤ S4096x4096.size a := fun i v47 v448 k0_hw123 k0_h1 k0_h3 => k0_hw123 k0_h1 k0_h3

def k0_off124 (v454 : BitVec 32) : Fin 2 → Nat :=
  let c0_i32_407 : BitVec 32 := 0#32
  ![v454.toNat, 0]

def k0_chk124 (i : grid0.Coords) (v47 : BitVec 32) (v454 : BitVec 32) : Prop :=
  (∀ (k0_h1 : k0_cond1 i = 1#1), ∀ (k0_h3 : k0_cond3 v47 = 1#1), ∀ a, (k0_off124 v454) a + S1x4096.size a ≤ S4096x4096.size a)
theorem k0_off124_inb : ∀ (i : grid0.Coords) (v47 : BitVec 32) (v454 : BitVec 32) (k0_hw124 : k0_chk124 i v47 v454), ∀ (k0_h1 : k0_cond1 i = 1#1), ∀ (k0_h3 : k0_cond3 v47 = 1#1), ∀ a, (k0_off124 v454) a + S1x4096.size a ≤ S4096x4096.size a := fun i v47 v454 k0_hw124 k0_h1 k0_h3 => k0_hw124 k0_h1 k0_h3

def k0_off125 (v460 : BitVec 32) : Fin 2 → Nat :=
  let c0_i32_413 : BitVec 32 := 0#32
  ![v460.toNat, 0]

def k0_chk125 (i : grid0.Coords) (v47 : BitVec 32) (v460 : BitVec 32) : Prop :=
  (∀ (k0_h1 : k0_cond1 i = 1#1), ∀ (k0_h3 : k0_cond3 v47 = 1#1), ∀ a, (k0_off125 v460) a + S1x4096.size a ≤ S4096x4096.size a)
theorem k0_off125_inb : ∀ (i : grid0.Coords) (v47 : BitVec 32) (v460 : BitVec 32) (k0_hw125 : k0_chk125 i v47 v460), ∀ (k0_h1 : k0_cond1 i = 1#1), ∀ (k0_h3 : k0_cond3 v47 = 1#1), ∀ a, (k0_off125 v460) a + S1x4096.size a ≤ S4096x4096.size a := fun i v47 v460 k0_hw125 k0_h1 k0_h3 => k0_hw125 k0_h1 k0_h3

def k0_off126 (v466 : BitVec 32) : Fin 2 → Nat :=
  let c0_i32_419 : BitVec 32 := 0#32
  ![v466.toNat, 0]

def k0_chk126 (i : grid0.Coords) (v47 : BitVec 32) (v466 : BitVec 32) : Prop :=
  (∀ (k0_h1 : k0_cond1 i = 1#1), ∀ (k0_h3 : k0_cond3 v47 = 1#1), ∀ a, (k0_off126 v466) a + S1x4096.size a ≤ S4096x4096.size a)
theorem k0_off126_inb : ∀ (i : grid0.Coords) (v47 : BitVec 32) (v466 : BitVec 32) (k0_hw126 : k0_chk126 i v47 v466), ∀ (k0_h1 : k0_cond1 i = 1#1), ∀ (k0_h3 : k0_cond3 v47 = 1#1), ∀ a, (k0_off126 v466) a + S1x4096.size a ≤ S4096x4096.size a := fun i v47 v466 k0_hw126 k0_h1 k0_h3 => k0_hw126 k0_h1 k0_h3

def k0_off127 (v472 : BitVec 32) : Fin 2 → Nat :=
  let c0_i32_425 : BitVec 32 := 0#32
  ![v472.toNat, 0]

def k0_chk127 (i : grid0.Coords) (v47 : BitVec 32) (v472 : BitVec 32) : Prop :=
  (∀ (k0_h1 : k0_cond1 i = 1#1), ∀ (k0_h3 : k0_cond3 v47 = 1#1), ∀ a, (k0_off127 v472) a + S1x4096.size a ≤ S4096x4096.size a)
theorem k0_off127_inb : ∀ (i : grid0.Coords) (v47 : BitVec 32) (v472 : BitVec 32) (k0_hw127 : k0_chk127 i v47 v472), ∀ (k0_h1 : k0_cond1 i = 1#1), ∀ (k0_h3 : k0_cond3 v47 = 1#1), ∀ a, (k0_off127 v472) a + S1x4096.size a ≤ S4096x4096.size a := fun i v47 v472 k0_hw127 k0_h1 k0_h3 => k0_hw127 k0_h1 k0_h3

def k0_off128 (v478 : BitVec 32) : Fin 2 → Nat :=
  let c0_i32_431 : BitVec 32 := 0#32
  ![v478.toNat, 0]

def k0_chk128 (i : grid0.Coords) (v47 : BitVec 32) (v478 : BitVec 32) : Prop :=
  (∀ (k0_h1 : k0_cond1 i = 1#1), ∀ (k0_h3 : k0_cond3 v47 = 1#1), ∀ a, (k0_off128 v478) a + S1x4096.size a ≤ S4096x4096.size a)
theorem k0_off128_inb : ∀ (i : grid0.Coords) (v47 : BitVec 32) (v478 : BitVec 32) (k0_hw128 : k0_chk128 i v47 v478), ∀ (k0_h1 : k0_cond1 i = 1#1), ∀ (k0_h3 : k0_cond3 v47 = 1#1), ∀ a, (k0_off128 v478) a + S1x4096.size a ≤ S4096x4096.size a := fun i v47 v478 k0_hw128 k0_h1 k0_h3 => k0_hw128 k0_h1 k0_h3

def k0_off129 (v100 : BitVec 32) : Fin 2 → Nat :=
  let c0_i32_57 : BitVec 32 := 0#32
  ![v100.toNat, 0]
def k0_cond4 (v53 : BitVec 32) : BitVec 1 :=
  let c2_i32 : BitVec 32 := 2#32
  let c4_i32_26 : BitVec 32 := 4#32
  let v54 : BitVec 32 := Scalar.remsi c2_i32 c4_i32_26
  let c8_i32_27 : BitVec 32 := 8#32
  let v55 : BitVec 32 := Scalar.muli v54 c8_i32_27
  let v56 : BitVec 1 := Scalar.cmpi .sgt v53 v55
  let v57 : BitVec 32 := Scalar.extui v56
  let c0_i32_28 : BitVec 32 := 0#32
  let v58 : BitVec 1 := Scalar.cmpi .ne v57 c0_i32_28
  v58

def k0_chk129 (i : grid0.Coords) (v53 : BitVec 32) (v100 : BitVec 32) : Prop :=
  (∀ (k0_h1 : k0_cond1 i = 1#1), ∀ (k0_h4 : k0_cond4 v53 = 1#1), ∀ a, (k0_off129 v100) a + S1x4096.size a ≤ S4096x4096.size a)
theorem k0_off129_inb : ∀ (i : grid0.Coords) (v53 : BitVec 32) (v100 : BitVec 32) (k0_hw129 : k0_chk129 i v53 v100), ∀ (k0_h1 : k0_cond1 i = 1#1), ∀ (k0_h4 : k0_cond4 v53 = 1#1), ∀ a, (k0_off129 v100) a + S1x4096.size a ≤ S4096x4096.size a := fun i v53 v100 k0_hw129 k0_h1 k0_h4 => k0_hw129 k0_h1 k0_h4

def k0_off130 (v106 : BitVec 32) : Fin 2 → Nat :=
  let c0_i32_63 : BitVec 32 := 0#32
  ![v106.toNat, 0]

def k0_chk130 (i : grid0.Coords) (v53 : BitVec 32) (v106 : BitVec 32) : Prop :=
  (∀ (k0_h1 : k0_cond1 i = 1#1), ∀ (k0_h4 : k0_cond4 v53 = 1#1), ∀ a, (k0_off130 v106) a + S1x4096.size a ≤ S4096x4096.size a)
theorem k0_off130_inb : ∀ (i : grid0.Coords) (v53 : BitVec 32) (v106 : BitVec 32) (k0_hw130 : k0_chk130 i v53 v106), ∀ (k0_h1 : k0_cond1 i = 1#1), ∀ (k0_h4 : k0_cond4 v53 = 1#1), ∀ a, (k0_off130 v106) a + S1x4096.size a ≤ S4096x4096.size a := fun i v53 v106 k0_hw130 k0_h1 k0_h4 => k0_hw130 k0_h1 k0_h4

def k0_off131 (v112 : BitVec 32) : Fin 2 → Nat :=
  let c0_i32_69 : BitVec 32 := 0#32
  ![v112.toNat, 0]

def k0_chk131 (i : grid0.Coords) (v53 : BitVec 32) (v112 : BitVec 32) : Prop :=
  (∀ (k0_h1 : k0_cond1 i = 1#1), ∀ (k0_h4 : k0_cond4 v53 = 1#1), ∀ a, (k0_off131 v112) a + S1x4096.size a ≤ S4096x4096.size a)
theorem k0_off131_inb : ∀ (i : grid0.Coords) (v53 : BitVec 32) (v112 : BitVec 32) (k0_hw131 : k0_chk131 i v53 v112), ∀ (k0_h1 : k0_cond1 i = 1#1), ∀ (k0_h4 : k0_cond4 v53 = 1#1), ∀ a, (k0_off131 v112) a + S1x4096.size a ≤ S4096x4096.size a := fun i v53 v112 k0_hw131 k0_h1 k0_h4 => k0_hw131 k0_h1 k0_h4

def k0_off132 (v118 : BitVec 32) : Fin 2 → Nat :=
  let c0_i32_74 : BitVec 32 := 0#32
  ![v118.toNat, 0]

def k0_chk132 (i : grid0.Coords) (v53 : BitVec 32) (v118 : BitVec 32) : Prop :=
  (∀ (k0_h1 : k0_cond1 i = 1#1), ∀ (k0_h4 : k0_cond4 v53 = 1#1), ∀ a, (k0_off132 v118) a + S1x4096.size a ≤ S4096x4096.size a)
theorem k0_off132_inb : ∀ (i : grid0.Coords) (v53 : BitVec 32) (v118 : BitVec 32) (k0_hw132 : k0_chk132 i v53 v118), ∀ (k0_h1 : k0_cond1 i = 1#1), ∀ (k0_h4 : k0_cond4 v53 = 1#1), ∀ a, (k0_off132 v118) a + S1x4096.size a ≤ S4096x4096.size a := fun i v53 v118 k0_hw132 k0_h1 k0_h4 => k0_hw132 k0_h1 k0_h4

def k0_off133 (v124 : BitVec 32) : Fin 2 → Nat :=
  let c0_i32_80 : BitVec 32 := 0#32
  ![v124.toNat, 0]

def k0_chk133 (i : grid0.Coords) (v53 : BitVec 32) (v124 : BitVec 32) : Prop :=
  (∀ (k0_h1 : k0_cond1 i = 1#1), ∀ (k0_h4 : k0_cond4 v53 = 1#1), ∀ a, (k0_off133 v124) a + S1x4096.size a ≤ S4096x4096.size a)
theorem k0_off133_inb : ∀ (i : grid0.Coords) (v53 : BitVec 32) (v124 : BitVec 32) (k0_hw133 : k0_chk133 i v53 v124), ∀ (k0_h1 : k0_cond1 i = 1#1), ∀ (k0_h4 : k0_cond4 v53 = 1#1), ∀ a, (k0_off133 v124) a + S1x4096.size a ≤ S4096x4096.size a := fun i v53 v124 k0_hw133 k0_h1 k0_h4 => k0_hw133 k0_h1 k0_h4

def k0_off134 (v130 : BitVec 32) : Fin 2 → Nat :=
  let c0_i32_85 : BitVec 32 := 0#32
  ![v130.toNat, 0]

def k0_chk134 (i : grid0.Coords) (v53 : BitVec 32) (v130 : BitVec 32) : Prop :=
  (∀ (k0_h1 : k0_cond1 i = 1#1), ∀ (k0_h4 : k0_cond4 v53 = 1#1), ∀ a, (k0_off134 v130) a + S1x4096.size a ≤ S4096x4096.size a)
theorem k0_off134_inb : ∀ (i : grid0.Coords) (v53 : BitVec 32) (v130 : BitVec 32) (k0_hw134 : k0_chk134 i v53 v130), ∀ (k0_h1 : k0_cond1 i = 1#1), ∀ (k0_h4 : k0_cond4 v53 = 1#1), ∀ a, (k0_off134 v130) a + S1x4096.size a ≤ S4096x4096.size a := fun i v53 v130 k0_hw134 k0_h1 k0_h4 => k0_hw134 k0_h1 k0_h4

def k0_off135 (v136 : BitVec 32) : Fin 2 → Nat :=
  let c0_i32_90 : BitVec 32 := 0#32
  ![v136.toNat, 0]

def k0_chk135 (i : grid0.Coords) (v53 : BitVec 32) (v136 : BitVec 32) : Prop :=
  (∀ (k0_h1 : k0_cond1 i = 1#1), ∀ (k0_h4 : k0_cond4 v53 = 1#1), ∀ a, (k0_off135 v136) a + S1x4096.size a ≤ S4096x4096.size a)
theorem k0_off135_inb : ∀ (i : grid0.Coords) (v53 : BitVec 32) (v136 : BitVec 32) (k0_hw135 : k0_chk135 i v53 v136), ∀ (k0_h1 : k0_cond1 i = 1#1), ∀ (k0_h4 : k0_cond4 v53 = 1#1), ∀ a, (k0_off135 v136) a + S1x4096.size a ≤ S4096x4096.size a := fun i v53 v136 k0_hw135 k0_h1 k0_h4 => k0_hw135 k0_h1 k0_h4

def k0_off136 (v142 : BitVec 32) : Fin 2 → Nat :=
  let c0_i32_95 : BitVec 32 := 0#32
  ![v142.toNat, 0]

def k0_chk136 (i : grid0.Coords) (v53 : BitVec 32) (v142 : BitVec 32) : Prop :=
  (∀ (k0_h1 : k0_cond1 i = 1#1), ∀ (k0_h4 : k0_cond4 v53 = 1#1), ∀ a, (k0_off136 v142) a + S1x4096.size a ≤ S4096x4096.size a)
theorem k0_off136_inb : ∀ (i : grid0.Coords) (v53 : BitVec 32) (v142 : BitVec 32) (k0_hw136 : k0_chk136 i v53 v142), ∀ (k0_h1 : k0_cond1 i = 1#1), ∀ (k0_h4 : k0_cond4 v53 = 1#1), ∀ a, (k0_off136 v142) a + S1x4096.size a ≤ S4096x4096.size a := fun i v53 v142 k0_hw136 k0_h1 k0_h4 => k0_hw136 k0_h1 k0_h4

def k0_off137 (v148 : BitVec 32) : Fin 2 → Nat :=
  let c0_i32_101 : BitVec 32 := 0#32
  ![v148.toNat, 0]

def k0_chk137 (i : grid0.Coords) (v53 : BitVec 32) (v148 : BitVec 32) : Prop :=
  (∀ (k0_h1 : k0_cond1 i = 1#1), ∀ (k0_h4 : k0_cond4 v53 = 1#1), ∀ a, (k0_off137 v148) a + S1x4096.size a ≤ S4096x4096.size a)
theorem k0_off137_inb : ∀ (i : grid0.Coords) (v53 : BitVec 32) (v148 : BitVec 32) (k0_hw137 : k0_chk137 i v53 v148), ∀ (k0_h1 : k0_cond1 i = 1#1), ∀ (k0_h4 : k0_cond4 v53 = 1#1), ∀ a, (k0_off137 v148) a + S1x4096.size a ≤ S4096x4096.size a := fun i v53 v148 k0_hw137 k0_h1 k0_h4 => k0_hw137 k0_h1 k0_h4

def k0_off138 (v154 : BitVec 32) : Fin 2 → Nat :=
  let c0_i32_107 : BitVec 32 := 0#32
  ![v154.toNat, 0]

def k0_chk138 (i : grid0.Coords) (v53 : BitVec 32) (v154 : BitVec 32) : Prop :=
  (∀ (k0_h1 : k0_cond1 i = 1#1), ∀ (k0_h4 : k0_cond4 v53 = 1#1), ∀ a, (k0_off138 v154) a + S1x4096.size a ≤ S4096x4096.size a)
theorem k0_off138_inb : ∀ (i : grid0.Coords) (v53 : BitVec 32) (v154 : BitVec 32) (k0_hw138 : k0_chk138 i v53 v154), ∀ (k0_h1 : k0_cond1 i = 1#1), ∀ (k0_h4 : k0_cond4 v53 = 1#1), ∀ a, (k0_off138 v154) a + S1x4096.size a ≤ S4096x4096.size a := fun i v53 v154 k0_hw138 k0_h1 k0_h4 => k0_hw138 k0_h1 k0_h4

def k0_off139 (v160 : BitVec 32) : Fin 2 → Nat :=
  let c0_i32_113 : BitVec 32 := 0#32
  ![v160.toNat, 0]

def k0_chk139 (i : grid0.Coords) (v53 : BitVec 32) (v160 : BitVec 32) : Prop :=
  (∀ (k0_h1 : k0_cond1 i = 1#1), ∀ (k0_h4 : k0_cond4 v53 = 1#1), ∀ a, (k0_off139 v160) a + S1x4096.size a ≤ S4096x4096.size a)
theorem k0_off139_inb : ∀ (i : grid0.Coords) (v53 : BitVec 32) (v160 : BitVec 32) (k0_hw139 : k0_chk139 i v53 v160), ∀ (k0_h1 : k0_cond1 i = 1#1), ∀ (k0_h4 : k0_cond4 v53 = 1#1), ∀ a, (k0_off139 v160) a + S1x4096.size a ≤ S4096x4096.size a := fun i v53 v160 k0_hw139 k0_h1 k0_h4 => k0_hw139 k0_h1 k0_h4

def k0_off140 (v166 : BitVec 32) : Fin 2 → Nat :=
  let c0_i32_119 : BitVec 32 := 0#32
  ![v166.toNat, 0]

def k0_chk140 (i : grid0.Coords) (v53 : BitVec 32) (v166 : BitVec 32) : Prop :=
  (∀ (k0_h1 : k0_cond1 i = 1#1), ∀ (k0_h4 : k0_cond4 v53 = 1#1), ∀ a, (k0_off140 v166) a + S1x4096.size a ≤ S4096x4096.size a)
theorem k0_off140_inb : ∀ (i : grid0.Coords) (v53 : BitVec 32) (v166 : BitVec 32) (k0_hw140 : k0_chk140 i v53 v166), ∀ (k0_h1 : k0_cond1 i = 1#1), ∀ (k0_h4 : k0_cond4 v53 = 1#1), ∀ a, (k0_off140 v166) a + S1x4096.size a ≤ S4096x4096.size a := fun i v53 v166 k0_hw140 k0_h1 k0_h4 => k0_hw140 k0_h1 k0_h4

def k0_off141 (v172 : BitVec 32) : Fin 2 → Nat :=
  let c0_i32_125 : BitVec 32 := 0#32
  ![v172.toNat, 0]

def k0_chk141 (i : grid0.Coords) (v53 : BitVec 32) (v172 : BitVec 32) : Prop :=
  (∀ (k0_h1 : k0_cond1 i = 1#1), ∀ (k0_h4 : k0_cond4 v53 = 1#1), ∀ a, (k0_off141 v172) a + S1x4096.size a ≤ S4096x4096.size a)
theorem k0_off141_inb : ∀ (i : grid0.Coords) (v53 : BitVec 32) (v172 : BitVec 32) (k0_hw141 : k0_chk141 i v53 v172), ∀ (k0_h1 : k0_cond1 i = 1#1), ∀ (k0_h4 : k0_cond4 v53 = 1#1), ∀ a, (k0_off141 v172) a + S1x4096.size a ≤ S4096x4096.size a := fun i v53 v172 k0_hw141 k0_h1 k0_h4 => k0_hw141 k0_h1 k0_h4

def k0_off142 (v178 : BitVec 32) : Fin 2 → Nat :=
  let c0_i32_131 : BitVec 32 := 0#32
  ![v178.toNat, 0]

def k0_chk142 (i : grid0.Coords) (v53 : BitVec 32) (v178 : BitVec 32) : Prop :=
  (∀ (k0_h1 : k0_cond1 i = 1#1), ∀ (k0_h4 : k0_cond4 v53 = 1#1), ∀ a, (k0_off142 v178) a + S1x4096.size a ≤ S4096x4096.size a)
theorem k0_off142_inb : ∀ (i : grid0.Coords) (v53 : BitVec 32) (v178 : BitVec 32) (k0_hw142 : k0_chk142 i v53 v178), ∀ (k0_h1 : k0_cond1 i = 1#1), ∀ (k0_h4 : k0_cond4 v53 = 1#1), ∀ a, (k0_off142 v178) a + S1x4096.size a ≤ S4096x4096.size a := fun i v53 v178 k0_hw142 k0_h1 k0_h4 => k0_hw142 k0_h1 k0_h4

def k0_off143 (v184 : BitVec 32) : Fin 2 → Nat :=
  let c0_i32_137 : BitVec 32 := 0#32
  ![v184.toNat, 0]

def k0_chk143 (i : grid0.Coords) (v53 : BitVec 32) (v184 : BitVec 32) : Prop :=
  (∀ (k0_h1 : k0_cond1 i = 1#1), ∀ (k0_h4 : k0_cond4 v53 = 1#1), ∀ a, (k0_off143 v184) a + S1x4096.size a ≤ S4096x4096.size a)
theorem k0_off143_inb : ∀ (i : grid0.Coords) (v53 : BitVec 32) (v184 : BitVec 32) (k0_hw143 : k0_chk143 i v53 v184), ∀ (k0_h1 : k0_cond1 i = 1#1), ∀ (k0_h4 : k0_cond4 v53 = 1#1), ∀ a, (k0_off143 v184) a + S1x4096.size a ≤ S4096x4096.size a := fun i v53 v184 k0_hw143 k0_h1 k0_h4 => k0_hw143 k0_h1 k0_h4

def k0_off144 (v190 : BitVec 32) : Fin 2 → Nat :=
  let c0_i32_143 : BitVec 32 := 0#32
  ![v190.toNat, 0]

def k0_chk144 (i : grid0.Coords) (v53 : BitVec 32) (v190 : BitVec 32) : Prop :=
  (∀ (k0_h1 : k0_cond1 i = 1#1), ∀ (k0_h4 : k0_cond4 v53 = 1#1), ∀ a, (k0_off144 v190) a + S1x4096.size a ≤ S4096x4096.size a)
theorem k0_off144_inb : ∀ (i : grid0.Coords) (v53 : BitVec 32) (v190 : BitVec 32) (k0_hw144 : k0_chk144 i v53 v190), ∀ (k0_h1 : k0_cond1 i = 1#1), ∀ (k0_h4 : k0_cond4 v53 = 1#1), ∀ a, (k0_off144 v190) a + S1x4096.size a ≤ S4096x4096.size a := fun i v53 v190 k0_hw144 k0_h1 k0_h4 => k0_hw144 k0_h1 k0_h4

def k0_off145 (v196 : BitVec 32) : Fin 2 → Nat :=
  let c0_i32_149 : BitVec 32 := 0#32
  ![v196.toNat, 0]

def k0_chk145 (i : grid0.Coords) (v53 : BitVec 32) (v196 : BitVec 32) : Prop :=
  (∀ (k0_h1 : k0_cond1 i = 1#1), ∀ (k0_h4 : k0_cond4 v53 = 1#1), ∀ a, (k0_off145 v196) a + S1x4096.size a ≤ S4096x4096.size a)
theorem k0_off145_inb : ∀ (i : grid0.Coords) (v53 : BitVec 32) (v196 : BitVec 32) (k0_hw145 : k0_chk145 i v53 v196), ∀ (k0_h1 : k0_cond1 i = 1#1), ∀ (k0_h4 : k0_cond4 v53 = 1#1), ∀ a, (k0_off145 v196) a + S1x4096.size a ≤ S4096x4096.size a := fun i v53 v196 k0_hw145 k0_h1 k0_h4 => k0_hw145 k0_h1 k0_h4

def k0_off146 (v202 : BitVec 32) : Fin 2 → Nat :=
  let c0_i32_155 : BitVec 32 := 0#32
  ![v202.toNat, 0]

def k0_chk146 (i : grid0.Coords) (v53 : BitVec 32) (v202 : BitVec 32) : Prop :=
  (∀ (k0_h1 : k0_cond1 i = 1#1), ∀ (k0_h4 : k0_cond4 v53 = 1#1), ∀ a, (k0_off146 v202) a + S1x4096.size a ≤ S4096x4096.size a)
theorem k0_off146_inb : ∀ (i : grid0.Coords) (v53 : BitVec 32) (v202 : BitVec 32) (k0_hw146 : k0_chk146 i v53 v202), ∀ (k0_h1 : k0_cond1 i = 1#1), ∀ (k0_h4 : k0_cond4 v53 = 1#1), ∀ a, (k0_off146 v202) a + S1x4096.size a ≤ S4096x4096.size a := fun i v53 v202 k0_hw146 k0_h1 k0_h4 => k0_hw146 k0_h1 k0_h4

def k0_off147 (v208 : BitVec 32) : Fin 2 → Nat :=
  let c0_i32_161 : BitVec 32 := 0#32
  ![v208.toNat, 0]

def k0_chk147 (i : grid0.Coords) (v53 : BitVec 32) (v208 : BitVec 32) : Prop :=
  (∀ (k0_h1 : k0_cond1 i = 1#1), ∀ (k0_h4 : k0_cond4 v53 = 1#1), ∀ a, (k0_off147 v208) a + S1x4096.size a ≤ S4096x4096.size a)
theorem k0_off147_inb : ∀ (i : grid0.Coords) (v53 : BitVec 32) (v208 : BitVec 32) (k0_hw147 : k0_chk147 i v53 v208), ∀ (k0_h1 : k0_cond1 i = 1#1), ∀ (k0_h4 : k0_cond4 v53 = 1#1), ∀ a, (k0_off147 v208) a + S1x4096.size a ≤ S4096x4096.size a := fun i v53 v208 k0_hw147 k0_h1 k0_h4 => k0_hw147 k0_h1 k0_h4

def k0_off148 (v214 : BitVec 32) : Fin 2 → Nat :=
  let c0_i32_167 : BitVec 32 := 0#32
  ![v214.toNat, 0]

def k0_chk148 (i : grid0.Coords) (v53 : BitVec 32) (v214 : BitVec 32) : Prop :=
  (∀ (k0_h1 : k0_cond1 i = 1#1), ∀ (k0_h4 : k0_cond4 v53 = 1#1), ∀ a, (k0_off148 v214) a + S1x4096.size a ≤ S4096x4096.size a)
theorem k0_off148_inb : ∀ (i : grid0.Coords) (v53 : BitVec 32) (v214 : BitVec 32) (k0_hw148 : k0_chk148 i v53 v214), ∀ (k0_h1 : k0_cond1 i = 1#1), ∀ (k0_h4 : k0_cond4 v53 = 1#1), ∀ a, (k0_off148 v214) a + S1x4096.size a ≤ S4096x4096.size a := fun i v53 v214 k0_hw148 k0_h1 k0_h4 => k0_hw148 k0_h1 k0_h4

def k0_off149 (v220 : BitVec 32) : Fin 2 → Nat :=
  let c0_i32_173 : BitVec 32 := 0#32
  ![v220.toNat, 0]

def k0_chk149 (i : grid0.Coords) (v53 : BitVec 32) (v220 : BitVec 32) : Prop :=
  (∀ (k0_h1 : k0_cond1 i = 1#1), ∀ (k0_h4 : k0_cond4 v53 = 1#1), ∀ a, (k0_off149 v220) a + S1x4096.size a ≤ S4096x4096.size a)
theorem k0_off149_inb : ∀ (i : grid0.Coords) (v53 : BitVec 32) (v220 : BitVec 32) (k0_hw149 : k0_chk149 i v53 v220), ∀ (k0_h1 : k0_cond1 i = 1#1), ∀ (k0_h4 : k0_cond4 v53 = 1#1), ∀ a, (k0_off149 v220) a + S1x4096.size a ≤ S4096x4096.size a := fun i v53 v220 k0_hw149 k0_h1 k0_h4 => k0_hw149 k0_h1 k0_h4

def k0_off150 (v226 : BitVec 32) : Fin 2 → Nat :=
  let c0_i32_179 : BitVec 32 := 0#32
  ![v226.toNat, 0]

def k0_chk150 (i : grid0.Coords) (v53 : BitVec 32) (v226 : BitVec 32) : Prop :=
  (∀ (k0_h1 : k0_cond1 i = 1#1), ∀ (k0_h4 : k0_cond4 v53 = 1#1), ∀ a, (k0_off150 v226) a + S1x4096.size a ≤ S4096x4096.size a)
theorem k0_off150_inb : ∀ (i : grid0.Coords) (v53 : BitVec 32) (v226 : BitVec 32) (k0_hw150 : k0_chk150 i v53 v226), ∀ (k0_h1 : k0_cond1 i = 1#1), ∀ (k0_h4 : k0_cond4 v53 = 1#1), ∀ a, (k0_off150 v226) a + S1x4096.size a ≤ S4096x4096.size a := fun i v53 v226 k0_hw150 k0_h1 k0_h4 => k0_hw150 k0_h1 k0_h4

def k0_off151 (v232 : BitVec 32) : Fin 2 → Nat :=
  let c0_i32_185 : BitVec 32 := 0#32
  ![v232.toNat, 0]

def k0_chk151 (i : grid0.Coords) (v53 : BitVec 32) (v232 : BitVec 32) : Prop :=
  (∀ (k0_h1 : k0_cond1 i = 1#1), ∀ (k0_h4 : k0_cond4 v53 = 1#1), ∀ a, (k0_off151 v232) a + S1x4096.size a ≤ S4096x4096.size a)
theorem k0_off151_inb : ∀ (i : grid0.Coords) (v53 : BitVec 32) (v232 : BitVec 32) (k0_hw151 : k0_chk151 i v53 v232), ∀ (k0_h1 : k0_cond1 i = 1#1), ∀ (k0_h4 : k0_cond4 v53 = 1#1), ∀ a, (k0_off151 v232) a + S1x4096.size a ≤ S4096x4096.size a := fun i v53 v232 k0_hw151 k0_h1 k0_h4 => k0_hw151 k0_h1 k0_h4

def k0_off152 (v238 : BitVec 32) : Fin 2 → Nat :=
  let c0_i32_191 : BitVec 32 := 0#32
  ![v238.toNat, 0]

def k0_chk152 (i : grid0.Coords) (v53 : BitVec 32) (v238 : BitVec 32) : Prop :=
  (∀ (k0_h1 : k0_cond1 i = 1#1), ∀ (k0_h4 : k0_cond4 v53 = 1#1), ∀ a, (k0_off152 v238) a + S1x4096.size a ≤ S4096x4096.size a)
theorem k0_off152_inb : ∀ (i : grid0.Coords) (v53 : BitVec 32) (v238 : BitVec 32) (k0_hw152 : k0_chk152 i v53 v238), ∀ (k0_h1 : k0_cond1 i = 1#1), ∀ (k0_h4 : k0_cond4 v53 = 1#1), ∀ a, (k0_off152 v238) a + S1x4096.size a ≤ S4096x4096.size a := fun i v53 v238 k0_hw152 k0_h1 k0_h4 => k0_hw152 k0_h1 k0_h4

def k0_off153 (v244 : BitVec 32) : Fin 2 → Nat :=
  let c0_i32_197 : BitVec 32 := 0#32
  ![v244.toNat, 0]

def k0_chk153 (i : grid0.Coords) (v53 : BitVec 32) (v244 : BitVec 32) : Prop :=
  (∀ (k0_h1 : k0_cond1 i = 1#1), ∀ (k0_h4 : k0_cond4 v53 = 1#1), ∀ a, (k0_off153 v244) a + S1x4096.size a ≤ S4096x4096.size a)
theorem k0_off153_inb : ∀ (i : grid0.Coords) (v53 : BitVec 32) (v244 : BitVec 32) (k0_hw153 : k0_chk153 i v53 v244), ∀ (k0_h1 : k0_cond1 i = 1#1), ∀ (k0_h4 : k0_cond4 v53 = 1#1), ∀ a, (k0_off153 v244) a + S1x4096.size a ≤ S4096x4096.size a := fun i v53 v244 k0_hw153 k0_h1 k0_h4 => k0_hw153 k0_h1 k0_h4

def k0_off154 (v250 : BitVec 32) : Fin 2 → Nat :=
  let c0_i32_203 : BitVec 32 := 0#32
  ![v250.toNat, 0]

def k0_chk154 (i : grid0.Coords) (v53 : BitVec 32) (v250 : BitVec 32) : Prop :=
  (∀ (k0_h1 : k0_cond1 i = 1#1), ∀ (k0_h4 : k0_cond4 v53 = 1#1), ∀ a, (k0_off154 v250) a + S1x4096.size a ≤ S4096x4096.size a)
theorem k0_off154_inb : ∀ (i : grid0.Coords) (v53 : BitVec 32) (v250 : BitVec 32) (k0_hw154 : k0_chk154 i v53 v250), ∀ (k0_h1 : k0_cond1 i = 1#1), ∀ (k0_h4 : k0_cond4 v53 = 1#1), ∀ a, (k0_off154 v250) a + S1x4096.size a ≤ S4096x4096.size a := fun i v53 v250 k0_hw154 k0_h1 k0_h4 => k0_hw154 k0_h1 k0_h4

def k0_off155 (v256 : BitVec 32) : Fin 2 → Nat :=
  let c0_i32_209 : BitVec 32 := 0#32
  ![v256.toNat, 0]

def k0_chk155 (i : grid0.Coords) (v53 : BitVec 32) (v256 : BitVec 32) : Prop :=
  (∀ (k0_h1 : k0_cond1 i = 1#1), ∀ (k0_h4 : k0_cond4 v53 = 1#1), ∀ a, (k0_off155 v256) a + S1x4096.size a ≤ S4096x4096.size a)
theorem k0_off155_inb : ∀ (i : grid0.Coords) (v53 : BitVec 32) (v256 : BitVec 32) (k0_hw155 : k0_chk155 i v53 v256), ∀ (k0_h1 : k0_cond1 i = 1#1), ∀ (k0_h4 : k0_cond4 v53 = 1#1), ∀ a, (k0_off155 v256) a + S1x4096.size a ≤ S4096x4096.size a := fun i v53 v256 k0_hw155 k0_h1 k0_h4 => k0_hw155 k0_h1 k0_h4

def k0_off156 (v262 : BitVec 32) : Fin 2 → Nat :=
  let c0_i32_215 : BitVec 32 := 0#32
  ![v262.toNat, 0]

def k0_chk156 (i : grid0.Coords) (v53 : BitVec 32) (v262 : BitVec 32) : Prop :=
  (∀ (k0_h1 : k0_cond1 i = 1#1), ∀ (k0_h4 : k0_cond4 v53 = 1#1), ∀ a, (k0_off156 v262) a + S1x4096.size a ≤ S4096x4096.size a)
theorem k0_off156_inb : ∀ (i : grid0.Coords) (v53 : BitVec 32) (v262 : BitVec 32) (k0_hw156 : k0_chk156 i v53 v262), ∀ (k0_h1 : k0_cond1 i = 1#1), ∀ (k0_h4 : k0_cond4 v53 = 1#1), ∀ a, (k0_off156 v262) a + S1x4096.size a ≤ S4096x4096.size a := fun i v53 v262 k0_hw156 k0_h1 k0_h4 => k0_hw156 k0_h1 k0_h4

def k0_off157 (v268 : BitVec 32) : Fin 2 → Nat :=
  let c0_i32_221 : BitVec 32 := 0#32
  ![v268.toNat, 0]

def k0_chk157 (i : grid0.Coords) (v53 : BitVec 32) (v268 : BitVec 32) : Prop :=
  (∀ (k0_h1 : k0_cond1 i = 1#1), ∀ (k0_h4 : k0_cond4 v53 = 1#1), ∀ a, (k0_off157 v268) a + S1x4096.size a ≤ S4096x4096.size a)
theorem k0_off157_inb : ∀ (i : grid0.Coords) (v53 : BitVec 32) (v268 : BitVec 32) (k0_hw157 : k0_chk157 i v53 v268), ∀ (k0_h1 : k0_cond1 i = 1#1), ∀ (k0_h4 : k0_cond4 v53 = 1#1), ∀ a, (k0_off157 v268) a + S1x4096.size a ≤ S4096x4096.size a := fun i v53 v268 k0_hw157 k0_h1 k0_h4 => k0_hw157 k0_h1 k0_h4

def k0_off158 (v274 : BitVec 32) : Fin 2 → Nat :=
  let c0_i32_227 : BitVec 32 := 0#32
  ![v274.toNat, 0]

def k0_chk158 (i : grid0.Coords) (v53 : BitVec 32) (v274 : BitVec 32) : Prop :=
  (∀ (k0_h1 : k0_cond1 i = 1#1), ∀ (k0_h4 : k0_cond4 v53 = 1#1), ∀ a, (k0_off158 v274) a + S1x4096.size a ≤ S4096x4096.size a)
theorem k0_off158_inb : ∀ (i : grid0.Coords) (v53 : BitVec 32) (v274 : BitVec 32) (k0_hw158 : k0_chk158 i v53 v274), ∀ (k0_h1 : k0_cond1 i = 1#1), ∀ (k0_h4 : k0_cond4 v53 = 1#1), ∀ a, (k0_off158 v274) a + S1x4096.size a ≤ S4096x4096.size a := fun i v53 v274 k0_hw158 k0_h1 k0_h4 => k0_hw158 k0_h1 k0_h4

def k0_off159 (v280 : BitVec 32) : Fin 2 → Nat :=
  let c0_i32_233 : BitVec 32 := 0#32
  ![v280.toNat, 0]

def k0_chk159 (i : grid0.Coords) (v53 : BitVec 32) (v280 : BitVec 32) : Prop :=
  (∀ (k0_h1 : k0_cond1 i = 1#1), ∀ (k0_h4 : k0_cond4 v53 = 1#1), ∀ a, (k0_off159 v280) a + S1x4096.size a ≤ S4096x4096.size a)
theorem k0_off159_inb : ∀ (i : grid0.Coords) (v53 : BitVec 32) (v280 : BitVec 32) (k0_hw159 : k0_chk159 i v53 v280), ∀ (k0_h1 : k0_cond1 i = 1#1), ∀ (k0_h4 : k0_cond4 v53 = 1#1), ∀ a, (k0_off159 v280) a + S1x4096.size a ≤ S4096x4096.size a := fun i v53 v280 k0_hw159 k0_h1 k0_h4 => k0_hw159 k0_h1 k0_h4

def k0_off160 (v286 : BitVec 32) : Fin 2 → Nat :=
  let c0_i32_239 : BitVec 32 := 0#32
  ![v286.toNat, 0]

def k0_chk160 (i : grid0.Coords) (v53 : BitVec 32) (v286 : BitVec 32) : Prop :=
  (∀ (k0_h1 : k0_cond1 i = 1#1), ∀ (k0_h4 : k0_cond4 v53 = 1#1), ∀ a, (k0_off160 v286) a + S1x4096.size a ≤ S4096x4096.size a)
theorem k0_off160_inb : ∀ (i : grid0.Coords) (v53 : BitVec 32) (v286 : BitVec 32) (k0_hw160 : k0_chk160 i v53 v286), ∀ (k0_h1 : k0_cond1 i = 1#1), ∀ (k0_h4 : k0_cond4 v53 = 1#1), ∀ a, (k0_off160 v286) a + S1x4096.size a ≤ S4096x4096.size a := fun i v53 v286 k0_hw160 k0_h1 k0_h4 => k0_hw160 k0_h1 k0_h4

def k0_off161 (v292 : BitVec 32) : Fin 2 → Nat :=
  let c0_i32_245 : BitVec 32 := 0#32
  ![v292.toNat, 0]

def k0_chk161 (i : grid0.Coords) (v53 : BitVec 32) (v292 : BitVec 32) : Prop :=
  (∀ (k0_h1 : k0_cond1 i = 1#1), ∀ (k0_h4 : k0_cond4 v53 = 1#1), ∀ a, (k0_off161 v292) a + S1x4096.size a ≤ S4096x4096.size a)
theorem k0_off161_inb : ∀ (i : grid0.Coords) (v53 : BitVec 32) (v292 : BitVec 32) (k0_hw161 : k0_chk161 i v53 v292), ∀ (k0_h1 : k0_cond1 i = 1#1), ∀ (k0_h4 : k0_cond4 v53 = 1#1), ∀ a, (k0_off161 v292) a + S1x4096.size a ≤ S4096x4096.size a := fun i v53 v292 k0_hw161 k0_h1 k0_h4 => k0_hw161 k0_h1 k0_h4

def k0_off162 (v298 : BitVec 32) : Fin 2 → Nat :=
  let c0_i32_251 : BitVec 32 := 0#32
  ![v298.toNat, 0]

def k0_chk162 (i : grid0.Coords) (v53 : BitVec 32) (v298 : BitVec 32) : Prop :=
  (∀ (k0_h1 : k0_cond1 i = 1#1), ∀ (k0_h4 : k0_cond4 v53 = 1#1), ∀ a, (k0_off162 v298) a + S1x4096.size a ≤ S4096x4096.size a)
theorem k0_off162_inb : ∀ (i : grid0.Coords) (v53 : BitVec 32) (v298 : BitVec 32) (k0_hw162 : k0_chk162 i v53 v298), ∀ (k0_h1 : k0_cond1 i = 1#1), ∀ (k0_h4 : k0_cond4 v53 = 1#1), ∀ a, (k0_off162 v298) a + S1x4096.size a ≤ S4096x4096.size a := fun i v53 v298 k0_hw162 k0_h1 k0_h4 => k0_hw162 k0_h1 k0_h4

def k0_off163 (v304 : BitVec 32) : Fin 2 → Nat :=
  let c0_i32_257 : BitVec 32 := 0#32
  ![v304.toNat, 0]

def k0_chk163 (i : grid0.Coords) (v53 : BitVec 32) (v304 : BitVec 32) : Prop :=
  (∀ (k0_h1 : k0_cond1 i = 1#1), ∀ (k0_h4 : k0_cond4 v53 = 1#1), ∀ a, (k0_off163 v304) a + S1x4096.size a ≤ S4096x4096.size a)
theorem k0_off163_inb : ∀ (i : grid0.Coords) (v53 : BitVec 32) (v304 : BitVec 32) (k0_hw163 : k0_chk163 i v53 v304), ∀ (k0_h1 : k0_cond1 i = 1#1), ∀ (k0_h4 : k0_cond4 v53 = 1#1), ∀ a, (k0_off163 v304) a + S1x4096.size a ≤ S4096x4096.size a := fun i v53 v304 k0_hw163 k0_h1 k0_h4 => k0_hw163 k0_h1 k0_h4

def k0_off164 (v310 : BitVec 32) : Fin 2 → Nat :=
  let c0_i32_263 : BitVec 32 := 0#32
  ![v310.toNat, 0]

def k0_chk164 (i : grid0.Coords) (v53 : BitVec 32) (v310 : BitVec 32) : Prop :=
  (∀ (k0_h1 : k0_cond1 i = 1#1), ∀ (k0_h4 : k0_cond4 v53 = 1#1), ∀ a, (k0_off164 v310) a + S1x4096.size a ≤ S4096x4096.size a)
theorem k0_off164_inb : ∀ (i : grid0.Coords) (v53 : BitVec 32) (v310 : BitVec 32) (k0_hw164 : k0_chk164 i v53 v310), ∀ (k0_h1 : k0_cond1 i = 1#1), ∀ (k0_h4 : k0_cond4 v53 = 1#1), ∀ a, (k0_off164 v310) a + S1x4096.size a ≤ S4096x4096.size a := fun i v53 v310 k0_hw164 k0_h1 k0_h4 => k0_hw164 k0_h1 k0_h4

def k0_off165 (v316 : BitVec 32) : Fin 2 → Nat :=
  let c0_i32_269 : BitVec 32 := 0#32
  ![v316.toNat, 0]

def k0_chk165 (i : grid0.Coords) (v53 : BitVec 32) (v316 : BitVec 32) : Prop :=
  (∀ (k0_h1 : k0_cond1 i = 1#1), ∀ (k0_h4 : k0_cond4 v53 = 1#1), ∀ a, (k0_off165 v316) a + S1x4096.size a ≤ S4096x4096.size a)
theorem k0_off165_inb : ∀ (i : grid0.Coords) (v53 : BitVec 32) (v316 : BitVec 32) (k0_hw165 : k0_chk165 i v53 v316), ∀ (k0_h1 : k0_cond1 i = 1#1), ∀ (k0_h4 : k0_cond4 v53 = 1#1), ∀ a, (k0_off165 v316) a + S1x4096.size a ≤ S4096x4096.size a := fun i v53 v316 k0_hw165 k0_h1 k0_h4 => k0_hw165 k0_h1 k0_h4

def k0_off166 (v322 : BitVec 32) : Fin 2 → Nat :=
  let c0_i32_275 : BitVec 32 := 0#32
  ![v322.toNat, 0]

def k0_chk166 (i : grid0.Coords) (v53 : BitVec 32) (v322 : BitVec 32) : Prop :=
  (∀ (k0_h1 : k0_cond1 i = 1#1), ∀ (k0_h4 : k0_cond4 v53 = 1#1), ∀ a, (k0_off166 v322) a + S1x4096.size a ≤ S4096x4096.size a)
theorem k0_off166_inb : ∀ (i : grid0.Coords) (v53 : BitVec 32) (v322 : BitVec 32) (k0_hw166 : k0_chk166 i v53 v322), ∀ (k0_h1 : k0_cond1 i = 1#1), ∀ (k0_h4 : k0_cond4 v53 = 1#1), ∀ a, (k0_off166 v322) a + S1x4096.size a ≤ S4096x4096.size a := fun i v53 v322 k0_hw166 k0_h1 k0_h4 => k0_hw166 k0_h1 k0_h4

def k0_off167 (v328 : BitVec 32) : Fin 2 → Nat :=
  let c0_i32_281 : BitVec 32 := 0#32
  ![v328.toNat, 0]

def k0_chk167 (i : grid0.Coords) (v53 : BitVec 32) (v328 : BitVec 32) : Prop :=
  (∀ (k0_h1 : k0_cond1 i = 1#1), ∀ (k0_h4 : k0_cond4 v53 = 1#1), ∀ a, (k0_off167 v328) a + S1x4096.size a ≤ S4096x4096.size a)
theorem k0_off167_inb : ∀ (i : grid0.Coords) (v53 : BitVec 32) (v328 : BitVec 32) (k0_hw167 : k0_chk167 i v53 v328), ∀ (k0_h1 : k0_cond1 i = 1#1), ∀ (k0_h4 : k0_cond4 v53 = 1#1), ∀ a, (k0_off167 v328) a + S1x4096.size a ≤ S4096x4096.size a := fun i v53 v328 k0_hw167 k0_h1 k0_h4 => k0_hw167 k0_h1 k0_h4

def k0_off168 (v334 : BitVec 32) : Fin 2 → Nat :=
  let c0_i32_287 : BitVec 32 := 0#32
  ![v334.toNat, 0]

def k0_chk168 (i : grid0.Coords) (v53 : BitVec 32) (v334 : BitVec 32) : Prop :=
  (∀ (k0_h1 : k0_cond1 i = 1#1), ∀ (k0_h4 : k0_cond4 v53 = 1#1), ∀ a, (k0_off168 v334) a + S1x4096.size a ≤ S4096x4096.size a)
theorem k0_off168_inb : ∀ (i : grid0.Coords) (v53 : BitVec 32) (v334 : BitVec 32) (k0_hw168 : k0_chk168 i v53 v334), ∀ (k0_h1 : k0_cond1 i = 1#1), ∀ (k0_h4 : k0_cond4 v53 = 1#1), ∀ a, (k0_off168 v334) a + S1x4096.size a ≤ S4096x4096.size a := fun i v53 v334 k0_hw168 k0_h1 k0_h4 => k0_hw168 k0_h1 k0_h4

def k0_off169 (v340 : BitVec 32) : Fin 2 → Nat :=
  let c0_i32_293 : BitVec 32 := 0#32
  ![v340.toNat, 0]

def k0_chk169 (i : grid0.Coords) (v53 : BitVec 32) (v340 : BitVec 32) : Prop :=
  (∀ (k0_h1 : k0_cond1 i = 1#1), ∀ (k0_h4 : k0_cond4 v53 = 1#1), ∀ a, (k0_off169 v340) a + S1x4096.size a ≤ S4096x4096.size a)
theorem k0_off169_inb : ∀ (i : grid0.Coords) (v53 : BitVec 32) (v340 : BitVec 32) (k0_hw169 : k0_chk169 i v53 v340), ∀ (k0_h1 : k0_cond1 i = 1#1), ∀ (k0_h4 : k0_cond4 v53 = 1#1), ∀ a, (k0_off169 v340) a + S1x4096.size a ≤ S4096x4096.size a := fun i v53 v340 k0_hw169 k0_h1 k0_h4 => k0_hw169 k0_h1 k0_h4

def k0_off170 (v346 : BitVec 32) : Fin 2 → Nat :=
  let c0_i32_299 : BitVec 32 := 0#32
  ![v346.toNat, 0]

def k0_chk170 (i : grid0.Coords) (v53 : BitVec 32) (v346 : BitVec 32) : Prop :=
  (∀ (k0_h1 : k0_cond1 i = 1#1), ∀ (k0_h4 : k0_cond4 v53 = 1#1), ∀ a, (k0_off170 v346) a + S1x4096.size a ≤ S4096x4096.size a)
theorem k0_off170_inb : ∀ (i : grid0.Coords) (v53 : BitVec 32) (v346 : BitVec 32) (k0_hw170 : k0_chk170 i v53 v346), ∀ (k0_h1 : k0_cond1 i = 1#1), ∀ (k0_h4 : k0_cond4 v53 = 1#1), ∀ a, (k0_off170 v346) a + S1x4096.size a ≤ S4096x4096.size a := fun i v53 v346 k0_hw170 k0_h1 k0_h4 => k0_hw170 k0_h1 k0_h4

def k0_off171 (v352 : BitVec 32) : Fin 2 → Nat :=
  let c0_i32_305 : BitVec 32 := 0#32
  ![v352.toNat, 0]

def k0_chk171 (i : grid0.Coords) (v53 : BitVec 32) (v352 : BitVec 32) : Prop :=
  (∀ (k0_h1 : k0_cond1 i = 1#1), ∀ (k0_h4 : k0_cond4 v53 = 1#1), ∀ a, (k0_off171 v352) a + S1x4096.size a ≤ S4096x4096.size a)
theorem k0_off171_inb : ∀ (i : grid0.Coords) (v53 : BitVec 32) (v352 : BitVec 32) (k0_hw171 : k0_chk171 i v53 v352), ∀ (k0_h1 : k0_cond1 i = 1#1), ∀ (k0_h4 : k0_cond4 v53 = 1#1), ∀ a, (k0_off171 v352) a + S1x4096.size a ≤ S4096x4096.size a := fun i v53 v352 k0_hw171 k0_h1 k0_h4 => k0_hw171 k0_h1 k0_h4

def k0_off172 (v358 : BitVec 32) : Fin 2 → Nat :=
  let c0_i32_311 : BitVec 32 := 0#32
  ![v358.toNat, 0]

def k0_chk172 (i : grid0.Coords) (v53 : BitVec 32) (v358 : BitVec 32) : Prop :=
  (∀ (k0_h1 : k0_cond1 i = 1#1), ∀ (k0_h4 : k0_cond4 v53 = 1#1), ∀ a, (k0_off172 v358) a + S1x4096.size a ≤ S4096x4096.size a)
theorem k0_off172_inb : ∀ (i : grid0.Coords) (v53 : BitVec 32) (v358 : BitVec 32) (k0_hw172 : k0_chk172 i v53 v358), ∀ (k0_h1 : k0_cond1 i = 1#1), ∀ (k0_h4 : k0_cond4 v53 = 1#1), ∀ a, (k0_off172 v358) a + S1x4096.size a ≤ S4096x4096.size a := fun i v53 v358 k0_hw172 k0_h1 k0_h4 => k0_hw172 k0_h1 k0_h4

def k0_off173 (v364 : BitVec 32) : Fin 2 → Nat :=
  let c0_i32_317 : BitVec 32 := 0#32
  ![v364.toNat, 0]

def k0_chk173 (i : grid0.Coords) (v53 : BitVec 32) (v364 : BitVec 32) : Prop :=
  (∀ (k0_h1 : k0_cond1 i = 1#1), ∀ (k0_h4 : k0_cond4 v53 = 1#1), ∀ a, (k0_off173 v364) a + S1x4096.size a ≤ S4096x4096.size a)
theorem k0_off173_inb : ∀ (i : grid0.Coords) (v53 : BitVec 32) (v364 : BitVec 32) (k0_hw173 : k0_chk173 i v53 v364), ∀ (k0_h1 : k0_cond1 i = 1#1), ∀ (k0_h4 : k0_cond4 v53 = 1#1), ∀ a, (k0_off173 v364) a + S1x4096.size a ≤ S4096x4096.size a := fun i v53 v364 k0_hw173 k0_h1 k0_h4 => k0_hw173 k0_h1 k0_h4

def k0_off174 (v370 : BitVec 32) : Fin 2 → Nat :=
  let c0_i32_323 : BitVec 32 := 0#32
  ![v370.toNat, 0]

def k0_chk174 (i : grid0.Coords) (v53 : BitVec 32) (v370 : BitVec 32) : Prop :=
  (∀ (k0_h1 : k0_cond1 i = 1#1), ∀ (k0_h4 : k0_cond4 v53 = 1#1), ∀ a, (k0_off174 v370) a + S1x4096.size a ≤ S4096x4096.size a)
theorem k0_off174_inb : ∀ (i : grid0.Coords) (v53 : BitVec 32) (v370 : BitVec 32) (k0_hw174 : k0_chk174 i v53 v370), ∀ (k0_h1 : k0_cond1 i = 1#1), ∀ (k0_h4 : k0_cond4 v53 = 1#1), ∀ a, (k0_off174 v370) a + S1x4096.size a ≤ S4096x4096.size a := fun i v53 v370 k0_hw174 k0_h1 k0_h4 => k0_hw174 k0_h1 k0_h4

def k0_off175 (v376 : BitVec 32) : Fin 2 → Nat :=
  let c0_i32_329 : BitVec 32 := 0#32
  ![v376.toNat, 0]

def k0_chk175 (i : grid0.Coords) (v53 : BitVec 32) (v376 : BitVec 32) : Prop :=
  (∀ (k0_h1 : k0_cond1 i = 1#1), ∀ (k0_h4 : k0_cond4 v53 = 1#1), ∀ a, (k0_off175 v376) a + S1x4096.size a ≤ S4096x4096.size a)
theorem k0_off175_inb : ∀ (i : grid0.Coords) (v53 : BitVec 32) (v376 : BitVec 32) (k0_hw175 : k0_chk175 i v53 v376), ∀ (k0_h1 : k0_cond1 i = 1#1), ∀ (k0_h4 : k0_cond4 v53 = 1#1), ∀ a, (k0_off175 v376) a + S1x4096.size a ≤ S4096x4096.size a := fun i v53 v376 k0_hw175 k0_h1 k0_h4 => k0_hw175 k0_h1 k0_h4

def k0_off176 (v382 : BitVec 32) : Fin 2 → Nat :=
  let c0_i32_335 : BitVec 32 := 0#32
  ![v382.toNat, 0]

def k0_chk176 (i : grid0.Coords) (v53 : BitVec 32) (v382 : BitVec 32) : Prop :=
  (∀ (k0_h1 : k0_cond1 i = 1#1), ∀ (k0_h4 : k0_cond4 v53 = 1#1), ∀ a, (k0_off176 v382) a + S1x4096.size a ≤ S4096x4096.size a)
theorem k0_off176_inb : ∀ (i : grid0.Coords) (v53 : BitVec 32) (v382 : BitVec 32) (k0_hw176 : k0_chk176 i v53 v382), ∀ (k0_h1 : k0_cond1 i = 1#1), ∀ (k0_h4 : k0_cond4 v53 = 1#1), ∀ a, (k0_off176 v382) a + S1x4096.size a ≤ S4096x4096.size a := fun i v53 v382 k0_hw176 k0_h1 k0_h4 => k0_hw176 k0_h1 k0_h4

def k0_off177 (v388 : BitVec 32) : Fin 2 → Nat :=
  let c0_i32_341 : BitVec 32 := 0#32
  ![v388.toNat, 0]

def k0_chk177 (i : grid0.Coords) (v53 : BitVec 32) (v388 : BitVec 32) : Prop :=
  (∀ (k0_h1 : k0_cond1 i = 1#1), ∀ (k0_h4 : k0_cond4 v53 = 1#1), ∀ a, (k0_off177 v388) a + S1x4096.size a ≤ S4096x4096.size a)
theorem k0_off177_inb : ∀ (i : grid0.Coords) (v53 : BitVec 32) (v388 : BitVec 32) (k0_hw177 : k0_chk177 i v53 v388), ∀ (k0_h1 : k0_cond1 i = 1#1), ∀ (k0_h4 : k0_cond4 v53 = 1#1), ∀ a, (k0_off177 v388) a + S1x4096.size a ≤ S4096x4096.size a := fun i v53 v388 k0_hw177 k0_h1 k0_h4 => k0_hw177 k0_h1 k0_h4

def k0_off178 (v394 : BitVec 32) : Fin 2 → Nat :=
  let c0_i32_347 : BitVec 32 := 0#32
  ![v394.toNat, 0]

def k0_chk178 (i : grid0.Coords) (v53 : BitVec 32) (v394 : BitVec 32) : Prop :=
  (∀ (k0_h1 : k0_cond1 i = 1#1), ∀ (k0_h4 : k0_cond4 v53 = 1#1), ∀ a, (k0_off178 v394) a + S1x4096.size a ≤ S4096x4096.size a)
theorem k0_off178_inb : ∀ (i : grid0.Coords) (v53 : BitVec 32) (v394 : BitVec 32) (k0_hw178 : k0_chk178 i v53 v394), ∀ (k0_h1 : k0_cond1 i = 1#1), ∀ (k0_h4 : k0_cond4 v53 = 1#1), ∀ a, (k0_off178 v394) a + S1x4096.size a ≤ S4096x4096.size a := fun i v53 v394 k0_hw178 k0_h1 k0_h4 => k0_hw178 k0_h1 k0_h4

def k0_off179 (v400 : BitVec 32) : Fin 2 → Nat :=
  let c0_i32_353 : BitVec 32 := 0#32
  ![v400.toNat, 0]

def k0_chk179 (i : grid0.Coords) (v53 : BitVec 32) (v400 : BitVec 32) : Prop :=
  (∀ (k0_h1 : k0_cond1 i = 1#1), ∀ (k0_h4 : k0_cond4 v53 = 1#1), ∀ a, (k0_off179 v400) a + S1x4096.size a ≤ S4096x4096.size a)
theorem k0_off179_inb : ∀ (i : grid0.Coords) (v53 : BitVec 32) (v400 : BitVec 32) (k0_hw179 : k0_chk179 i v53 v400), ∀ (k0_h1 : k0_cond1 i = 1#1), ∀ (k0_h4 : k0_cond4 v53 = 1#1), ∀ a, (k0_off179 v400) a + S1x4096.size a ≤ S4096x4096.size a := fun i v53 v400 k0_hw179 k0_h1 k0_h4 => k0_hw179 k0_h1 k0_h4

def k0_off180 (v406 : BitVec 32) : Fin 2 → Nat :=
  let c0_i32_359 : BitVec 32 := 0#32
  ![v406.toNat, 0]

def k0_chk180 (i : grid0.Coords) (v53 : BitVec 32) (v406 : BitVec 32) : Prop :=
  (∀ (k0_h1 : k0_cond1 i = 1#1), ∀ (k0_h4 : k0_cond4 v53 = 1#1), ∀ a, (k0_off180 v406) a + S1x4096.size a ≤ S4096x4096.size a)
theorem k0_off180_inb : ∀ (i : grid0.Coords) (v53 : BitVec 32) (v406 : BitVec 32) (k0_hw180 : k0_chk180 i v53 v406), ∀ (k0_h1 : k0_cond1 i = 1#1), ∀ (k0_h4 : k0_cond4 v53 = 1#1), ∀ a, (k0_off180 v406) a + S1x4096.size a ≤ S4096x4096.size a := fun i v53 v406 k0_hw180 k0_h1 k0_h4 => k0_hw180 k0_h1 k0_h4

def k0_off181 (v412 : BitVec 32) : Fin 2 → Nat :=
  let c0_i32_365 : BitVec 32 := 0#32
  ![v412.toNat, 0]

def k0_chk181 (i : grid0.Coords) (v53 : BitVec 32) (v412 : BitVec 32) : Prop :=
  (∀ (k0_h1 : k0_cond1 i = 1#1), ∀ (k0_h4 : k0_cond4 v53 = 1#1), ∀ a, (k0_off181 v412) a + S1x4096.size a ≤ S4096x4096.size a)
theorem k0_off181_inb : ∀ (i : grid0.Coords) (v53 : BitVec 32) (v412 : BitVec 32) (k0_hw181 : k0_chk181 i v53 v412), ∀ (k0_h1 : k0_cond1 i = 1#1), ∀ (k0_h4 : k0_cond4 v53 = 1#1), ∀ a, (k0_off181 v412) a + S1x4096.size a ≤ S4096x4096.size a := fun i v53 v412 k0_hw181 k0_h1 k0_h4 => k0_hw181 k0_h1 k0_h4

def k0_off182 (v418 : BitVec 32) : Fin 2 → Nat :=
  let c0_i32_371 : BitVec 32 := 0#32
  ![v418.toNat, 0]

def k0_chk182 (i : grid0.Coords) (v53 : BitVec 32) (v418 : BitVec 32) : Prop :=
  (∀ (k0_h1 : k0_cond1 i = 1#1), ∀ (k0_h4 : k0_cond4 v53 = 1#1), ∀ a, (k0_off182 v418) a + S1x4096.size a ≤ S4096x4096.size a)
theorem k0_off182_inb : ∀ (i : grid0.Coords) (v53 : BitVec 32) (v418 : BitVec 32) (k0_hw182 : k0_chk182 i v53 v418), ∀ (k0_h1 : k0_cond1 i = 1#1), ∀ (k0_h4 : k0_cond4 v53 = 1#1), ∀ a, (k0_off182 v418) a + S1x4096.size a ≤ S4096x4096.size a := fun i v53 v418 k0_hw182 k0_h1 k0_h4 => k0_hw182 k0_h1 k0_h4

def k0_off183 (v424 : BitVec 32) : Fin 2 → Nat :=
  let c0_i32_377 : BitVec 32 := 0#32
  ![v424.toNat, 0]

def k0_chk183 (i : grid0.Coords) (v53 : BitVec 32) (v424 : BitVec 32) : Prop :=
  (∀ (k0_h1 : k0_cond1 i = 1#1), ∀ (k0_h4 : k0_cond4 v53 = 1#1), ∀ a, (k0_off183 v424) a + S1x4096.size a ≤ S4096x4096.size a)
theorem k0_off183_inb : ∀ (i : grid0.Coords) (v53 : BitVec 32) (v424 : BitVec 32) (k0_hw183 : k0_chk183 i v53 v424), ∀ (k0_h1 : k0_cond1 i = 1#1), ∀ (k0_h4 : k0_cond4 v53 = 1#1), ∀ a, (k0_off183 v424) a + S1x4096.size a ≤ S4096x4096.size a := fun i v53 v424 k0_hw183 k0_h1 k0_h4 => k0_hw183 k0_h1 k0_h4

def k0_off184 (v430 : BitVec 32) : Fin 2 → Nat :=
  let c0_i32_383 : BitVec 32 := 0#32
  ![v430.toNat, 0]

def k0_chk184 (i : grid0.Coords) (v53 : BitVec 32) (v430 : BitVec 32) : Prop :=
  (∀ (k0_h1 : k0_cond1 i = 1#1), ∀ (k0_h4 : k0_cond4 v53 = 1#1), ∀ a, (k0_off184 v430) a + S1x4096.size a ≤ S4096x4096.size a)
theorem k0_off184_inb : ∀ (i : grid0.Coords) (v53 : BitVec 32) (v430 : BitVec 32) (k0_hw184 : k0_chk184 i v53 v430), ∀ (k0_h1 : k0_cond1 i = 1#1), ∀ (k0_h4 : k0_cond4 v53 = 1#1), ∀ a, (k0_off184 v430) a + S1x4096.size a ≤ S4096x4096.size a := fun i v53 v430 k0_hw184 k0_h1 k0_h4 => k0_hw184 k0_h1 k0_h4

def k0_off185 (v436 : BitVec 32) : Fin 2 → Nat :=
  let c0_i32_389 : BitVec 32 := 0#32
  ![v436.toNat, 0]

def k0_chk185 (i : grid0.Coords) (v53 : BitVec 32) (v436 : BitVec 32) : Prop :=
  (∀ (k0_h1 : k0_cond1 i = 1#1), ∀ (k0_h4 : k0_cond4 v53 = 1#1), ∀ a, (k0_off185 v436) a + S1x4096.size a ≤ S4096x4096.size a)
theorem k0_off185_inb : ∀ (i : grid0.Coords) (v53 : BitVec 32) (v436 : BitVec 32) (k0_hw185 : k0_chk185 i v53 v436), ∀ (k0_h1 : k0_cond1 i = 1#1), ∀ (k0_h4 : k0_cond4 v53 = 1#1), ∀ a, (k0_off185 v436) a + S1x4096.size a ≤ S4096x4096.size a := fun i v53 v436 k0_hw185 k0_h1 k0_h4 => k0_hw185 k0_h1 k0_h4

def k0_off186 (v442 : BitVec 32) : Fin 2 → Nat :=
  let c0_i32_395 : BitVec 32 := 0#32
  ![v442.toNat, 0]

def k0_chk186 (i : grid0.Coords) (v53 : BitVec 32) (v442 : BitVec 32) : Prop :=
  (∀ (k0_h1 : k0_cond1 i = 1#1), ∀ (k0_h4 : k0_cond4 v53 = 1#1), ∀ a, (k0_off186 v442) a + S1x4096.size a ≤ S4096x4096.size a)
theorem k0_off186_inb : ∀ (i : grid0.Coords) (v53 : BitVec 32) (v442 : BitVec 32) (k0_hw186 : k0_chk186 i v53 v442), ∀ (k0_h1 : k0_cond1 i = 1#1), ∀ (k0_h4 : k0_cond4 v53 = 1#1), ∀ a, (k0_off186 v442) a + S1x4096.size a ≤ S4096x4096.size a := fun i v53 v442 k0_hw186 k0_h1 k0_h4 => k0_hw186 k0_h1 k0_h4

def k0_off187 (v448 : BitVec 32) : Fin 2 → Nat :=
  let c0_i32_401 : BitVec 32 := 0#32
  ![v448.toNat, 0]

def k0_chk187 (i : grid0.Coords) (v53 : BitVec 32) (v448 : BitVec 32) : Prop :=
  (∀ (k0_h1 : k0_cond1 i = 1#1), ∀ (k0_h4 : k0_cond4 v53 = 1#1), ∀ a, (k0_off187 v448) a + S1x4096.size a ≤ S4096x4096.size a)
theorem k0_off187_inb : ∀ (i : grid0.Coords) (v53 : BitVec 32) (v448 : BitVec 32) (k0_hw187 : k0_chk187 i v53 v448), ∀ (k0_h1 : k0_cond1 i = 1#1), ∀ (k0_h4 : k0_cond4 v53 = 1#1), ∀ a, (k0_off187 v448) a + S1x4096.size a ≤ S4096x4096.size a := fun i v53 v448 k0_hw187 k0_h1 k0_h4 => k0_hw187 k0_h1 k0_h4

def k0_off188 (v454 : BitVec 32) : Fin 2 → Nat :=
  let c0_i32_407 : BitVec 32 := 0#32
  ![v454.toNat, 0]

def k0_chk188 (i : grid0.Coords) (v53 : BitVec 32) (v454 : BitVec 32) : Prop :=
  (∀ (k0_h1 : k0_cond1 i = 1#1), ∀ (k0_h4 : k0_cond4 v53 = 1#1), ∀ a, (k0_off188 v454) a + S1x4096.size a ≤ S4096x4096.size a)
theorem k0_off188_inb : ∀ (i : grid0.Coords) (v53 : BitVec 32) (v454 : BitVec 32) (k0_hw188 : k0_chk188 i v53 v454), ∀ (k0_h1 : k0_cond1 i = 1#1), ∀ (k0_h4 : k0_cond4 v53 = 1#1), ∀ a, (k0_off188 v454) a + S1x4096.size a ≤ S4096x4096.size a := fun i v53 v454 k0_hw188 k0_h1 k0_h4 => k0_hw188 k0_h1 k0_h4

def k0_off189 (v460 : BitVec 32) : Fin 2 → Nat :=
  let c0_i32_413 : BitVec 32 := 0#32
  ![v460.toNat, 0]

def k0_chk189 (i : grid0.Coords) (v53 : BitVec 32) (v460 : BitVec 32) : Prop :=
  (∀ (k0_h1 : k0_cond1 i = 1#1), ∀ (k0_h4 : k0_cond4 v53 = 1#1), ∀ a, (k0_off189 v460) a + S1x4096.size a ≤ S4096x4096.size a)
theorem k0_off189_inb : ∀ (i : grid0.Coords) (v53 : BitVec 32) (v460 : BitVec 32) (k0_hw189 : k0_chk189 i v53 v460), ∀ (k0_h1 : k0_cond1 i = 1#1), ∀ (k0_h4 : k0_cond4 v53 = 1#1), ∀ a, (k0_off189 v460) a + S1x4096.size a ≤ S4096x4096.size a := fun i v53 v460 k0_hw189 k0_h1 k0_h4 => k0_hw189 k0_h1 k0_h4

def k0_off190 (v466 : BitVec 32) : Fin 2 → Nat :=
  let c0_i32_419 : BitVec 32 := 0#32
  ![v466.toNat, 0]

def k0_chk190 (i : grid0.Coords) (v53 : BitVec 32) (v466 : BitVec 32) : Prop :=
  (∀ (k0_h1 : k0_cond1 i = 1#1), ∀ (k0_h4 : k0_cond4 v53 = 1#1), ∀ a, (k0_off190 v466) a + S1x4096.size a ≤ S4096x4096.size a)
theorem k0_off190_inb : ∀ (i : grid0.Coords) (v53 : BitVec 32) (v466 : BitVec 32) (k0_hw190 : k0_chk190 i v53 v466), ∀ (k0_h1 : k0_cond1 i = 1#1), ∀ (k0_h4 : k0_cond4 v53 = 1#1), ∀ a, (k0_off190 v466) a + S1x4096.size a ≤ S4096x4096.size a := fun i v53 v466 k0_hw190 k0_h1 k0_h4 => k0_hw190 k0_h1 k0_h4

def k0_off191 (v472 : BitVec 32) : Fin 2 → Nat :=
  let c0_i32_425 : BitVec 32 := 0#32
  ![v472.toNat, 0]

def k0_chk191 (i : grid0.Coords) (v53 : BitVec 32) (v472 : BitVec 32) : Prop :=
  (∀ (k0_h1 : k0_cond1 i = 1#1), ∀ (k0_h4 : k0_cond4 v53 = 1#1), ∀ a, (k0_off191 v472) a + S1x4096.size a ≤ S4096x4096.size a)
theorem k0_off191_inb : ∀ (i : grid0.Coords) (v53 : BitVec 32) (v472 : BitVec 32) (k0_hw191 : k0_chk191 i v53 v472), ∀ (k0_h1 : k0_cond1 i = 1#1), ∀ (k0_h4 : k0_cond4 v53 = 1#1), ∀ a, (k0_off191 v472) a + S1x4096.size a ≤ S4096x4096.size a := fun i v53 v472 k0_hw191 k0_h1 k0_h4 => k0_hw191 k0_h1 k0_h4

def k0_off192 (v478 : BitVec 32) : Fin 2 → Nat :=
  let c0_i32_431 : BitVec 32 := 0#32
  ![v478.toNat, 0]

def k0_chk192 (i : grid0.Coords) (v53 : BitVec 32) (v478 : BitVec 32) : Prop :=
  (∀ (k0_h1 : k0_cond1 i = 1#1), ∀ (k0_h4 : k0_cond4 v53 = 1#1), ∀ a, (k0_off192 v478) a + S1x4096.size a ≤ S4096x4096.size a)
theorem k0_off192_inb : ∀ (i : grid0.Coords) (v53 : BitVec 32) (v478 : BitVec 32) (k0_hw192 : k0_chk192 i v53 v478), ∀ (k0_h1 : k0_cond1 i = 1#1), ∀ (k0_h4 : k0_cond4 v53 = 1#1), ∀ a, (k0_off192 v478) a + S1x4096.size a ≤ S4096x4096.size a := fun i v53 v478 k0_hw192 k0_h1 k0_h4 => k0_hw192 k0_h1 k0_h4

def k0_cond5 (i : grid0.Coords) : BitVec 1 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_off193 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c0_i32_18 : BitVec 32 := 0#32
  let v43 : BitVec 1 := Scalar.cmpi .sgt v4 c0_i32_18
  let v44 : BitVec 32 := Scalar.extui v43
  let c0_i32_19 : BitVec 32 := 0#32
  let v45 : BitVec 1 := Scalar.cmpi .slt v4 c0_i32_19
  let v46 : BitVec 32 := Scalar.extui v45
  let v47 : BitVec 32 := Scalar.subi v44 v46
  let c4_i32_17 : BitVec 32 := 4#32
  let c0_i32_20 : BitVec 32 := 0#32
  let v48 : BitVec 1 := Scalar.cmpi .sgt c4_i32_17 c0_i32_20
  let v49 : BitVec 32 := Scalar.extui v48
  let c0_i32_21 : BitVec 32 := 0#32
  let v50 : BitVec 1 := Scalar.cmpi .slt c4_i32_17 c0_i32_21
  let v51 : BitVec 32 := Scalar.extui v50
  let v52 : BitVec 32 := Scalar.subi v49 v51
  let v53 : BitVec 1 := Scalar.cmpi .ne v47 v52
  let v54 : BitVec 32 := Scalar.remsi v4 c4_i32_17
  let c0_i32_22 : BitVec 32 := 0#32
  let v55 : BitVec 1 := Scalar.cmpi .ne v54 c0_i32_22
  let v56 : BitVec 1 := Scalar.andi v53 v55
  let v42 : BitVec 32 := Scalar.divsi v4 c4_i32_17
  let c1_i32_23 : BitVec 32 := 1#32
  let v57 : BitVec 32 := Scalar.subi v42 c1_i32_23
  let v58 : BitVec 32 := Scalar.select v56 v57 v42
  let v59 : Index := Scalar.indexCast v58
  ![v59.toNat]
def k0_off194 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_27 : BitVec 32 := 8#32
  let v66 : BitVec 32 := Scalar.muli v4 c8_i32_27
  let c0_i32_28 : BitVec 32 := 0#32
  let v67 : BitVec 32 := Scalar.addi v66 c0_i32_28
  let c8_i32_29 : BitVec 32 := 8#32
  let v68 : BitVec 32 := Scalar.muli v67 c8_i32_29
  let c0_i32_30 : BitVec 32 := 0#32
  let v69 : BitVec 32 := Scalar.addi v68 c0_i32_30
  let v70 : Index := Scalar.indexCast v69
  ![v70.toNat]
def k0_off195 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off196 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c0_i32_31 : BitVec 32 := 0#32
  let c0_i32_32 : BitVec 32 := 0#32
  let c0_i32_33 : BitVec 32 := 0#32
  ![v41.toNat, 0, 0, 0]
def k0_off197 (v71 : BitVec 32) : Fin 2 → Nat :=
  let c0_i32_34 : BitVec 32 := 0#32
  ![v71.toNat, 0]
def k0_cond6 (i : grid0.Coords) (v60 : BitVec 32) : BitVec 1 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_24 : BitVec 32 := 4#32
  let v61 : BitVec 32 := Scalar.remsi v4 c4_i32_24
  let c8_i32_25 : BitVec 32 := 8#32
  let v62 : BitVec 32 := Scalar.muli v61 c8_i32_25
  let v63 : BitVec 1 := Scalar.cmpi .sgt v60 v62
  let v64 : BitVec 32 := Scalar.extui v63
  let c0_i32_26 : BitVec 32 := 0#32
  let v65 : BitVec 1 := Scalar.cmpi .ne v64 c0_i32_26
  v65

def k0_chk193 (i : grid0.Coords) (v60 : BitVec 32) (v71 : BitVec 32) : Prop :=
  (∀ (k0_h5 : k0_cond5 i = 1#1), ∀ (k0_h6 : k0_cond6 i v60 = 1#1), ∀ a, (k0_off197 v71) a + S1x4096.size a ≤ S4096x4096.size a)
theorem k0_off197_inb : ∀ (i : grid0.Coords) (v60 : BitVec 32) (v71 : BitVec 32) (k0_hw193 : k0_chk193 i v60 v71), ∀ (k0_h5 : k0_cond5 i = 1#1), ∀ (k0_h6 : k0_cond6 i v60 = 1#1), ∀ a, (k0_off197 v71) a + S1x4096.size a ≤ S4096x4096.size a := fun i v60 v71 k0_hw193 k0_h5 k0_h6 => k0_hw193 k0_h5 k0_h6

def k0_off198 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_35 : BitVec 32 := 8#32
  let v77 : BitVec 32 := Scalar.muli v4 c8_i32_35
  let c0_i32_36 : BitVec 32 := 0#32
  let v78 : BitVec 32 := Scalar.addi v77 c0_i32_36
  let c8_i32_37 : BitVec 32 := 8#32
  let v79 : BitVec 32 := Scalar.muli v78 c8_i32_37
  let c1_i32_38 : BitVec 32 := 1#32
  let v80 : BitVec 32 := Scalar.addi v79 c1_i32_38
  let v81 : Index := Scalar.indexCast v80
  ![v81.toNat]
def k0_off199 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off200 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c1_i32_39 : BitVec 32 := 1#32
  let c0_i32_40 : BitVec 32 := 0#32
  let c0_i32_41 : BitVec 32 := 0#32
  ![v41.toNat, 1, 0, 0]
def k0_off201 (v82 : BitVec 32) : Fin 2 → Nat :=
  let c0_i32_42 : BitVec 32 := 0#32
  ![v82.toNat, 0]

def k0_chk194 (i : grid0.Coords) (v60 : BitVec 32) (v82 : BitVec 32) : Prop :=
  (∀ (k0_h5 : k0_cond5 i = 1#1), ∀ (k0_h6 : k0_cond6 i v60 = 1#1), ∀ a, (k0_off201 v82) a + S1x4096.size a ≤ S4096x4096.size a)
theorem k0_off201_inb : ∀ (i : grid0.Coords) (v60 : BitVec 32) (v82 : BitVec 32) (k0_hw194 : k0_chk194 i v60 v82), ∀ (k0_h5 : k0_cond5 i = 1#1), ∀ (k0_h6 : k0_cond6 i v60 = 1#1), ∀ a, (k0_off201 v82) a + S1x4096.size a ≤ S4096x4096.size a := fun i v60 v82 k0_hw194 k0_h5 k0_h6 => k0_hw194 k0_h5 k0_h6

def k0_off202 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_43 : BitVec 32 := 8#32
  let v88 : BitVec 32 := Scalar.muli v4 c8_i32_43
  let c0_i32_44 : BitVec 32 := 0#32
  let v89 : BitVec 32 := Scalar.addi v88 c0_i32_44
  let c8_i32_45 : BitVec 32 := 8#32
  let v90 : BitVec 32 := Scalar.muli v89 c8_i32_45
  let c2_i32 : BitVec 32 := 2#32
  let v91 : BitVec 32 := Scalar.addi v90 c2_i32
  let v92 : Index := Scalar.indexCast v91
  ![v92.toNat]
def k0_off203 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off204 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c2_i32_46 : BitVec 32 := 2#32
  let c0_i32_47 : BitVec 32 := 0#32
  let c0_i32_48 : BitVec 32 := 0#32
  ![v41.toNat, 2, 0, 0]
def k0_off205 (v93 : BitVec 32) : Fin 2 → Nat :=
  let c0_i32_49 : BitVec 32 := 0#32
  ![v93.toNat, 0]

def k0_chk195 (i : grid0.Coords) (v60 : BitVec 32) (v93 : BitVec 32) : Prop :=
  (∀ (k0_h5 : k0_cond5 i = 1#1), ∀ (k0_h6 : k0_cond6 i v60 = 1#1), ∀ a, (k0_off205 v93) a + S1x4096.size a ≤ S4096x4096.size a)
theorem k0_off205_inb : ∀ (i : grid0.Coords) (v60 : BitVec 32) (v93 : BitVec 32) (k0_hw195 : k0_chk195 i v60 v93), ∀ (k0_h5 : k0_cond5 i = 1#1), ∀ (k0_h6 : k0_cond6 i v60 = 1#1), ∀ a, (k0_off205 v93) a + S1x4096.size a ≤ S4096x4096.size a := fun i v60 v93 k0_hw195 k0_h5 k0_h6 => k0_hw195 k0_h5 k0_h6

def k0_off206 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_50 : BitVec 32 := 8#32
  let v99 : BitVec 32 := Scalar.muli v4 c8_i32_50
  let c0_i32_51 : BitVec 32 := 0#32
  let v100 : BitVec 32 := Scalar.addi v99 c0_i32_51
  let c8_i32_52 : BitVec 32 := 8#32
  let v101 : BitVec 32 := Scalar.muli v100 c8_i32_52
  let c3_i32 : BitVec 32 := 3#32
  let v102 : BitVec 32 := Scalar.addi v101 c3_i32
  let v103 : Index := Scalar.indexCast v102
  ![v103.toNat]
def k0_off207 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off208 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c3_i32_53 : BitVec 32 := 3#32
  let c0_i32_54 : BitVec 32 := 0#32
  let c0_i32_55 : BitVec 32 := 0#32
  ![v41.toNat, 3, 0, 0]
def k0_off209 (v104 : BitVec 32) : Fin 2 → Nat :=
  let c0_i32_56 : BitVec 32 := 0#32
  ![v104.toNat, 0]

def k0_chk196 (i : grid0.Coords) (v60 : BitVec 32) (v104 : BitVec 32) : Prop :=
  (∀ (k0_h5 : k0_cond5 i = 1#1), ∀ (k0_h6 : k0_cond6 i v60 = 1#1), ∀ a, (k0_off209 v104) a + S1x4096.size a ≤ S4096x4096.size a)
theorem k0_off209_inb : ∀ (i : grid0.Coords) (v60 : BitVec 32) (v104 : BitVec 32) (k0_hw196 : k0_chk196 i v60 v104), ∀ (k0_h5 : k0_cond5 i = 1#1), ∀ (k0_h6 : k0_cond6 i v60 = 1#1), ∀ a, (k0_off209 v104) a + S1x4096.size a ≤ S4096x4096.size a := fun i v60 v104 k0_hw196 k0_h5 k0_h6 => k0_hw196 k0_h5 k0_h6

def k0_off210 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_57 : BitVec 32 := 8#32
  let v110 : BitVec 32 := Scalar.muli v4 c8_i32_57
  let c0_i32_58 : BitVec 32 := 0#32
  let v111 : BitVec 32 := Scalar.addi v110 c0_i32_58
  let c8_i32_59 : BitVec 32 := 8#32
  let v112 : BitVec 32 := Scalar.muli v111 c8_i32_59
  let c4_i32_60 : BitVec 32 := 4#32
  let v113 : BitVec 32 := Scalar.addi v112 c4_i32_60
  let v114 : Index := Scalar.indexCast v113
  ![v114.toNat]
def k0_off211 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off212 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c4_i32_61 : BitVec 32 := 4#32
  let c0_i32_62 : BitVec 32 := 0#32
  let c0_i32_63 : BitVec 32 := 0#32
  ![v41.toNat, 4, 0, 0]
def k0_off213 (v115 : BitVec 32) : Fin 2 → Nat :=
  let c0_i32_64 : BitVec 32 := 0#32
  ![v115.toNat, 0]

def k0_chk197 (i : grid0.Coords) (v60 : BitVec 32) (v115 : BitVec 32) : Prop :=
  (∀ (k0_h5 : k0_cond5 i = 1#1), ∀ (k0_h6 : k0_cond6 i v60 = 1#1), ∀ a, (k0_off213 v115) a + S1x4096.size a ≤ S4096x4096.size a)
theorem k0_off213_inb : ∀ (i : grid0.Coords) (v60 : BitVec 32) (v115 : BitVec 32) (k0_hw197 : k0_chk197 i v60 v115), ∀ (k0_h5 : k0_cond5 i = 1#1), ∀ (k0_h6 : k0_cond6 i v60 = 1#1), ∀ a, (k0_off213 v115) a + S1x4096.size a ≤ S4096x4096.size a := fun i v60 v115 k0_hw197 k0_h5 k0_h6 => k0_hw197 k0_h5 k0_h6

def k0_off214 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_65 : BitVec 32 := 8#32
  let v121 : BitVec 32 := Scalar.muli v4 c8_i32_65
  let c0_i32_66 : BitVec 32 := 0#32
  let v122 : BitVec 32 := Scalar.addi v121 c0_i32_66
  let c8_i32_67 : BitVec 32 := 8#32
  let v123 : BitVec 32 := Scalar.muli v122 c8_i32_67
  let c5_i32 : BitVec 32 := 5#32
  let v124 : BitVec 32 := Scalar.addi v123 c5_i32
  let v125 : Index := Scalar.indexCast v124
  ![v125.toNat]
def k0_off215 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off216 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c5_i32_68 : BitVec 32 := 5#32
  let c0_i32_69 : BitVec 32 := 0#32
  let c0_i32_70 : BitVec 32 := 0#32
  ![v41.toNat, 5, 0, 0]
def k0_off217 (v126 : BitVec 32) : Fin 2 → Nat :=
  let c0_i32_71 : BitVec 32 := 0#32
  ![v126.toNat, 0]

def k0_chk198 (i : grid0.Coords) (v60 : BitVec 32) (v126 : BitVec 32) : Prop :=
  (∀ (k0_h5 : k0_cond5 i = 1#1), ∀ (k0_h6 : k0_cond6 i v60 = 1#1), ∀ a, (k0_off217 v126) a + S1x4096.size a ≤ S4096x4096.size a)
theorem k0_off217_inb : ∀ (i : grid0.Coords) (v60 : BitVec 32) (v126 : BitVec 32) (k0_hw198 : k0_chk198 i v60 v126), ∀ (k0_h5 : k0_cond5 i = 1#1), ∀ (k0_h6 : k0_cond6 i v60 = 1#1), ∀ a, (k0_off217 v126) a + S1x4096.size a ≤ S4096x4096.size a := fun i v60 v126 k0_hw198 k0_h5 k0_h6 => k0_hw198 k0_h5 k0_h6

def k0_off218 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_72 : BitVec 32 := 8#32
  let v132 : BitVec 32 := Scalar.muli v4 c8_i32_72
  let c0_i32_73 : BitVec 32 := 0#32
  let v133 : BitVec 32 := Scalar.addi v132 c0_i32_73
  let c8_i32_74 : BitVec 32 := 8#32
  let v134 : BitVec 32 := Scalar.muli v133 c8_i32_74
  let c6_i32 : BitVec 32 := 6#32
  let v135 : BitVec 32 := Scalar.addi v134 c6_i32
  let v136 : Index := Scalar.indexCast v135
  ![v136.toNat]
def k0_off219 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off220 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c6_i32_75 : BitVec 32 := 6#32
  let c0_i32_76 : BitVec 32 := 0#32
  let c0_i32_77 : BitVec 32 := 0#32
  ![v41.toNat, 6, 0, 0]
def k0_off221 (v137 : BitVec 32) : Fin 2 → Nat :=
  let c0_i32_78 : BitVec 32 := 0#32
  ![v137.toNat, 0]

def k0_chk199 (i : grid0.Coords) (v60 : BitVec 32) (v137 : BitVec 32) : Prop :=
  (∀ (k0_h5 : k0_cond5 i = 1#1), ∀ (k0_h6 : k0_cond6 i v60 = 1#1), ∀ a, (k0_off221 v137) a + S1x4096.size a ≤ S4096x4096.size a)
theorem k0_off221_inb : ∀ (i : grid0.Coords) (v60 : BitVec 32) (v137 : BitVec 32) (k0_hw199 : k0_chk199 i v60 v137), ∀ (k0_h5 : k0_cond5 i = 1#1), ∀ (k0_h6 : k0_cond6 i v60 = 1#1), ∀ a, (k0_off221 v137) a + S1x4096.size a ≤ S4096x4096.size a := fun i v60 v137 k0_hw199 k0_h5 k0_h6 => k0_hw199 k0_h5 k0_h6

def k0_off222 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_79 : BitVec 32 := 8#32
  let v143 : BitVec 32 := Scalar.muli v4 c8_i32_79
  let c0_i32_80 : BitVec 32 := 0#32
  let v144 : BitVec 32 := Scalar.addi v143 c0_i32_80
  let c8_i32_81 : BitVec 32 := 8#32
  let v145 : BitVec 32 := Scalar.muli v144 c8_i32_81
  let c7_i32 : BitVec 32 := 7#32
  let v146 : BitVec 32 := Scalar.addi v145 c7_i32
  let v147 : Index := Scalar.indexCast v146
  ![v147.toNat]
def k0_off223 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off224 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c7_i32_82 : BitVec 32 := 7#32
  let c0_i32_83 : BitVec 32 := 0#32
  let c0_i32_84 : BitVec 32 := 0#32
  ![v41.toNat, 7, 0, 0]
def k0_off225 (v148 : BitVec 32) : Fin 2 → Nat :=
  let c0_i32_85 : BitVec 32 := 0#32
  ![v148.toNat, 0]

def k0_chk200 (i : grid0.Coords) (v60 : BitVec 32) (v148 : BitVec 32) : Prop :=
  (∀ (k0_h5 : k0_cond5 i = 1#1), ∀ (k0_h6 : k0_cond6 i v60 = 1#1), ∀ a, (k0_off225 v148) a + S1x4096.size a ≤ S4096x4096.size a)
theorem k0_off225_inb : ∀ (i : grid0.Coords) (v60 : BitVec 32) (v148 : BitVec 32) (k0_hw200 : k0_chk200 i v60 v148), ∀ (k0_h5 : k0_cond5 i = 1#1), ∀ (k0_h6 : k0_cond6 i v60 = 1#1), ∀ a, (k0_off225 v148) a + S1x4096.size a ≤ S4096x4096.size a := fun i v60 v148 k0_hw200 k0_h5 k0_h6 => k0_hw200 k0_h5 k0_h6

def k0_off226 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_86 : BitVec 32 := 8#32
  let v154 : BitVec 32 := Scalar.muli v4 c8_i32_86
  let c1_i32_87 : BitVec 32 := 1#32
  let v155 : BitVec 32 := Scalar.addi v154 c1_i32_87
  let c8_i32_88 : BitVec 32 := 8#32
  let v156 : BitVec 32 := Scalar.muli v155 c8_i32_88
  let c0_i32_89 : BitVec 32 := 0#32
  let v157 : BitVec 32 := Scalar.addi v156 c0_i32_89
  let v158 : Index := Scalar.indexCast v157
  ![v158.toNat]
def k0_off227 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off228 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c0_i32_90 : BitVec 32 := 0#32
  let c1_i32_91 : BitVec 32 := 1#32
  let c0_i32_92 : BitVec 32 := 0#32
  ![v41.toNat, 0, 1, 0]
def k0_off229 (v159 : BitVec 32) : Fin 2 → Nat :=
  let c0_i32_93 : BitVec 32 := 0#32
  ![v159.toNat, 0]

def k0_chk201 (i : grid0.Coords) (v60 : BitVec 32) (v159 : BitVec 32) : Prop :=
  (∀ (k0_h5 : k0_cond5 i = 1#1), ∀ (k0_h6 : k0_cond6 i v60 = 1#1), ∀ a, (k0_off229 v159) a + S1x4096.size a ≤ S4096x4096.size a)
theorem k0_off229_inb : ∀ (i : grid0.Coords) (v60 : BitVec 32) (v159 : BitVec 32) (k0_hw201 : k0_chk201 i v60 v159), ∀ (k0_h5 : k0_cond5 i = 1#1), ∀ (k0_h6 : k0_cond6 i v60 = 1#1), ∀ a, (k0_off229 v159) a + S1x4096.size a ≤ S4096x4096.size a := fun i v60 v159 k0_hw201 k0_h5 k0_h6 => k0_hw201 k0_h5 k0_h6

def k0_off230 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_94 : BitVec 32 := 8#32
  let v165 : BitVec 32 := Scalar.muli v4 c8_i32_94
  let c1_i32_95 : BitVec 32 := 1#32
  let v166 : BitVec 32 := Scalar.addi v165 c1_i32_95
  let c8_i32_96 : BitVec 32 := 8#32
  let v167 : BitVec 32 := Scalar.muli v166 c8_i32_96
  let c1_i32_97 : BitVec 32 := 1#32
  let v168 : BitVec 32 := Scalar.addi v167 c1_i32_97
  let v169 : Index := Scalar.indexCast v168
  ![v169.toNat]
def k0_off231 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off232 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c1_i32_98 : BitVec 32 := 1#32
  let c1_i32_99 : BitVec 32 := 1#32
  let c0_i32_100 : BitVec 32 := 0#32
  ![v41.toNat, 1, 1, 0]
def k0_off233 (v170 : BitVec 32) : Fin 2 → Nat :=
  let c0_i32_101 : BitVec 32 := 0#32
  ![v170.toNat, 0]

def k0_chk202 (i : grid0.Coords) (v60 : BitVec 32) (v170 : BitVec 32) : Prop :=
  (∀ (k0_h5 : k0_cond5 i = 1#1), ∀ (k0_h6 : k0_cond6 i v60 = 1#1), ∀ a, (k0_off233 v170) a + S1x4096.size a ≤ S4096x4096.size a)
theorem k0_off233_inb : ∀ (i : grid0.Coords) (v60 : BitVec 32) (v170 : BitVec 32) (k0_hw202 : k0_chk202 i v60 v170), ∀ (k0_h5 : k0_cond5 i = 1#1), ∀ (k0_h6 : k0_cond6 i v60 = 1#1), ∀ a, (k0_off233 v170) a + S1x4096.size a ≤ S4096x4096.size a := fun i v60 v170 k0_hw202 k0_h5 k0_h6 => k0_hw202 k0_h5 k0_h6

def k0_off234 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_102 : BitVec 32 := 8#32
  let v176 : BitVec 32 := Scalar.muli v4 c8_i32_102
  let c1_i32_103 : BitVec 32 := 1#32
  let v177 : BitVec 32 := Scalar.addi v176 c1_i32_103
  let c8_i32_104 : BitVec 32 := 8#32
  let v178 : BitVec 32 := Scalar.muli v177 c8_i32_104
  let c2_i32_105 : BitVec 32 := 2#32
  let v179 : BitVec 32 := Scalar.addi v178 c2_i32_105
  let v180 : Index := Scalar.indexCast v179
  ![v180.toNat]
def k0_off235 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off236 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c2_i32_106 : BitVec 32 := 2#32
  let c1_i32_107 : BitVec 32 := 1#32
  let c0_i32_108 : BitVec 32 := 0#32
  ![v41.toNat, 2, 1, 0]
def k0_off237 (v181 : BitVec 32) : Fin 2 → Nat :=
  let c0_i32_109 : BitVec 32 := 0#32
  ![v181.toNat, 0]

def k0_chk203 (i : grid0.Coords) (v60 : BitVec 32) (v181 : BitVec 32) : Prop :=
  (∀ (k0_h5 : k0_cond5 i = 1#1), ∀ (k0_h6 : k0_cond6 i v60 = 1#1), ∀ a, (k0_off237 v181) a + S1x4096.size a ≤ S4096x4096.size a)
theorem k0_off237_inb : ∀ (i : grid0.Coords) (v60 : BitVec 32) (v181 : BitVec 32) (k0_hw203 : k0_chk203 i v60 v181), ∀ (k0_h5 : k0_cond5 i = 1#1), ∀ (k0_h6 : k0_cond6 i v60 = 1#1), ∀ a, (k0_off237 v181) a + S1x4096.size a ≤ S4096x4096.size a := fun i v60 v181 k0_hw203 k0_h5 k0_h6 => k0_hw203 k0_h5 k0_h6

def k0_off238 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_110 : BitVec 32 := 8#32
  let v187 : BitVec 32 := Scalar.muli v4 c8_i32_110
  let c1_i32_111 : BitVec 32 := 1#32
  let v188 : BitVec 32 := Scalar.addi v187 c1_i32_111
  let c8_i32_112 : BitVec 32 := 8#32
  let v189 : BitVec 32 := Scalar.muli v188 c8_i32_112
  let c3_i32_113 : BitVec 32 := 3#32
  let v190 : BitVec 32 := Scalar.addi v189 c3_i32_113
  let v191 : Index := Scalar.indexCast v190
  ![v191.toNat]
def k0_off239 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off240 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c3_i32_114 : BitVec 32 := 3#32
  let c1_i32_115 : BitVec 32 := 1#32
  let c0_i32_116 : BitVec 32 := 0#32
  ![v41.toNat, 3, 1, 0]
def k0_off241 (v192 : BitVec 32) : Fin 2 → Nat :=
  let c0_i32_117 : BitVec 32 := 0#32
  ![v192.toNat, 0]

def k0_chk204 (i : grid0.Coords) (v60 : BitVec 32) (v192 : BitVec 32) : Prop :=
  (∀ (k0_h5 : k0_cond5 i = 1#1), ∀ (k0_h6 : k0_cond6 i v60 = 1#1), ∀ a, (k0_off241 v192) a + S1x4096.size a ≤ S4096x4096.size a)
theorem k0_off241_inb : ∀ (i : grid0.Coords) (v60 : BitVec 32) (v192 : BitVec 32) (k0_hw204 : k0_chk204 i v60 v192), ∀ (k0_h5 : k0_cond5 i = 1#1), ∀ (k0_h6 : k0_cond6 i v60 = 1#1), ∀ a, (k0_off241 v192) a + S1x4096.size a ≤ S4096x4096.size a := fun i v60 v192 k0_hw204 k0_h5 k0_h6 => k0_hw204 k0_h5 k0_h6

def k0_off242 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_118 : BitVec 32 := 8#32
  let v198 : BitVec 32 := Scalar.muli v4 c8_i32_118
  let c1_i32_119 : BitVec 32 := 1#32
  let v199 : BitVec 32 := Scalar.addi v198 c1_i32_119
  let c8_i32_120 : BitVec 32 := 8#32
  let v200 : BitVec 32 := Scalar.muli v199 c8_i32_120
  let c4_i32_121 : BitVec 32 := 4#32
  let v201 : BitVec 32 := Scalar.addi v200 c4_i32_121
  let v202 : Index := Scalar.indexCast v201
  ![v202.toNat]
def k0_off243 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off244 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c4_i32_122 : BitVec 32 := 4#32
  let c1_i32_123 : BitVec 32 := 1#32
  let c0_i32_124 : BitVec 32 := 0#32
  ![v41.toNat, 4, 1, 0]
def k0_off245 (v203 : BitVec 32) : Fin 2 → Nat :=
  let c0_i32_125 : BitVec 32 := 0#32
  ![v203.toNat, 0]

def k0_chk205 (i : grid0.Coords) (v60 : BitVec 32) (v203 : BitVec 32) : Prop :=
  (∀ (k0_h5 : k0_cond5 i = 1#1), ∀ (k0_h6 : k0_cond6 i v60 = 1#1), ∀ a, (k0_off245 v203) a + S1x4096.size a ≤ S4096x4096.size a)
theorem k0_off245_inb : ∀ (i : grid0.Coords) (v60 : BitVec 32) (v203 : BitVec 32) (k0_hw205 : k0_chk205 i v60 v203), ∀ (k0_h5 : k0_cond5 i = 1#1), ∀ (k0_h6 : k0_cond6 i v60 = 1#1), ∀ a, (k0_off245 v203) a + S1x4096.size a ≤ S4096x4096.size a := fun i v60 v203 k0_hw205 k0_h5 k0_h6 => k0_hw205 k0_h5 k0_h6

def k0_off246 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_126 : BitVec 32 := 8#32
  let v209 : BitVec 32 := Scalar.muli v4 c8_i32_126
  let c1_i32_127 : BitVec 32 := 1#32
  let v210 : BitVec 32 := Scalar.addi v209 c1_i32_127
  let c8_i32_128 : BitVec 32 := 8#32
  let v211 : BitVec 32 := Scalar.muli v210 c8_i32_128
  let c5_i32_129 : BitVec 32 := 5#32
  let v212 : BitVec 32 := Scalar.addi v211 c5_i32_129
  let v213 : Index := Scalar.indexCast v212
  ![v213.toNat]
def k0_off247 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off248 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c5_i32_130 : BitVec 32 := 5#32
  let c1_i32_131 : BitVec 32 := 1#32
  let c0_i32_132 : BitVec 32 := 0#32
  ![v41.toNat, 5, 1, 0]
def k0_off249 (v214 : BitVec 32) : Fin 2 → Nat :=
  let c0_i32_133 : BitVec 32 := 0#32
  ![v214.toNat, 0]

def k0_chk206 (i : grid0.Coords) (v60 : BitVec 32) (v214 : BitVec 32) : Prop :=
  (∀ (k0_h5 : k0_cond5 i = 1#1), ∀ (k0_h6 : k0_cond6 i v60 = 1#1), ∀ a, (k0_off249 v214) a + S1x4096.size a ≤ S4096x4096.size a)
theorem k0_off249_inb : ∀ (i : grid0.Coords) (v60 : BitVec 32) (v214 : BitVec 32) (k0_hw206 : k0_chk206 i v60 v214), ∀ (k0_h5 : k0_cond5 i = 1#1), ∀ (k0_h6 : k0_cond6 i v60 = 1#1), ∀ a, (k0_off249 v214) a + S1x4096.size a ≤ S4096x4096.size a := fun i v60 v214 k0_hw206 k0_h5 k0_h6 => k0_hw206 k0_h5 k0_h6

def k0_off250 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_134 : BitVec 32 := 8#32
  let v220 : BitVec 32 := Scalar.muli v4 c8_i32_134
  let c1_i32_135 : BitVec 32 := 1#32
  let v221 : BitVec 32 := Scalar.addi v220 c1_i32_135
  let c8_i32_136 : BitVec 32 := 8#32
  let v222 : BitVec 32 := Scalar.muli v221 c8_i32_136
  let c6_i32_137 : BitVec 32 := 6#32
  let v223 : BitVec 32 := Scalar.addi v222 c6_i32_137
  let v224 : Index := Scalar.indexCast v223
  ![v224.toNat]
def k0_off251 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off252 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c6_i32_138 : BitVec 32 := 6#32
  let c1_i32_139 : BitVec 32 := 1#32
  let c0_i32_140 : BitVec 32 := 0#32
  ![v41.toNat, 6, 1, 0]
def k0_off253 (v225 : BitVec 32) : Fin 2 → Nat :=
  let c0_i32_141 : BitVec 32 := 0#32
  ![v225.toNat, 0]

def k0_chk207 (i : grid0.Coords) (v60 : BitVec 32) (v225 : BitVec 32) : Prop :=
  (∀ (k0_h5 : k0_cond5 i = 1#1), ∀ (k0_h6 : k0_cond6 i v60 = 1#1), ∀ a, (k0_off253 v225) a + S1x4096.size a ≤ S4096x4096.size a)
theorem k0_off253_inb : ∀ (i : grid0.Coords) (v60 : BitVec 32) (v225 : BitVec 32) (k0_hw207 : k0_chk207 i v60 v225), ∀ (k0_h5 : k0_cond5 i = 1#1), ∀ (k0_h6 : k0_cond6 i v60 = 1#1), ∀ a, (k0_off253 v225) a + S1x4096.size a ≤ S4096x4096.size a := fun i v60 v225 k0_hw207 k0_h5 k0_h6 => k0_hw207 k0_h5 k0_h6

def k0_off254 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_142 : BitVec 32 := 8#32
  let v231 : BitVec 32 := Scalar.muli v4 c8_i32_142
  let c1_i32_143 : BitVec 32 := 1#32
  let v232 : BitVec 32 := Scalar.addi v231 c1_i32_143
  let c8_i32_144 : BitVec 32 := 8#32
  let v233 : BitVec 32 := Scalar.muli v232 c8_i32_144
  let c7_i32_145 : BitVec 32 := 7#32
  let v234 : BitVec 32 := Scalar.addi v233 c7_i32_145
  let v235 : Index := Scalar.indexCast v234
  ![v235.toNat]
def k0_off255 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off256 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c7_i32_146 : BitVec 32 := 7#32
  let c1_i32_147 : BitVec 32 := 1#32
  let c0_i32_148 : BitVec 32 := 0#32
  ![v41.toNat, 7, 1, 0]
def k0_off257 (v236 : BitVec 32) : Fin 2 → Nat :=
  let c0_i32_149 : BitVec 32 := 0#32
  ![v236.toNat, 0]

def k0_chk208 (i : grid0.Coords) (v60 : BitVec 32) (v236 : BitVec 32) : Prop :=
  (∀ (k0_h5 : k0_cond5 i = 1#1), ∀ (k0_h6 : k0_cond6 i v60 = 1#1), ∀ a, (k0_off257 v236) a + S1x4096.size a ≤ S4096x4096.size a)
theorem k0_off257_inb : ∀ (i : grid0.Coords) (v60 : BitVec 32) (v236 : BitVec 32) (k0_hw208 : k0_chk208 i v60 v236), ∀ (k0_h5 : k0_cond5 i = 1#1), ∀ (k0_h6 : k0_cond6 i v60 = 1#1), ∀ a, (k0_off257 v236) a + S1x4096.size a ≤ S4096x4096.size a := fun i v60 v236 k0_hw208 k0_h5 k0_h6 => k0_hw208 k0_h5 k0_h6

def k0_off258 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_150 : BitVec 32 := 8#32
  let v242 : BitVec 32 := Scalar.muli v4 c8_i32_150
  let c2_i32_151 : BitVec 32 := 2#32
  let v243 : BitVec 32 := Scalar.addi v242 c2_i32_151
  let c8_i32_152 : BitVec 32 := 8#32
  let v244 : BitVec 32 := Scalar.muli v243 c8_i32_152
  let c0_i32_153 : BitVec 32 := 0#32
  let v245 : BitVec 32 := Scalar.addi v244 c0_i32_153
  let v246 : Index := Scalar.indexCast v245
  ![v246.toNat]
def k0_off259 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off260 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c0_i32_154 : BitVec 32 := 0#32
  let c2_i32_155 : BitVec 32 := 2#32
  let c0_i32_156 : BitVec 32 := 0#32
  ![v41.toNat, 0, 2, 0]
def k0_off261 (v247 : BitVec 32) : Fin 2 → Nat :=
  let c0_i32_157 : BitVec 32 := 0#32
  ![v247.toNat, 0]

def k0_chk209 (i : grid0.Coords) (v60 : BitVec 32) (v247 : BitVec 32) : Prop :=
  (∀ (k0_h5 : k0_cond5 i = 1#1), ∀ (k0_h6 : k0_cond6 i v60 = 1#1), ∀ a, (k0_off261 v247) a + S1x4096.size a ≤ S4096x4096.size a)
theorem k0_off261_inb : ∀ (i : grid0.Coords) (v60 : BitVec 32) (v247 : BitVec 32) (k0_hw209 : k0_chk209 i v60 v247), ∀ (k0_h5 : k0_cond5 i = 1#1), ∀ (k0_h6 : k0_cond6 i v60 = 1#1), ∀ a, (k0_off261 v247) a + S1x4096.size a ≤ S4096x4096.size a := fun i v60 v247 k0_hw209 k0_h5 k0_h6 => k0_hw209 k0_h5 k0_h6

def k0_off262 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_158 : BitVec 32 := 8#32
  let v253 : BitVec 32 := Scalar.muli v4 c8_i32_158
  let c2_i32_159 : BitVec 32 := 2#32
  let v254 : BitVec 32 := Scalar.addi v253 c2_i32_159
  let c8_i32_160 : BitVec 32 := 8#32
  let v255 : BitVec 32 := Scalar.muli v254 c8_i32_160
  let c1_i32_161 : BitVec 32 := 1#32
  let v256 : BitVec 32 := Scalar.addi v255 c1_i32_161
  let v257 : Index := Scalar.indexCast v256
  ![v257.toNat]
def k0_off263 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off264 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c1_i32_162 : BitVec 32 := 1#32
  let c2_i32_163 : BitVec 32 := 2#32
  let c0_i32_164 : BitVec 32 := 0#32
  ![v41.toNat, 1, 2, 0]
def k0_off265 (v258 : BitVec 32) : Fin 2 → Nat :=
  let c0_i32_165 : BitVec 32 := 0#32
  ![v258.toNat, 0]

def k0_chk210 (i : grid0.Coords) (v60 : BitVec 32) (v258 : BitVec 32) : Prop :=
  (∀ (k0_h5 : k0_cond5 i = 1#1), ∀ (k0_h6 : k0_cond6 i v60 = 1#1), ∀ a, (k0_off265 v258) a + S1x4096.size a ≤ S4096x4096.size a)
theorem k0_off265_inb : ∀ (i : grid0.Coords) (v60 : BitVec 32) (v258 : BitVec 32) (k0_hw210 : k0_chk210 i v60 v258), ∀ (k0_h5 : k0_cond5 i = 1#1), ∀ (k0_h6 : k0_cond6 i v60 = 1#1), ∀ a, (k0_off265 v258) a + S1x4096.size a ≤ S4096x4096.size a := fun i v60 v258 k0_hw210 k0_h5 k0_h6 => k0_hw210 k0_h5 k0_h6

def k0_off266 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_166 : BitVec 32 := 8#32
  let v264 : BitVec 32 := Scalar.muli v4 c8_i32_166
  let c2_i32_167 : BitVec 32 := 2#32
  let v265 : BitVec 32 := Scalar.addi v264 c2_i32_167
  let c8_i32_168 : BitVec 32 := 8#32
  let v266 : BitVec 32 := Scalar.muli v265 c8_i32_168
  let c2_i32_169 : BitVec 32 := 2#32
  let v267 : BitVec 32 := Scalar.addi v266 c2_i32_169
  let v268 : Index := Scalar.indexCast v267
  ![v268.toNat]
def k0_off267 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off268 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c2_i32_170 : BitVec 32 := 2#32
  let c2_i32_171 : BitVec 32 := 2#32
  let c0_i32_172 : BitVec 32 := 0#32
  ![v41.toNat, 2, 2, 0]
def k0_off269 (v269 : BitVec 32) : Fin 2 → Nat :=
  let c0_i32_173 : BitVec 32 := 0#32
  ![v269.toNat, 0]

def k0_chk211 (i : grid0.Coords) (v60 : BitVec 32) (v269 : BitVec 32) : Prop :=
  (∀ (k0_h5 : k0_cond5 i = 1#1), ∀ (k0_h6 : k0_cond6 i v60 = 1#1), ∀ a, (k0_off269 v269) a + S1x4096.size a ≤ S4096x4096.size a)
theorem k0_off269_inb : ∀ (i : grid0.Coords) (v60 : BitVec 32) (v269 : BitVec 32) (k0_hw211 : k0_chk211 i v60 v269), ∀ (k0_h5 : k0_cond5 i = 1#1), ∀ (k0_h6 : k0_cond6 i v60 = 1#1), ∀ a, (k0_off269 v269) a + S1x4096.size a ≤ S4096x4096.size a := fun i v60 v269 k0_hw211 k0_h5 k0_h6 => k0_hw211 k0_h5 k0_h6

def k0_off270 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_174 : BitVec 32 := 8#32
  let v275 : BitVec 32 := Scalar.muli v4 c8_i32_174
  let c2_i32_175 : BitVec 32 := 2#32
  let v276 : BitVec 32 := Scalar.addi v275 c2_i32_175
  let c8_i32_176 : BitVec 32 := 8#32
  let v277 : BitVec 32 := Scalar.muli v276 c8_i32_176
  let c3_i32_177 : BitVec 32 := 3#32
  let v278 : BitVec 32 := Scalar.addi v277 c3_i32_177
  let v279 : Index := Scalar.indexCast v278
  ![v279.toNat]
def k0_off271 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off272 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c3_i32_178 : BitVec 32 := 3#32
  let c2_i32_179 : BitVec 32 := 2#32
  let c0_i32_180 : BitVec 32 := 0#32
  ![v41.toNat, 3, 2, 0]
def k0_off273 (v280 : BitVec 32) : Fin 2 → Nat :=
  let c0_i32_181 : BitVec 32 := 0#32
  ![v280.toNat, 0]

def k0_chk212 (i : grid0.Coords) (v60 : BitVec 32) (v280 : BitVec 32) : Prop :=
  (∀ (k0_h5 : k0_cond5 i = 1#1), ∀ (k0_h6 : k0_cond6 i v60 = 1#1), ∀ a, (k0_off273 v280) a + S1x4096.size a ≤ S4096x4096.size a)
theorem k0_off273_inb : ∀ (i : grid0.Coords) (v60 : BitVec 32) (v280 : BitVec 32) (k0_hw212 : k0_chk212 i v60 v280), ∀ (k0_h5 : k0_cond5 i = 1#1), ∀ (k0_h6 : k0_cond6 i v60 = 1#1), ∀ a, (k0_off273 v280) a + S1x4096.size a ≤ S4096x4096.size a := fun i v60 v280 k0_hw212 k0_h5 k0_h6 => k0_hw212 k0_h5 k0_h6

def k0_off274 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_182 : BitVec 32 := 8#32
  let v286 : BitVec 32 := Scalar.muli v4 c8_i32_182
  let c2_i32_183 : BitVec 32 := 2#32
  let v287 : BitVec 32 := Scalar.addi v286 c2_i32_183
  let c8_i32_184 : BitVec 32 := 8#32
  let v288 : BitVec 32 := Scalar.muli v287 c8_i32_184
  let c4_i32_185 : BitVec 32 := 4#32
  let v289 : BitVec 32 := Scalar.addi v288 c4_i32_185
  let v290 : Index := Scalar.indexCast v289
  ![v290.toNat]
def k0_off275 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off276 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c4_i32_186 : BitVec 32 := 4#32
  let c2_i32_187 : BitVec 32 := 2#32
  let c0_i32_188 : BitVec 32 := 0#32
  ![v41.toNat, 4, 2, 0]
def k0_off277 (v291 : BitVec 32) : Fin 2 → Nat :=
  let c0_i32_189 : BitVec 32 := 0#32
  ![v291.toNat, 0]

def k0_chk213 (i : grid0.Coords) (v60 : BitVec 32) (v291 : BitVec 32) : Prop :=
  (∀ (k0_h5 : k0_cond5 i = 1#1), ∀ (k0_h6 : k0_cond6 i v60 = 1#1), ∀ a, (k0_off277 v291) a + S1x4096.size a ≤ S4096x4096.size a)
theorem k0_off277_inb : ∀ (i : grid0.Coords) (v60 : BitVec 32) (v291 : BitVec 32) (k0_hw213 : k0_chk213 i v60 v291), ∀ (k0_h5 : k0_cond5 i = 1#1), ∀ (k0_h6 : k0_cond6 i v60 = 1#1), ∀ a, (k0_off277 v291) a + S1x4096.size a ≤ S4096x4096.size a := fun i v60 v291 k0_hw213 k0_h5 k0_h6 => k0_hw213 k0_h5 k0_h6

def k0_off278 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_190 : BitVec 32 := 8#32
  let v297 : BitVec 32 := Scalar.muli v4 c8_i32_190
  let c2_i32_191 : BitVec 32 := 2#32
  let v298 : BitVec 32 := Scalar.addi v297 c2_i32_191
  let c8_i32_192 : BitVec 32 := 8#32
  let v299 : BitVec 32 := Scalar.muli v298 c8_i32_192
  let c5_i32_193 : BitVec 32 := 5#32
  let v300 : BitVec 32 := Scalar.addi v299 c5_i32_193
  let v301 : Index := Scalar.indexCast v300
  ![v301.toNat]
def k0_off279 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off280 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c5_i32_194 : BitVec 32 := 5#32
  let c2_i32_195 : BitVec 32 := 2#32
  let c0_i32_196 : BitVec 32 := 0#32
  ![v41.toNat, 5, 2, 0]
def k0_off281 (v302 : BitVec 32) : Fin 2 → Nat :=
  let c0_i32_197 : BitVec 32 := 0#32
  ![v302.toNat, 0]

def k0_chk214 (i : grid0.Coords) (v60 : BitVec 32) (v302 : BitVec 32) : Prop :=
  (∀ (k0_h5 : k0_cond5 i = 1#1), ∀ (k0_h6 : k0_cond6 i v60 = 1#1), ∀ a, (k0_off281 v302) a + S1x4096.size a ≤ S4096x4096.size a)
theorem k0_off281_inb : ∀ (i : grid0.Coords) (v60 : BitVec 32) (v302 : BitVec 32) (k0_hw214 : k0_chk214 i v60 v302), ∀ (k0_h5 : k0_cond5 i = 1#1), ∀ (k0_h6 : k0_cond6 i v60 = 1#1), ∀ a, (k0_off281 v302) a + S1x4096.size a ≤ S4096x4096.size a := fun i v60 v302 k0_hw214 k0_h5 k0_h6 => k0_hw214 k0_h5 k0_h6

def k0_off282 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_198 : BitVec 32 := 8#32
  let v308 : BitVec 32 := Scalar.muli v4 c8_i32_198
  let c2_i32_199 : BitVec 32 := 2#32
  let v309 : BitVec 32 := Scalar.addi v308 c2_i32_199
  let c8_i32_200 : BitVec 32 := 8#32
  let v310 : BitVec 32 := Scalar.muli v309 c8_i32_200
  let c6_i32_201 : BitVec 32 := 6#32
  let v311 : BitVec 32 := Scalar.addi v310 c6_i32_201
  let v312 : Index := Scalar.indexCast v311
  ![v312.toNat]
def k0_off283 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off284 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c6_i32_202 : BitVec 32 := 6#32
  let c2_i32_203 : BitVec 32 := 2#32
  let c0_i32_204 : BitVec 32 := 0#32
  ![v41.toNat, 6, 2, 0]
def k0_off285 (v313 : BitVec 32) : Fin 2 → Nat :=
  let c0_i32_205 : BitVec 32 := 0#32
  ![v313.toNat, 0]

def k0_chk215 (i : grid0.Coords) (v60 : BitVec 32) (v313 : BitVec 32) : Prop :=
  (∀ (k0_h5 : k0_cond5 i = 1#1), ∀ (k0_h6 : k0_cond6 i v60 = 1#1), ∀ a, (k0_off285 v313) a + S1x4096.size a ≤ S4096x4096.size a)
theorem k0_off285_inb : ∀ (i : grid0.Coords) (v60 : BitVec 32) (v313 : BitVec 32) (k0_hw215 : k0_chk215 i v60 v313), ∀ (k0_h5 : k0_cond5 i = 1#1), ∀ (k0_h6 : k0_cond6 i v60 = 1#1), ∀ a, (k0_off285 v313) a + S1x4096.size a ≤ S4096x4096.size a := fun i v60 v313 k0_hw215 k0_h5 k0_h6 => k0_hw215 k0_h5 k0_h6

def k0_off286 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_206 : BitVec 32 := 8#32
  let v319 : BitVec 32 := Scalar.muli v4 c8_i32_206
  let c2_i32_207 : BitVec 32 := 2#32
  let v320 : BitVec 32 := Scalar.addi v319 c2_i32_207
  let c8_i32_208 : BitVec 32 := 8#32
  let v321 : BitVec 32 := Scalar.muli v320 c8_i32_208
  let c7_i32_209 : BitVec 32 := 7#32
  let v322 : BitVec 32 := Scalar.addi v321 c7_i32_209
  let v323 : Index := Scalar.indexCast v322
  ![v323.toNat]
def k0_off287 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off288 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c7_i32_210 : BitVec 32 := 7#32
  let c2_i32_211 : BitVec 32 := 2#32
  let c0_i32_212 : BitVec 32 := 0#32
  ![v41.toNat, 7, 2, 0]
def k0_off289 (v324 : BitVec 32) : Fin 2 → Nat :=
  let c0_i32_213 : BitVec 32 := 0#32
  ![v324.toNat, 0]

def k0_chk216 (i : grid0.Coords) (v60 : BitVec 32) (v324 : BitVec 32) : Prop :=
  (∀ (k0_h5 : k0_cond5 i = 1#1), ∀ (k0_h6 : k0_cond6 i v60 = 1#1), ∀ a, (k0_off289 v324) a + S1x4096.size a ≤ S4096x4096.size a)
theorem k0_off289_inb : ∀ (i : grid0.Coords) (v60 : BitVec 32) (v324 : BitVec 32) (k0_hw216 : k0_chk216 i v60 v324), ∀ (k0_h5 : k0_cond5 i = 1#1), ∀ (k0_h6 : k0_cond6 i v60 = 1#1), ∀ a, (k0_off289 v324) a + S1x4096.size a ≤ S4096x4096.size a := fun i v60 v324 k0_hw216 k0_h5 k0_h6 => k0_hw216 k0_h5 k0_h6

def k0_off290 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_214 : BitVec 32 := 8#32
  let v330 : BitVec 32 := Scalar.muli v4 c8_i32_214
  let c3_i32_215 : BitVec 32 := 3#32
  let v331 : BitVec 32 := Scalar.addi v330 c3_i32_215
  let c8_i32_216 : BitVec 32 := 8#32
  let v332 : BitVec 32 := Scalar.muli v331 c8_i32_216
  let c0_i32_217 : BitVec 32 := 0#32
  let v333 : BitVec 32 := Scalar.addi v332 c0_i32_217
  let v334 : Index := Scalar.indexCast v333
  ![v334.toNat]
def k0_off291 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off292 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c0_i32_218 : BitVec 32 := 0#32
  let c3_i32_219 : BitVec 32 := 3#32
  let c0_i32_220 : BitVec 32 := 0#32
  ![v41.toNat, 0, 3, 0]
def k0_off293 (v335 : BitVec 32) : Fin 2 → Nat :=
  let c0_i32_221 : BitVec 32 := 0#32
  ![v335.toNat, 0]

def k0_chk217 (i : grid0.Coords) (v60 : BitVec 32) (v335 : BitVec 32) : Prop :=
  (∀ (k0_h5 : k0_cond5 i = 1#1), ∀ (k0_h6 : k0_cond6 i v60 = 1#1), ∀ a, (k0_off293 v335) a + S1x4096.size a ≤ S4096x4096.size a)
theorem k0_off293_inb : ∀ (i : grid0.Coords) (v60 : BitVec 32) (v335 : BitVec 32) (k0_hw217 : k0_chk217 i v60 v335), ∀ (k0_h5 : k0_cond5 i = 1#1), ∀ (k0_h6 : k0_cond6 i v60 = 1#1), ∀ a, (k0_off293 v335) a + S1x4096.size a ≤ S4096x4096.size a := fun i v60 v335 k0_hw217 k0_h5 k0_h6 => k0_hw217 k0_h5 k0_h6

def k0_off294 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_222 : BitVec 32 := 8#32
  let v341 : BitVec 32 := Scalar.muli v4 c8_i32_222
  let c3_i32_223 : BitVec 32 := 3#32
  let v342 : BitVec 32 := Scalar.addi v341 c3_i32_223
  let c8_i32_224 : BitVec 32 := 8#32
  let v343 : BitVec 32 := Scalar.muli v342 c8_i32_224
  let c1_i32_225 : BitVec 32 := 1#32
  let v344 : BitVec 32 := Scalar.addi v343 c1_i32_225
  let v345 : Index := Scalar.indexCast v344
  ![v345.toNat]
def k0_off295 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off296 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c1_i32_226 : BitVec 32 := 1#32
  let c3_i32_227 : BitVec 32 := 3#32
  let c0_i32_228 : BitVec 32 := 0#32
  ![v41.toNat, 1, 3, 0]
def k0_off297 (v346 : BitVec 32) : Fin 2 → Nat :=
  let c0_i32_229 : BitVec 32 := 0#32
  ![v346.toNat, 0]

def k0_chk218 (i : grid0.Coords) (v60 : BitVec 32) (v346 : BitVec 32) : Prop :=
  (∀ (k0_h5 : k0_cond5 i = 1#1), ∀ (k0_h6 : k0_cond6 i v60 = 1#1), ∀ a, (k0_off297 v346) a + S1x4096.size a ≤ S4096x4096.size a)
theorem k0_off297_inb : ∀ (i : grid0.Coords) (v60 : BitVec 32) (v346 : BitVec 32) (k0_hw218 : k0_chk218 i v60 v346), ∀ (k0_h5 : k0_cond5 i = 1#1), ∀ (k0_h6 : k0_cond6 i v60 = 1#1), ∀ a, (k0_off297 v346) a + S1x4096.size a ≤ S4096x4096.size a := fun i v60 v346 k0_hw218 k0_h5 k0_h6 => k0_hw218 k0_h5 k0_h6

def k0_off298 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_230 : BitVec 32 := 8#32
  let v352 : BitVec 32 := Scalar.muli v4 c8_i32_230
  let c3_i32_231 : BitVec 32 := 3#32
  let v353 : BitVec 32 := Scalar.addi v352 c3_i32_231
  let c8_i32_232 : BitVec 32 := 8#32
  let v354 : BitVec 32 := Scalar.muli v353 c8_i32_232
  let c2_i32_233 : BitVec 32 := 2#32
  let v355 : BitVec 32 := Scalar.addi v354 c2_i32_233
  let v356 : Index := Scalar.indexCast v355
  ![v356.toNat]
def k0_off299 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off300 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c2_i32_234 : BitVec 32 := 2#32
  let c3_i32_235 : BitVec 32 := 3#32
  let c0_i32_236 : BitVec 32 := 0#32
  ![v41.toNat, 2, 3, 0]
def k0_off301 (v357 : BitVec 32) : Fin 2 → Nat :=
  let c0_i32_237 : BitVec 32 := 0#32
  ![v357.toNat, 0]

def k0_chk219 (i : grid0.Coords) (v60 : BitVec 32) (v357 : BitVec 32) : Prop :=
  (∀ (k0_h5 : k0_cond5 i = 1#1), ∀ (k0_h6 : k0_cond6 i v60 = 1#1), ∀ a, (k0_off301 v357) a + S1x4096.size a ≤ S4096x4096.size a)
theorem k0_off301_inb : ∀ (i : grid0.Coords) (v60 : BitVec 32) (v357 : BitVec 32) (k0_hw219 : k0_chk219 i v60 v357), ∀ (k0_h5 : k0_cond5 i = 1#1), ∀ (k0_h6 : k0_cond6 i v60 = 1#1), ∀ a, (k0_off301 v357) a + S1x4096.size a ≤ S4096x4096.size a := fun i v60 v357 k0_hw219 k0_h5 k0_h6 => k0_hw219 k0_h5 k0_h6

def k0_off302 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_238 : BitVec 32 := 8#32
  let v363 : BitVec 32 := Scalar.muli v4 c8_i32_238
  let c3_i32_239 : BitVec 32 := 3#32
  let v364 : BitVec 32 := Scalar.addi v363 c3_i32_239
  let c8_i32_240 : BitVec 32 := 8#32
  let v365 : BitVec 32 := Scalar.muli v364 c8_i32_240
  let c3_i32_241 : BitVec 32 := 3#32
  let v366 : BitVec 32 := Scalar.addi v365 c3_i32_241
  let v367 : Index := Scalar.indexCast v366
  ![v367.toNat]
def k0_off303 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off304 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c3_i32_242 : BitVec 32 := 3#32
  let c3_i32_243 : BitVec 32 := 3#32
  let c0_i32_244 : BitVec 32 := 0#32
  ![v41.toNat, 3, 3, 0]
def k0_off305 (v368 : BitVec 32) : Fin 2 → Nat :=
  let c0_i32_245 : BitVec 32 := 0#32
  ![v368.toNat, 0]

def k0_chk220 (i : grid0.Coords) (v60 : BitVec 32) (v368 : BitVec 32) : Prop :=
  (∀ (k0_h5 : k0_cond5 i = 1#1), ∀ (k0_h6 : k0_cond6 i v60 = 1#1), ∀ a, (k0_off305 v368) a + S1x4096.size a ≤ S4096x4096.size a)
theorem k0_off305_inb : ∀ (i : grid0.Coords) (v60 : BitVec 32) (v368 : BitVec 32) (k0_hw220 : k0_chk220 i v60 v368), ∀ (k0_h5 : k0_cond5 i = 1#1), ∀ (k0_h6 : k0_cond6 i v60 = 1#1), ∀ a, (k0_off305 v368) a + S1x4096.size a ≤ S4096x4096.size a := fun i v60 v368 k0_hw220 k0_h5 k0_h6 => k0_hw220 k0_h5 k0_h6

def k0_off306 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_246 : BitVec 32 := 8#32
  let v374 : BitVec 32 := Scalar.muli v4 c8_i32_246
  let c3_i32_247 : BitVec 32 := 3#32
  let v375 : BitVec 32 := Scalar.addi v374 c3_i32_247
  let c8_i32_248 : BitVec 32 := 8#32
  let v376 : BitVec 32 := Scalar.muli v375 c8_i32_248
  let c4_i32_249 : BitVec 32 := 4#32
  let v377 : BitVec 32 := Scalar.addi v376 c4_i32_249
  let v378 : Index := Scalar.indexCast v377
  ![v378.toNat]
def k0_off307 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off308 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c4_i32_250 : BitVec 32 := 4#32
  let c3_i32_251 : BitVec 32 := 3#32
  let c0_i32_252 : BitVec 32 := 0#32
  ![v41.toNat, 4, 3, 0]
def k0_off309 (v379 : BitVec 32) : Fin 2 → Nat :=
  let c0_i32_253 : BitVec 32 := 0#32
  ![v379.toNat, 0]

def k0_chk221 (i : grid0.Coords) (v60 : BitVec 32) (v379 : BitVec 32) : Prop :=
  (∀ (k0_h5 : k0_cond5 i = 1#1), ∀ (k0_h6 : k0_cond6 i v60 = 1#1), ∀ a, (k0_off309 v379) a + S1x4096.size a ≤ S4096x4096.size a)
theorem k0_off309_inb : ∀ (i : grid0.Coords) (v60 : BitVec 32) (v379 : BitVec 32) (k0_hw221 : k0_chk221 i v60 v379), ∀ (k0_h5 : k0_cond5 i = 1#1), ∀ (k0_h6 : k0_cond6 i v60 = 1#1), ∀ a, (k0_off309 v379) a + S1x4096.size a ≤ S4096x4096.size a := fun i v60 v379 k0_hw221 k0_h5 k0_h6 => k0_hw221 k0_h5 k0_h6

def k0_off310 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_254 : BitVec 32 := 8#32
  let v385 : BitVec 32 := Scalar.muli v4 c8_i32_254
  let c3_i32_255 : BitVec 32 := 3#32
  let v386 : BitVec 32 := Scalar.addi v385 c3_i32_255
  let c8_i32_256 : BitVec 32 := 8#32
  let v387 : BitVec 32 := Scalar.muli v386 c8_i32_256
  let c5_i32_257 : BitVec 32 := 5#32
  let v388 : BitVec 32 := Scalar.addi v387 c5_i32_257
  let v389 : Index := Scalar.indexCast v388
  ![v389.toNat]
def k0_off311 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off312 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c5_i32_258 : BitVec 32 := 5#32
  let c3_i32_259 : BitVec 32 := 3#32
  let c0_i32_260 : BitVec 32 := 0#32
  ![v41.toNat, 5, 3, 0]
def k0_off313 (v390 : BitVec 32) : Fin 2 → Nat :=
  let c0_i32_261 : BitVec 32 := 0#32
  ![v390.toNat, 0]

def k0_chk222 (i : grid0.Coords) (v60 : BitVec 32) (v390 : BitVec 32) : Prop :=
  (∀ (k0_h5 : k0_cond5 i = 1#1), ∀ (k0_h6 : k0_cond6 i v60 = 1#1), ∀ a, (k0_off313 v390) a + S1x4096.size a ≤ S4096x4096.size a)
theorem k0_off313_inb : ∀ (i : grid0.Coords) (v60 : BitVec 32) (v390 : BitVec 32) (k0_hw222 : k0_chk222 i v60 v390), ∀ (k0_h5 : k0_cond5 i = 1#1), ∀ (k0_h6 : k0_cond6 i v60 = 1#1), ∀ a, (k0_off313 v390) a + S1x4096.size a ≤ S4096x4096.size a := fun i v60 v390 k0_hw222 k0_h5 k0_h6 => k0_hw222 k0_h5 k0_h6

def k0_off314 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_262 : BitVec 32 := 8#32
  let v396 : BitVec 32 := Scalar.muli v4 c8_i32_262
  let c3_i32_263 : BitVec 32 := 3#32
  let v397 : BitVec 32 := Scalar.addi v396 c3_i32_263
  let c8_i32_264 : BitVec 32 := 8#32
  let v398 : BitVec 32 := Scalar.muli v397 c8_i32_264
  let c6_i32_265 : BitVec 32 := 6#32
  let v399 : BitVec 32 := Scalar.addi v398 c6_i32_265
  let v400 : Index := Scalar.indexCast v399
  ![v400.toNat]
def k0_off315 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off316 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c6_i32_266 : BitVec 32 := 6#32
  let c3_i32_267 : BitVec 32 := 3#32
  let c0_i32_268 : BitVec 32 := 0#32
  ![v41.toNat, 6, 3, 0]
def k0_off317 (v401 : BitVec 32) : Fin 2 → Nat :=
  let c0_i32_269 : BitVec 32 := 0#32
  ![v401.toNat, 0]

def k0_chk223 (i : grid0.Coords) (v60 : BitVec 32) (v401 : BitVec 32) : Prop :=
  (∀ (k0_h5 : k0_cond5 i = 1#1), ∀ (k0_h6 : k0_cond6 i v60 = 1#1), ∀ a, (k0_off317 v401) a + S1x4096.size a ≤ S4096x4096.size a)
theorem k0_off317_inb : ∀ (i : grid0.Coords) (v60 : BitVec 32) (v401 : BitVec 32) (k0_hw223 : k0_chk223 i v60 v401), ∀ (k0_h5 : k0_cond5 i = 1#1), ∀ (k0_h6 : k0_cond6 i v60 = 1#1), ∀ a, (k0_off317 v401) a + S1x4096.size a ≤ S4096x4096.size a := fun i v60 v401 k0_hw223 k0_h5 k0_h6 => k0_hw223 k0_h5 k0_h6

def k0_off318 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_270 : BitVec 32 := 8#32
  let v407 : BitVec 32 := Scalar.muli v4 c8_i32_270
  let c3_i32_271 : BitVec 32 := 3#32
  let v408 : BitVec 32 := Scalar.addi v407 c3_i32_271
  let c8_i32_272 : BitVec 32 := 8#32
  let v409 : BitVec 32 := Scalar.muli v408 c8_i32_272
  let c7_i32_273 : BitVec 32 := 7#32
  let v410 : BitVec 32 := Scalar.addi v409 c7_i32_273
  let v411 : Index := Scalar.indexCast v410
  ![v411.toNat]
def k0_off319 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off320 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c7_i32_274 : BitVec 32 := 7#32
  let c3_i32_275 : BitVec 32 := 3#32
  let c0_i32_276 : BitVec 32 := 0#32
  ![v41.toNat, 7, 3, 0]
def k0_off321 (v412 : BitVec 32) : Fin 2 → Nat :=
  let c0_i32_277 : BitVec 32 := 0#32
  ![v412.toNat, 0]

def k0_chk224 (i : grid0.Coords) (v60 : BitVec 32) (v412 : BitVec 32) : Prop :=
  (∀ (k0_h5 : k0_cond5 i = 1#1), ∀ (k0_h6 : k0_cond6 i v60 = 1#1), ∀ a, (k0_off321 v412) a + S1x4096.size a ≤ S4096x4096.size a)
theorem k0_off321_inb : ∀ (i : grid0.Coords) (v60 : BitVec 32) (v412 : BitVec 32) (k0_hw224 : k0_chk224 i v60 v412), ∀ (k0_h5 : k0_cond5 i = 1#1), ∀ (k0_h6 : k0_cond6 i v60 = 1#1), ∀ a, (k0_off321 v412) a + S1x4096.size a ≤ S4096x4096.size a := fun i v60 v412 k0_hw224 k0_h5 k0_h6 => k0_hw224 k0_h5 k0_h6

def k0_off322 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_278 : BitVec 32 := 8#32
  let v418 : BitVec 32 := Scalar.muli v4 c8_i32_278
  let c4_i32_279 : BitVec 32 := 4#32
  let v419 : BitVec 32 := Scalar.addi v418 c4_i32_279
  let c8_i32_280 : BitVec 32 := 8#32
  let v420 : BitVec 32 := Scalar.muli v419 c8_i32_280
  let c0_i32_281 : BitVec 32 := 0#32
  let v421 : BitVec 32 := Scalar.addi v420 c0_i32_281
  let v422 : Index := Scalar.indexCast v421
  ![v422.toNat]
def k0_off323 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off324 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c0_i32_282 : BitVec 32 := 0#32
  let c4_i32_283 : BitVec 32 := 4#32
  let c0_i32_284 : BitVec 32 := 0#32
  ![v41.toNat, 0, 4, 0]
def k0_off325 (v423 : BitVec 32) : Fin 2 → Nat :=
  let c0_i32_285 : BitVec 32 := 0#32
  ![v423.toNat, 0]

def k0_chk225 (i : grid0.Coords) (v60 : BitVec 32) (v423 : BitVec 32) : Prop :=
  (∀ (k0_h5 : k0_cond5 i = 1#1), ∀ (k0_h6 : k0_cond6 i v60 = 1#1), ∀ a, (k0_off325 v423) a + S1x4096.size a ≤ S4096x4096.size a)
theorem k0_off325_inb : ∀ (i : grid0.Coords) (v60 : BitVec 32) (v423 : BitVec 32) (k0_hw225 : k0_chk225 i v60 v423), ∀ (k0_h5 : k0_cond5 i = 1#1), ∀ (k0_h6 : k0_cond6 i v60 = 1#1), ∀ a, (k0_off325 v423) a + S1x4096.size a ≤ S4096x4096.size a := fun i v60 v423 k0_hw225 k0_h5 k0_h6 => k0_hw225 k0_h5 k0_h6

def k0_off326 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_286 : BitVec 32 := 8#32
  let v429 : BitVec 32 := Scalar.muli v4 c8_i32_286
  let c4_i32_287 : BitVec 32 := 4#32
  let v430 : BitVec 32 := Scalar.addi v429 c4_i32_287
  let c8_i32_288 : BitVec 32 := 8#32
  let v431 : BitVec 32 := Scalar.muli v430 c8_i32_288
  let c1_i32_289 : BitVec 32 := 1#32
  let v432 : BitVec 32 := Scalar.addi v431 c1_i32_289
  let v433 : Index := Scalar.indexCast v432
  ![v433.toNat]
def k0_off327 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off328 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c1_i32_290 : BitVec 32 := 1#32
  let c4_i32_291 : BitVec 32 := 4#32
  let c0_i32_292 : BitVec 32 := 0#32
  ![v41.toNat, 1, 4, 0]
def k0_off329 (v434 : BitVec 32) : Fin 2 → Nat :=
  let c0_i32_293 : BitVec 32 := 0#32
  ![v434.toNat, 0]

def k0_chk226 (i : grid0.Coords) (v60 : BitVec 32) (v434 : BitVec 32) : Prop :=
  (∀ (k0_h5 : k0_cond5 i = 1#1), ∀ (k0_h6 : k0_cond6 i v60 = 1#1), ∀ a, (k0_off329 v434) a + S1x4096.size a ≤ S4096x4096.size a)
theorem k0_off329_inb : ∀ (i : grid0.Coords) (v60 : BitVec 32) (v434 : BitVec 32) (k0_hw226 : k0_chk226 i v60 v434), ∀ (k0_h5 : k0_cond5 i = 1#1), ∀ (k0_h6 : k0_cond6 i v60 = 1#1), ∀ a, (k0_off329 v434) a + S1x4096.size a ≤ S4096x4096.size a := fun i v60 v434 k0_hw226 k0_h5 k0_h6 => k0_hw226 k0_h5 k0_h6

def k0_off330 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_294 : BitVec 32 := 8#32
  let v440 : BitVec 32 := Scalar.muli v4 c8_i32_294
  let c4_i32_295 : BitVec 32 := 4#32
  let v441 : BitVec 32 := Scalar.addi v440 c4_i32_295
  let c8_i32_296 : BitVec 32 := 8#32
  let v442 : BitVec 32 := Scalar.muli v441 c8_i32_296
  let c2_i32_297 : BitVec 32 := 2#32
  let v443 : BitVec 32 := Scalar.addi v442 c2_i32_297
  let v444 : Index := Scalar.indexCast v443
  ![v444.toNat]
def k0_off331 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off332 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c2_i32_298 : BitVec 32 := 2#32
  let c4_i32_299 : BitVec 32 := 4#32
  let c0_i32_300 : BitVec 32 := 0#32
  ![v41.toNat, 2, 4, 0]
def k0_off333 (v445 : BitVec 32) : Fin 2 → Nat :=
  let c0_i32_301 : BitVec 32 := 0#32
  ![v445.toNat, 0]

def k0_chk227 (i : grid0.Coords) (v60 : BitVec 32) (v445 : BitVec 32) : Prop :=
  (∀ (k0_h5 : k0_cond5 i = 1#1), ∀ (k0_h6 : k0_cond6 i v60 = 1#1), ∀ a, (k0_off333 v445) a + S1x4096.size a ≤ S4096x4096.size a)
theorem k0_off333_inb : ∀ (i : grid0.Coords) (v60 : BitVec 32) (v445 : BitVec 32) (k0_hw227 : k0_chk227 i v60 v445), ∀ (k0_h5 : k0_cond5 i = 1#1), ∀ (k0_h6 : k0_cond6 i v60 = 1#1), ∀ a, (k0_off333 v445) a + S1x4096.size a ≤ S4096x4096.size a := fun i v60 v445 k0_hw227 k0_h5 k0_h6 => k0_hw227 k0_h5 k0_h6

def k0_off334 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_302 : BitVec 32 := 8#32
  let v451 : BitVec 32 := Scalar.muli v4 c8_i32_302
  let c4_i32_303 : BitVec 32 := 4#32
  let v452 : BitVec 32 := Scalar.addi v451 c4_i32_303
  let c8_i32_304 : BitVec 32 := 8#32
  let v453 : BitVec 32 := Scalar.muli v452 c8_i32_304
  let c3_i32_305 : BitVec 32 := 3#32
  let v454 : BitVec 32 := Scalar.addi v453 c3_i32_305
  let v455 : Index := Scalar.indexCast v454
  ![v455.toNat]
def k0_off335 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off336 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c3_i32_306 : BitVec 32 := 3#32
  let c4_i32_307 : BitVec 32 := 4#32
  let c0_i32_308 : BitVec 32 := 0#32
  ![v41.toNat, 3, 4, 0]
def k0_off337 (v456 : BitVec 32) : Fin 2 → Nat :=
  let c0_i32_309 : BitVec 32 := 0#32
  ![v456.toNat, 0]

def k0_chk228 (i : grid0.Coords) (v60 : BitVec 32) (v456 : BitVec 32) : Prop :=
  (∀ (k0_h5 : k0_cond5 i = 1#1), ∀ (k0_h6 : k0_cond6 i v60 = 1#1), ∀ a, (k0_off337 v456) a + S1x4096.size a ≤ S4096x4096.size a)
theorem k0_off337_inb : ∀ (i : grid0.Coords) (v60 : BitVec 32) (v456 : BitVec 32) (k0_hw228 : k0_chk228 i v60 v456), ∀ (k0_h5 : k0_cond5 i = 1#1), ∀ (k0_h6 : k0_cond6 i v60 = 1#1), ∀ a, (k0_off337 v456) a + S1x4096.size a ≤ S4096x4096.size a := fun i v60 v456 k0_hw228 k0_h5 k0_h6 => k0_hw228 k0_h5 k0_h6

def k0_off338 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_310 : BitVec 32 := 8#32
  let v462 : BitVec 32 := Scalar.muli v4 c8_i32_310
  let c4_i32_311 : BitVec 32 := 4#32
  let v463 : BitVec 32 := Scalar.addi v462 c4_i32_311
  let c8_i32_312 : BitVec 32 := 8#32
  let v464 : BitVec 32 := Scalar.muli v463 c8_i32_312
  let c4_i32_313 : BitVec 32 := 4#32
  let v465 : BitVec 32 := Scalar.addi v464 c4_i32_313
  let v466 : Index := Scalar.indexCast v465
  ![v466.toNat]
def k0_off339 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off340 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c4_i32_314 : BitVec 32 := 4#32
  let c4_i32_315 : BitVec 32 := 4#32
  let c0_i32_316 : BitVec 32 := 0#32
  ![v41.toNat, 4, 4, 0]
def k0_off341 (v467 : BitVec 32) : Fin 2 → Nat :=
  let c0_i32_317 : BitVec 32 := 0#32
  ![v467.toNat, 0]

def k0_chk229 (i : grid0.Coords) (v60 : BitVec 32) (v467 : BitVec 32) : Prop :=
  (∀ (k0_h5 : k0_cond5 i = 1#1), ∀ (k0_h6 : k0_cond6 i v60 = 1#1), ∀ a, (k0_off341 v467) a + S1x4096.size a ≤ S4096x4096.size a)
theorem k0_off341_inb : ∀ (i : grid0.Coords) (v60 : BitVec 32) (v467 : BitVec 32) (k0_hw229 : k0_chk229 i v60 v467), ∀ (k0_h5 : k0_cond5 i = 1#1), ∀ (k0_h6 : k0_cond6 i v60 = 1#1), ∀ a, (k0_off341 v467) a + S1x4096.size a ≤ S4096x4096.size a := fun i v60 v467 k0_hw229 k0_h5 k0_h6 => k0_hw229 k0_h5 k0_h6

def k0_off342 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_318 : BitVec 32 := 8#32
  let v473 : BitVec 32 := Scalar.muli v4 c8_i32_318
  let c4_i32_319 : BitVec 32 := 4#32
  let v474 : BitVec 32 := Scalar.addi v473 c4_i32_319
  let c8_i32_320 : BitVec 32 := 8#32
  let v475 : BitVec 32 := Scalar.muli v474 c8_i32_320
  let c5_i32_321 : BitVec 32 := 5#32
  let v476 : BitVec 32 := Scalar.addi v475 c5_i32_321
  let v477 : Index := Scalar.indexCast v476
  ![v477.toNat]
def k0_off343 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off344 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c5_i32_322 : BitVec 32 := 5#32
  let c4_i32_323 : BitVec 32 := 4#32
  let c0_i32_324 : BitVec 32 := 0#32
  ![v41.toNat, 5, 4, 0]
def k0_off345 (v478 : BitVec 32) : Fin 2 → Nat :=
  let c0_i32_325 : BitVec 32 := 0#32
  ![v478.toNat, 0]

def k0_chk230 (i : grid0.Coords) (v60 : BitVec 32) (v478 : BitVec 32) : Prop :=
  (∀ (k0_h5 : k0_cond5 i = 1#1), ∀ (k0_h6 : k0_cond6 i v60 = 1#1), ∀ a, (k0_off345 v478) a + S1x4096.size a ≤ S4096x4096.size a)
theorem k0_off345_inb : ∀ (i : grid0.Coords) (v60 : BitVec 32) (v478 : BitVec 32) (k0_hw230 : k0_chk230 i v60 v478), ∀ (k0_h5 : k0_cond5 i = 1#1), ∀ (k0_h6 : k0_cond6 i v60 = 1#1), ∀ a, (k0_off345 v478) a + S1x4096.size a ≤ S4096x4096.size a := fun i v60 v478 k0_hw230 k0_h5 k0_h6 => k0_hw230 k0_h5 k0_h6

def k0_off346 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_326 : BitVec 32 := 8#32
  let v484 : BitVec 32 := Scalar.muli v4 c8_i32_326
  let c4_i32_327 : BitVec 32 := 4#32
  let v485 : BitVec 32 := Scalar.addi v484 c4_i32_327
  let c8_i32_328 : BitVec 32 := 8#32
  let v486 : BitVec 32 := Scalar.muli v485 c8_i32_328
  let c6_i32_329 : BitVec 32 := 6#32
  let v487 : BitVec 32 := Scalar.addi v486 c6_i32_329
  let v488 : Index := Scalar.indexCast v487
  ![v488.toNat]
def k0_off347 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off348 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c6_i32_330 : BitVec 32 := 6#32
  let c4_i32_331 : BitVec 32 := 4#32
  let c0_i32_332 : BitVec 32 := 0#32
  ![v41.toNat, 6, 4, 0]
def k0_off349 (v489 : BitVec 32) : Fin 2 → Nat :=
  let c0_i32_333 : BitVec 32 := 0#32
  ![v489.toNat, 0]

def k0_chk231 (i : grid0.Coords) (v60 : BitVec 32) (v489 : BitVec 32) : Prop :=
  (∀ (k0_h5 : k0_cond5 i = 1#1), ∀ (k0_h6 : k0_cond6 i v60 = 1#1), ∀ a, (k0_off349 v489) a + S1x4096.size a ≤ S4096x4096.size a)
theorem k0_off349_inb : ∀ (i : grid0.Coords) (v60 : BitVec 32) (v489 : BitVec 32) (k0_hw231 : k0_chk231 i v60 v489), ∀ (k0_h5 : k0_cond5 i = 1#1), ∀ (k0_h6 : k0_cond6 i v60 = 1#1), ∀ a, (k0_off349 v489) a + S1x4096.size a ≤ S4096x4096.size a := fun i v60 v489 k0_hw231 k0_h5 k0_h6 => k0_hw231 k0_h5 k0_h6

def k0_off350 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_334 : BitVec 32 := 8#32
  let v495 : BitVec 32 := Scalar.muli v4 c8_i32_334
  let c4_i32_335 : BitVec 32 := 4#32
  let v496 : BitVec 32 := Scalar.addi v495 c4_i32_335
  let c8_i32_336 : BitVec 32 := 8#32
  let v497 : BitVec 32 := Scalar.muli v496 c8_i32_336
  let c7_i32_337 : BitVec 32 := 7#32
  let v498 : BitVec 32 := Scalar.addi v497 c7_i32_337
  let v499 : Index := Scalar.indexCast v498
  ![v499.toNat]
def k0_off351 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off352 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c7_i32_338 : BitVec 32 := 7#32
  let c4_i32_339 : BitVec 32 := 4#32
  let c0_i32_340 : BitVec 32 := 0#32
  ![v41.toNat, 7, 4, 0]
def k0_off353 (v500 : BitVec 32) : Fin 2 → Nat :=
  let c0_i32_341 : BitVec 32 := 0#32
  ![v500.toNat, 0]

def k0_chk232 (i : grid0.Coords) (v60 : BitVec 32) (v500 : BitVec 32) : Prop :=
  (∀ (k0_h5 : k0_cond5 i = 1#1), ∀ (k0_h6 : k0_cond6 i v60 = 1#1), ∀ a, (k0_off353 v500) a + S1x4096.size a ≤ S4096x4096.size a)
theorem k0_off353_inb : ∀ (i : grid0.Coords) (v60 : BitVec 32) (v500 : BitVec 32) (k0_hw232 : k0_chk232 i v60 v500), ∀ (k0_h5 : k0_cond5 i = 1#1), ∀ (k0_h6 : k0_cond6 i v60 = 1#1), ∀ a, (k0_off353 v500) a + S1x4096.size a ≤ S4096x4096.size a := fun i v60 v500 k0_hw232 k0_h5 k0_h6 => k0_hw232 k0_h5 k0_h6

def k0_off354 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_342 : BitVec 32 := 8#32
  let v506 : BitVec 32 := Scalar.muli v4 c8_i32_342
  let c5_i32_343 : BitVec 32 := 5#32
  let v507 : BitVec 32 := Scalar.addi v506 c5_i32_343
  let c8_i32_344 : BitVec 32 := 8#32
  let v508 : BitVec 32 := Scalar.muli v507 c8_i32_344
  let c0_i32_345 : BitVec 32 := 0#32
  let v509 : BitVec 32 := Scalar.addi v508 c0_i32_345
  let v510 : Index := Scalar.indexCast v509
  ![v510.toNat]
def k0_off355 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off356 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c0_i32_346 : BitVec 32 := 0#32
  let c5_i32_347 : BitVec 32 := 5#32
  let c0_i32_348 : BitVec 32 := 0#32
  ![v41.toNat, 0, 5, 0]
def k0_off357 (v511 : BitVec 32) : Fin 2 → Nat :=
  let c0_i32_349 : BitVec 32 := 0#32
  ![v511.toNat, 0]

def k0_chk233 (i : grid0.Coords) (v60 : BitVec 32) (v511 : BitVec 32) : Prop :=
  (∀ (k0_h5 : k0_cond5 i = 1#1), ∀ (k0_h6 : k0_cond6 i v60 = 1#1), ∀ a, (k0_off357 v511) a + S1x4096.size a ≤ S4096x4096.size a)
theorem k0_off357_inb : ∀ (i : grid0.Coords) (v60 : BitVec 32) (v511 : BitVec 32) (k0_hw233 : k0_chk233 i v60 v511), ∀ (k0_h5 : k0_cond5 i = 1#1), ∀ (k0_h6 : k0_cond6 i v60 = 1#1), ∀ a, (k0_off357 v511) a + S1x4096.size a ≤ S4096x4096.size a := fun i v60 v511 k0_hw233 k0_h5 k0_h6 => k0_hw233 k0_h5 k0_h6

def k0_off358 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_350 : BitVec 32 := 8#32
  let v517 : BitVec 32 := Scalar.muli v4 c8_i32_350
  let c5_i32_351 : BitVec 32 := 5#32
  let v518 : BitVec 32 := Scalar.addi v517 c5_i32_351
  let c8_i32_352 : BitVec 32 := 8#32
  let v519 : BitVec 32 := Scalar.muli v518 c8_i32_352
  let c1_i32_353 : BitVec 32 := 1#32
  let v520 : BitVec 32 := Scalar.addi v519 c1_i32_353
  let v521 : Index := Scalar.indexCast v520
  ![v521.toNat]
def k0_off359 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off360 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c1_i32_354 : BitVec 32 := 1#32
  let c5_i32_355 : BitVec 32 := 5#32
  let c0_i32_356 : BitVec 32 := 0#32
  ![v41.toNat, 1, 5, 0]
def k0_off361 (v522 : BitVec 32) : Fin 2 → Nat :=
  let c0_i32_357 : BitVec 32 := 0#32
  ![v522.toNat, 0]

def k0_chk234 (i : grid0.Coords) (v60 : BitVec 32) (v522 : BitVec 32) : Prop :=
  (∀ (k0_h5 : k0_cond5 i = 1#1), ∀ (k0_h6 : k0_cond6 i v60 = 1#1), ∀ a, (k0_off361 v522) a + S1x4096.size a ≤ S4096x4096.size a)
theorem k0_off361_inb : ∀ (i : grid0.Coords) (v60 : BitVec 32) (v522 : BitVec 32) (k0_hw234 : k0_chk234 i v60 v522), ∀ (k0_h5 : k0_cond5 i = 1#1), ∀ (k0_h6 : k0_cond6 i v60 = 1#1), ∀ a, (k0_off361 v522) a + S1x4096.size a ≤ S4096x4096.size a := fun i v60 v522 k0_hw234 k0_h5 k0_h6 => k0_hw234 k0_h5 k0_h6

def k0_off362 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_358 : BitVec 32 := 8#32
  let v528 : BitVec 32 := Scalar.muli v4 c8_i32_358
  let c5_i32_359 : BitVec 32 := 5#32
  let v529 : BitVec 32 := Scalar.addi v528 c5_i32_359
  let c8_i32_360 : BitVec 32 := 8#32
  let v530 : BitVec 32 := Scalar.muli v529 c8_i32_360
  let c2_i32_361 : BitVec 32 := 2#32
  let v531 : BitVec 32 := Scalar.addi v530 c2_i32_361
  let v532 : Index := Scalar.indexCast v531
  ![v532.toNat]
def k0_off363 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off364 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c2_i32_362 : BitVec 32 := 2#32
  let c5_i32_363 : BitVec 32 := 5#32
  let c0_i32_364 : BitVec 32 := 0#32
  ![v41.toNat, 2, 5, 0]
def k0_off365 (v533 : BitVec 32) : Fin 2 → Nat :=
  let c0_i32_365 : BitVec 32 := 0#32
  ![v533.toNat, 0]

def k0_chk235 (i : grid0.Coords) (v60 : BitVec 32) (v533 : BitVec 32) : Prop :=
  (∀ (k0_h5 : k0_cond5 i = 1#1), ∀ (k0_h6 : k0_cond6 i v60 = 1#1), ∀ a, (k0_off365 v533) a + S1x4096.size a ≤ S4096x4096.size a)
theorem k0_off365_inb : ∀ (i : grid0.Coords) (v60 : BitVec 32) (v533 : BitVec 32) (k0_hw235 : k0_chk235 i v60 v533), ∀ (k0_h5 : k0_cond5 i = 1#1), ∀ (k0_h6 : k0_cond6 i v60 = 1#1), ∀ a, (k0_off365 v533) a + S1x4096.size a ≤ S4096x4096.size a := fun i v60 v533 k0_hw235 k0_h5 k0_h6 => k0_hw235 k0_h5 k0_h6

def k0_off366 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_366 : BitVec 32 := 8#32
  let v539 : BitVec 32 := Scalar.muli v4 c8_i32_366
  let c5_i32_367 : BitVec 32 := 5#32
  let v540 : BitVec 32 := Scalar.addi v539 c5_i32_367
  let c8_i32_368 : BitVec 32 := 8#32
  let v541 : BitVec 32 := Scalar.muli v540 c8_i32_368
  let c3_i32_369 : BitVec 32 := 3#32
  let v542 : BitVec 32 := Scalar.addi v541 c3_i32_369
  let v543 : Index := Scalar.indexCast v542
  ![v543.toNat]
def k0_off367 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off368 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c3_i32_370 : BitVec 32 := 3#32
  let c5_i32_371 : BitVec 32 := 5#32
  let c0_i32_372 : BitVec 32 := 0#32
  ![v41.toNat, 3, 5, 0]
def k0_off369 (v544 : BitVec 32) : Fin 2 → Nat :=
  let c0_i32_373 : BitVec 32 := 0#32
  ![v544.toNat, 0]

def k0_chk236 (i : grid0.Coords) (v60 : BitVec 32) (v544 : BitVec 32) : Prop :=
  (∀ (k0_h5 : k0_cond5 i = 1#1), ∀ (k0_h6 : k0_cond6 i v60 = 1#1), ∀ a, (k0_off369 v544) a + S1x4096.size a ≤ S4096x4096.size a)
theorem k0_off369_inb : ∀ (i : grid0.Coords) (v60 : BitVec 32) (v544 : BitVec 32) (k0_hw236 : k0_chk236 i v60 v544), ∀ (k0_h5 : k0_cond5 i = 1#1), ∀ (k0_h6 : k0_cond6 i v60 = 1#1), ∀ a, (k0_off369 v544) a + S1x4096.size a ≤ S4096x4096.size a := fun i v60 v544 k0_hw236 k0_h5 k0_h6 => k0_hw236 k0_h5 k0_h6

def k0_off370 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_374 : BitVec 32 := 8#32
  let v550 : BitVec 32 := Scalar.muli v4 c8_i32_374
  let c5_i32_375 : BitVec 32 := 5#32
  let v551 : BitVec 32 := Scalar.addi v550 c5_i32_375
  let c8_i32_376 : BitVec 32 := 8#32
  let v552 : BitVec 32 := Scalar.muli v551 c8_i32_376
  let c4_i32_377 : BitVec 32 := 4#32
  let v553 : BitVec 32 := Scalar.addi v552 c4_i32_377
  let v554 : Index := Scalar.indexCast v553
  ![v554.toNat]
def k0_off371 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off372 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c4_i32_378 : BitVec 32 := 4#32
  let c5_i32_379 : BitVec 32 := 5#32
  let c0_i32_380 : BitVec 32 := 0#32
  ![v41.toNat, 4, 5, 0]
def k0_off373 (v555 : BitVec 32) : Fin 2 → Nat :=
  let c0_i32_381 : BitVec 32 := 0#32
  ![v555.toNat, 0]

def k0_chk237 (i : grid0.Coords) (v60 : BitVec 32) (v555 : BitVec 32) : Prop :=
  (∀ (k0_h5 : k0_cond5 i = 1#1), ∀ (k0_h6 : k0_cond6 i v60 = 1#1), ∀ a, (k0_off373 v555) a + S1x4096.size a ≤ S4096x4096.size a)
theorem k0_off373_inb : ∀ (i : grid0.Coords) (v60 : BitVec 32) (v555 : BitVec 32) (k0_hw237 : k0_chk237 i v60 v555), ∀ (k0_h5 : k0_cond5 i = 1#1), ∀ (k0_h6 : k0_cond6 i v60 = 1#1), ∀ a, (k0_off373 v555) a + S1x4096.size a ≤ S4096x4096.size a := fun i v60 v555 k0_hw237 k0_h5 k0_h6 => k0_hw237 k0_h5 k0_h6

def k0_off374 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_382 : BitVec 32 := 8#32
  let v561 : BitVec 32 := Scalar.muli v4 c8_i32_382
  let c5_i32_383 : BitVec 32 := 5#32
  let v562 : BitVec 32 := Scalar.addi v561 c5_i32_383
  let c8_i32_384 : BitVec 32 := 8#32
  let v563 : BitVec 32 := Scalar.muli v562 c8_i32_384
  let c5_i32_385 : BitVec 32 := 5#32
  let v564 : BitVec 32 := Scalar.addi v563 c5_i32_385
  let v565 : Index := Scalar.indexCast v564
  ![v565.toNat]
def k0_off375 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off376 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c5_i32_386 : BitVec 32 := 5#32
  let c5_i32_387 : BitVec 32 := 5#32
  let c0_i32_388 : BitVec 32 := 0#32
  ![v41.toNat, 5, 5, 0]
def k0_off377 (v566 : BitVec 32) : Fin 2 → Nat :=
  let c0_i32_389 : BitVec 32 := 0#32
  ![v566.toNat, 0]

def k0_chk238 (i : grid0.Coords) (v60 : BitVec 32) (v566 : BitVec 32) : Prop :=
  (∀ (k0_h5 : k0_cond5 i = 1#1), ∀ (k0_h6 : k0_cond6 i v60 = 1#1), ∀ a, (k0_off377 v566) a + S1x4096.size a ≤ S4096x4096.size a)
theorem k0_off377_inb : ∀ (i : grid0.Coords) (v60 : BitVec 32) (v566 : BitVec 32) (k0_hw238 : k0_chk238 i v60 v566), ∀ (k0_h5 : k0_cond5 i = 1#1), ∀ (k0_h6 : k0_cond6 i v60 = 1#1), ∀ a, (k0_off377 v566) a + S1x4096.size a ≤ S4096x4096.size a := fun i v60 v566 k0_hw238 k0_h5 k0_h6 => k0_hw238 k0_h5 k0_h6

def k0_off378 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_390 : BitVec 32 := 8#32
  let v572 : BitVec 32 := Scalar.muli v4 c8_i32_390
  let c5_i32_391 : BitVec 32 := 5#32
  let v573 : BitVec 32 := Scalar.addi v572 c5_i32_391
  let c8_i32_392 : BitVec 32 := 8#32
  let v574 : BitVec 32 := Scalar.muli v573 c8_i32_392
  let c6_i32_393 : BitVec 32 := 6#32
  let v575 : BitVec 32 := Scalar.addi v574 c6_i32_393
  let v576 : Index := Scalar.indexCast v575
  ![v576.toNat]
def k0_off379 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off380 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c6_i32_394 : BitVec 32 := 6#32
  let c5_i32_395 : BitVec 32 := 5#32
  let c0_i32_396 : BitVec 32 := 0#32
  ![v41.toNat, 6, 5, 0]
def k0_off381 (v577 : BitVec 32) : Fin 2 → Nat :=
  let c0_i32_397 : BitVec 32 := 0#32
  ![v577.toNat, 0]

def k0_chk239 (i : grid0.Coords) (v60 : BitVec 32) (v577 : BitVec 32) : Prop :=
  (∀ (k0_h5 : k0_cond5 i = 1#1), ∀ (k0_h6 : k0_cond6 i v60 = 1#1), ∀ a, (k0_off381 v577) a + S1x4096.size a ≤ S4096x4096.size a)
theorem k0_off381_inb : ∀ (i : grid0.Coords) (v60 : BitVec 32) (v577 : BitVec 32) (k0_hw239 : k0_chk239 i v60 v577), ∀ (k0_h5 : k0_cond5 i = 1#1), ∀ (k0_h6 : k0_cond6 i v60 = 1#1), ∀ a, (k0_off381 v577) a + S1x4096.size a ≤ S4096x4096.size a := fun i v60 v577 k0_hw239 k0_h5 k0_h6 => k0_hw239 k0_h5 k0_h6

def k0_off382 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_398 : BitVec 32 := 8#32
  let v583 : BitVec 32 := Scalar.muli v4 c8_i32_398
  let c5_i32_399 : BitVec 32 := 5#32
  let v584 : BitVec 32 := Scalar.addi v583 c5_i32_399
  let c8_i32_400 : BitVec 32 := 8#32
  let v585 : BitVec 32 := Scalar.muli v584 c8_i32_400
  let c7_i32_401 : BitVec 32 := 7#32
  let v586 : BitVec 32 := Scalar.addi v585 c7_i32_401
  let v587 : Index := Scalar.indexCast v586
  ![v587.toNat]
def k0_off383 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off384 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c7_i32_402 : BitVec 32 := 7#32
  let c5_i32_403 : BitVec 32 := 5#32
  let c0_i32_404 : BitVec 32 := 0#32
  ![v41.toNat, 7, 5, 0]
def k0_off385 (v588 : BitVec 32) : Fin 2 → Nat :=
  let c0_i32_405 : BitVec 32 := 0#32
  ![v588.toNat, 0]

def k0_chk240 (i : grid0.Coords) (v60 : BitVec 32) (v588 : BitVec 32) : Prop :=
  (∀ (k0_h5 : k0_cond5 i = 1#1), ∀ (k0_h6 : k0_cond6 i v60 = 1#1), ∀ a, (k0_off385 v588) a + S1x4096.size a ≤ S4096x4096.size a)
theorem k0_off385_inb : ∀ (i : grid0.Coords) (v60 : BitVec 32) (v588 : BitVec 32) (k0_hw240 : k0_chk240 i v60 v588), ∀ (k0_h5 : k0_cond5 i = 1#1), ∀ (k0_h6 : k0_cond6 i v60 = 1#1), ∀ a, (k0_off385 v588) a + S1x4096.size a ≤ S4096x4096.size a := fun i v60 v588 k0_hw240 k0_h5 k0_h6 => k0_hw240 k0_h5 k0_h6

def k0_off386 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_406 : BitVec 32 := 8#32
  let v594 : BitVec 32 := Scalar.muli v4 c8_i32_406
  let c6_i32_407 : BitVec 32 := 6#32
  let v595 : BitVec 32 := Scalar.addi v594 c6_i32_407
  let c8_i32_408 : BitVec 32 := 8#32
  let v596 : BitVec 32 := Scalar.muli v595 c8_i32_408
  let c0_i32_409 : BitVec 32 := 0#32
  let v597 : BitVec 32 := Scalar.addi v596 c0_i32_409
  let v598 : Index := Scalar.indexCast v597
  ![v598.toNat]
def k0_off387 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off388 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c0_i32_410 : BitVec 32 := 0#32
  let c6_i32_411 : BitVec 32 := 6#32
  let c0_i32_412 : BitVec 32 := 0#32
  ![v41.toNat, 0, 6, 0]
def k0_off389 (v599 : BitVec 32) : Fin 2 → Nat :=
  let c0_i32_413 : BitVec 32 := 0#32
  ![v599.toNat, 0]

def k0_chk241 (i : grid0.Coords) (v60 : BitVec 32) (v599 : BitVec 32) : Prop :=
  (∀ (k0_h5 : k0_cond5 i = 1#1), ∀ (k0_h6 : k0_cond6 i v60 = 1#1), ∀ a, (k0_off389 v599) a + S1x4096.size a ≤ S4096x4096.size a)
theorem k0_off389_inb : ∀ (i : grid0.Coords) (v60 : BitVec 32) (v599 : BitVec 32) (k0_hw241 : k0_chk241 i v60 v599), ∀ (k0_h5 : k0_cond5 i = 1#1), ∀ (k0_h6 : k0_cond6 i v60 = 1#1), ∀ a, (k0_off389 v599) a + S1x4096.size a ≤ S4096x4096.size a := fun i v60 v599 k0_hw241 k0_h5 k0_h6 => k0_hw241 k0_h5 k0_h6

def k0_off390 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_414 : BitVec 32 := 8#32
  let v605 : BitVec 32 := Scalar.muli v4 c8_i32_414
  let c6_i32_415 : BitVec 32 := 6#32
  let v606 : BitVec 32 := Scalar.addi v605 c6_i32_415
  let c8_i32_416 : BitVec 32 := 8#32
  let v607 : BitVec 32 := Scalar.muli v606 c8_i32_416
  let c1_i32_417 : BitVec 32 := 1#32
  let v608 : BitVec 32 := Scalar.addi v607 c1_i32_417
  let v609 : Index := Scalar.indexCast v608
  ![v609.toNat]
def k0_off391 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off392 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c1_i32_418 : BitVec 32 := 1#32
  let c6_i32_419 : BitVec 32 := 6#32
  let c0_i32_420 : BitVec 32 := 0#32
  ![v41.toNat, 1, 6, 0]
def k0_off393 (v610 : BitVec 32) : Fin 2 → Nat :=
  let c0_i32_421 : BitVec 32 := 0#32
  ![v610.toNat, 0]

def k0_chk242 (i : grid0.Coords) (v60 : BitVec 32) (v610 : BitVec 32) : Prop :=
  (∀ (k0_h5 : k0_cond5 i = 1#1), ∀ (k0_h6 : k0_cond6 i v60 = 1#1), ∀ a, (k0_off393 v610) a + S1x4096.size a ≤ S4096x4096.size a)
theorem k0_off393_inb : ∀ (i : grid0.Coords) (v60 : BitVec 32) (v610 : BitVec 32) (k0_hw242 : k0_chk242 i v60 v610), ∀ (k0_h5 : k0_cond5 i = 1#1), ∀ (k0_h6 : k0_cond6 i v60 = 1#1), ∀ a, (k0_off393 v610) a + S1x4096.size a ≤ S4096x4096.size a := fun i v60 v610 k0_hw242 k0_h5 k0_h6 => k0_hw242 k0_h5 k0_h6

def k0_off394 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_422 : BitVec 32 := 8#32
  let v616 : BitVec 32 := Scalar.muli v4 c8_i32_422
  let c6_i32_423 : BitVec 32 := 6#32
  let v617 : BitVec 32 := Scalar.addi v616 c6_i32_423
  let c8_i32_424 : BitVec 32 := 8#32
  let v618 : BitVec 32 := Scalar.muli v617 c8_i32_424
  let c2_i32_425 : BitVec 32 := 2#32
  let v619 : BitVec 32 := Scalar.addi v618 c2_i32_425
  let v620 : Index := Scalar.indexCast v619
  ![v620.toNat]
def k0_off395 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off396 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c2_i32_426 : BitVec 32 := 2#32
  let c6_i32_427 : BitVec 32 := 6#32
  let c0_i32_428 : BitVec 32 := 0#32
  ![v41.toNat, 2, 6, 0]
def k0_off397 (v621 : BitVec 32) : Fin 2 → Nat :=
  let c0_i32_429 : BitVec 32 := 0#32
  ![v621.toNat, 0]

def k0_chk243 (i : grid0.Coords) (v60 : BitVec 32) (v621 : BitVec 32) : Prop :=
  (∀ (k0_h5 : k0_cond5 i = 1#1), ∀ (k0_h6 : k0_cond6 i v60 = 1#1), ∀ a, (k0_off397 v621) a + S1x4096.size a ≤ S4096x4096.size a)
theorem k0_off397_inb : ∀ (i : grid0.Coords) (v60 : BitVec 32) (v621 : BitVec 32) (k0_hw243 : k0_chk243 i v60 v621), ∀ (k0_h5 : k0_cond5 i = 1#1), ∀ (k0_h6 : k0_cond6 i v60 = 1#1), ∀ a, (k0_off397 v621) a + S1x4096.size a ≤ S4096x4096.size a := fun i v60 v621 k0_hw243 k0_h5 k0_h6 => k0_hw243 k0_h5 k0_h6

def k0_off398 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_430 : BitVec 32 := 8#32
  let v627 : BitVec 32 := Scalar.muli v4 c8_i32_430
  let c6_i32_431 : BitVec 32 := 6#32
  let v628 : BitVec 32 := Scalar.addi v627 c6_i32_431
  let c8_i32_432 : BitVec 32 := 8#32
  let v629 : BitVec 32 := Scalar.muli v628 c8_i32_432
  let c3_i32_433 : BitVec 32 := 3#32
  let v630 : BitVec 32 := Scalar.addi v629 c3_i32_433
  let v631 : Index := Scalar.indexCast v630
  ![v631.toNat]
def k0_off399 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off400 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c3_i32_434 : BitVec 32 := 3#32
  let c6_i32_435 : BitVec 32 := 6#32
  let c0_i32_436 : BitVec 32 := 0#32
  ![v41.toNat, 3, 6, 0]
def k0_off401 (v632 : BitVec 32) : Fin 2 → Nat :=
  let c0_i32_437 : BitVec 32 := 0#32
  ![v632.toNat, 0]

def k0_chk244 (i : grid0.Coords) (v60 : BitVec 32) (v632 : BitVec 32) : Prop :=
  (∀ (k0_h5 : k0_cond5 i = 1#1), ∀ (k0_h6 : k0_cond6 i v60 = 1#1), ∀ a, (k0_off401 v632) a + S1x4096.size a ≤ S4096x4096.size a)
theorem k0_off401_inb : ∀ (i : grid0.Coords) (v60 : BitVec 32) (v632 : BitVec 32) (k0_hw244 : k0_chk244 i v60 v632), ∀ (k0_h5 : k0_cond5 i = 1#1), ∀ (k0_h6 : k0_cond6 i v60 = 1#1), ∀ a, (k0_off401 v632) a + S1x4096.size a ≤ S4096x4096.size a := fun i v60 v632 k0_hw244 k0_h5 k0_h6 => k0_hw244 k0_h5 k0_h6

def k0_off402 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_438 : BitVec 32 := 8#32
  let v638 : BitVec 32 := Scalar.muli v4 c8_i32_438
  let c6_i32_439 : BitVec 32 := 6#32
  let v639 : BitVec 32 := Scalar.addi v638 c6_i32_439
  let c8_i32_440 : BitVec 32 := 8#32
  let v640 : BitVec 32 := Scalar.muli v639 c8_i32_440
  let c4_i32_441 : BitVec 32 := 4#32
  let v641 : BitVec 32 := Scalar.addi v640 c4_i32_441
  let v642 : Index := Scalar.indexCast v641
  ![v642.toNat]
def k0_off403 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off404 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c4_i32_442 : BitVec 32 := 4#32
  let c6_i32_443 : BitVec 32 := 6#32
  let c0_i32_444 : BitVec 32 := 0#32
  ![v41.toNat, 4, 6, 0]
def k0_off405 (v643 : BitVec 32) : Fin 2 → Nat :=
  let c0_i32_445 : BitVec 32 := 0#32
  ![v643.toNat, 0]

def k0_chk245 (i : grid0.Coords) (v60 : BitVec 32) (v643 : BitVec 32) : Prop :=
  (∀ (k0_h5 : k0_cond5 i = 1#1), ∀ (k0_h6 : k0_cond6 i v60 = 1#1), ∀ a, (k0_off405 v643) a + S1x4096.size a ≤ S4096x4096.size a)
theorem k0_off405_inb : ∀ (i : grid0.Coords) (v60 : BitVec 32) (v643 : BitVec 32) (k0_hw245 : k0_chk245 i v60 v643), ∀ (k0_h5 : k0_cond5 i = 1#1), ∀ (k0_h6 : k0_cond6 i v60 = 1#1), ∀ a, (k0_off405 v643) a + S1x4096.size a ≤ S4096x4096.size a := fun i v60 v643 k0_hw245 k0_h5 k0_h6 => k0_hw245 k0_h5 k0_h6

def k0_off406 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_446 : BitVec 32 := 8#32
  let v649 : BitVec 32 := Scalar.muli v4 c8_i32_446
  let c6_i32_447 : BitVec 32 := 6#32
  let v650 : BitVec 32 := Scalar.addi v649 c6_i32_447
  let c8_i32_448 : BitVec 32 := 8#32
  let v651 : BitVec 32 := Scalar.muli v650 c8_i32_448
  let c5_i32_449 : BitVec 32 := 5#32
  let v652 : BitVec 32 := Scalar.addi v651 c5_i32_449
  let v653 : Index := Scalar.indexCast v652
  ![v653.toNat]
def k0_off407 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off408 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c5_i32_450 : BitVec 32 := 5#32
  let c6_i32_451 : BitVec 32 := 6#32
  let c0_i32_452 : BitVec 32 := 0#32
  ![v41.toNat, 5, 6, 0]
def k0_off409 (v654 : BitVec 32) : Fin 2 → Nat :=
  let c0_i32_453 : BitVec 32 := 0#32
  ![v654.toNat, 0]

def k0_chk246 (i : grid0.Coords) (v60 : BitVec 32) (v654 : BitVec 32) : Prop :=
  (∀ (k0_h5 : k0_cond5 i = 1#1), ∀ (k0_h6 : k0_cond6 i v60 = 1#1), ∀ a, (k0_off409 v654) a + S1x4096.size a ≤ S4096x4096.size a)
theorem k0_off409_inb : ∀ (i : grid0.Coords) (v60 : BitVec 32) (v654 : BitVec 32) (k0_hw246 : k0_chk246 i v60 v654), ∀ (k0_h5 : k0_cond5 i = 1#1), ∀ (k0_h6 : k0_cond6 i v60 = 1#1), ∀ a, (k0_off409 v654) a + S1x4096.size a ≤ S4096x4096.size a := fun i v60 v654 k0_hw246 k0_h5 k0_h6 => k0_hw246 k0_h5 k0_h6

def k0_off410 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_454 : BitVec 32 := 8#32
  let v660 : BitVec 32 := Scalar.muli v4 c8_i32_454
  let c6_i32_455 : BitVec 32 := 6#32
  let v661 : BitVec 32 := Scalar.addi v660 c6_i32_455
  let c8_i32_456 : BitVec 32 := 8#32
  let v662 : BitVec 32 := Scalar.muli v661 c8_i32_456
  let c6_i32_457 : BitVec 32 := 6#32
  let v663 : BitVec 32 := Scalar.addi v662 c6_i32_457
  let v664 : Index := Scalar.indexCast v663
  ![v664.toNat]
def k0_off411 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off412 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c6_i32_458 : BitVec 32 := 6#32
  let c6_i32_459 : BitVec 32 := 6#32
  let c0_i32_460 : BitVec 32 := 0#32
  ![v41.toNat, 6, 6, 0]
def k0_off413 (v665 : BitVec 32) : Fin 2 → Nat :=
  let c0_i32_461 : BitVec 32 := 0#32
  ![v665.toNat, 0]

def k0_chk247 (i : grid0.Coords) (v60 : BitVec 32) (v665 : BitVec 32) : Prop :=
  (∀ (k0_h5 : k0_cond5 i = 1#1), ∀ (k0_h6 : k0_cond6 i v60 = 1#1), ∀ a, (k0_off413 v665) a + S1x4096.size a ≤ S4096x4096.size a)
theorem k0_off413_inb : ∀ (i : grid0.Coords) (v60 : BitVec 32) (v665 : BitVec 32) (k0_hw247 : k0_chk247 i v60 v665), ∀ (k0_h5 : k0_cond5 i = 1#1), ∀ (k0_h6 : k0_cond6 i v60 = 1#1), ∀ a, (k0_off413 v665) a + S1x4096.size a ≤ S4096x4096.size a := fun i v60 v665 k0_hw247 k0_h5 k0_h6 => k0_hw247 k0_h5 k0_h6

def k0_off414 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_462 : BitVec 32 := 8#32
  let v671 : BitVec 32 := Scalar.muli v4 c8_i32_462
  let c6_i32_463 : BitVec 32 := 6#32
  let v672 : BitVec 32 := Scalar.addi v671 c6_i32_463
  let c8_i32_464 : BitVec 32 := 8#32
  let v673 : BitVec 32 := Scalar.muli v672 c8_i32_464
  let c7_i32_465 : BitVec 32 := 7#32
  let v674 : BitVec 32 := Scalar.addi v673 c7_i32_465
  let v675 : Index := Scalar.indexCast v674
  ![v675.toNat]
def k0_off415 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off416 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c7_i32_466 : BitVec 32 := 7#32
  let c6_i32_467 : BitVec 32 := 6#32
  let c0_i32_468 : BitVec 32 := 0#32
  ![v41.toNat, 7, 6, 0]
def k0_off417 (v676 : BitVec 32) : Fin 2 → Nat :=
  let c0_i32_469 : BitVec 32 := 0#32
  ![v676.toNat, 0]

def k0_chk248 (i : grid0.Coords) (v60 : BitVec 32) (v676 : BitVec 32) : Prop :=
  (∀ (k0_h5 : k0_cond5 i = 1#1), ∀ (k0_h6 : k0_cond6 i v60 = 1#1), ∀ a, (k0_off417 v676) a + S1x4096.size a ≤ S4096x4096.size a)
theorem k0_off417_inb : ∀ (i : grid0.Coords) (v60 : BitVec 32) (v676 : BitVec 32) (k0_hw248 : k0_chk248 i v60 v676), ∀ (k0_h5 : k0_cond5 i = 1#1), ∀ (k0_h6 : k0_cond6 i v60 = 1#1), ∀ a, (k0_off417 v676) a + S1x4096.size a ≤ S4096x4096.size a := fun i v60 v676 k0_hw248 k0_h5 k0_h6 => k0_hw248 k0_h5 k0_h6

def k0_off418 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_470 : BitVec 32 := 8#32
  let v682 : BitVec 32 := Scalar.muli v4 c8_i32_470
  let c7_i32_471 : BitVec 32 := 7#32
  let v683 : BitVec 32 := Scalar.addi v682 c7_i32_471
  let c8_i32_472 : BitVec 32 := 8#32
  let v684 : BitVec 32 := Scalar.muli v683 c8_i32_472
  let c0_i32_473 : BitVec 32 := 0#32
  let v685 : BitVec 32 := Scalar.addi v684 c0_i32_473
  let v686 : Index := Scalar.indexCast v685
  ![v686.toNat]
def k0_off419 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off420 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c0_i32_474 : BitVec 32 := 0#32
  let c7_i32_475 : BitVec 32 := 7#32
  let c0_i32_476 : BitVec 32 := 0#32
  ![v41.toNat, 0, 7, 0]
def k0_off421 (v687 : BitVec 32) : Fin 2 → Nat :=
  let c0_i32_477 : BitVec 32 := 0#32
  ![v687.toNat, 0]

def k0_chk249 (i : grid0.Coords) (v60 : BitVec 32) (v687 : BitVec 32) : Prop :=
  (∀ (k0_h5 : k0_cond5 i = 1#1), ∀ (k0_h6 : k0_cond6 i v60 = 1#1), ∀ a, (k0_off421 v687) a + S1x4096.size a ≤ S4096x4096.size a)
theorem k0_off421_inb : ∀ (i : grid0.Coords) (v60 : BitVec 32) (v687 : BitVec 32) (k0_hw249 : k0_chk249 i v60 v687), ∀ (k0_h5 : k0_cond5 i = 1#1), ∀ (k0_h6 : k0_cond6 i v60 = 1#1), ∀ a, (k0_off421 v687) a + S1x4096.size a ≤ S4096x4096.size a := fun i v60 v687 k0_hw249 k0_h5 k0_h6 => k0_hw249 k0_h5 k0_h6

def k0_off422 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_478 : BitVec 32 := 8#32
  let v693 : BitVec 32 := Scalar.muli v4 c8_i32_478
  let c7_i32_479 : BitVec 32 := 7#32
  let v694 : BitVec 32 := Scalar.addi v693 c7_i32_479
  let c8_i32_480 : BitVec 32 := 8#32
  let v695 : BitVec 32 := Scalar.muli v694 c8_i32_480
  let c1_i32_481 : BitVec 32 := 1#32
  let v696 : BitVec 32 := Scalar.addi v695 c1_i32_481
  let v697 : Index := Scalar.indexCast v696
  ![v697.toNat]
def k0_off423 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off424 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c1_i32_482 : BitVec 32 := 1#32
  let c7_i32_483 : BitVec 32 := 7#32
  let c0_i32_484 : BitVec 32 := 0#32
  ![v41.toNat, 1, 7, 0]
def k0_off425 (v698 : BitVec 32) : Fin 2 → Nat :=
  let c0_i32_485 : BitVec 32 := 0#32
  ![v698.toNat, 0]

def k0_chk250 (i : grid0.Coords) (v60 : BitVec 32) (v698 : BitVec 32) : Prop :=
  (∀ (k0_h5 : k0_cond5 i = 1#1), ∀ (k0_h6 : k0_cond6 i v60 = 1#1), ∀ a, (k0_off425 v698) a + S1x4096.size a ≤ S4096x4096.size a)
theorem k0_off425_inb : ∀ (i : grid0.Coords) (v60 : BitVec 32) (v698 : BitVec 32) (k0_hw250 : k0_chk250 i v60 v698), ∀ (k0_h5 : k0_cond5 i = 1#1), ∀ (k0_h6 : k0_cond6 i v60 = 1#1), ∀ a, (k0_off425 v698) a + S1x4096.size a ≤ S4096x4096.size a := fun i v60 v698 k0_hw250 k0_h5 k0_h6 => k0_hw250 k0_h5 k0_h6

def k0_off426 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_486 : BitVec 32 := 8#32
  let v704 : BitVec 32 := Scalar.muli v4 c8_i32_486
  let c7_i32_487 : BitVec 32 := 7#32
  let v705 : BitVec 32 := Scalar.addi v704 c7_i32_487
  let c8_i32_488 : BitVec 32 := 8#32
  let v706 : BitVec 32 := Scalar.muli v705 c8_i32_488
  let c2_i32_489 : BitVec 32 := 2#32
  let v707 : BitVec 32 := Scalar.addi v706 c2_i32_489
  let v708 : Index := Scalar.indexCast v707
  ![v708.toNat]
def k0_off427 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off428 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c2_i32_490 : BitVec 32 := 2#32
  let c7_i32_491 : BitVec 32 := 7#32
  let c0_i32_492 : BitVec 32 := 0#32
  ![v41.toNat, 2, 7, 0]
def k0_off429 (v709 : BitVec 32) : Fin 2 → Nat :=
  let c0_i32_493 : BitVec 32 := 0#32
  ![v709.toNat, 0]

def k0_chk251 (i : grid0.Coords) (v60 : BitVec 32) (v709 : BitVec 32) : Prop :=
  (∀ (k0_h5 : k0_cond5 i = 1#1), ∀ (k0_h6 : k0_cond6 i v60 = 1#1), ∀ a, (k0_off429 v709) a + S1x4096.size a ≤ S4096x4096.size a)
theorem k0_off429_inb : ∀ (i : grid0.Coords) (v60 : BitVec 32) (v709 : BitVec 32) (k0_hw251 : k0_chk251 i v60 v709), ∀ (k0_h5 : k0_cond5 i = 1#1), ∀ (k0_h6 : k0_cond6 i v60 = 1#1), ∀ a, (k0_off429 v709) a + S1x4096.size a ≤ S4096x4096.size a := fun i v60 v709 k0_hw251 k0_h5 k0_h6 => k0_hw251 k0_h5 k0_h6

def k0_off430 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_494 : BitVec 32 := 8#32
  let v715 : BitVec 32 := Scalar.muli v4 c8_i32_494
  let c7_i32_495 : BitVec 32 := 7#32
  let v716 : BitVec 32 := Scalar.addi v715 c7_i32_495
  let c8_i32_496 : BitVec 32 := 8#32
  let v717 : BitVec 32 := Scalar.muli v716 c8_i32_496
  let c3_i32_497 : BitVec 32 := 3#32
  let v718 : BitVec 32 := Scalar.addi v717 c3_i32_497
  let v719 : Index := Scalar.indexCast v718
  ![v719.toNat]
def k0_off431 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off432 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c3_i32_498 : BitVec 32 := 3#32
  let c7_i32_499 : BitVec 32 := 7#32
  let c0_i32_500 : BitVec 32 := 0#32
  ![v41.toNat, 3, 7, 0]
def k0_off433 (v720 : BitVec 32) : Fin 2 → Nat :=
  let c0_i32_501 : BitVec 32 := 0#32
  ![v720.toNat, 0]

def k0_chk252 (i : grid0.Coords) (v60 : BitVec 32) (v720 : BitVec 32) : Prop :=
  (∀ (k0_h5 : k0_cond5 i = 1#1), ∀ (k0_h6 : k0_cond6 i v60 = 1#1), ∀ a, (k0_off433 v720) a + S1x4096.size a ≤ S4096x4096.size a)
theorem k0_off433_inb : ∀ (i : grid0.Coords) (v60 : BitVec 32) (v720 : BitVec 32) (k0_hw252 : k0_chk252 i v60 v720), ∀ (k0_h5 : k0_cond5 i = 1#1), ∀ (k0_h6 : k0_cond6 i v60 = 1#1), ∀ a, (k0_off433 v720) a + S1x4096.size a ≤ S4096x4096.size a := fun i v60 v720 k0_hw252 k0_h5 k0_h6 => k0_hw252 k0_h5 k0_h6

def k0_off434 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_502 : BitVec 32 := 8#32
  let v726 : BitVec 32 := Scalar.muli v4 c8_i32_502
  let c7_i32_503 : BitVec 32 := 7#32
  let v727 : BitVec 32 := Scalar.addi v726 c7_i32_503
  let c8_i32_504 : BitVec 32 := 8#32
  let v728 : BitVec 32 := Scalar.muli v727 c8_i32_504
  let c4_i32_505 : BitVec 32 := 4#32
  let v729 : BitVec 32 := Scalar.addi v728 c4_i32_505
  let v730 : Index := Scalar.indexCast v729
  ![v730.toNat]
def k0_off435 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off436 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c4_i32_506 : BitVec 32 := 4#32
  let c7_i32_507 : BitVec 32 := 7#32
  let c0_i32_508 : BitVec 32 := 0#32
  ![v41.toNat, 4, 7, 0]
def k0_off437 (v731 : BitVec 32) : Fin 2 → Nat :=
  let c0_i32_509 : BitVec 32 := 0#32
  ![v731.toNat, 0]

def k0_chk253 (i : grid0.Coords) (v60 : BitVec 32) (v731 : BitVec 32) : Prop :=
  (∀ (k0_h5 : k0_cond5 i = 1#1), ∀ (k0_h6 : k0_cond6 i v60 = 1#1), ∀ a, (k0_off437 v731) a + S1x4096.size a ≤ S4096x4096.size a)
theorem k0_off437_inb : ∀ (i : grid0.Coords) (v60 : BitVec 32) (v731 : BitVec 32) (k0_hw253 : k0_chk253 i v60 v731), ∀ (k0_h5 : k0_cond5 i = 1#1), ∀ (k0_h6 : k0_cond6 i v60 = 1#1), ∀ a, (k0_off437 v731) a + S1x4096.size a ≤ S4096x4096.size a := fun i v60 v731 k0_hw253 k0_h5 k0_h6 => k0_hw253 k0_h5 k0_h6

def k0_off438 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_510 : BitVec 32 := 8#32
  let v737 : BitVec 32 := Scalar.muli v4 c8_i32_510
  let c7_i32_511 : BitVec 32 := 7#32
  let v738 : BitVec 32 := Scalar.addi v737 c7_i32_511
  let c8_i32_512 : BitVec 32 := 8#32
  let v739 : BitVec 32 := Scalar.muli v738 c8_i32_512
  let c5_i32_513 : BitVec 32 := 5#32
  let v740 : BitVec 32 := Scalar.addi v739 c5_i32_513
  let v741 : Index := Scalar.indexCast v740
  ![v741.toNat]
def k0_off439 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off440 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c5_i32_514 : BitVec 32 := 5#32
  let c7_i32_515 : BitVec 32 := 7#32
  let c0_i32_516 : BitVec 32 := 0#32
  ![v41.toNat, 5, 7, 0]
def k0_off441 (v742 : BitVec 32) : Fin 2 → Nat :=
  let c0_i32_517 : BitVec 32 := 0#32
  ![v742.toNat, 0]

def k0_chk254 (i : grid0.Coords) (v60 : BitVec 32) (v742 : BitVec 32) : Prop :=
  (∀ (k0_h5 : k0_cond5 i = 1#1), ∀ (k0_h6 : k0_cond6 i v60 = 1#1), ∀ a, (k0_off441 v742) a + S1x4096.size a ≤ S4096x4096.size a)
theorem k0_off441_inb : ∀ (i : grid0.Coords) (v60 : BitVec 32) (v742 : BitVec 32) (k0_hw254 : k0_chk254 i v60 v742), ∀ (k0_h5 : k0_cond5 i = 1#1), ∀ (k0_h6 : k0_cond6 i v60 = 1#1), ∀ a, (k0_off441 v742) a + S1x4096.size a ≤ S4096x4096.size a := fun i v60 v742 k0_hw254 k0_h5 k0_h6 => k0_hw254 k0_h5 k0_h6

def k0_off442 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_518 : BitVec 32 := 8#32
  let v748 : BitVec 32 := Scalar.muli v4 c8_i32_518
  let c7_i32_519 : BitVec 32 := 7#32
  let v749 : BitVec 32 := Scalar.addi v748 c7_i32_519
  let c8_i32_520 : BitVec 32 := 8#32
  let v750 : BitVec 32 := Scalar.muli v749 c8_i32_520
  let c6_i32_521 : BitVec 32 := 6#32
  let v751 : BitVec 32 := Scalar.addi v750 c6_i32_521
  let v752 : Index := Scalar.indexCast v751
  ![v752.toNat]
def k0_off443 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off444 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c6_i32_522 : BitVec 32 := 6#32
  let c7_i32_523 : BitVec 32 := 7#32
  let c0_i32_524 : BitVec 32 := 0#32
  ![v41.toNat, 6, 7, 0]
def k0_off445 (v753 : BitVec 32) : Fin 2 → Nat :=
  let c0_i32_525 : BitVec 32 := 0#32
  ![v753.toNat, 0]

def k0_chk255 (i : grid0.Coords) (v60 : BitVec 32) (v753 : BitVec 32) : Prop :=
  (∀ (k0_h5 : k0_cond5 i = 1#1), ∀ (k0_h6 : k0_cond6 i v60 = 1#1), ∀ a, (k0_off445 v753) a + S1x4096.size a ≤ S4096x4096.size a)
theorem k0_off445_inb : ∀ (i : grid0.Coords) (v60 : BitVec 32) (v753 : BitVec 32) (k0_hw255 : k0_chk255 i v60 v753), ∀ (k0_h5 : k0_cond5 i = 1#1), ∀ (k0_h6 : k0_cond6 i v60 = 1#1), ∀ a, (k0_off445 v753) a + S1x4096.size a ≤ S4096x4096.size a := fun i v60 v753 k0_hw255 k0_h5 k0_h6 => k0_hw255 k0_h5 k0_h6

def k0_off446 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c8_i32_526 : BitVec 32 := 8#32
  let v759 : BitVec 32 := Scalar.muli v4 c8_i32_526
  let c7_i32_527 : BitVec 32 := 7#32
  let v760 : BitVec 32 := Scalar.addi v759 c7_i32_527
  let c8_i32_528 : BitVec 32 := 8#32
  let v761 : BitVec 32 := Scalar.muli v760 c8_i32_528
  let c7_i32_529 : BitVec 32 := 7#32
  let v762 : BitVec 32 := Scalar.addi v761 c7_i32_529
  let v763 : Index := Scalar.indexCast v762
  ![v763.toNat]
def k0_off447 (i : grid0.Coords) : Fin 1 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  ![v41.toNat]
def k0_off448 (i : grid0.Coords) : Fin 4 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c4_i32_16 : BitVec 32 := 4#32
  let v41 : BitVec 32 := Scalar.remsi v4 c4_i32_16
  let c7_i32_530 : BitVec 32 := 7#32
  let c7_i32_531 : BitVec 32 := 7#32
  let c0_i32_532 : BitVec 32 := 0#32
  ![v41.toNat, 7, 7, 0]
def k0_off449 (v764 : BitVec 32) : Fin 2 → Nat :=
  let c0_i32_533 : BitVec 32 := 0#32
  ![v764.toNat, 0]

def k0_chk256 (i : grid0.Coords) (v60 : BitVec 32) (v764 : BitVec 32) : Prop :=
  (∀ (k0_h5 : k0_cond5 i = 1#1), ∀ (k0_h6 : k0_cond6 i v60 = 1#1), ∀ a, (k0_off449 v764) a + S1x4096.size a ≤ S4096x4096.size a)
theorem k0_off449_inb : ∀ (i : grid0.Coords) (v60 : BitVec 32) (v764 : BitVec 32) (k0_hw256 : k0_chk256 i v60 v764), ∀ (k0_h5 : k0_cond5 i = 1#1), ∀ (k0_h6 : k0_cond6 i v60 = 1#1), ∀ a, (k0_off449 v764) a + S1x4096.size a ≤ S4096x4096.size a := fun i v60 v764 k0_hw256 k0_h5 k0_h6 => k0_hw256 k0_h5 k0_h6

def k0_off450 (i : grid0.Coords) : Fin 1 → Nat :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32_3 : BitVec 32 := 4#32
  let c0_i32_6 : BitVec 32 := 0#32
  let v15 : BitVec 1 := Scalar.cmpi .sgt c4_i32_3 c0_i32_6
  let v16 : BitVec 32 := Scalar.extui v15
  let c0_i32_7 : BitVec 32 := 0#32
  let v17 : BitVec 1 := Scalar.cmpi .slt c4_i32_3 c0_i32_7
  let v18 : BitVec 32 := Scalar.extui v17
  let v19 : BitVec 32 := Scalar.subi v16 v18
  let v20 : BitVec 1 := Scalar.cmpi .ne v14 v19
  let v21 : BitVec 32 := Scalar.remsi arg0 c4_i32_3
  let c0_i32_8 : BitVec 32 := 0#32
  let v22 : BitVec 1 := Scalar.cmpi .ne v21 c0_i32_8
  let v23 : BitVec 1 := Scalar.andi v20 v22
  let v9 : BitVec 32 := Scalar.divsi arg0 c4_i32_3
  let c1_i32_9 : BitVec 32 := 1#32
  let v24 : BitVec 32 := Scalar.subi v9 c1_i32_9
  let v25 : BitVec 32 := Scalar.select v23 v24 v9
  let v26 : Index := Scalar.indexCast v25
  ![v26.toNat]
def k0_off451 (i : grid0.Coords) : Fin 1 → Nat :=
  let arg0 : BitVec 32 := BitVec.ofNat 32 (i 0).val
  let c4_i32_2 : BitVec 32 := 4#32
  let v8 : BitVec 32 := Scalar.remsi arg0 c4_i32_2
  ![v8.toNat]
def k0_off452 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_16 : BitVec 32 := 0#32
  let c0_i32_17 : BitVec 32 := 0#32
  let c0_i32_18 : BitVec 32 := 0#32
  ![v8.toNat, 0, 0, 0]
def k0_off453 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_21 : BitVec 32 := 1#32
  let c0_i32_22 : BitVec 32 := 0#32
  let c0_i32_23 : BitVec 32 := 0#32
  ![v8.toNat, 1, 0, 0]
def k0_off454 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32 : BitVec 32 := 2#32
  let c0_i32_26 : BitVec 32 := 0#32
  let c0_i32_27 : BitVec 32 := 0#32
  ![v8.toNat, 2, 0, 0]
def k0_off455 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32 : BitVec 32 := 3#32
  let c0_i32_30 : BitVec 32 := 0#32
  let c0_i32_31 : BitVec 32 := 0#32
  ![v8.toNat, 3, 0, 0]
def k0_off456 (i : grid0.Coords) : Fin 4 → Nat :=
  let arg0 : BitVec 32 := BitVec.ofNat 32 (i 0).val
  let c4_i32_2 : BitVec 32 := 4#32
  let v8 : BitVec 32 := Scalar.remsi arg0 c4_i32_2
  let c4_i32_34 : BitVec 32 := 4#32
  let c0_i32_35 : BitVec 32 := 0#32
  let c0_i32_36 : BitVec 32 := 0#32
  ![v8.toNat, 4, 0, 0]
def k0_off457 (i : grid0.Coords) : Fin 4 → Nat :=
  let arg0 : BitVec 32 := BitVec.ofNat 32 (i 0).val
  let c4_i32_2 : BitVec 32 := 4#32
  let v8 : BitVec 32 := Scalar.remsi arg0 c4_i32_2
  let c5_i32 : BitVec 32 := 5#32
  let c0_i32_39 : BitVec 32 := 0#32
  let c0_i32_40 : BitVec 32 := 0#32
  ![v8.toNat, 5, 0, 0]
def k0_off458 (i : grid0.Coords) : Fin 4 → Nat :=
  let arg0 : BitVec 32 := BitVec.ofNat 32 (i 0).val
  let c4_i32_2 : BitVec 32 := 4#32
  let v8 : BitVec 32 := Scalar.remsi arg0 c4_i32_2
  let c6_i32 : BitVec 32 := 6#32
  let c0_i32_43 : BitVec 32 := 0#32
  let c0_i32_44 : BitVec 32 := 0#32
  ![v8.toNat, 6, 0, 0]
def k0_off459 (i : grid0.Coords) : Fin 4 → Nat :=
  let arg0 : BitVec 32 := BitVec.ofNat 32 (i 0).val
  let c4_i32_2 : BitVec 32 := 4#32
  let v8 : BitVec 32 := Scalar.remsi arg0 c4_i32_2
  let c7_i32 : BitVec 32 := 7#32
  let c0_i32_47 : BitVec 32 := 0#32
  let c0_i32_48 : BitVec 32 := 0#32
  ![v8.toNat, 7, 0, 0]
def k0_off460 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_51 : BitVec 32 := 0#32
  let c1_i32_52 : BitVec 32 := 1#32
  let c0_i32_53 : BitVec 32 := 0#32
  ![v8.toNat, 0, 1, 0]
def k0_off461 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_56 : BitVec 32 := 1#32
  let c1_i32_57 : BitVec 32 := 1#32
  let c0_i32_58 : BitVec 32 := 0#32
  ![v8.toNat, 1, 1, 0]
def k0_off462 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32_61 : BitVec 32 := 2#32
  let c1_i32_62 : BitVec 32 := 1#32
  let c0_i32_63 : BitVec 32 := 0#32
  ![v8.toNat, 2, 1, 0]
def k0_off463 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32_66 : BitVec 32 := 3#32
  let c1_i32_67 : BitVec 32 := 1#32
  let c0_i32_68 : BitVec 32 := 0#32
  ![v8.toNat, 3, 1, 0]
def k0_off464 (i : grid0.Coords) : Fin 4 → Nat :=
  let arg0 : BitVec 32 := BitVec.ofNat 32 (i 0).val
  let c4_i32_2 : BitVec 32 := 4#32
  let v8 : BitVec 32 := Scalar.remsi arg0 c4_i32_2
  let c4_i32_71 : BitVec 32 := 4#32
  let c1_i32_72 : BitVec 32 := 1#32
  let c0_i32_73 : BitVec 32 := 0#32
  ![v8.toNat, 4, 1, 0]
def k0_off465 (i : grid0.Coords) : Fin 4 → Nat :=
  let arg0 : BitVec 32 := BitVec.ofNat 32 (i 0).val
  let c4_i32_2 : BitVec 32 := 4#32
  let v8 : BitVec 32 := Scalar.remsi arg0 c4_i32_2
  let c5_i32_76 : BitVec 32 := 5#32
  let c1_i32_77 : BitVec 32 := 1#32
  let c0_i32_78 : BitVec 32 := 0#32
  ![v8.toNat, 5, 1, 0]
def k0_off466 (i : grid0.Coords) : Fin 4 → Nat :=
  let arg0 : BitVec 32 := BitVec.ofNat 32 (i 0).val
  let c4_i32_2 : BitVec 32 := 4#32
  let v8 : BitVec 32 := Scalar.remsi arg0 c4_i32_2
  let c6_i32_81 : BitVec 32 := 6#32
  let c1_i32_82 : BitVec 32 := 1#32
  let c0_i32_83 : BitVec 32 := 0#32
  ![v8.toNat, 6, 1, 0]
def k0_off467 (i : grid0.Coords) : Fin 4 → Nat :=
  let arg0 : BitVec 32 := BitVec.ofNat 32 (i 0).val
  let c4_i32_2 : BitVec 32 := 4#32
  let v8 : BitVec 32 := Scalar.remsi arg0 c4_i32_2
  let c7_i32_86 : BitVec 32 := 7#32
  let c1_i32_87 : BitVec 32 := 1#32
  let c0_i32_88 : BitVec 32 := 0#32
  ![v8.toNat, 7, 1, 0]
def k0_off468 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_91 : BitVec 32 := 0#32
  let c2_i32_92 : BitVec 32 := 2#32
  let c0_i32_93 : BitVec 32 := 0#32
  ![v8.toNat, 0, 2, 0]
def k0_off469 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_96 : BitVec 32 := 1#32
  let c2_i32_97 : BitVec 32 := 2#32
  let c0_i32_98 : BitVec 32 := 0#32
  ![v8.toNat, 1, 2, 0]
def k0_off470 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32_101 : BitVec 32 := 2#32
  let c2_i32_102 : BitVec 32 := 2#32
  let c0_i32_103 : BitVec 32 := 0#32
  ![v8.toNat, 2, 2, 0]
def k0_off471 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32_106 : BitVec 32 := 3#32
  let c2_i32_107 : BitVec 32 := 2#32
  let c0_i32_108 : BitVec 32 := 0#32
  ![v8.toNat, 3, 2, 0]
def k0_off472 (i : grid0.Coords) : Fin 4 → Nat :=
  let arg0 : BitVec 32 := BitVec.ofNat 32 (i 0).val
  let c4_i32_2 : BitVec 32 := 4#32
  let v8 : BitVec 32 := Scalar.remsi arg0 c4_i32_2
  let c4_i32_111 : BitVec 32 := 4#32
  let c2_i32_112 : BitVec 32 := 2#32
  let c0_i32_113 : BitVec 32 := 0#32
  ![v8.toNat, 4, 2, 0]
def k0_off473 (i : grid0.Coords) : Fin 4 → Nat :=
  let arg0 : BitVec 32 := BitVec.ofNat 32 (i 0).val
  let c4_i32_2 : BitVec 32 := 4#32
  let v8 : BitVec 32 := Scalar.remsi arg0 c4_i32_2
  let c5_i32_116 : BitVec 32 := 5#32
  let c2_i32_117 : BitVec 32 := 2#32
  let c0_i32_118 : BitVec 32 := 0#32
  ![v8.toNat, 5, 2, 0]
def k0_off474 (i : grid0.Coords) : Fin 4 → Nat :=
  let arg0 : BitVec 32 := BitVec.ofNat 32 (i 0).val
  let c4_i32_2 : BitVec 32 := 4#32
  let v8 : BitVec 32 := Scalar.remsi arg0 c4_i32_2
  let c6_i32_121 : BitVec 32 := 6#32
  let c2_i32_122 : BitVec 32 := 2#32
  let c0_i32_123 : BitVec 32 := 0#32
  ![v8.toNat, 6, 2, 0]
def k0_off475 (i : grid0.Coords) : Fin 4 → Nat :=
  let arg0 : BitVec 32 := BitVec.ofNat 32 (i 0).val
  let c4_i32_2 : BitVec 32 := 4#32
  let v8 : BitVec 32 := Scalar.remsi arg0 c4_i32_2
  let c7_i32_126 : BitVec 32 := 7#32
  let c2_i32_127 : BitVec 32 := 2#32
  let c0_i32_128 : BitVec 32 := 0#32
  ![v8.toNat, 7, 2, 0]
def k0_off476 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_131 : BitVec 32 := 0#32
  let c3_i32_132 : BitVec 32 := 3#32
  let c0_i32_133 : BitVec 32 := 0#32
  ![v8.toNat, 0, 3, 0]
def k0_off477 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_136 : BitVec 32 := 1#32
  let c3_i32_137 : BitVec 32 := 3#32
  let c0_i32_138 : BitVec 32 := 0#32
  ![v8.toNat, 1, 3, 0]
def k0_off478 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32_141 : BitVec 32 := 2#32
  let c3_i32_142 : BitVec 32 := 3#32
  let c0_i32_143 : BitVec 32 := 0#32
  ![v8.toNat, 2, 3, 0]
def k0_off479 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32_146 : BitVec 32 := 3#32
  let c3_i32_147 : BitVec 32 := 3#32
  let c0_i32_148 : BitVec 32 := 0#32
  ![v8.toNat, 3, 3, 0]
def k0_off480 (i : grid0.Coords) : Fin 4 → Nat :=
  let arg0 : BitVec 32 := BitVec.ofNat 32 (i 0).val
  let c4_i32_2 : BitVec 32 := 4#32
  let v8 : BitVec 32 := Scalar.remsi arg0 c4_i32_2
  let c4_i32_151 : BitVec 32 := 4#32
  let c3_i32_152 : BitVec 32 := 3#32
  let c0_i32_153 : BitVec 32 := 0#32
  ![v8.toNat, 4, 3, 0]
def k0_off481 (i : grid0.Coords) : Fin 4 → Nat :=
  let arg0 : BitVec 32 := BitVec.ofNat 32 (i 0).val
  let c4_i32_2 : BitVec 32 := 4#32
  let v8 : BitVec 32 := Scalar.remsi arg0 c4_i32_2
  let c5_i32_156 : BitVec 32 := 5#32
  let c3_i32_157 : BitVec 32 := 3#32
  let c0_i32_158 : BitVec 32 := 0#32
  ![v8.toNat, 5, 3, 0]
def k0_off482 (i : grid0.Coords) : Fin 4 → Nat :=
  let arg0 : BitVec 32 := BitVec.ofNat 32 (i 0).val
  let c4_i32_2 : BitVec 32 := 4#32
  let v8 : BitVec 32 := Scalar.remsi arg0 c4_i32_2
  let c6_i32_161 : BitVec 32 := 6#32
  let c3_i32_162 : BitVec 32 := 3#32
  let c0_i32_163 : BitVec 32 := 0#32
  ![v8.toNat, 6, 3, 0]
def k0_off483 (i : grid0.Coords) : Fin 4 → Nat :=
  let arg0 : BitVec 32 := BitVec.ofNat 32 (i 0).val
  let c4_i32_2 : BitVec 32 := 4#32
  let v8 : BitVec 32 := Scalar.remsi arg0 c4_i32_2
  let c7_i32_166 : BitVec 32 := 7#32
  let c3_i32_167 : BitVec 32 := 3#32
  let c0_i32_168 : BitVec 32 := 0#32
  ![v8.toNat, 7, 3, 0]
def k0_off484 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_171 : BitVec 32 := 0#32
  let c4_i32_172 : BitVec 32 := 4#32
  let c0_i32_173 : BitVec 32 := 0#32
  ![v8.toNat, 0, 4, 0]
def k0_off485 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_176 : BitVec 32 := 1#32
  let c4_i32_177 : BitVec 32 := 4#32
  let c0_i32_178 : BitVec 32 := 0#32
  ![v8.toNat, 1, 4, 0]
def k0_off486 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32_181 : BitVec 32 := 2#32
  let c4_i32_182 : BitVec 32 := 4#32
  let c0_i32_183 : BitVec 32 := 0#32
  ![v8.toNat, 2, 4, 0]
def k0_off487 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32_186 : BitVec 32 := 3#32
  let c4_i32_187 : BitVec 32 := 4#32
  let c0_i32_188 : BitVec 32 := 0#32
  ![v8.toNat, 3, 4, 0]
def k0_off488 (i : grid0.Coords) : Fin 4 → Nat :=
  let arg0 : BitVec 32 := BitVec.ofNat 32 (i 0).val
  let c4_i32_2 : BitVec 32 := 4#32
  let v8 : BitVec 32 := Scalar.remsi arg0 c4_i32_2
  let c4_i32_191 : BitVec 32 := 4#32
  let c4_i32_192 : BitVec 32 := 4#32
  let c0_i32_193 : BitVec 32 := 0#32
  ![v8.toNat, 4, 4, 0]
def k0_off489 (i : grid0.Coords) : Fin 4 → Nat :=
  let arg0 : BitVec 32 := BitVec.ofNat 32 (i 0).val
  let c4_i32_2 : BitVec 32 := 4#32
  let v8 : BitVec 32 := Scalar.remsi arg0 c4_i32_2
  let c5_i32_196 : BitVec 32 := 5#32
  let c4_i32_197 : BitVec 32 := 4#32
  let c0_i32_198 : BitVec 32 := 0#32
  ![v8.toNat, 5, 4, 0]
def k0_off490 (i : grid0.Coords) : Fin 4 → Nat :=
  let arg0 : BitVec 32 := BitVec.ofNat 32 (i 0).val
  let c4_i32_2 : BitVec 32 := 4#32
  let v8 : BitVec 32 := Scalar.remsi arg0 c4_i32_2
  let c6_i32_201 : BitVec 32 := 6#32
  let c4_i32_202 : BitVec 32 := 4#32
  let c0_i32_203 : BitVec 32 := 0#32
  ![v8.toNat, 6, 4, 0]
def k0_off491 (i : grid0.Coords) : Fin 4 → Nat :=
  let arg0 : BitVec 32 := BitVec.ofNat 32 (i 0).val
  let c4_i32_2 : BitVec 32 := 4#32
  let v8 : BitVec 32 := Scalar.remsi arg0 c4_i32_2
  let c7_i32_206 : BitVec 32 := 7#32
  let c4_i32_207 : BitVec 32 := 4#32
  let c0_i32_208 : BitVec 32 := 0#32
  ![v8.toNat, 7, 4, 0]
def k0_off492 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_211 : BitVec 32 := 0#32
  let c5_i32_212 : BitVec 32 := 5#32
  let c0_i32_213 : BitVec 32 := 0#32
  ![v8.toNat, 0, 5, 0]
def k0_off493 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_216 : BitVec 32 := 1#32
  let c5_i32_217 : BitVec 32 := 5#32
  let c0_i32_218 : BitVec 32 := 0#32
  ![v8.toNat, 1, 5, 0]
def k0_off494 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32_221 : BitVec 32 := 2#32
  let c5_i32_222 : BitVec 32 := 5#32
  let c0_i32_223 : BitVec 32 := 0#32
  ![v8.toNat, 2, 5, 0]
def k0_off495 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32_226 : BitVec 32 := 3#32
  let c5_i32_227 : BitVec 32 := 5#32
  let c0_i32_228 : BitVec 32 := 0#32
  ![v8.toNat, 3, 5, 0]
def k0_off496 (i : grid0.Coords) : Fin 4 → Nat :=
  let arg0 : BitVec 32 := BitVec.ofNat 32 (i 0).val
  let c4_i32_2 : BitVec 32 := 4#32
  let v8 : BitVec 32 := Scalar.remsi arg0 c4_i32_2
  let c4_i32_231 : BitVec 32 := 4#32
  let c5_i32_232 : BitVec 32 := 5#32
  let c0_i32_233 : BitVec 32 := 0#32
  ![v8.toNat, 4, 5, 0]
def k0_off497 (i : grid0.Coords) : Fin 4 → Nat :=
  let arg0 : BitVec 32 := BitVec.ofNat 32 (i 0).val
  let c4_i32_2 : BitVec 32 := 4#32
  let v8 : BitVec 32 := Scalar.remsi arg0 c4_i32_2
  let c5_i32_236 : BitVec 32 := 5#32
  let c5_i32_237 : BitVec 32 := 5#32
  let c0_i32_238 : BitVec 32 := 0#32
  ![v8.toNat, 5, 5, 0]
def k0_off498 (i : grid0.Coords) : Fin 4 → Nat :=
  let arg0 : BitVec 32 := BitVec.ofNat 32 (i 0).val
  let c4_i32_2 : BitVec 32 := 4#32
  let v8 : BitVec 32 := Scalar.remsi arg0 c4_i32_2
  let c6_i32_241 : BitVec 32 := 6#32
  let c5_i32_242 : BitVec 32 := 5#32
  let c0_i32_243 : BitVec 32 := 0#32
  ![v8.toNat, 6, 5, 0]
def k0_off499 (i : grid0.Coords) : Fin 4 → Nat :=
  let arg0 : BitVec 32 := BitVec.ofNat 32 (i 0).val
  let c4_i32_2 : BitVec 32 := 4#32
  let v8 : BitVec 32 := Scalar.remsi arg0 c4_i32_2
  let c7_i32_246 : BitVec 32 := 7#32
  let c5_i32_247 : BitVec 32 := 5#32
  let c0_i32_248 : BitVec 32 := 0#32
  ![v8.toNat, 7, 5, 0]
def k0_off500 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_251 : BitVec 32 := 0#32
  let c6_i32_252 : BitVec 32 := 6#32
  let c0_i32_253 : BitVec 32 := 0#32
  ![v8.toNat, 0, 6, 0]
def k0_off501 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_256 : BitVec 32 := 1#32
  let c6_i32_257 : BitVec 32 := 6#32
  let c0_i32_258 : BitVec 32 := 0#32
  ![v8.toNat, 1, 6, 0]
def k0_off502 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32_261 : BitVec 32 := 2#32
  let c6_i32_262 : BitVec 32 := 6#32
  let c0_i32_263 : BitVec 32 := 0#32
  ![v8.toNat, 2, 6, 0]
def k0_off503 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32_266 : BitVec 32 := 3#32
  let c6_i32_267 : BitVec 32 := 6#32
  let c0_i32_268 : BitVec 32 := 0#32
  ![v8.toNat, 3, 6, 0]
def k0_off504 (i : grid0.Coords) : Fin 4 → Nat :=
  let arg0 : BitVec 32 := BitVec.ofNat 32 (i 0).val
  let c4_i32_2 : BitVec 32 := 4#32
  let v8 : BitVec 32 := Scalar.remsi arg0 c4_i32_2
  let c4_i32_271 : BitVec 32 := 4#32
  let c6_i32_272 : BitVec 32 := 6#32
  let c0_i32_273 : BitVec 32 := 0#32
  ![v8.toNat, 4, 6, 0]
def k0_off505 (i : grid0.Coords) : Fin 4 → Nat :=
  let arg0 : BitVec 32 := BitVec.ofNat 32 (i 0).val
  let c4_i32_2 : BitVec 32 := 4#32
  let v8 : BitVec 32 := Scalar.remsi arg0 c4_i32_2
  let c5_i32_276 : BitVec 32 := 5#32
  let c6_i32_277 : BitVec 32 := 6#32
  let c0_i32_278 : BitVec 32 := 0#32
  ![v8.toNat, 5, 6, 0]
def k0_off506 (i : grid0.Coords) : Fin 4 → Nat :=
  let arg0 : BitVec 32 := BitVec.ofNat 32 (i 0).val
  let c4_i32_2 : BitVec 32 := 4#32
  let v8 : BitVec 32 := Scalar.remsi arg0 c4_i32_2
  let c6_i32_281 : BitVec 32 := 6#32
  let c6_i32_282 : BitVec 32 := 6#32
  let c0_i32_283 : BitVec 32 := 0#32
  ![v8.toNat, 6, 6, 0]
def k0_off507 (i : grid0.Coords) : Fin 4 → Nat :=
  let arg0 : BitVec 32 := BitVec.ofNat 32 (i 0).val
  let c4_i32_2 : BitVec 32 := 4#32
  let v8 : BitVec 32 := Scalar.remsi arg0 c4_i32_2
  let c7_i32_286 : BitVec 32 := 7#32
  let c6_i32_287 : BitVec 32 := 6#32
  let c0_i32_288 : BitVec 32 := 0#32
  ![v8.toNat, 7, 6, 0]
def k0_off508 (i : grid0.Coords) : Fin 4 → Nat :=
  let arg0 : BitVec 32 := BitVec.ofNat 32 (i 0).val
  let c4_i32_2 : BitVec 32 := 4#32
  let v8 : BitVec 32 := Scalar.remsi arg0 c4_i32_2
  let c0_i32_291 : BitVec 32 := 0#32
  let c7_i32_292 : BitVec 32 := 7#32
  let c0_i32_293 : BitVec 32 := 0#32
  ![v8.toNat, 0, 7, 0]
def k0_off509 (i : grid0.Coords) : Fin 4 → Nat :=
  let arg0 : BitVec 32 := BitVec.ofNat 32 (i 0).val
  let c4_i32_2 : BitVec 32 := 4#32
  let v8 : BitVec 32 := Scalar.remsi arg0 c4_i32_2
  let c1_i32_296 : BitVec 32 := 1#32
  let c7_i32_297 : BitVec 32 := 7#32
  let c0_i32_298 : BitVec 32 := 0#32
  ![v8.toNat, 1, 7, 0]
def k0_off510 (i : grid0.Coords) : Fin 4 → Nat :=
  let arg0 : BitVec 32 := BitVec.ofNat 32 (i 0).val
  let c4_i32_2 : BitVec 32 := 4#32
  let v8 : BitVec 32 := Scalar.remsi arg0 c4_i32_2
  let c2_i32_301 : BitVec 32 := 2#32
  let c7_i32_302 : BitVec 32 := 7#32
  let c0_i32_303 : BitVec 32 := 0#32
  ![v8.toNat, 2, 7, 0]
def k0_off511 (i : grid0.Coords) : Fin 4 → Nat :=
  let arg0 : BitVec 32 := BitVec.ofNat 32 (i 0).val
  let c4_i32_2 : BitVec 32 := 4#32
  let v8 : BitVec 32 := Scalar.remsi arg0 c4_i32_2
  let c3_i32_306 : BitVec 32 := 3#32
  let c7_i32_307 : BitVec 32 := 7#32
  let c0_i32_308 : BitVec 32 := 0#32
  ![v8.toNat, 3, 7, 0]
def k0_off512 (i : grid0.Coords) : Fin 4 → Nat :=
  let arg0 : BitVec 32 := BitVec.ofNat 32 (i 0).val
  let c4_i32_2 : BitVec 32 := 4#32
  let v8 : BitVec 32 := Scalar.remsi arg0 c4_i32_2
  let c4_i32_311 : BitVec 32 := 4#32
  let c7_i32_312 : BitVec 32 := 7#32
  let c0_i32_313 : BitVec 32 := 0#32
  ![v8.toNat, 4, 7, 0]
def k0_off513 (i : grid0.Coords) : Fin 4 → Nat :=
  let arg0 : BitVec 32 := BitVec.ofNat 32 (i 0).val
  let c4_i32_2 : BitVec 32 := 4#32
  let v8 : BitVec 32 := Scalar.remsi arg0 c4_i32_2
  let c5_i32_316 : BitVec 32 := 5#32
  let c7_i32_317 : BitVec 32 := 7#32
  let c0_i32_318 : BitVec 32 := 0#32
  ![v8.toNat, 5, 7, 0]
def k0_off514 (i : grid0.Coords) : Fin 4 → Nat :=
  let arg0 : BitVec 32 := BitVec.ofNat 32 (i 0).val
  let c4_i32_2 : BitVec 32 := 4#32
  let v8 : BitVec 32 := Scalar.remsi arg0 c4_i32_2
  let c6_i32_321 : BitVec 32 := 6#32
  let c7_i32_322 : BitVec 32 := 7#32
  let c0_i32_323 : BitVec 32 := 0#32
  ![v8.toNat, 6, 7, 0]
def k0_off515 (i : grid0.Coords) : Fin 4 → Nat :=
  let arg0 : BitVec 32 := BitVec.ofNat 32 (i 0).val
  let c4_i32_2 : BitVec 32 := 4#32
  let v8 : BitVec 32 := Scalar.remsi arg0 c4_i32_2
  let c7_i32_326 : BitVec 32 := 7#32
  let c7_i32_327 : BitVec 32 := 7#32
  let c0_i32_328 : BitVec 32 := 0#32
  ![v8.toNat, 7, 7, 0]
def k0_off516 (i : grid0.Coords) : Fin 2 → Nat :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .slt arg0 c0_i32_5
  let v13 : BitVec 32 := Scalar.extui v12
  let v14 : BitVec 32 := Scalar.subi v11 v13
  let c4_i32_3 : BitVec 32 := 4#32
  let c0_i32_6 : BitVec 32 := 0#32
  let v15 : BitVec 1 := Scalar.cmpi .sgt c4_i32_3 c0_i32_6
  let v16 : BitVec 32 := Scalar.extui v15
  let c0_i32_7 : BitVec 32 := 0#32
  let v17 : BitVec 1 := Scalar.cmpi .slt c4_i32_3 c0_i32_7
  let v18 : BitVec 32 := Scalar.extui v17
  let v19 : BitVec 32 := Scalar.subi v16 v18
  let v20 : BitVec 1 := Scalar.cmpi .ne v14 v19
  let v21 : BitVec 32 := Scalar.remsi arg0 c4_i32_3
  let c0_i32_8 : BitVec 32 := 0#32
  let v22 : BitVec 1 := Scalar.cmpi .ne v21 c0_i32_8
  let v23 : BitVec 1 := Scalar.andi v20 v22
  let v9 : BitVec 32 := Scalar.divsi arg0 c4_i32_3
  let c1_i32_9 : BitVec 32 := 1#32
  let v24 : BitVec 32 := Scalar.subi v9 c1_i32_9
  let v25 : BitVec 32 := Scalar.select v23 v24 v9
  let v361 : Index := Scalar.indexCast v25
  let c0 : Index := 0#32
  ![v361.toNat, 0]
def k0_off517 (i : grid0.Coords) : Fin 4 → Nat :=
  let arg0 : BitVec 32 := BitVec.ofNat 32 (i 0).val
  let c4_i32_2 : BitVec 32 := 4#32
  let v8 : BitVec 32 := Scalar.remsi arg0 c4_i32_2
  let v367 : Index := Scalar.indexCast v8
  let c0_336 : Index := 0#32
  let c0_337 : Index := 0#32
  let c0_338 : Index := 0#32
  ![v367.toNat, 0, 0, 0]
def k0_off518 (i : grid0.Coords) : Fin 4 → Nat :=
  let arg0 : BitVec 32 := BitVec.ofNat 32 (i 0).val
  let c4_i32_2 : BitVec 32 := 4#32
  let v8 : BitVec 32 := Scalar.remsi arg0 c4_i32_2
  let v387 : Index := Scalar.indexCast v8
  let c1 : Index := 1#32
  let c0_342 : Index := 0#32
  let c0_343 : Index := 0#32
  ![v387.toNat, 1, 0, 0]
def k0_off519 (i : grid0.Coords) : Fin 4 → Nat :=
  let arg0 : BitVec 32 := BitVec.ofNat 32 (i 0).val
  let c4_i32_2 : BitVec 32 := 4#32
  let v8 : BitVec 32 := Scalar.remsi arg0 c4_i32_2
  let v407 : Index := Scalar.indexCast v8
  let c2 : Index := 2#32
  let c0_347 : Index := 0#32
  let c0_348 : Index := 0#32
  ![v407.toNat, 2, 0, 0]
def k0_off520 (i : grid0.Coords) : Fin 4 → Nat :=
  let arg0 : BitVec 32 := BitVec.ofNat 32 (i 0).val
  let c4_i32_2 : BitVec 32 := 4#32
  let v8 : BitVec 32 := Scalar.remsi arg0 c4_i32_2
  let v427 : Index := Scalar.indexCast v8
  let c3 : Index := 3#32
  let c0_352 : Index := 0#32
  let c0_353 : Index := 0#32
  ![v427.toNat, 3, 0, 0]
def k0_off521 (i : grid0.Coords) : Fin 4 → Nat :=
  let arg0 : BitVec 32 := BitVec.ofNat 32 (i 0).val
  let c4_i32_2 : BitVec 32 := 4#32
  let v8 : BitVec 32 := Scalar.remsi arg0 c4_i32_2
  let v447 : Index := Scalar.indexCast v8
  let c4 : Index := 4#32
  let c0_357 : Index := 0#32
  let c0_358 : Index := 0#32
  ![v447.toNat, 4, 0, 0]
def k0_off522 (i : grid0.Coords) : Fin 4 → Nat :=
  let arg0 : BitVec 32 := BitVec.ofNat 32 (i 0).val
  let c4_i32_2 : BitVec 32 := 4#32
  let v8 : BitVec 32 := Scalar.remsi arg0 c4_i32_2
  let v467 : Index := Scalar.indexCast v8
  let c5 : Index := 5#32
  let c0_362 : Index := 0#32
  let c0_363 : Index := 0#32
  ![v467.toNat, 5, 0, 0]
def k0_off523 (i : grid0.Coords) : Fin 4 → Nat :=
  let arg0 : BitVec 32 := BitVec.ofNat 32 (i 0).val
  let c4_i32_2 : BitVec 32 := 4#32
  let v8 : BitVec 32 := Scalar.remsi arg0 c4_i32_2
  let v487 : Index := Scalar.indexCast v8
  let c6 : Index := 6#32
  let c0_367 : Index := 0#32
  let c0_368 : Index := 0#32
  ![v487.toNat, 6, 0, 0]
def k0_off524 (i : grid0.Coords) : Fin 4 → Nat :=
  let arg0 : BitVec 32 := BitVec.ofNat 32 (i 0).val
  let c4_i32_2 : BitVec 32 := 4#32
  let v8 : BitVec 32 := Scalar.remsi arg0 c4_i32_2
  let v507 : Index := Scalar.indexCast v8
  let c7 : Index := 7#32
  let c0_372 : Index := 0#32
  let c0_373 : Index := 0#32
  ![v507.toNat, 7, 0, 0]
def k0_off525 (i : grid0.Coords) : Fin 2 → Nat :=
  let arg0 : BitVec 32 := BitVec.ofNat 32 (i 0).val
  let c8_i32_377 : BitVec 32 := 8#32
  let v527 : BitVec 32 := Scalar.muli arg0 c8_i32_377
  let v528 : Index := Scalar.indexCast v527
  let c0_378 : Index := 0#32
  ![v528.toNat, 0]
def k0_off526 (i : grid0.Coords) : Fin 2 → Nat :=
  let arg0 : BitVec 32 := BitVec.ofNat 32 (i 0).val
  let c8_i32_16 : BitVec 32 := 8#32
  let v42 : BitVec 32 := Scalar.muli arg0 c8_i32_16
  let v43 : Index := Scalar.indexCast v42
  let c0 : Index := 0#32
  ![v43.toNat, 0]
def k0_cond9 (i : grid0.Coords) : BitVec 1 :=
  let arg0 : BitVec 32 := BitVec.ofNat 32 (i 0).val
  let c31_i32 : BitVec 32 := 31#32
  let v38 : BitVec 1 := Scalar.cmpi .eq arg0 c31_i32
  let v39 : BitVec 32 := Scalar.extui v38
  let c0_i32_15 : BitVec 32 := 0#32
  let v40 : BitVec 1 := Scalar.cmpi .ne v39 c0_i32_15
  v40

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x32x8 : Shape := ⟨3, ![8, 32, 8]⟩
abbrev S8x32 : Shape := ⟨2, ![8, 32]⟩
abbrev S8 : Shape := ⟨1, ![8]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩
abbrev S8x32x8x1 : Shape := ⟨4, ![8, 32, 8, 1]⟩
abbrev S8x32x8x128 : Shape := ⟨4, ![8, 32, 8, 128]⟩
abbrev S1x1x8 : Shape := ⟨3, ![1, 1, 8]⟩
abbrev S8x32x1 : Shape := ⟨3, ![8, 32, 1]⟩
abbrev S8x32x128 : Shape := ⟨3, ![8, 32, 128]⟩
abbrev S32 : Shape := ⟨1, ![32]⟩
abbrev S1x32 : Shape := ⟨2, ![1, 32]⟩
abbrev S8x1 : Shape := ⟨2, ![8, 1]⟩
abbrev S8x128 : Shape := ⟨2, ![8, 128]⟩
abbrev S4096x1 : Shape := ⟨2, ![4096, 1]⟩
abbrev S128x4096 : Shape := ⟨2, ![128, 4096]⟩
abbrev S8x4096 : Shape := ⟨2, ![8, 4096]⟩
abbrev S8x32x8x4096 : Shape := ⟨4, ![8, 32, 8, 4096]⟩
abbrev S8x1x1x4096 : Shape := ⟨4, ![8, 1, 1, 4096]⟩
abbrev S1x1x1x4096 : Shape := ⟨4, ![1, 1, 1, 4096]⟩

abbrev nBuf : Space → Nat
  | .hbm => 132
  | .vmem => 0
  | .smem => 0
  | _ => 0

abbrev hbmTy0_0 (i : Nat) : BufTy := match i % 128 with
  | 0 => ⟨S8x32x8, .i32⟩
  | 1 => ⟨S8x32, .i32⟩
  | 2 => ⟨S8, .i32⟩
  | 3 => ⟨S4096x128, .f32⟩
  | 4 => ⟨S4096x128, .f32⟩
  | 5 => ⟨S4096x4096, .f32⟩
  | 6 => ⟨S4096, .f32⟩
  | 7 => ⟨S4096, .f32⟩
  | 8 => ⟨S_, .i32⟩
  | 9 => ⟨S8x32x8, .i32⟩
  | 10 => ⟨S8x32x8, .i1⟩
  | 11 => ⟨S_, .i32⟩
  | 12 => ⟨S8x32x8, .i32⟩
  | 13 => ⟨S8x32x8, .i32⟩
  | 14 => ⟨S8x32x8, .i32⟩
  | 15 => ⟨S8x32x8x1, .i32⟩
  | 16 => ⟨S8x32x8x128, .f32⟩
  | 17 => ⟨S8, .i32⟩
  | 18 => ⟨S1x1x8, .i32⟩
  | 19 => ⟨S8x32x1, .i32⟩
  | 20 => ⟨S8x32x8, .i32⟩
  | 21 => ⟨S8x32x8, .i32⟩
  | 22 => ⟨S8x32x8, .i1⟩
  | 23 => ⟨S8x32x8, .f32⟩
  | 24 => ⟨S_, .i32⟩
  | 25 => ⟨S8x32, .i32⟩
  | 26 => ⟨S8x32, .i32⟩
  | 27 => ⟨S8x32x1, .i32⟩
  | 28 => ⟨S8x32x1, .f32⟩
  | 29 => ⟨S8x32x8x1, .f32⟩
  | 30 => ⟨S8x32x8x128, .f32⟩
  | 31 => ⟨S8x32x8x128, .f32⟩
  | 32 => ⟨S_, .f32⟩
  | 33 => ⟨S8x32x128, .f32⟩
  | 34 => ⟨S8x32x128, .f32⟩
  | 35 => ⟨S8x32x128, .f32⟩
  | 36 => ⟨S32, .i32⟩
  | 37 => ⟨S1x32, .i32⟩
  | 38 => ⟨S8x1, .i32⟩
  | 39 => ⟨S8x32, .i32⟩
  | 40 => ⟨S8x32, .i32⟩
  | 41 => ⟨S8x32, .i1⟩
  | 42 => ⟨S8x32, .f32⟩
  | 43 => ⟨S8x32x1, .f32⟩
  | 44 => ⟨S8x32x128, .f32⟩
  | 45 => ⟨S8x32x128, .f32⟩
  | 46 => ⟨S_, .f32⟩
  | 47 => ⟨S8x128, .f32⟩
  | 48 => ⟨S8x1, .i32⟩
  | 49 => ⟨S8x1, .f32⟩
  | 50 => ⟨S8x128, .f32⟩
  | 51 => ⟨S8x128, .f32⟩
  | 52 => ⟨S8x128, .f32⟩
  | 53 => ⟨S_, .f32⟩
  | 54 => ⟨S8, .f32⟩
  | 55 => ⟨S8x1, .f32⟩
  | 56 => ⟨S8x1, .f32⟩
  | 57 => ⟨S_, .f32⟩
  | 58 => ⟨S8x1, .f32⟩
  | 59 => ⟨S8x1, .f32⟩
  | 60 => ⟨S8x128, .f32⟩
  | 61 => ⟨S8x128, .f32⟩
  | 62 => ⟨S4096x128, .f32⟩
  | 63 => ⟨S_, .f32⟩
  | 64 => ⟨S4096, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x128, .f32⟩
  | 71 => ⟨S4096x128, .f32⟩
  | 72 => ⟨S128x4096, .f32⟩
  | 73 => ⟨S8x4096, .f32⟩
  | 74 => ⟨S8x4096, .f32⟩
  | 75 => ⟨S_, .i32⟩
  | 76 => ⟨S8x32x8, .i32⟩
  | 77 => ⟨S8x32x8, .i1⟩
  | 78 => ⟨S_, .i32⟩
  | 79 => ⟨S8x32x8, .i32⟩
  | 80 => ⟨S8x32x8, .i32⟩
  | 81 => ⟨S8x32x8, .i32⟩
  | 82 => ⟨S8x32x8x1, .i32⟩
  | 83 => ⟨S8x32x8x4096, .f32⟩
  | 84 => ⟨S8x1x1x4096, .f32⟩
  | 85 => ⟨S8x32x8x4096, .f32⟩
  | 86 => ⟨S8x32x8x4096, .f32⟩
  | 87 => ⟨S_, .f32⟩
  | 88 => ⟨S8x32x8x4096, .f32⟩
  | 89 => ⟨S8x32x8x4096, .i1⟩
  | 90 => ⟨S8x32x8x4096, .f32⟩
  | 91 => ⟨S1x1x1x4096, .f32⟩
  | 92 => ⟨S8x32x8x4096, .f32⟩
  | 93 => ⟨S8x32x8x4096, .f32⟩
  | 94 => ⟨S1x1x1x4096, .f32⟩
  | 95 => ⟨S8x32x8x4096, .f32⟩
  | 96 => ⟨S8x32x8x4096, .f32⟩
  | 97 => ⟨S_, .f32⟩
  | 98 => ⟨S4096, .f32⟩
  | 99 => ⟨S4096, .f32⟩
  | 100 => ⟨S1x1x1x4096, .f32⟩
  | 101 => ⟨S8x32x8x4096, .f32⟩
  | 102 => ⟨S8x32x8x4096, .f32⟩
  | 103 => ⟨S8x32x8x4096, .f32⟩
  | 104 => ⟨S_, .f32⟩
  | 105 => ⟨S8x32x8x4096, .f32⟩
  | 106 => ⟨S8x32x8x4096, .f32⟩
  | 107 => ⟨S_, .f32⟩
  | 108 => ⟨S8x32x8, .f32⟩
  | 109 => ⟨S_, .f32⟩
  | 110 => ⟨S8x32x8, .f32⟩
  | 111 => ⟨S8x32x8, .f32⟩
  | 112 => ⟨S8x32x8x1, .f32⟩
  | 113 => ⟨S8x32x8x4096, .f32⟩
  | 114 => ⟨S8x32x8x4096, .f32⟩
  | 115 => ⟨S8x32x8x4096, .f32⟩
  | 116 => ⟨S_, .f32⟩
  | 117 => ⟨S8x32x8, .f32⟩
  | 118 => ⟨S8x32x8x1, .f32⟩
  | 119 => ⟨S8x32x8x4096, .f32⟩
  | 120 => ⟨S8x32x8x4096, .f32⟩
  | 121 => ⟨S8x32x8x128, .f32⟩
  | 122 => ⟨S8x32x8x1, .f32⟩
  | 123 => ⟨S8x32x8x128, .f32⟩
  | 124 => ⟨S8x32x8x128, .f32⟩
  | 125 => ⟨S_, .f32⟩
  | 126 => ⟨S8x32x128, .f32⟩
  | 127 => ⟨S8x32x128, .f32⟩
  | _ => ⟨S8x32x8, .i32⟩

abbrev hbmTy0_1 (i : Nat) : BufTy := match i % 128 with
  | 0 => ⟨S8x32x128, .f32⟩
  | 1 => ⟨S8x32x1, .f32⟩
  | 2 => ⟨S8x32x128, .f32⟩
  | 3 => ⟨S8x32x128, .f32⟩
  | _ => ⟨S8x32x8, .i32⟩

abbrev hbmTy (i : Nat) : BufTy := match i / 128 with
  | 0 => hbmTy0_0 i
  | 1 => hbmTy0_1 i
  | _ => ⟨S8x32x8, .i32⟩

abbrev bufTy : (tb : Table) → Fin (tcTables nBuf tb) → BufTy
  | .hbm, ⟨i, _⟩ => hbmTy i
  | _, _ => ⟨S8x32x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call1_v0 : Ref sig .tc := ⟨.hbm, 62, rfl⟩
abbrev main_call1_cst : Ref sig .tc := ⟨.hbm, 63, rfl⟩
abbrev main_call1_v1 : Ref sig .tc := ⟨.hbm, 64, rfl⟩
abbrev main_call1_v2 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_7 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_8 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_cst_10 : Ref sig .tc := ⟨.hbm, 107, rfl⟩
abbrev main_v79 : Ref sig .tc := ⟨.hbm, 108, rfl⟩
abbrev main_cst_11 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_12 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_13 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]
-- ==== Proof.Domain.lean ====
/- What the precondition says, element by element. -/
module

public import proofs.«01_k».proof.Proof.Gen.Pre_domain
public import Idealize.ShloMosaic.Lib.ReduceAll
public import Idealize.ShloMosaic.Lib.WordArith

@[expose] public section

noncomputable section

namespace Cert.Domain

open Cert.Pre_domain Cert.Pre_domain.Gen
open Idealize.ShloMosaic

variable {F : FTy → Type} [FloatOps F]

/-- One element's finiteness as the predicate tests it. -/
def Fin1 (x : F .f32) : Prop := cmpf (F := F) (s := S_) (φ := .f32) .olt (Host.absf fun _ => x) (constant S_ .f32 0x7F800000#32) = fun _ => 1#1

/-- The precondition's clauses. -/
structure Holds (a0 : IVec S8x32x8 32) (a1 : IVec S8x32 32) (a2 : IVec S8 32) (a3 a4 : FVec F S4096x128 .f32)
    (a5 : FVec F S4096x4096 .f32) (a6 a7 : FVec F S4096 .f32) : Prop where
  concept : ∀ i, 0 ≤ (a0 i).toInt ∧ (a0 i).toInt < 4096
  edge : ∀ i, Fin1 (F := F) (a5 i)
  aff : ∀ i, Fin1 (F := F) (a6 i)
  lam : ∀ i, Fin1 (F := F) (a7 i)

variable {a0 : IVec S8x32x8 32} {a1 : IVec S8x32 32} {a2 : IVec S8 32} {a3 a4 : FVec F S4096x128 .f32}
    {a5 : FVec F S4096x4096 .f32} {a6 a7 : FVec F S4096 .f32}

/-- The predicate at all ones gives every clause. -/
theorem holds_of (h : Cert.Pre_domain.fn (F := F) a0 a1 a2 a3 a4 a5 a6 a7 = fun _ => 1#1) : Holds a0 a1 a2 a3 a4 a5 a6 a7 := by
  have j : S_.Idx := fun a => a.elim0
  have h0 := congrFun h j
  unfold Cert.Pre_domain.fn at h0
  dsimp only [fn_part1] at h0
  obtain ⟨h0, h3⟩ := IntOp.andi_eq_one.1 h0
  obtain ⟨h0, h2⟩ := IntOp.andi_eq_one.1 h0
  obtain ⟨h0, h1⟩ := IntOp.andi_eq_one.1 h0
  refine ⟨fun i => ?_, fun i => funext fun _ => ?_,
    fun i => funext fun _ => ?_, fun i => funext fun _ => ?_⟩
  · obtain ⟨p, q⟩ := IntOp.andi_eq_one.1 (Host.reduce_andi_all _ _ _ _ j h0 i)
    exact ⟨IntOp.cmpi_sge.1 p, IntOp.cmpi_slt.1 q⟩
  · exact Host.reduce_andi_all _ _ _ _ j h1 i
  · exact Host.reduce_andi_all _ _ _ _ j h2 i
  · exact Host.reduce_andi_all _ _ _ _ j h3 i

/-- A concept is a row number. -/
theorem Holds.concept_lt (h : Holds a0 a1 a2 a3 a4 a5 a6 a7) (i : S8x32x8.Idx) : (a0 i).toNat < 4096 := by
  obtain ⟨p, q⟩ := h.concept i
  rw [BitVec.toInt_eq_toNat_cond] at p q
  have := (a0 i).isLt
  split at p <;> omega

end Cert.Domain

end
-- ==== Proof.Ideal.Rows.lean ====
/- Rows of the ring buffer, and the kernel's three steps on them: a word of the table read and checked, one row copy
   started, one row copy waited for.

   A GROUP is the 64 rows one grid point uses: row `j` of group `g` is row `word (64 g + j)` of the edge matrix, copied
   to slot `g mod 4` of the ring at place `(j mod 8, j / 8)`. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents of the edge matrix, of the index table and of the ring. -/
abbrev EdgeC (F : FTy → Type) [FloatOps F] : Type := S4096x4096.Idx → Elt F .f32
abbrev TabC (F : FTy → Type) [FloatOps F] : Type := S2048.Idx → Elt F .i32
abbrev RingC (F : FTy → Type) [FloatOps F] : Type := S4x8x8x4096.Idx → Elt F .f32

/-- Word `n` of the index table. -/
def word (T : TabC F) (n : ℕ) : BitVec 32 := T (fun a => ⟨n % 2048, by have h : n % 2048 < 2048 := Nat.mod_lt _ (by decide); fin_cases a; exact h⟩)

/-- The edge row that word `n` names (the word reduced into range). -/
def rowOf (T : TabC F) (n : ℕ) : Fin 4096 := ⟨(word T n).toNat % 4096, Nat.mod_lt _ (by decide)⟩

/-- The row of the ring at offset `o`, the row of the edge matrix at offset `o`, the semaphore at offset `o`. -/
abbrev rowM (o : Fin 4 → ℕ) (h : ∀ a, o a + S1x1x1x4096.size a ≤ S4x8x8x4096.size a) : Memref sig .tc .vmem S1x4096 .f32 :=
  ((Memref.whole cc0_scratch0).slice (Rect.unit (s := S4x8x8x4096) o S1x1x1x4096.size h) (fun _ => rfl)).squeeze S1x4096 squeezes_S1x1x1x4096_S1x4096
abbrev srcM (o : Fin 2 → ℕ) (h : ∀ a, o a + S1x4096.size a ≤ S4096x4096.size a) : Memref sig .tc .hbm S1x4096 .f32 :=
  (Memref.whole main_arg5).slice (Rect.unit (s := S4096x4096) o S1x4096.size h) (fun _ => rfl)
abbrev cellM (o : Fin 1 → ℕ) (h : ∀ a, o a + S1.size a ≤ S4.size a) : DmaSem sig :=
  ((cc0_scratch4.slice (Rect.unit (s := S4) o S1.size h)).squeeze S_ squeezes_S1_S_).sem

/-- The place of row `j` of a group in slot `s`. -/
def pOff (s : Fin 4) (j : Fin 64) : Fin 4 → ℕ := ![s.val, j.val % 8, j.val / 8, 0]
theorem pOff_inb (s : Fin 4) (j : Fin 64) : ∀ a, pOff s j a + S1x1x1x4096.size a ≤ S4x8x8x4096.size a := by
  have hs := s.isLt; have hj := j.isLt
  intro a; fin_cases a <;> simp [pOff] <;> omega

/-- The elements of row `j` of slot `s`. -/
def rowSet (s : Fin 4) (j : Fin 64) : Finset S4x8x8x4096.Idx := (rowM (pOff s j) (pOff_inb s j)).view.set

theorem sq_val (x : S1x4096.Idx) (h : S1x4096.numel = S1x1x1x4096.numel) (a : Fin 4) :
    ((Shape.reshapeEquiv (s := S1x1x1x4096) h x) a).val = (![0, 0, 0, (x 1).val] : Fin 4 → ℕ) a := by
  have hx : (x 0).val = 0 := Nat.lt_one_iff.mp (x 0).isLt
  have hx1 : (x 1).val < 4096 := (x 1).isLt
  have : Shape.reshapeEquiv (s := S1x1x1x4096) h x = (fun a => ⟨(![0, 0, 0, (x 1).val] : Fin 4 → ℕ) a, by fin_cases a <;> simp [hx1]⟩) := by
    apply Shape.reshapeEquiv_eq_of_rowMajor
    rw [Shape.rowMajor_val_two, Shape.rowMajor_val_four]
    simp [hx]
  rw [this]

theorem rowM_emb (o : Fin 4 → ℕ) (h) (x : S1x4096.Idx) (a : Fin 4) :
    (((rowM o h).view.emb x : S4x8x8x4096.Idx) a).val = o a + (![0, 0, 0, (x 1).val] : Fin 4 → ℕ) a := by
  rw [← sq_val x (by decide) a]
  exact Idealize.ShloMosaic.ValueKit.rect_emb_unit_val (s := S4x8x8x4096) o _ h _ a

theorem mem_rowSet (s : Fin 4) (j : Fin 64) (i : S4x8x8x4096.Idx) :
    i ∈ rowSet s j ↔ (i 0).val = s.val ∧ (i 1).val = j.val % 8 ∧ (i 2).val = j.val / 8 := by
  unfold rowSet View.set
  rw [Finset.mem_map]
  constructor
  · rintro ⟨x, -, rfl⟩
    refine ⟨?_, ?_, ?_⟩ <;> rw [rowM_emb] <;> simp [pOff]
  · rintro ⟨h0, h1, h2⟩
    refine ⟨fun a => ⟨(![0, (i 3).val] : Fin 2 → ℕ) a, by have h3 : (i 3).val < 4096 := (i 3).isLt; fin_cases a <;> simp [h3]⟩, Finset.mem_univ _, ?_⟩
    funext a
    apply Fin.ext
    rw [rowM_emb]
    fin_cases a <;> simp [pOff, h0, h1, h2]

/-- What a slot holds once the rows of group `g` have landed in it. -/
def landed (E : EdgeC F) (T : TabC F) (g : ℕ) : RingC F := fun x =>
  E (ValueIdx.ix2 (rowOf T (g * 64 + ((x 2).val * 8 + (x 1).val))) (x 3))

/-! ## What is held of a slot -/

/-- The counters' place in the proof's algebra, and the bytes' credit of one row copy. -/
abbrev EC : UEmb Counters 𝕄 := countersEmb
abbrev rowAmt : ℕ := 512

/-- The semaphore of slot `s`. -/
def cell (s : Fin 4) : SemLoc sig := .dma (cellM ![s.val] (by intro a; fin_cases a; have := s.isLt; simp; omega))

/-- The read share of the edge matrix that row `j` of slot `s` borrows. -/
def tok (s : Fin 4) (j : Fin 64) : PosShare TreeShare := Transfers.shareTokN fullShare (s.val * 64 + j.val)

abbrev ringLoc (c : Dev nD) : Loc nD τ sig := (c : Thread nD τ).loc cc0_scratch0
abbrev edgeLoc (c : Dev nD) : Loc nD τ sig := (c : Thread nD τ).loc main_arg5
abbrev tabLoc (c : Dev nD) : Loc nD τ sig := (c : Thread nD τ).loc main_call0_v21

/-- A row not in flight: its elements at some contents, and its share of the edge matrix. -/
def freeRow (c : Dev nD) (E : EdgeC F) (s : Fin 4) (j : Fin 64) : sProp 𝕄 :=
  iprop((∃ f : RingC F, ringLoc c ↦[rowSet s j]{fullShare} f) ∗ (edgeLoc c ↦{tok s j} E))

/-- A row landed: its elements at what group `g` brings, and its share of the edge matrix back. -/
def landedRow (c : Dev nD) (E : EdgeC F) (T : TabC F) (s : Fin 4) (g : ℕ) (j : Fin 64) : sProp 𝕄 :=
  iprop((ringLoc c ↦[rowSet s j]{fullShare} (landed E T g : RingC F)) ∗ (edgeLoc c ↦{tok s j} E))

instance landedRow_storable (c : Dev nD) (E : EdgeC F) (T : TabC F) (s : Fin 4) (g : ℕ) (j : Fin 64) :
    Storable (upEmb : UEmb _ 𝕄) (landedRow c E T s g j) := by
  unfold landedRow; infer_instance

/-- Slot `s` idle: every row free, the semaphore at zero. -/
def idleSlot (c : Dev nD) (E : EdgeC F) (s : Fin 4) : sProp 𝕄 :=
  iprop(bigSep Finset.univ (freeRow c E s) ∗ semVal ((c : Thread nD τ), cell s) 0)

/-- Slot `s` with the first `k` rows of group `g` started, none waited for. -/
def issuing (c : Dev nD) (E : EdgeC F) (T : TabC F) (s : Fin 4) (g k : ℕ) : sProp 𝕄 :=
  iprop(Transfers.Batch EC (c : Thread nD τ) (cell s) () rowAmt (landedRow c E T s g) k 0
    ∗ bigSep (Transfers.pending k) (freeRow c E s))

/-- Slot `s` with group `g` started whole and `u` of its rows waited for. -/
def waiting (c : Dev nD) (E : EdgeC F) (T : TabC F) (s : Fin 4) (g u : ℕ) : sProp 𝕄 :=
  Transfers.Batch EC (c : Thread nD τ) (cell s) () rowAmt (landedRow c E T s g) 64 (u * rowAmt)

/-- An idle slot can start any group. -/
theorem issuing_alloc (c : Dev nD) (E : EdgeC F) (T : TabC F) (s : Fin 4) (g : ℕ) :
    idleSlot c E s ⊢ |={Set.univ}=> issuing c E T s g 0 := by
  unfold idleSlot issuing
  iintro ⟨Hr, Hs⟩
  imod (Transfers.batch_alloc' EC (c : Thread nD τ) () rowAmt (landedRow c E T s g) (E := Set.univ)) $$ Hs with HB
  imodintro
  isplitl [HB]; · iexact HB
  rw [Transfers.pending_zero]; iexact Hr

/-- A group started whole is in flight. -/
theorem issuing_done (c : Dev nD) (E : EdgeC F) (T : TabC F) (s : Fin 4) (g : ℕ) :
    issuing c E T s g 64 ⊢ waiting c E T s g 0 := by
  unfold issuing waiting
  rw [Nat.zero_mul]
  iintro ⟨H, -⟩; iexact H

/-! ## The steps -/

theorem src_emb (o : Fin 2 → ℕ) (h) (x : S1x4096.Idx) (a : Fin 2) :
    (((srcM o h).view.emb x : S4096x4096.Idx) a).val = o a + (x a).val :=
  Idealize.ShloMosaic.ValueKit.rect_emb_unit_val (s := S4096x4096) o _ h _ a

/-- What the copy of row `j` writes on the row's elements is what group `g` brings there. -/
theorem write_row (c : Dev nD) (E : EdgeC F) (T : TabC F) (s : Fin 4) (g : ℕ) (j : Fin 64) (h2) (f : RingC F)
    (hw : (word T (g * 64 + j.val)).toNat < 4096) :
    ∀ i ∈ rowSet s j, (View.write (Elt F) (rowM (pOff s j) (pOff_inb s j)).view f
      (ReadAs.same.apply ((srcM ![(word T (g * 64 + j.val)).toNat, 0] h2).view.read (Elt F) E)) Finset.univ : RingC F) i
        = landed E T g i := by
  intro i hi
  have hm := (mem_rowSet s j i).mp hi
  unfold rowSet View.set at hi
  obtain ⟨x, -, hx⟩ := Finset.mem_map.mp hi
  have e3 : (i 3).val = (x 1).val := by rw [← hx, rowM_emb]; simp [pOff]
  conv_lhs => rw [← hx]
  rw [View.write_emb_of_mem _ _ (Finset.mem_univ x)]
  show E ((srcM _ h2).view.emb x) = _
  unfold landed
  congr 1
  funext a
  apply Fin.ext
  have hx0 : (x 0).val = 0 := Nat.lt_one_iff.mp (x 0).isLt
  have hj : (i 2).val * 8 + (i 1).val = j.val := by rw [hm.2.1, hm.2.2]; omega
  rw [src_emb]
  fin_cases a
  · simp [hx0, rowOf, ValueIdx.ix2, hj, Nat.mod_eq_of_lt hw]
  · simp [ValueIdx.ix2, e3]

variable {α : Type}

/-- A word of the index table read and its bound checked. -/
theorem step_word (c : Dev nD) (T : TabC F) {q : PosShare TreeShare} (n : ℕ) (hn : n < 2048) {o : Fin 1 → ℕ} {h}
    (ho : o = ![n]) {hp} {P R : sProp 𝕄}
    {K : Elt F .i32 → sProp 𝕄}
    (hK : iprop(P ∗ (tabLoc c ↦{q} T) ∗ R) ⊢ K (word T n)) :
    iprop(P ∗ (tabLoc c ↦{q} T) ∗ R)
      ⊢ wp frame (wpE (defs₀ (F := F)) Variants.none (c : Thread nD τ) none) Set.univ
          (smemLoad (Memref.whole main_call0_v21) (Rect.unit (s := S2048) o S1.size h) numel1_S1 hp) K := by
  subst ho
  have e : (View.read (Elt F) ((Memref.whole main_call0_v21).access (Rect.unit (s := S2048) ![n] S1.size h)) T
      (Shape.Idx.first (numel1_S1.symm ▸ Nat.one_pos))) = word T n := by
    show T _ = T _
    congr 1
    funext a
    fin_cases a
    apply Fin.ext
    show n + 1 * 0 = n % 2048
    omega
  have HW : (tabLoc c ↦{q} T : sProp 𝕄)
      ⊢ iprop(((tabLoc c ↦{q} T) -∗ wp frame (wpE (defs₀ (F := F)) Variants.none (c : Thread nD τ) none) Set.univ (.ret (word T n)) K)
        -∗ wp frame (wpE (defs₀ (F := F)) Variants.none (c : Thread nD τ) none) Set.univ
          (smemLoad (Memref.whole main_call0_v21) (Rect.unit (s := S2048) ![n] S1.size h) numel1_S1 hp) K) := by
    rw [← e]
    exact wp_smemLoadElt (m := Memref.whole main_call0_v21) (r := Rect.unit (s := S2048) ![n] S1.size h) Variants.none
      (c : Thread nD τ) none Set.univ (S := Finset.univ) (Finset.subset_univ _)
  iintro ⟨HP, HT, HR⟩
  iapply HW $$ HT
  iintro HT
  rw [wp_ret]
  imodintro
  iapply hK
  isplitl [HP]; · iexact HP
  isplitl [HT]; · iexact HT
  iexact HR

/-- A check whose condition holds. -/
theorem step_check (c : Dev nD) {p : Prop} {d : Decidable p} (hp : p) {P : sProp 𝕄} {K : PLift p → sProp 𝕄} (hK : P ⊢ K ⟨hp⟩) :
    P ⊢ wp frame (wpE (defs₀ (F := F)) Variants.none (c : Thread nD τ) none) Set.univ (Prog.lift (TpuEff.assume p d)) K := by
  refine BI.Entails.trans ?_ (wp_assume (defs := defs₀ (F := F)) Variants.none (c : Thread nD τ) none Set.univ hp)
  rw [wp_ret]
  have h : (P : sProp 𝕄) ⊢ iprop(|={Set.univ}=> K ⟨hp⟩) := by
    iintro H; imodintro; iapply hK; iexact H
  exact h

/-- Row `j` of group `g` started, in slot `s`. -/
theorem step_issue (c : Dev nD) (E : EdgeC F) (T : TabC F) (s : Fin 4) (g j : ℕ) (hj : j < 64)
    (hw : (word T (g * 64 + j)).toNat < 4096)
    {o : Fin 4 → ℕ} {h} {o2 : Fin 2 → ℕ} {h2} {oS : Fin 1 → ℕ} {hS}
    (eo : o = pOff s ⟨j, hj⟩) (e2 : o2 = ![(word T (g * 64 + j)).toNat, 0]) (eS : oS = ![s.val]) {p1 p2 p3} {R : sProp 𝕄}
    {K : PUnit → sProp 𝕄} (hK : iprop(issuing c E T s g (j + 1) ∗ R) ⊢ K ⟨⟩) :
    iprop(issuing c E T s g j ∗ R)
      ⊢ wp frame (wpE (defs₀ (F := F)) Variants.none (c : Thread nD τ) none) Set.univ
          (Prog.lift (.enqueueDma (srcM o2 h2) (.here (rowM o h)) (.dma (cellM oS hS)) p1 p2 p3)) K := by
  subst eo e2 eS
  have hWU : ∀ f : RingC F, (ringLoc c ↦[rowSet s ⟨j, hj⟩]{fullShare} f : sProp 𝕄)
      ⊢ writeUpdate (c : Thread nD τ) (rowM (pOff s ⟨j, hj⟩) h).view
          (ReadAs.same.apply ((srcM ![(word T (g * 64 + j)).toNat, 0] h2).view.read (Elt F) E))
          (ringLoc c ↦[rowSet s ⟨j, hj⟩]{fullShare} landed E T g) := by
    intro f
    have hc := pointsTo_congr (Ix := Unit) (Name := ℕ) (U := Pipeline.UD sig nD τ) (Lvl := ℕ) (ℓ := ringLoc c) (q := fullShare) (write_row c E T s g ⟨j, hj⟩ h2 f hw)
    rw [← hc]
    exact pointsTo_writeUpdate (v := (rowM (pOff s ⟨j, hj⟩) h).view) (c : Thread nD τ) (Finset.Subset.refl _)
  unfold issuing Transfers.Batch
  iintro ⟨⟨⟨%γ, %γ₀, %κ, #Hinv, HI, H0, Hcred⟩, HF⟩, HR⟩
  ihave HI' := (show bigSep (Transfers.pending j) (fun t => count (EC (F := F)) (γ t) 0) ⊢ iprop(count (EC (F := F)) (γ ⟨j, hj⟩) 0 ∗ bigSep (Transfers.pending (j + 1)) (fun t => count (EC (F := F)) (γ t) 0))
    from Entails.of_eq (by rw [Transfers.pending_succ hj, bigSep_insert (Transfers.not_mem_pending_succ hj)]; rfl)) $$ HI
  icases HI' with ⟨Ht, HI⟩
  ihave HF' := (show bigSep (Transfers.pending j) (freeRow c E s) ⊢ iprop(freeRow c E s ⟨j, hj⟩ ∗ bigSep (Transfers.pending (j + 1)) (freeRow c E s))
    from Entails.of_eq (by rw [Transfers.pending_succ hj, bigSep_insert (Transfers.not_mem_pending_succ hj)]; rfl)) $$ HF
  icases HF' with ⟨Hf, HF⟩
  ihave Hf' := (show freeRow c E s ⟨j, hj⟩ ⊢ iprop((∃ f : RingC F, ringLoc c ↦[rowSet s ⟨j, hj⟩]{fullShare} f) ∗ (edgeLoc c ↦{tok s ⟨j, hj⟩} E)) from .rfl) $$ Hf
  icases Hf' with ⟨⟨%f, Hd⟩, He⟩
  ihave He' := (pointsTo_split_subset (Finset.subset_univ (srcM ![(word T (g * 64 + j)).toNat, 0] h2).view.set)).1 $$ He
  icases He' with ⟨Hs, Hrest⟩
  iapply (wp_enqueueDmaAs (defs := defs₀ (F := F)) Variants.none (c : Thread nD τ) none Set.univ
    (src := srcM ![(word T (g * 64 + j)).toNat, 0] h2) (via := ReadAs.same) (dst := rowM (pOff s ⟨j, hj⟩) h)
    (sem := .dma (cellM ![s.val] hS)) (hsrc := p1) (hdst := p2) (hsem := p3) (k := .ret) (Q := K)
    (q := tok s ⟨j, hj⟩) (fs := E) (R := ringLoc c ↦[rowSet s ⟨j, hj⟩]{fullShare} landed E T g) (ι := ()) (N := rowAmt) (by rfl)) $$ [Hs Hd] [Ht Hrest]
  · isplitl [Hs]; · iexact Hs
    iapply (hWU f) $$ Hd
  · iapply (Transfers.batch_creditUpdate_with EC ⟨j, hj⟩
      (put := edgeLoc c ↦[Finset.univ \ (srcM ![(word T (g * 64 + j)).toNat, 0] h2).view.set]{tok s ⟨j, hj⟩} E)
      (D := landedRow c E T s g) (by
        unfold landedRow
        iintro ⟨Hp, Hd, Hs⟩
        isplitl [Hd]; · iexact Hd
        iapply (pointsTo_split_subset (Finset.subset_univ (srcM ![(word T (g * 64 + j)).toNat, 0] h2).view.set)).2
        isplitl [Hs]; · iexact Hs
        iexact Hp))
    isplitr; · iexact Hinv
    isplitl [Ht]; · iexact Ht
    iexact Hrest
  iintro Hcred'
  rw [wp_ret]
  imodintro
  iapply hK
  isplitr [HR]
  · unfold issuing Transfers.Batch
    isplitr [HF]
    · iexists γ, γ₀, κ
      isplitr; · iexact Hinv
      isplitl [HI]; · iexact HI
      isplitl [H0]; · iexact H0
      rw [show (j + 1) * rowAmt - 0 = (j * rowAmt - 0) + rowAmt by rw [Nat.succ_mul]; omega, ← tallyAt_add]
      icombine Hcred Hcred' as H
      iexact H
    · iexact HF
  · iexact HR

/-- A wait for one row of group `g`, not the last. -/
theorem step_wait (c : Dev nD) (E : EdgeC F) (T : TabC F) (s : Fin 4) (g u : ℕ) (hu : u + 1 < 64)
    {o : Fin 4 → ℕ} {h} {oS : Fin 1 → ℕ} {hS} (eS : oS = ![s.val]) {o2 h2 p1 p2} {W : Waits sig Unit} {R : sProp 𝕄}
    {K : PUnit → sProp 𝕄}
    (hK : ∀ W, iprop(waiting c E T s g (u + 1) ∗ owes (c : Thread nD τ) 0 W ∗ R) ⊢ K ⟨⟩) :
    iprop(waiting c E T s g u ∗ owes (c : Thread nD τ) 0 W ∗ R)
      ⊢ wp frame (wpE (defs₀ (F := F)) Variants.none (c : Thread nD τ) none) Set.univ
          (Prog.lift (.waitDma2 (cellM oS hS) (srcM o2 h2) (rowM o h) p1 p2)) K := by
  subst eS
  unfold waiting
  iintro ⟨HB, HO, HR⟩
  iapply (Transfers.wp_waitBatch EC (defs := defs₀ (F := F)) Variants.none (c : Thread nD τ) none
    (srcw := srcM o2 h2) (dstw := rowM o h) (sem := cellM ![s.val] hS) (k := .ret) (Q := K) () (N := rowAmt) (by rfl)
    (D := landedRow c E T s g) (u := u * rowAmt) (by show u * 512 + 512 < 512 * 64; omega)) $$ [HB HO]
  · isplitl [HB]; · iexact HB
    iexact HO
  iintro ⟨HB, HO⟩
  rw [wp_ret]
  imodintro
  iapply (hK _)
  isplitl [HB]; · unfold waiting; rw [Nat.succ_mul]; iexact HB
  isplitl [HO]; · iexact HO
  iexact HR

/-- The last wait: every row of group `g` has landed and the semaphore is back at zero. -/
theorem step_waitLast (c : Dev nD) (E : EdgeC F) (T : TabC F) (s : Fin 4) (g : ℕ)
    {o : Fin 4 → ℕ} {h} {oS : Fin 1 → ℕ} {hS} (eS : oS = ![s.val]) {o2 h2 p1 p2} {W : Waits sig Unit} {R : sProp 𝕄}
    {K : PUnit → sProp 𝕄}
    (hK : ∀ W, iprop((bigSep Finset.univ (landedRow c E T s g) ∗ semVal ((c : Thread nD τ), cell s) 0)
      ∗ owes (c : Thread nD τ) 0 W ∗ R) ⊢ K ⟨⟩) :
    iprop(waiting c E T s g 63 ∗ owes (c : Thread nD τ) 0 W ∗ R)
      ⊢ wp frame (wpE (defs₀ (F := F)) Variants.none (c : Thread nD τ) none) Set.univ
          (Prog.lift (.waitDma2 (cellM oS hS) (srcM o2 h2) (rowM o h) p1 p2)) K := by
  subst eS
  unfold waiting
  iintro ⟨HB, HO, HR⟩
  iapply (Transfers.wp_waitBatchLast EC (defs := defs₀ (F := F)) Variants.none (c : Thread nD τ) none
    (srcw := srcM o2 h2) (dstw := rowM o h) (sem := cellM ![s.val] hS) (k := .ret) (Q := K) () (N := rowAmt) (by rfl) (by decide)
    (D := landedRow c E T s g) (u := 63 * rowAmt) (by decide)) $$ [HB HO]
  · isplitl [HB]; · iexact HB
    iexact HO
  iintro ⟨HD, HS, HO⟩
  rw [wp_ret]
  imodintro
  iapply (hK _)
  isplitl [HD HS]
  · isplitl [HD]; · iexact HD
    iexact HS
  isplitl [HO]; · iexact HO
  iexact HR

end Cert.KernelIdeal.Hand
-- ==== Proof.Ideal.Groups.lean ====
/- Whole groups started and whole groups waited for. -/
module

public import proofs.«01_k».proof.Proof.Ideal.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What holds before program `m` on device `c` so that `K` holds after it. -/
abbrev runs (c : Dev nD) {A : Type} (m : Prog (TpuEff nD τ sig (Elt F) Λ₀ .tc) A) (K : A → sProp 𝕄) : sProp 𝕄 :=
  wp frame (wpE (defs₀ (F := F)) Variants.none (c : Thread nD τ) none) Set.univ m K

variable {c : Dev nD} {E : EdgeC F} {T : TabC F} {q : PosShare TreeShare}

theorem weaken {P Q R : sProp 𝕄} (h : P ⊢ Q) (h' : Q ⊢ R) : P ⊢ R := BI.Entails.trans h h'

/-! Taking one conjunct out of a separating conjunction, with the promise to take a changed one back in its place. -/
theorem swap_last {A A' : sProp 𝕄} : A ⊢ iprop(A ∗ (A' -∗ A')) := by
  iintro H
  isplitl [H]; · iexact H
  iintro H; iexact H
theorem swap_here {A A' R : sProp 𝕄} : iprop(A ∗ R) ⊢ iprop(A ∗ (A' -∗ A' ∗ R)) := by
  iintro ⟨H, HR⟩
  isplitl [H]; · iexact H
  iintro H
  isplitl [H]; · iexact H
  iexact HR
theorem swap_next {A A' B R R' : sProp 𝕄} (h : R ⊢ iprop(A ∗ (A' -∗ R'))) : iprop(B ∗ R) ⊢ iprop(A ∗ (A' -∗ B ∗ R')) := by
  iintro ⟨HB, HR⟩
  ihave H := h $$ HR
  icases H with ⟨HA, HR⟩
  isplitl [HA]; · iexact HA
  iintro HA
  isplitl [HB]; · iexact HB
  iapply HR $$ HA
/-- The same with two conjuncts, the first before the second. -/
theorem swap_pair_here {A A' B B' R R' : sProp 𝕄} (h : R ⊢ iprop(B ∗ (B' -∗ R'))) :
    iprop(A ∗ R) ⊢ iprop(A ∗ B ∗ ((A' ∗ B') -∗ A' ∗ R')) := by
  iintro ⟨HA, HR⟩
  ihave H := h $$ HR
  icases H with ⟨HB, HR⟩
  isplitl [HA]; · iexact HA
  isplitl [HB]; · iexact HB
  iintro ⟨HA, HB⟩
  isplitl [HA]; · iexact HA
  iapply HR $$ HB
theorem swap_pair_next {A A' B B' C R R' : sProp 𝕄} (h : R ⊢ iprop(A ∗ B ∗ ((A' ∗ B') -∗ R'))) :
    iprop(C ∗ R) ⊢ iprop(A ∗ B ∗ ((A' ∗ B') -∗ C ∗ R')) := by
  iintro ⟨HC, HR⟩
  ihave H := h $$ HR
  icases H with ⟨HA, HB, HR⟩
  isplitl [HA]; · iexact HA
  isplitl [HB]; · iexact HB
  iintro H
  isplitl [HC]; · iexact HC
  iapply HR $$ H
/-- The same with contents chosen later. -/
theorem swapAll_last {X : Type} {A : sProp 𝕄} {A' : X → sProp 𝕄} : A ⊢ iprop(A ∗ (∀ x, A' x -∗ A' x)) := by
  iintro H
  isplitl [H]; · iexact H
  iintro %x H; iexact H
theorem swapAll_here {X : Type} {A R : sProp 𝕄} {A' : X → sProp 𝕄} : iprop(A ∗ R) ⊢ iprop(A ∗ (∀ x, A' x -∗ A' x ∗ R)) := by
  iintro ⟨H, HR⟩
  isplitl [H]; · iexact H
  iintro %x H
  isplitl [H]; · iexact H
  iexact HR
theorem swapAll_next {X : Type} {A B R : sProp 𝕄} {A' R' : X → sProp 𝕄} (h : R ⊢ iprop(A ∗ (∀ x, A' x -∗ R' x))) :
    iprop(B ∗ R) ⊢ iprop(A ∗ (∀ x, A' x -∗ B ∗ R' x)) := by
  iintro ⟨HB, HR⟩
  ihave H := h $$ HR
  icases H with ⟨HA, HR⟩
  isplitl [HA]; · iexact HA
  iintro %x HA
  isplitl [HB]; · iexact HB
  iapply HR $$ HA

/-- A sequence is run by running its first part and then the rest. -/
theorem step_bind {A B : Type} {m : Prog (TpuEff nD τ sig (Elt F) Λ₀ .tc) A} {k : A → Prog (TpuEff nD τ sig (Elt F) Λ₀ .tc) B}
    {P : sProp 𝕄} {Q : B → sProp 𝕄} (h : P ⊢ runs c m (fun a => runs c (k a) Q)) : P ⊢ runs c (m >>= k) Q := by
  unfold runs; rw [wp_bind]; exact h

/-- A returned value. -/
theorem step_pure {A : Type} {a : A} {P : sProp 𝕄} {Q : A → sProp 𝕄} (h : P ⊢ Q a) :
    P ⊢ runs c (pure a : Prog (TpuEff nD τ sig (Elt F) Λ₀ .tc) A) Q := by
  show P ⊢ wp _ _ _ (.ret a) Q
  rw [wp_ret]
  have h' : (P : sProp 𝕄) ⊢ iprop(|={Set.univ}=> Q a) := by
    iintro H; imodintro; iapply h; iexact H
  exact h'

/-- The word of the row to be started next. -/
theorem next_word {s : Fin 4} {g j : ℕ} {o : Fin 1 → ℕ} {h} {hp} {R : sProp 𝕄} {K : Elt F .i32 → sProp 𝕄}
    (hn : g * 64 + j < 2048) (ho : o = ![g * 64 + j])
    (hK : iprop(issuing c E T s g j ∗ (tabLoc c ↦{q} T) ∗ R) ⊢ K (word T (g * 64 + j))) :
    iprop(issuing c E T s g j ∗ (tabLoc c ↦{q} T) ∗ R)
      ⊢ runs c (smemLoad (Memref.whole main_call0_v21) (Rect.unit (s := S2048) o S1.size h) numel1_S1 hp) K :=
  step_word c T _ hn ho hK

/-- A word of a table of row numbers is inside the edge matrix. -/
theorem word_inb (hT : ∀ x, (T x).toNat < 4096) (n : ℕ) :
    ∀ a, (![(word T n).toNat, 0] : Fin 2 → ℕ) a + S1x4096.size a ≤ S4096x4096.size a := by
  intro a
  have h : (word T n).toNat < 4096 := hT _
  fin_cases a
  · show (word T n).toNat + 1 ≤ 4096; omega
  · show 0 + 4096 ≤ 4096; omega

/-- A slot once its group's turn to be started has passed: waiting for the group when it was started, idle otherwise. -/
def armed (c : Dev nD) (E : EdgeC F) (T : TabC F) (s : Fin 4) (g : ℕ) (live : Prop) [Decidable live] : sProp 𝕄 :=
  if live then waiting c E T s g 0 else idleSlot c E s

/-- A group is started under a condition: from an idle slot, the 64 row copies when the condition holds; `jp` is what
    follows in both cases. -/
theorem step_group {p : Prop} [Decidable p] {A : Type} (s : Fin 4) (g : ℕ) {m : p → Prog (TpuEff nD τ sig (Elt F) Λ₀ .tc) A}
    {jp : Prog (TpuEff nD τ sig (Elt F) Λ₀ .tc) A} {P : sProp 𝕄} (P' : sProp 𝕄) {K : A → sProp 𝕄}
    (hS : P ⊢ iprop(idleSlot c E s ∗ (tabLoc c ↦{q} T) ∗ ((armed c E T s g p ∗ (tabLoc c ↦{q} T)) -∗ P')))
    (hm : ∀ h (R : sProp 𝕄), (iprop(issuing c E T s g 64 ∗ (tabLoc c ↦{q} T) ∗ R) ⊢ runs c jp K) →
      iprop(issuing c E T s g 0 ∗ (tabLoc c ↦{q} T) ∗ R) ⊢ runs c (m h) K)
    (hK : P' ⊢ runs c jp K) :
    P ⊢ runs c (if h : p then m h else jp) K := by
  refine weaken hS ?_
  by_cases h : p
  · rw [dif_pos h]
    have h0 := hm h iprop((armed c E T s g p ∗ (tabLoc c ↦{q} T)) -∗ P') (by
      refine weaken ?_ hK
      unfold armed; rw [if_pos h]
      iintro ⟨HI, HT, HR⟩
      iapply HR
      isplitl [HI]; · iapply issuing_done $$ HI
      iexact HT)
    iintro ⟨HI, HR⟩
    imod (issuing_alloc c E T s g) $$ HI with HI
    iapply h0
    isplitl [HI]; · iexact HI
    iexact HR
  · rw [dif_neg h]
    refine weaken ?_ hK
    unfold armed; rw [if_neg h]
    iintro ⟨HI, HT, HR⟩
    iapply HR
    isplitl [HI]; · iexact HI
    iexact HT

/-- The contents of the table of sentence lengths, where it lies, and its word `n`. -/
abbrev SegC (F : FTy → Type) [FloatOps F] : Type := S8.Idx → Elt F .i32
abbrev segLoc (c : Dev nD) : Loc nD τ sig := (c : Thread nD τ).loc main_arg2
def segWord (G : SegC F) (n : ℕ) : BitVec 32 := G (fun a => ⟨n % 8, by have h : n % 8 < 8 := Nat.mod_lt _ (by decide); fin_cases a; exact h⟩)

/-- A word of the table of sentence lengths. -/
theorem step_segWord {G : SegC F} {q : PosShare TreeShare} (n : ℕ) (hn : n < 8) {o : Fin 1 → ℕ} {h}
    (ho : o = ![n]) {hp} {P : sProp 𝕄} {K : Elt F .i32 → sProp 𝕄}
    (hS : P ⊢ iprop((segLoc c ↦{q} G) ∗ ((segLoc c ↦{q} G) -∗ P))) (hK : P ⊢ K (segWord G n)) :
    P ⊢ runs c (smemLoad (Memref.whole main_arg2) (Rect.unit (s := S8) o S1.size h) numel1_S1 hp) K := by
  subst ho
  have e : (View.read (Elt F) ((Memref.whole main_arg2).access (Rect.unit (s := S8) ![n] S1.size h)) G
      (Shape.Idx.first (numel1_S1.symm ▸ Nat.one_pos))) = segWord G n := by
    show G _ = G _
    congr 1
    funext a
    fin_cases a
    apply Fin.ext
    show n + 1 * 0 = n % 8
    omega
  have HW : (segLoc c ↦{q} G : sProp 𝕄)
      ⊢ iprop(((segLoc c ↦{q} G) -∗ wp frame (wpE (defs₀ (F := F)) Variants.none (c : Thread nD τ) none) Set.univ (.ret (segWord G n)) K)
        -∗ wp frame (wpE (defs₀ (F := F)) Variants.none (c : Thread nD τ) none) Set.univ
          (smemLoad (Memref.whole main_arg2) (Rect.unit (s := S8) ![n] S1.size h) numel1_S1 hp) K) := by
    rw [← e]
    exact wp_smemLoadElt (m := Memref.whole main_arg2) (r := Rect.unit (s := S8) ![n] S1.size h) Variants.none
      (c : Thread nD τ) none Set.univ (S := Finset.univ) (Finset.subset_univ _)
  refine weaken hS ?_
  iintro ⟨HT, HK⟩
  iapply HW $$ HT
  iintro HT
  rw [wp_ret]
  imodintro
  iapply hK
  iapply HK $$ HT

/-- A load through a rectangle of an operand. -/
theorem step_load {sp : CoreSpace} {s : Shape} {e : EltTy} {m : Memref sig .tc sp s e} {r : Rect s} {hl}
    {q : PosShare TreeShare} {X : s.Idx → Elt F e} {P : sProp 𝕄} {K : (r.shape.Idx → Elt F e) → sProp 𝕄}
    (hS : P ⊢ iprop(owns (c : Thread nD τ) m q X ∗ (owns (c : Thread nD τ) m q X -∗ P))) (hK : P ⊢ K (fun z => X (r.emb z))) :
    P ⊢ runs c (Prog.lift (.load m r.toLoadRect hl)) K := by
  have HW : ∀ f, (m.view.loc (c : Thread nD τ) ↦[m.view.set]{q} f : sProp 𝕄)
      ⊢ iprop(((m.view.loc (c : Thread nD τ) ↦[m.view.set]{q} f) -∗ wp frame (wpE (defs₀ (F := F)) Variants.none (c : Thread nD τ) none) Set.univ (.ret (fun z => m.view.read (Elt F) f (r.emb z))) K)
        -∗ wp frame (wpE (defs₀ (F := F)) Variants.none (c : Thread nD τ) none) Set.univ (Prog.lift (.load m r.toLoadRect hl)) K) := by
    intro f
    exact wp_load_rect (m := m) (r := r) (hl := hl) Variants.none (c : Thread nD τ) none Set.univ (View.set_slice_subset _ _)
  refine weaken hS ?_
  unfold owns
  iintro ⟨⟨%f, %hf, HT⟩, HK⟩
  iapply (HW f) $$ HT
  iintro HT
  rw [wp_ret]
  imodintro
  rw [hf]
  iapply hK
  iapply HK
  iexists f
  isplitr; · ipureintro; exact hf
  iexact HT

/-- A store through a rectangle of an operand: `w` inside the rectangle, as before outside it. -/
theorem step_store {sp : CoreSpace} {s : Shape} {e : EltTy} {m : Memref sig .tc sp s e} {r : Rect s} {hl hx}
    {X : s.Idx → Elt F e} {w : r.shape.Idx → Elt F e} {P : sProp 𝕄} {P' : (s.Idx → Elt F e) → sProp 𝕄} {K : PUnit.{1} → sProp 𝕄}
    (hS : P ⊢ iprop(owns (c : Thread nD τ) m fullShare X ∗ (∀ X', owns (c : Thread nD τ) m fullShare X' -∗ P' X')))
    (hK : ∀ X', (∀ z, X' (r.emb z) = w z) → (∀ x, x ∉ r.set → X' x = X x) → P' X' ⊢ K ⟨⟩) :
    P ⊢ runs c (Prog.lift (.store m r w Finset.univ hl hx)) K := by
  have HW : ∀ f, (m.view.loc (c : Thread nD τ) ↦[m.view.set]{fullShare} f : sProp 𝕄)
      ⊢ iprop(((m.view.loc (c : Thread nD τ) ↦[m.view.set]{fullShare} (m.access r).write (Elt F) f w Finset.univ) -∗ wp frame (wpE (defs₀ (F := F)) Variants.none (c : Thread nD τ) none) Set.univ (.ret ⟨⟩) K)
        -∗ wp frame (wpE (defs₀ (F := F)) Variants.none (c : Thread nD τ) none) Set.univ (Prog.lift (.store m r w Finset.univ hl hx)) K) := by
    intro f
    exact wp_store (m := m) (r := r) (hx := hl) (hm := hx) Variants.none (c : Thread nD τ) none Set.univ (View.set_slice_subset _ _)
  refine weaken hS ?_
  unfold owns
  iintro ⟨⟨%f, %hf, HT⟩, HK⟩
  iapply (HW f) $$ HT
  iintro HT
  rw [wp_ret]
  imodintro
  have hin : ∀ z, m.view.read (Elt F) ((m.access r).write (Elt F) f w Finset.univ) (r.emb z) = w z :=
    fun z => congrFun (View.read_write_univ (v := m.access r) f w) z
  have hout : ∀ x, x ∉ r.set → m.view.read (Elt F) ((m.access r).write (Elt F) f w Finset.univ) x = X x := by
    intro x hx
    rw [← hf]
    show _root_.cast _ _ = _root_.cast _ _
    congr 1
    refine View.write_of_not_mem (v := m.access r) f w Finset.univ ?_
    intro hm
    refine hx ?_
    rw [View.setOn_univ, View.set_slice] at hm
    obtain ⟨y, hy, e⟩ := Finset.mem_map.mp hm
    rwa [← m.view.emb.injective e]
  iapply (hK _ hin hout)
  iapply HK
  iexists ((m.access r).write (Elt F) f w Finset.univ)
  isplitr; · ipureintro; rfl
  iexact HT

/-- The rectangle of all of a shape puts every index at itself. -/
theorem emb_all {s : Shape} {o : Fin s.rank → ℕ} (h : ∀ a, o a + s.size a ≤ s.size a) (z : s.Idx) :
    (Rect.unit (s := s) o s.size h).emb z = z := by
  funext a
  apply Fin.ext
  show o a + 1 * (z a).val = (z a).val
  have := h a
  omega

/-- A load of the whole of an operand. -/
theorem step_loadAll {sp : CoreSpace} {s : Shape} {e : EltTy} {m : Memref sig .tc sp s e} {o : Fin s.rank → ℕ} {h hl}
    {q : PosShare TreeShare} {X : s.Idx → Elt F e} {P : sProp 𝕄} {K : (s.Idx → Elt F e) → sProp 𝕄}
    (hS : P ⊢ iprop(owns (c : Thread nD τ) m q X ∗ (owns (c : Thread nD τ) m q X -∗ P))) (hK : P ⊢ K X) :
    P ⊢ runs c (Prog.lift (.load m (Rect.unit (s := s) o s.size h).toLoadRect hl)) K := by
  refine step_load hS ?_
  rw [show (fun z => X ((Rect.unit (s := s) o s.size h).emb z)) = X from funext fun z => by rw [emb_all]]
  exact hK

/-- A store to the whole of an operand. -/
theorem step_storeAll {sp : CoreSpace} {s : Shape} {e : EltTy} {m : Memref sig .tc sp s e} {o : Fin s.rank → ℕ} {h hl hx}
    {X w : s.Idx → Elt F e} {P : sProp 𝕄} {P' : (s.Idx → Elt F e) → sProp 𝕄} {K : PUnit.{1} → sProp 𝕄}
    (hS : P ⊢ iprop(owns (c : Thread nD τ) m fullShare X ∗ (∀ X', owns (c : Thread nD τ) m fullShare X' -∗ P' X'))) (hK : P' w ⊢ K ⟨⟩) :
    P ⊢ runs c (Prog.lift (.store m (Rect.unit (s := s) o s.size h) w Finset.univ hl hx)) K := by
  refine step_store hS ?_
  intro X' hin _
  have e : X' = w := funext fun z => by rw [← hin z, emb_all]
  rw [e]; exact hK

/-- What the first grid point holds while it starts the first three groups: the state of the three slots, the two
    tables, and the rest. -/
abbrev starting (c : Dev nD) (A0 A1 A2 : sProp 𝕄) (q : PosShare TreeShare) (T : TabC F) (q2 : PosShare TreeShare) (G : SegC F)
    (R : sProp 𝕄) : sProp 𝕄 :=
  iprop(A0 ∗ A1 ∗ A2 ∗ (tabLoc c ↦{q} T) ∗ (segLoc c ↦{q2} G) ∗ R)

set_option maxHeartbeats 4000000 in
/-- The first grid point's first part: the first three groups are started, each when its sentence is long enough, and
    the operands of the first product are loaded. -/
theorem run_part49 {i : grid0.Coords} {arg3 harg3 arg4 harg4 arg5 harg5 arg6 harg6 arg7 harg7 arg8 harg8 arg10 harg10 arg12 harg12 arg13 harg13 arg14 harg14}
    {h1 h2 h9 h11 h41} {G : SegC F} {q2 q4 q5 q6 : PosShare TreeShare} {C M KB}
    (hT : ∀ x, (T x).toNat < 4096) {R₁ : sProp 𝕄} {K}
    (hL4 : R₁ ⊢ iprop(owns (c : Thread nD τ) arg4 q4 C ∗ (owns (c : Thread nD τ) arg4 q4 C -∗ R₁)))
    (hL5 : R₁ ⊢ iprop(owns (c : Thread nD τ) arg5 q5 M ∗ (owns (c : Thread nD τ) arg5 q5 M -∗ R₁)))
    (hL6 : R₁ ⊢ iprop(owns (c : Thread nD τ) arg6 q6 KB ∗ (owns (c : Thread nD τ) arg6 q6 KB -∗ R₁)))
    (hK : starting c (armed c E T 0 0 (k0_cond2 (segWord G 0) = 1#1)) (armed c E T 1 1 (k0_cond3 (segWord G 0) = 1#1)) (armed c E T 2 2 (k0_cond4 (segWord G 0) = 1#1))
      q T q2 G R₁ ⊢ K ⟨KB, k0_pay3 C M KB⟩) :
    starting c (idleSlot c E 0) (idleSlot c E 1) (idleSlot c E 2) q T q2 G R₁
      ⊢ runs c (k0_part49 i (Memref.whole main_call0_v21) h1 (Memref.whole main_arg2) h2 arg3 harg3 arg4 harg4 arg5 harg5 arg6 harg6 arg7 harg7 arg8 harg8 (Memref.whole main_arg5) h9 arg10 harg10 (Memref.whole cc0_scratch0) h11 arg12 harg12 arg13 harg13 arg14 harg14 cc0_scratch4 h41) K := by
  rw [k0_part49_eq_skeleton]; unfold k0_part49_skel
  refine step_bind (step_segWord 0 (by decide) rfl (swap_next (swap_next (swap_next (swap_next swap_here)))) ?_)
  dsimp only
  refine step_group (E := E) (T := T) (q := q) 0 0 (starting c (armed c E T 0 0 (k0_cond2 (segWord G 0) = 1#1)) (idleSlot c E 1) (idleSlot c E 2) q T q2 G R₁) (swap_pair_here (swap_next (swap_next swap_here))) ?_ ?_
  · intro h R hK
    iterate 16
      refine step_bind ?_
      iterate 4
        refine step_bind (next_word (by decide) rfl ?_)
        refine step_bind (step_check c (fun _ _ => word_inb hT _) ?_)
        refine step_bind (step_issue c E T _ _ _ (by decide) (hT _) (by rfl) (by rfl) (by rfl) ?_)
      refine step_pure ?_
    exact hK
  refine step_bind (step_segWord 0 (by decide) rfl (swap_next (swap_next (swap_next (swap_next swap_here)))) ?_)
  refine step_group (E := E) (T := T) (q := q) 1 1 (starting c (armed c E T 0 0 (k0_cond2 (segWord G 0) = 1#1)) (armed c E T 1 1 (k0_cond3 (segWord G 0) = 1#1)) (idleSlot c E 2) q T q2 G R₁) (swap_pair_next (swap_pair_here (swap_next swap_here))) ?_ ?_
  · intro h R hK
    iterate 16
      refine step_bind ?_
      iterate 4
        refine step_bind (next_word (by decide) rfl ?_)
        refine step_bind (step_check c (fun _ _ => word_inb hT _) ?_)
        refine step_bind (step_issue c E T _ _ _ (by decide) (hT _) (by rfl) (by rfl) (by rfl) ?_)
      refine step_pure ?_
    exact hK
  refine step_bind (step_segWord 0 (by decide) rfl (swap_next (swap_next (swap_next (swap_next swap_here)))) ?_)
  refine step_group (E := E) (T := T) (q := q) 2 2 (starting c (armed c E T 0 0 (k0_cond2 (segWord G 0) = 1#1)) (armed c E T 1 1 (k0_cond3 (segWord G 0) = 1#1)) (armed c E T 2 2 (k0_cond4 (segWord G 0) = 1#1)) q T q2 G R₁) (swap_pair_next (swap_pair_next (swap_pair_here swap_here))) ?_ ?_
  · intro h R hK
    iterate 16
      refine step_bind ?_
      iterate 4
        refine step_bind (next_word (by decide) rfl ?_)
        refine step_bind (step_check c (fun _ _ => word_inb hT _) ?_)
        refine step_bind (step_issue c E T _ _ _ (by decide) (hT _) (by rfl) (by rfl) (by rfl) ?_)
      refine step_pure ?_
    exact hK
  refine step_bind (step_loadAll (swap_next (swap_next (swap_next (swap_next (swap_next hL4))))) ?_)
  refine step_bind (step_loadAll (swap_next (swap_next (swap_next (swap_next (swap_next hL5))))) ?_)
  refine step_bind (step_loadAll (swap_next (swap_next (swap_next (swap_next (swap_next hL6))))) ?_)
  exact step_pure hK

end Cert.KernelIdeal.Hand
-- ==== Proof.Ideal.Body.lean ====
/- The kernel's body at one grid point: what it holds before, what it holds after. -/
module

public import proofs.«01_k».proof.Proof.Ideal.Groups

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {E : EdgeC F} {T : TabC F} {q : PosShare TreeShare}

/-! ## Words of the grid point -/

/-- The slot of group `g`. -/
def slotOf (g : ℕ) : Fin 4 := ⟨g % 4, Nat.mod_lt _ (by decide)⟩

/-- Group `g` is there and its sentence reaches its first token. -/
def live (G : SegC F) (g : ℕ) : Prop := g < 32 ∧ ((g % 4 * 8 : ℕ) : ℤ) < (segWord G (g / 4)).toInt
instance (G : SegC F) (g : ℕ) : Decidable (live G g) := by unfold live; infer_instance

theorem sgt_iff (w v : BitVec 32) : (Scalar.cmpi .ne (Scalar.extui (Scalar.cmpi .sgt w v) : BitVec 32) 0#32 = 1#1) ↔ v.toInt < w.toInt := by
  by_cases h : v.toInt < w.toInt <;> simp [Scalar.cmpi, Scalar.extui, IntOp.cmpi, BitVec.slt, h]

theorem sle_iff (w v : BitVec 32) : (Scalar.cmpi .ne (Scalar.extui (Scalar.cmpi .sle w v) : BitVec 32) 0#32 = 1#1) ↔ ¬ v.toInt < w.toInt := by
  by_cases h : v.toInt < w.toInt <;> simp [Scalar.cmpi, Scalar.extui, IntOp.cmpi, BitVec.sle, h] <;> simp [not_le.mpr, not_lt.mp, h]

theorem point_lt (i : grid0.Coords) : (i 0).val < 32 := (i 0).isLt

/-- A fact about the 32 grid points. -/
theorem at_point (p : ℕ → Prop) (h : ∀ n : Fin 32, p n.val) (i : grid0.Coords) : p (i 0).val := h ⟨(i 0).val, point_lt i⟩

theorem cond1_iff (i : grid0.Coords) : k0_cond1 i = 1#1 ↔ (i 0).val = 0 :=
  at_point (fun n => (Scalar.cmpi .ne (Scalar.extui (Scalar.cmpi .eq (BitVec.ofNat 32 n) 0#32) : BitVec 32) 0#32 = 1#1) ↔ n = 0) (by decide) i
theorem cond5_iff (i : grid0.Coords) : k0_cond5 i = 1#1 ↔ (i 0).val + 3 < 32 :=
  at_point (fun n => (Scalar.cmpi .ne (Scalar.extui (Scalar.cmpi .slt (Scalar.subi (Scalar.addi (BitVec.ofNat 32 n) 4#32) 1#32) 32#32) : BitVec 32) 0#32 = 1#1) ↔ n + 3 < 32) (by decide) i
theorem cond9_iff (i : grid0.Coords) : k0_cond9 i = 1#1 ↔ (i 0).val = 31 :=
  at_point (fun n => (Scalar.cmpi .ne (Scalar.extui (Scalar.cmpi .eq (BitVec.ofNat 32 n) 31#32) : BitVec 32) 0#32 = 1#1) ↔ n = 31) (by decide) i

/-- The slot word of the point, and the slot word of the group started ahead. -/
abbrev slotW (i : grid0.Coords) : BitVec 32 := Scalar.remsi (BitVec.ofNat 32 (i 0).val) 4#32
abbrev aheadW (i : grid0.Coords) : BitVec 32 := Scalar.remsi (Scalar.subi (Scalar.addi (BitVec.ofNat 32 (i 0).val) 4#32) 1#32) 4#32
theorem slotW_eq (i : grid0.Coords) : (slotW i).toNat = (i 0).val % 4 :=
  at_point (fun n => (Scalar.remsi (BitVec.ofNat 32 n) 4#32).toNat = n % 4) (by decide) i
theorem aheadW_eq (i : grid0.Coords) : (aheadW i).toNat = ((i 0).val + 3) % 4 :=
  at_point (fun n => (Scalar.remsi (Scalar.subi (Scalar.addi (BitVec.ofNat 32 n) 4#32) 1#32) 4#32).toNat = (n + 3) % 4) (by decide) i

theorem slotRow_eq (i : grid0.Coords) : (Scalar.muli (slotW i) 8#32).toInt = (((i 0).val % 4 * 8 : ℕ) : ℤ) :=
  at_point (fun n => (Scalar.muli (Scalar.remsi (BitVec.ofNat 32 n) 4#32) 8#32).toInt = ((n % 4 * 8 : ℕ) : ℤ)) (by decide) i
theorem aheadRow_eq (i : grid0.Coords) : (Scalar.muli (aheadW i) 8#32).toInt = ((((i 0).val + 3) % 4 * 8 : ℕ) : ℤ) :=
  at_point (fun n => (Scalar.muli (Scalar.remsi (Scalar.subi (Scalar.addi (BitVec.ofNat 32 n) 4#32) 1#32) 4#32) 8#32).toInt = (((n + 3) % 4 * 8 : ℕ) : ℤ)) (by decide) i

/-- The sentence of the point, as the kernel computes it: a quotient rounded down. -/
abbrev quotW (x : BitVec 32) : BitVec 32 :=
  Scalar.select (Scalar.andi
      (Scalar.cmpi .ne (Scalar.subi (Scalar.extui (Scalar.cmpi .sgt x 0#32) : BitVec 32) (Scalar.extui (Scalar.cmpi .slt x 0#32)))
        (Scalar.subi (Scalar.extui (Scalar.cmpi .sgt 4#32 0#32) : BitVec 32) (Scalar.extui (Scalar.cmpi .slt 4#32 0#32))))
      (Scalar.cmpi .ne (Scalar.remsi x 4#32) 0#32))
    (Scalar.subi (Scalar.divsi x 4#32) 1#32) (Scalar.divsi x 4#32)
theorem off450_eq (i : grid0.Coords) : k0_off450 i = ![(i 0).val / 4] := by
  show ![(Scalar.indexCast (quotW (BitVec.ofNat 32 (i 0).val))).toNat] = _
  exact congrArg (fun n => (![n] : Fin 1 → ℕ)) (at_point (fun n => (Scalar.indexCast (quotW (BitVec.ofNat 32 n))).toNat = n / 4) (by decide) i)
theorem off516_eq (i : grid0.Coords) : k0_off516 i = ![(i 0).val / 4, 0] := by
  show ![(Scalar.indexCast (quotW (BitVec.ofNat 32 (i 0).val))).toNat, 0] = _
  exact congrArg (fun n => (![n, 0] : Fin 2 → ℕ)) (at_point (fun n => (Scalar.indexCast (quotW (BitVec.ofNat 32 n))).toNat = n / 4) (by decide) i)
theorem off193_eq (i : grid0.Coords) : k0_off193 i = ![((i 0).val + 3) / 4] := by
  show ![(Scalar.indexCast (quotW (Scalar.subi (Scalar.addi (BitVec.ofNat 32 (i 0).val) 4#32) 1#32))).toNat] = _
  exact congrArg (fun n => (![n] : Fin 1 → ℕ)) (at_point (fun n => (Scalar.indexCast (quotW (Scalar.subi (Scalar.addi (BitVec.ofNat 32 n) 4#32) 1#32))).toNat = (n + 3) / 4) (by decide) i)
theorem off525_eq (i : grid0.Coords) : k0_off525 i = ![(i 0).val * 8, 0] :=
  congrArg (fun n => (![n, 0] : Fin 2 → ℕ)) (at_point (fun n => (Scalar.indexCast (Scalar.muli (BitVec.ofNat 32 n) 8#32)).toNat = n * 8) (by decide) i)
theorem off526_eq (i : grid0.Coords) : k0_off526 i = ![(i 0).val * 8, 0] := off525_eq i
theorem off451_eq (i : grid0.Coords) : k0_off451 i = ![(slotOf (i 0).val).val] :=
  congrArg (fun n => (![n] : Fin 1 → ℕ)) (slotW_eq i)

/-- The operands of row `j` of the group started ahead: its word's place, its semaphore, its place in the ring. -/
theorem ahead_word (i : grid0.Coords) (j : ℕ) (hj : j < 64) {o : Fin 1 → ℕ}
    (h : o = ![(Scalar.indexCast (Scalar.addi (Scalar.muli (Scalar.addi (Scalar.muli (Scalar.subi (Scalar.addi (BitVec.ofNat 32 (i 0).val) 4#32) 1#32) 8#32)
      (BitVec.ofNat 32 (j / 8))) 8#32) (BitVec.ofNat 32 (j % 8)))).toNat]) : o = ![((i 0).val + 3) * 64 + j] := by
  rw [h]
  refine congrArg (fun n => (![n] : Fin 1 → ℕ)) ?_
  have hn := point_lt i
  generalize (i 0).val = n at *
  show (((BitVec.ofNat 32 n + 4#32 - 1#32) * 8#32 + BitVec.ofNat 32 (j / 8)) * 8#32 + BitVec.ofNat 32 (j % 8)).toNat = _
  simp only [BitVec.toNat_add, BitVec.toNat_mul, BitVec.toNat_sub, BitVec.toNat_ofNat]
  omega
theorem ahead_sem (i : grid0.Coords) {o : Fin 1 → ℕ} (h : o = ![(aheadW i).toNat]) : o = ![(slotOf ((i 0).val + 3)).val] := by
  rw [h, aheadW_eq]; rfl
theorem ahead_place (i : grid0.Coords) (j : ℕ) (hj : j < 64) {o : Fin 4 → ℕ} (h : o = ![(aheadW i).toNat, j % 8, j / 8, 0]) :
    o = pOff (slotOf ((i 0).val + 3)) ⟨j, hj⟩ := by
  rw [h, aheadW_eq]; rfl

/-! ## A slot landed whole -/

/-- The elements of slot `s`. -/
def slotSet (s : Fin 4) : Finset S4x8x8x4096.Idx := Finset.univ.biUnion (rowSet s)

/-- Slot `s` once every row of group `g` has landed: its elements, the shares of the edge matrix, the semaphore at zero. -/
def landedSlot (c : Dev nD) (E : EdgeC F) (T : TabC F) (s : Fin 4) (g : ℕ) : sProp 𝕄 :=
  iprop((ringLoc c ↦[slotSet s]{fullShare} (landed E T g : RingC F)) ∗ bigSep Finset.univ (fun j => (edgeLoc c ↦{tok s j} E : sProp 𝕄))
    ∗ semVal ((c : Thread nD τ), cell s) 0)

theorem rowSet_disjoint (s : Fin 4) : ∀ j ∈ (Finset.univ : Finset (Fin 64)), ∀ j' ∈ (Finset.univ : Finset (Fin 64)), j ≠ j' → Disjoint (rowSet s j) (rowSet s j') := by
  intro j _ j' _ hne
  rw [Finset.disjoint_left]
  intro x hx hx'
  rw [mem_rowSet] at hx hx'
  have h1 := j.isLt; have h2 := j'.isLt
  exact hne (Fin.ext (by omega))

theorem rows_slot (s : Fin 4) (f : RingC F) :
    bigSep Finset.univ (fun j => (ringLoc c ↦[rowSet s j]{fullShare} f : sProp 𝕄)) = (ringLoc c ↦[slotSet s]{fullShare} f : sProp 𝕄) :=
  (pointsTo_biUnion (ℓ := ringLoc c) (q := fullShare) (f := f) Finset.univ (rowSet s) (rowSet_disjoint s)).symm

theorem landed_of_rows (s : Fin 4) (g : ℕ) :
    iprop(bigSep Finset.univ (landedRow c E T s g) ∗ semVal ((c : Thread nD τ), cell s) 0) ⊢ landedSlot c E T s g := by
  unfold landedSlot
  rw [show bigSep Finset.univ (landedRow c E T s g) = iprop(bigSep Finset.univ (fun j => (ringLoc c ↦[rowSet s j]{fullShare} (landed E T g : RingC F) : sProp 𝕄)) ∗ bigSep Finset.univ (fun j => (edgeLoc c ↦{tok s j} E : sProp 𝕄)))
    from BI.bigSep_sep _ _ _, rows_slot]
  iintro ⟨⟨H1, H2⟩, H3⟩
  isplitl [H1]; · iexact H1
  isplitl [H2]; · iexact H2
  iexact H3

/-- A slot landed whole is idle. -/
theorem landed_idle (s : Fin 4) (g : ℕ) : landedSlot c E T s g ⊢ idleSlot c E s := by
  have h1 : ∀ j, iprop((ringLoc c ↦[rowSet s j]{fullShare} (landed E T g : RingC F)) ∗ (edgeLoc c ↦{tok s j} E)) ⊢ freeRow c E s j := by
    intro j
    unfold freeRow
    iintro ⟨H1, H2⟩
    isplitl [H1]; · iexists _; iexact H1
    iexact H2
  have e : iprop(bigSep Finset.univ (fun j => (ringLoc c ↦[rowSet s j]{fullShare} (landed E T g : RingC F) : sProp 𝕄)) ∗ bigSep Finset.univ (fun j => (edgeLoc c ↦{tok s j} E : sProp 𝕄))) ⊢ bigSep Finset.univ (freeRow c E s) := by
    refine weaken (Entails.of_eq (BI.bigSep_sep Finset.univ (fun j => (ringLoc c ↦[rowSet s j]{fullShare} (landed E T g : RingC F) : sProp 𝕄)) (fun j => (edgeLoc c ↦{tok s j} E : sProp 𝕄))).symm) ?_
    exact BI.bigSep_mono fun j _ => h1 j
  unfold landedSlot idleSlot
  rw [← rows_slot]
  iintro ⟨H1, H2, H3⟩
  isplitl [H1 H2]
  · iapply e
    isplitl [H1]; · iexact H1
    iexact H2
  iexact H3

/-- A load of rows of a landed slot. -/
theorem step_loadRing {s : Fin 4} {g : ℕ} {r : Rect S4x8x8x4096} {hl} {P : sProp 𝕄} {K : (r.shape.Idx → Elt F .f32) → sProp 𝕄} (Y : r.shape.Idx → Elt F .f32)
    (hY : (fun z => landed E T g (r.emb z)) = Y) (hin : ∀ z, ((r.emb z) 0).val = s.val)
    (hS : P ⊢ iprop(landedSlot c E T s g ∗ (landedSlot c E T s g -∗ P))) (hK : P ⊢ K Y) :
    P ⊢ runs c (Prog.lift (.load (Memref.whole cc0_scratch0) r.toLoadRect hl)) K := by
  subst hY
  have hsub : ((Memref.whole cc0_scratch0 : Memref sig .tc .vmem S4x8x8x4096 .f32).access r).set ⊆ slotSet s := by
    intro x hx
    obtain ⟨z, _, rfl⟩ := Finset.mem_map.mp hx
    show r.emb z ∈ _
    have h1 : ((r.emb z) 1).val < 8 := ((r.emb z) 1).isLt
    have h2 : ((r.emb z) 2).val < 8 := ((r.emb z) 2).isLt
    refine Finset.mem_biUnion.mpr ⟨⟨((r.emb z) 2).val * 8 + ((r.emb z) 1).val, by omega⟩, Finset.mem_univ _, ?_⟩
    rw [mem_rowSet]
    refine ⟨hin z, ?_, ?_⟩ <;> simp only <;> omega
  have HW : (ringLoc c ↦[slotSet s]{fullShare} (landed E T g : RingC F) : sProp 𝕄)
      ⊢ iprop(((ringLoc c ↦[slotSet s]{fullShare} (landed E T g : RingC F)) -∗ wp frame (wpE (defs₀ (F := F)) Variants.none (c : Thread nD τ) none) Set.univ (.ret (fun z => landed E T g (r.emb z))) K)
        -∗ wp frame (wpE (defs₀ (F := F)) Variants.none (c : Thread nD τ) none) Set.univ (Prog.lift (.load (Memref.whole cc0_scratch0) r.toLoadRect hl)) K) :=
    wp_load_rect (m := (Memref.whole cc0_scratch0 : Memref sig .tc .vmem S4x8x8x4096 .f32)) (r := r) (hl := hl) Variants.none (c : Thread nD τ) none Set.univ hsub
  refine weaken hS ?_
  iintro ⟨HL, HK⟩
  unfold landedSlot
  icases HL with ⟨H1, H2, H3⟩
  iapply HW $$ H1
  iintro H1
  rw [wp_ret]
  imodintro
  iapply hK
  iapply HK
  isplitl [H1]; · iexact H1
  isplitl [H2]; · iexact H2
  iexact H3

/-! ## Composite steps -/

theorem swap_riap_here {A A' B B' R R' : sProp 𝕄} (h : R ⊢ iprop(A ∗ (A' -∗ R'))) :
    iprop(B ∗ R) ⊢ iprop(A ∗ B ∗ ((A' ∗ B') -∗ B' ∗ R')) := by
  iintro ⟨HB, HR⟩
  ihave H := h $$ HR
  icases H with ⟨HA, HR⟩
  isplitl [HA]; · iexact HA
  isplitl [HB]; · iexact HB
  iintro ⟨HA, HB⟩
  isplitl [HB]; · iexact HB
  iapply HR $$ HA

theorem swap_out {P P' A A' : sProp 𝕄} (hS : P ⊢ iprop(A ∗ (A' -∗ P'))) (h : A ⊢ A') : P ⊢ P' := by
  refine weaken hS ?_
  iintro ⟨HA, HR⟩
  iapply HR
  iapply h $$ HA

theorem armed_congr {s : Fin 4} {g : ℕ} {p p' : Prop} [Decidable p] [Decidable p'] (h : p ↔ p') : armed c E T s g p = armed c E T s g p' := by
  unfold armed
  by_cases hp : p
  · rw [if_pos hp, if_pos (h.mp hp)]
  · rw [if_neg hp, if_neg (fun h' => hp (h.mpr h'))]
theorem armed_not {s : Fin 4} {g : ℕ} {p : Prop} [Decidable p] (h : ¬p) : armed c E T s g p = idleSlot c E s := if_neg h
theorem armed_pos {s : Fin 4} {g : ℕ} {p : Prop} [Decidable p] (h : p) : armed c E T s g p = waiting c E T s g 0 := if_pos h

/-- A branch that rejoins. -/
theorem step_join {p : Prop} [Decidable p] {A : Type} {m : p → Prog (TpuEff nD τ sig (Elt F) Λ₀ .tc) A}
    {jp : Prog (TpuEff nD τ sig (Elt F) Λ₀ .tc) A} {P : sProp 𝕄} (P' : sProp 𝕄) {K : A → sProp 𝕄}
    (h1 : ∀ h : p, (P' ⊢ runs c jp K) → P ⊢ runs c (m h) K) (h2 : ¬p → P ⊢ P') (hK : P' ⊢ runs c jp K) :
    P ⊢ runs c (if h : p then m h else jp) K := by
  by_cases h : p
  · rw [dif_pos h]; exact h1 h hK
  · rw [dif_neg h]; exact weaken (h2 h) hK

/-- What the thread owes, at some waits. -/
def owesSome (c : Dev nD) : sProp 𝕄 := iprop(∃ W, owes (c : Thread nD τ) 0 W)

/-- A run of waits: the slot's rows and what is owed leave the assertion, and come back landed. -/
theorem step_waits {A : Type} {m : Prog (TpuEff nD τ sig (Elt F) Λ₀ .tc) A} {s : Fin 4} {g : ℕ} {P : sProp 𝕄} (P' : sProp 𝕄) {K : A → sProp 𝕄}
    (hS : P ⊢ iprop(waiting c E T s g 0 ∗ owesSome c ∗ ((landedSlot c E T s g ∗ owesSome c) -∗ P')))
    (hm : ∀ W (R : sProp 𝕄) (hK' : ∀ W, iprop((bigSep Finset.univ (landedRow c E T s g) ∗ semVal ((c : Thread nD τ), cell s) 0)
        ∗ owes (c : Thread nD τ) 0 W ∗ R) ⊢ P'), iprop(waiting c E T s g 0 ∗ owes (c : Thread nD τ) 0 W ∗ R) ⊢ runs c m K) :
    P ⊢ runs c m K := by
  refine weaken hS ?_
  unfold owesSome
  iintro ⟨HW, ⟨%W, HO⟩, HR⟩
  iapply (hm W iprop((landedSlot c E T s g ∗ ∃ W, owes (c : Thread nD τ) 0 W) -∗ P') (by
    intro W
    iintro ⟨HL, HO, HR⟩
    iapply HR
    isplitl [HL]; · iapply landed_of_rows $$ HL
    iexists W; iexact HO))
  isplitl [HW]; · iexact HW
  isplitl [HO]; · iexact HO
  iexact HR

end Cert.KernelIdeal.Hand
-- ==== Proof.Ideal.Point.lean ====
/- One grid point of the kernel, from what it holds before to what it holds after. -/
module

public import proofs.«01_k».proof.Proof.Ideal.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {E : EdgeC F} {T : TabC F} {q : PosShare TreeShare}

/-! ## The values of a grid point -/

/-- Row `p` of the window of group `g`, as the ring gives it: for each of the eight sentences' tokens, a row of the edge matrix. -/
def ringRow (E : EdgeC F) (T : TabC F) (g p : ℕ) : S1x1x8x4096.Idx → Elt F .f32 :=
  fun z => E (ValueIdx.ix2 (rowOf T (g * 64 + ((z 2).val * 8 + p))) (z 3))

/-- The row of the activations of sentence `n / 4`. -/
def sentRow (A : S8x4096.Idx → Elt F .f32) (n : ℕ) : S1x4096.Idx → Elt F .f32 :=
  fun z => A (ValueIdx.ix2 (⟨n / 4 % 8, Nat.mod_lt _ (by decide)⟩ : Fin 8) (z 1))

/-- The eight rows a live grid point computes. -/
def blockVal (A : S8x4096.Idx → Elt F .f32) (C : S1x4096.Idx → Elt F .f32) (W : S1x8x8.Idx → Elt F .f32) (E : EdgeC F) (T : TabC F) (n : ℕ) :
    FVec F S8x4096 .f32 :=
  k0_pay16 (sentRow A n) C (k0_pay4 W)
    (k0_pay12 (sentRow A n) C (k0_pay4 W)
      (k0_pay10 (sentRow A n) C (k0_pay4 W)
        (k0_pay6 (sentRow A n) C (k0_pay4 W) k0_pay5 (ringRow E T n 0) (ringRow E T n 1))
        (k0_pay8 (sentRow A n) (ringRow E T n 2)) (k0_pay9 (ringRow E T n 2)) (ringRow E T n 3))
      (k0_pay11 (sentRow A n) C (ringRow E T n 4)) (ringRow E T n 5) (ringRow E T n 6)) (ringRow E T n 7)

/-- A load of rows of the ring at a live grid point. -/
theorem ring_off (i : grid0.Coords) (p : ℕ) (hp : p < 8) {o : Fin 4 → ℕ} {h} (ho : o = ![(slotW i).toNat, p, 0, 0]) :
    ((fun z => landed E T (i 0).val ((Rect.unit (s := S4x8x8x4096) o S1x1x8x4096.size h).emb z)) = ringRow E T (i 0).val p)
    ∧ ∀ z, (((Rect.unit (s := S4x8x8x4096) o S1x1x8x4096.size h).emb z) 0).val = (slotOf (i 0).val).val := by
  subst ho
  refine ⟨?_, ?_⟩
  · funext z
    have z1 : (z 1).val = 0 := Nat.lt_one_iff.mp (z 1).isLt
    unfold landed ringRow
    refine congrArg E (congrArg₂ _ (congrArg _ ?_) (Fin.ext ?_))
    · show _ + ((0 + 1 * (z 2).val) * 8 + (p + 1 * (z 1).val)) = _
      omega
    · show 0 + 1 * (z 3).val = _
      omega
  · intro z
    have z0 : (z 0).val = 0 := Nat.lt_one_iff.mp (z 0).isLt
    show (slotW i).toNat + 1 * (z 0).val = _
    have e := slotW_eq i
    show _ = (i 0).val % 4
    omega

/-- A load of the sentence's row. -/
theorem sent_off (i : grid0.Coords) (A : S8x4096.Idx → Elt F .f32) {h} :
    (fun z => A ((Rect.unit (s := S8x4096) (k0_off516 i) S1x4096.size h).emb z)) = sentRow A (i 0).val := by
  funext z
  have z0 : (z 0).val = 0 := Nat.lt_one_iff.mp (z 0).isLt
  have hn := point_lt i
  unfold sentRow
  refine congrArg A (funext fun a => Fin.ext ?_)
  fin_cases a
  · show k0_off516 i 0 + 1 * (z 0).val = (i 0).val / 4 % 8
    have e : k0_off516 i 0 = (i 0).val / 4 := congrFun (off516_eq i) 0
    omega
  · show k0_off516 i 1 + 1 * (z 1).val = (z 1).val
    have e : k0_off516 i 1 = 0 := congrFun (off516_eq i) 1
    omega

theorem step_loadAs {sp : CoreSpace} {s : Shape} {e : EltTy} {m : Memref sig .tc sp s e} {r : Rect s} {hl}
    {q : PosShare TreeShare} {X : s.Idx → Elt F e} {P : sProp 𝕄} {K : (r.shape.Idx → Elt F e) → sProp 𝕄} (Y : r.shape.Idx → Elt F e)
    (hY : (fun z => X (r.emb z)) = Y)
    (hS : P ⊢ iprop(owns (c : Thread nD τ) m q X ∗ (owns (c : Thread nD τ) m q X -∗ P))) (hK : P ⊢ K Y) :
    P ⊢ runs c (Prog.lift (.load m r.toLoadRect hl)) K := by
  subst hY; exact step_load hS hK

/-! ## The body -/

/-- What a grid point holds: the four slots in the order of the point's groups, the two tables, what is owed, the
    activations `A` and `C`, the gathered rows `Gv`, and the windows `R`. -/
abbrev point (c : Dev nD) (S0 S1 S2 : sProp 𝕄) (q : PosShare TreeShare) (T : TabC F) (q2 : PosShare TreeShare) (G : SegC F) (S3 : sProp 𝕄)
    {sp12 sp13 sp14} (arg12 : Memref sig .tc sp12 S8x4096 .f32) (A : S8x4096.Idx → Elt F .f32)
    (arg13 : Memref sig .tc sp13 S1x4096 .f32) (C : S1x4096.Idx → Elt F .f32)
    (arg14 : Memref sig .tc sp14 S256x4096 .f32) (Gv : S256x4096.Idx → Elt F .f32) (R : sProp 𝕄) : sProp 𝕄 :=
  starting c S0 S1 S2 q T q2 G iprop(S3 ∗ owesSome c ∗ owns (c : Thread nD τ) arg12 fullShare A ∗ owns (c : Thread nD τ) arg13 fullShare C
    ∗ owns (c : Thread nD τ) arg14 fullShare Gv ∗ R)

/-- The activations of the sentences and of the concepts, as the first grid point computes them. -/
abbrev actS (Cw : S8x4096.Idx → Elt F .f32) (M KB : S4096x128.Idx → Elt F .f32) (L : S1x4096.Idx → Elt F .f32) : FVec F S8x4096 .f32 :=
  k0_pay14 KB (k0_pay3 Cw M KB) L
abbrev actC (L Af : S1x4096.Idx → Elt F .f32) : FVec F S1x4096 .f32 := k0_pay15 L Af

/-- Group `n + k` at the start of grid point `n`: at the first point nothing is started. -/
abbrev before (c : Dev nD) (E : EdgeC F) (T : TabC F) (G : SegC F) (n k : ℕ) : sProp 𝕄 := armed c E T (slotOf (n + k)) (n + k) (n ≠ 0 ∧ live G (n + k))
abbrev after (c : Dev nD) (E : EdgeC F) (T : TabC F) (G : SegC F) (n k : ℕ) : sProp 𝕄 := armed c E T (slotOf (n + k)) (n + k) (live G (n + k))

set_option maxHeartbeats 1000000 in
/-- The body of a grid point up to its last two branches. -/
theorem run_part87 {i : grid0.Coords} {arg3 harg3 arg4 harg4 arg5 harg5 arg6 harg6 arg7 harg7 arg8 harg8 arg10 harg10 arg12 harg12 arg13 harg13 arg14 harg14}
    {h1 h2 h9 h11} {G : SegC F} {q2 q3 q4 q5 q6 q7 q8 : PosShare TreeShare} {W Cw M KB L Af A C Gv}
    (hT : ∀ x, (T x).toNat < 4096) {R : sProp 𝕄} {K}
    (hA : (i 0).val ≠ 0 → A = actS Cw M KB L ∧ C = actC L Af)
    (hL3 : R ⊢ iprop(owns (c : Thread nD τ) arg3 q3 W ∗ (owns (c : Thread nD τ) arg3 q3 W -∗ R)))
    (hL4 : R ⊢ iprop(owns (c : Thread nD τ) arg4 q4 Cw ∗ (owns (c : Thread nD τ) arg4 q4 Cw -∗ R)))
    (hL5 : R ⊢ iprop(owns (c : Thread nD τ) arg5 q5 M ∗ (owns (c : Thread nD τ) arg5 q5 M -∗ R)))
    (hL6 : R ⊢ iprop(owns (c : Thread nD τ) arg6 q6 KB ∗ (owns (c : Thread nD τ) arg6 q6 KB -∗ R)))
    (hL7 : R ⊢ iprop(owns (c : Thread nD τ) arg7 q7 Af ∗ (owns (c : Thread nD τ) arg7 q7 Af -∗ R)))
    (hL8 : R ⊢ iprop(owns (c : Thread nD τ) arg8 q8 L ∗ (owns (c : Thread nD τ) arg8 q8 L -∗ R)))
    (hK : ∀ Gv' w36, (w36 = Scalar.extui (Scalar.cmpi .sle (segWord G ((i 0).val / 4)) (Scalar.muli (slotW i) 8#32))) →
      (live G (i 0).val → (∀ z, Gv' ((Rect.unit (s := S256x4096) (k0_off525 i) S8x4096.size (k0_off525_inb i)).emb z) = blockVal (actS Cw M KB L) (actC L Af) W E T (i 0).val z)
        ∧ ∀ x, x ∉ (Rect.unit (s := S256x4096) (k0_off525 i) S8x4096.size (k0_off525_inb i)).set → Gv' x = Gv x) →
      (¬ live G (i 0).val → Gv' = Gv) →
      point c (idleSlot c E (slotOf (i 0).val)) (after c E T G (i 0).val 1) (after c E T G (i 0).val 2) q T q2 G (after c E T G (i 0).val 3)
        arg12 (actS Cw M KB L) arg13 (actC L Af) arg14 Gv' R ⊢ K ⟨BitVec.ofNat 32 (i 0).val, w36⟩) :
    point c (before c E T G (i 0).val 0) (before c E T G (i 0).val 1) (before c E T G (i 0).val 2) q T q2 G (idleSlot c E (slotOf ((i 0).val + 3)))
        arg12 A arg13 C arg14 Gv R
      ⊢ runs c (k0_part87 i (Memref.whole main_call0_v21) h1 (Memref.whole main_arg2) h2 arg3 harg3 arg4 harg4 arg5 harg5 arg6 harg6 arg7 harg7 arg8 harg8 (Memref.whole main_arg5) h9 arg10 harg10 (Memref.whole cc0_scratch0) h11 arg12 harg12 arg13 harg13 arg14 harg14 cc0_scratch4) K := by
  rw [k0_part87_eq_skeleton]; unfold k0_part87_skel
  dsimp only
  refine step_join (point c (after c E T G (i 0).val 0) (after c E T G (i 0).val 1) (after c E T G (i 0).val 2) q T q2 G (idleSlot c E (slotOf ((i 0).val + 3)))
        arg12 (actS Cw M KB L) arg13 (actC L Af) arg14 Gv R) ?_ ?_ ?_
  · intro hc hJ
    have h0 : (i 0).val = 0 := (cond1_iff i).mp hc
    have a0 : armed c E T 0 0 (k0_cond2 (segWord G 0) = 1#1) = after c E T G (i 0).val 0 := by
      rw [h0]; exact armed_congr ((sgt_iff _ _).trans (and_iff_right (by decide)).symm)
    have a1 : armed c E T 1 1 (k0_cond3 (segWord G 0) = 1#1) = after c E T G (i 0).val 1 := by
      rw [h0]; exact armed_congr ((sgt_iff _ _).trans (and_iff_right (by decide)).symm)
    have a2 : armed c E T 2 2 (k0_cond4 (segWord G 0) = 1#1) = after c E T G (i 0).val 2 := by
      rw [h0]; exact armed_congr ((sgt_iff _ _).trans (and_iff_right (by decide)).symm)
    have e0 : slotOf ((i 0).val + 0) = 0 := by rw [h0]; rfl
    have e1 : slotOf ((i 0).val + 1) = 1 := by rw [h0]; rfl
    have e2 : slotOf ((i 0).val + 2) = 2 := by rw [h0]; rfl
    unfold point before
    rw [armed_not (fun h => h.1 h0), armed_not (fun h => h.1 h0), armed_not (fun h => h.1 h0), e0, e1, e2]
    refine step_bind (run_part49 hT (swap_next (swap_next (swap_next (swap_next (swap_next hL4))))) (swap_next (swap_next (swap_next (swap_next (swap_next hL5)))))
      (swap_next (swap_next (swap_next (swap_next (swap_next hL6))))) ?_)
    rw [a0, a1, a2]
    refine step_bind (step_loadAll (swap_next (swap_next (swap_next (swap_next (swap_next (swap_next (swap_next (swap_next (swap_next (swap_next hL8)))))))))) ?_)
    refine step_bind (step_loadAll (swap_next (swap_next (swap_next (swap_next (swap_next (swap_next (swap_next swap_here))))))) ?_)
    refine step_bind (step_storeAll (P' := fun X => starting c _ _ _ q T q2 G iprop(_ ∗ _ ∗ owns (c : Thread nD τ) arg12 fullShare X ∗ _)) (swapAll_next (swapAll_next (swapAll_next (swapAll_next (swapAll_next (swapAll_next (swapAll_next swapAll_here))))))) ?_)
    refine step_bind (step_loadAll (swap_next (swap_next (swap_next (swap_next (swap_next (swap_next (swap_next (swap_next (swap_next (swap_next hL7)))))))))) ?_)
    refine step_bind (step_loadAll (swap_next (swap_next (swap_next (swap_next (swap_next (swap_next (swap_next (swap_next swap_here)))))))) ?_)
    refine step_bind (step_storeAll (P' := fun X => starting c _ _ _ q T q2 G iprop(_ ∗ _ ∗ _ ∗ owns (c : Thread nD τ) arg13 fullShare X ∗ _)) (swapAll_next (swapAll_next (swapAll_next (swapAll_next (swapAll_next (swapAll_next (swapAll_next (swapAll_next swapAll_here)))))))) ?_)
    exact hJ
  · intro hc
    have h0 : (i 0).val ≠ 0 := fun h => hc ((cond1_iff i).mpr h)
    obtain ⟨rfl, rfl⟩ := hA h0
    unfold before after
    rw [armed_congr (and_iff_right h0), armed_congr (and_iff_right h0), armed_congr (and_iff_right h0)]
  refine step_join (point c (after c E T G (i 0).val 0) (after c E T G (i 0).val 1) (after c E T G (i 0).val 2) q T q2 G (after c E T G (i 0).val 3)
        arg12 (actS Cw M KB L) arg13 (actC L Af) arg14 Gv R) ?_ ?_ ?_
  · intro hc hJ
    have h0 : (i 0).val + 3 < 32 := (cond5_iff i).mp hc
    have a3 : armed c E T (slotOf ((i 0).val + 3)) ((i 0).val + 3) (k0_cond6 i (segWord G (((i 0).val + 3) / 4)) = 1#1) = after c E T G (i 0).val 3 := by
      refine armed_congr ((sgt_iff _ _).trans ?_)
      rw [show (Scalar.muli (Scalar.remsi (Scalar.subi (Scalar.addi (BitVec.ofNat 32 (i 0).val) 4#32) 1#32) 4#32) 8#32).toInt = _ from aheadRow_eq i]
      exact (and_iff_right h0).symm
    refine step_bind (step_segWord (((i 0).val + 3) / 4) (by omega) (off193_eq i) (swap_next (swap_next (swap_next (swap_next swap_here)))) ?_)
    refine step_group (E := E) (T := T) (q := q) (slotOf ((i 0).val + 3)) ((i 0).val + 3) (point c (after c E T G (i 0).val 0) (after c E T G (i 0).val 1) (after c E T G (i 0).val 2) q T q2 G
        (armed c E T (slotOf ((i 0).val + 3)) ((i 0).val + 3) (k0_cond6 i (segWord G (((i 0).val + 3) / 4)) = 1#1))
        arg12 (actS Cw M KB L) arg13 (actC L Af) arg14 Gv R) (swap_pair_next (swap_pair_next (swap_pair_next (swap_riap_here (swap_next swap_here))))) ?_ ?_
    · intro h R' hK'
      iterate 3
        refine step_bind ?_
        iterate 2
          refine step_bind (next_word (by omega) (by exact ahead_word i _ (by decide) rfl) ?_)
          refine step_bind (step_check c (fun _ _ => word_inb hT _) ?_)
          refine step_bind (step_issue c E T _ _ _ (by decide) (hT _) (by exact ahead_place i _ (by decide) rfl) (by rfl) (by exact ahead_sem i rfl) ?_)
        refine step_bind (next_word (by omega) (by exact ahead_word i _ (by decide) rfl) ?_)
        refine step_bind (step_check c (fun _ _ => word_inb hT _) ?_)
        refine step_pure ?_
        iterate 2
          refine step_bind ?_
          refine step_bind (step_issue c E T _ _ _ (by decide) (hT _) (by exact ahead_place i _ (by decide) rfl) (by rfl) (by exact ahead_sem i rfl) ?_)
          iterate 2
            refine step_bind (next_word (by omega) (by exact ahead_word i _ (by decide) rfl) ?_)
            refine step_bind (step_check c (fun _ _ => word_inb hT _) ?_)
            refine step_bind (step_issue c E T _ _ _ (by decide) (hT _) (by exact ahead_place i _ (by decide) rfl) (by rfl) (by exact ahead_sem i rfl) ?_)
          refine step_bind (next_word (by omega) (by exact ahead_word i _ (by decide) rfl) ?_)
          refine step_bind (step_check c (fun _ _ => word_inb hT _) ?_)
          refine step_pure ?_
        refine step_bind ?_
        refine step_bind (step_issue c E T _ _ _ (by decide) (hT _) (by exact ahead_place i _ (by decide) rfl) (by rfl) (by exact ahead_sem i rfl) ?_)
        iterate 2
          refine step_bind (next_word (by omega) (by exact ahead_word i _ (by decide) rfl) ?_)
          refine step_bind (step_check c (fun _ _ => word_inb hT _) ?_)
          refine step_bind (step_issue c E T _ _ _ (by decide) (hT _) (by exact ahead_place i _ (by decide) rfl) (by rfl) (by exact ahead_sem i rfl) ?_)
        refine step_pure ?_
        iterate 3
          refine step_bind ?_
          iterate 3
            refine step_bind (next_word (by omega) (by exact ahead_word i _ (by decide) rfl) ?_)
            refine step_bind (step_check c (fun _ _ => word_inb hT _) ?_)
            refine step_bind (step_issue c E T _ _ _ (by decide) (hT _) (by exact ahead_place i _ (by decide) rfl) (by rfl) (by exact ahead_sem i rfl) ?_)
          refine step_pure ?_
      refine step_bind ?_
      iterate 2
        refine step_bind (next_word (by omega) (by exact ahead_word i _ (by decide) rfl) ?_)
        refine step_bind (step_check c (fun _ _ => word_inb hT _) ?_)
        refine step_bind (step_issue c E T _ _ _ (by decide) (hT _) (by exact ahead_place i _ (by decide) rfl) (by rfl) (by exact ahead_sem i rfl) ?_)
      refine step_bind (next_word (by omega) (by exact ahead_word i _ (by decide) rfl) ?_)
      refine step_bind (step_check c (fun _ _ => word_inb hT _) ?_)
      refine step_pure ?_
      refine step_bind (step_issue c E T _ _ _ (by decide) (hT _) (by exact ahead_place i _ (by decide) rfl) (by rfl) (by exact ahead_sem i rfl) ?_)
      refine step_bind (next_word (by omega) (by exact ahead_word i _ (by decide) rfl) ?_)
      refine step_bind (step_check c (fun _ _ => word_inb hT _) ?_)
      refine step_bind (step_issue c E T _ _ _ (by decide) (hT _) (by exact ahead_place i _ (by decide) rfl) (by rfl) (by exact ahead_sem i rfl) ?_)
      exact hK'
    · rw [a3]; exact hJ
  · intro hc
    have h0 : ¬ (i 0).val + 3 < 32 := fun h => hc ((cond5_iff i).mpr h)
    unfold after
    rw [armed_not (g := (i 0).val + 3) (fun h => h0 h.1)]
  refine step_bind (step_segWord ((i 0).val / 4) (by have := point_lt i; omega) (off450_eq i) (swap_next (swap_next (swap_next (swap_next swap_here)))) ?_)
  have hlive : (Scalar.cmpi .ne (Scalar.extui (Scalar.cmpi .sgt (segWord G ((i 0).val / 4)) (Scalar.muli (slotW i) 8#32)) : BitVec 32) 0#32 = 1#1) ↔ live G (i 0).val := by
    refine (sgt_iff _ _).trans ?_
    rw [slotRow_eq]
    exact (and_iff_right (point_lt i)).symm
  by_cases hl : live G (i 0).val
  · rw [if_pos (hlive.mpr hl), show after c E T G (i 0).val 0 = waiting c E T (slotOf (i 0).val) (i 0).val 0 from armed_pos hl]
    refine step_waits (s := slotOf (i 0).val) (g := (i 0).val) (point c (landedSlot c E T (slotOf (i 0).val) (i 0).val) (after c E T G (i 0).val 1) (after c E T G (i 0).val 2) q T q2 G (after c E T G (i 0).val 3)
        arg12 (actS Cw M KB L) arg13 (actC L Af) arg14 Gv R) (swap_pair_here (swap_next (swap_next (swap_next (swap_next (swap_next swap_here)))))) ?_
    intro W' R' hK'
    refine step_bind ?_
    iterate 5
      refine step_bind (step_wait c E T _ _ _ (by decide) (off451_eq i) (fun W => ?_))
    refine step_pure ?_
    iterate 5
      refine step_bind ?_
      iterate 5
        refine step_bind (step_wait c E T _ _ _ (by decide) (off451_eq i) (fun W => ?_))
      refine step_pure ?_
      refine step_bind ?_
      iterate 6
        refine step_bind (step_wait c E T _ _ _ (by decide) (off451_eq i) (fun W => ?_))
      refine step_pure ?_
    refine step_bind ?_
    iterate 3
      refine step_bind (step_wait c E T _ _ _ (by decide) (off451_eq i) (fun W => ?_))
    refine step_bind (step_waitLast c E T _ _ (off451_eq i) (fun W => weaken (hK' W) ?_))
    refine step_bind (step_loadAs _ (sent_off i _) (swap_next (swap_next (swap_next (swap_next (swap_next (swap_next (swap_next swap_here))))))) ?_)
    refine step_bind (step_loadAll (swap_next (swap_next (swap_next (swap_next (swap_next (swap_next (swap_next (swap_next swap_here)))))))) ?_)
    refine step_bind (step_loadAll (swap_next (swap_next (swap_next (swap_next (swap_next (swap_next (swap_next (swap_next (swap_next (swap_next hL3)))))))))) ?_)
    refine step_pure ?_
    refine step_bind ?_
    refine step_bind (step_loadRing (E := E) (T := T) (s := slotOf (i 0).val) (g := (i 0).val) _ (ring_off (E := E) (T := T) i 0 (by decide) rfl).1 (ring_off (E := E) (T := T) i 0 (by decide) rfl).2 swap_here ?_)
    refine step_bind (step_loadRing (E := E) (T := T) (s := slotOf (i 0).val) (g := (i 0).val) _ (ring_off (E := E) (T := T) i 1 (by decide) rfl).1 (ring_off (E := E) (T := T) i 1 (by decide) rfl).2 swap_here ?_)
    refine step_bind (step_loadRing (E := E) (T := T) (s := slotOf (i 0).val) (g := (i 0).val) _ (ring_off (E := E) (T := T) i 2 (by decide) rfl).1 (ring_off (E := E) (T := T) i 2 (by decide) rfl).2 swap_here ?_)
    refine step_pure ?_
    refine step_bind ?_
    refine step_bind (step_loadRing (E := E) (T := T) (s := slotOf (i 0).val) (g := (i 0).val) _ (ring_off (E := E) (T := T) i 3 (by decide) rfl).1 (ring_off (E := E) (T := T) i 3 (by decide) rfl).2 swap_here ?_)
    refine step_bind (step_loadRing (E := E) (T := T) (s := slotOf (i 0).val) (g := (i 0).val) _ (ring_off (E := E) (T := T) i 4 (by decide) rfl).1 (ring_off (E := E) (T := T) i 4 (by decide) rfl).2 swap_here ?_)
    refine step_pure ?_
    refine step_bind ?_
    refine step_bind (step_loadRing (E := E) (T := T) (s := slotOf (i 0).val) (g := (i 0).val) _ (ring_off (E := E) (T := T) i 5 (by decide) rfl).1 (ring_off (E := E) (T := T) i 5 (by decide) rfl).2 swap_here ?_)
    refine step_bind (step_loadRing (E := E) (T := T) (s := slotOf (i 0).val) (g := (i 0).val) _ (ring_off (E := E) (T := T) i 6 (by decide) rfl).1 (ring_off (E := E) (T := T) i 6 (by decide) rfl).2 swap_here ?_)
    refine step_pure ?_
    refine step_bind (step_loadRing (E := E) (T := T) (s := slotOf (i 0).val) (g := (i 0).val) _ (ring_off (E := E) (T := T) i 7 (by decide) rfl).1 (ring_off (E := E) (T := T) i 7 (by decide) rfl).2 swap_here ?_)
    refine step_bind (step_load (swap_next (swap_next (swap_next (swap_next (swap_next (swap_next (swap_next (swap_next (swap_next swap_here))))))))) ?_)
    refine step_bind (step_store (P' := fun X => point c (landedSlot c E T (slotOf (i 0).val) (i 0).val) _ _ q T q2 G _ arg12 _ arg13 _ arg14 X R) (swapAll_next (swapAll_next (swapAll_next (swapAll_next (swapAll_next (swapAll_next (swapAll_next (swapAll_next (swapAll_next swapAll_here))))))))) (fun Gv' hin hout => ?_))
    refine step_pure (swap_out swap_here (landed_idle _ _) |> fun h => weaken h (hK Gv' _ rfl (fun _ => ⟨hin, hout⟩) (fun h => absurd hl h)))
  · rw [if_neg (fun h => hl (hlive.mp h)), show after c E T G (i 0).val 0 = idleSlot c E (slotOf (i 0).val) from armed_not hl]
    exact step_pure (hK Gv _ rfl (fun h => absurd h hl) (fun _ => rfl))

/-- The eight rows of grid point `n`: what it computes when its group is live, zeros otherwise. -/
def rowsVal (A : S8x4096.Idx → Elt F .f32) (C : S1x4096.Idx → Elt F .f32) (W : S1x8x8.Idx → Elt F .f32) (E : EdgeC F) (T : TabC F) (G : SegC F) (n : ℕ) :
    FVec F S8x4096 .f32 := if live G n then blockVal A C W E T n else k0_pay1

theorem rows_off (i : grid0.Coords) (z : S8x4096.Idx) {o : Fin 2 → ℕ} (ho : o = ![(i 0).val * 8, 0]) {h} :
    (Rect.unit (s := S256x4096) o S8x4096.size h).emb z
      = ValueIdx.ix2 (⟨(i 0).val * 8 + (z 0).val, by have h1 := point_lt i; have h2 : (z 0).val < 8 := (z 0).isLt; omega⟩ : Fin 256) (z 1) := by
  subst ho
  refine funext fun a => Fin.ext ?_
  fin_cases a
  · show (i 0).val * 8 + 1 * (z 0).val = (i 0).val * 8 + (z 0).val
    omega
  · show 0 + 1 * (z 1).val = (z 1).val
    omega

theorem rows_mem (i : grid0.Coords) (x : S256x4096.Idx) {o : Fin 2 → ℕ} (ho : o = ![(i 0).val * 8, 0]) {h}
    (hx : x ∈ (Rect.unit (s := S256x4096) o S8x4096.size h).set) : (x 0).val / 8 = (i 0).val := by
  rw [← Rect.map_emb_univ, Finset.mem_map] at hx
  obtain ⟨z, _, rfl⟩ := hx
  show ((Rect.unit (s := S256x4096) o S8x4096.size h).emb z 0).val / 8 = _
  rw [rows_off i z ho]
  show ((i 0).val * 8 + (z 0).val) / 8 = _
  have h2 : (z 0).val < 8 := (z 0).isLt
  omega

/-- A branch that rejoins at contents it has settled. -/
theorem step_settle {p : Prop} [Decidable p] {A X : Type} {m jp : Prog (TpuEff nD τ sig (Elt F) Λ₀ .tc) A} {P : sProp 𝕄} {K : A → sProp 𝕄}
    (Q : X → Prop) (P' : X → sProp 𝕄) (hJ : ∀ x, Q x → P' x ⊢ runs c jp K)
    (h1 : p → (∀ x, Q x → P' x ⊢ runs c jp K) → P ⊢ runs c m K) (h2 : ¬p → ∃ x, Q x ∧ (P ⊢ P' x)) :
    P ⊢ runs c (if p then m else jp) K := by
  by_cases h : p
  · rw [if_pos h]; exact h1 h hJ
  · rw [if_neg h]
    obtain ⟨x, hx, hP⟩ := h2 h
    exact weaken hP (hJ x hx)

set_option maxHeartbeats 1000000 in
/-- The body of a grid point: the point's eight rows are written among the gathered rows, and the last point writes the result. -/
theorem run_point {i : grid0.Coords} {arg3 harg3 arg4 harg4 arg5 harg5 arg6 harg6 arg7 harg7 arg8 harg8 arg10 harg10 arg12 harg12 arg13 harg13 arg14 harg14}
    {h1 h2 h9 h11} {G : SegC F} {q2 q3 q4 q5 q6 q7 q8 : PosShare TreeShare} {W Cw M KB L Af A C Gv X0}
    (hT : ∀ x, (T x).toNat < 4096) {R : (S256x128.Idx → Elt F .f32) → sProp 𝕄} {K : PUnit.{1} → sProp 𝕄}
    (hA : (i 0).val ≠ 0 → A = actS Cw M KB L ∧ C = actC L Af)
    (hL3 : R X0 ⊢ iprop(owns (c : Thread nD τ) arg3 q3 W ∗ (owns (c : Thread nD τ) arg3 q3 W -∗ R X0)))
    (hL4 : R X0 ⊢ iprop(owns (c : Thread nD τ) arg4 q4 Cw ∗ (owns (c : Thread nD τ) arg4 q4 Cw -∗ R X0)))
    (hL5 : R X0 ⊢ iprop(owns (c : Thread nD τ) arg5 q5 M ∗ (owns (c : Thread nD τ) arg5 q5 M -∗ R X0)))
    (hL6 : R X0 ⊢ iprop(owns (c : Thread nD τ) arg6 q6 KB ∗ (owns (c : Thread nD τ) arg6 q6 KB -∗ R X0)))
    (hL7 : R X0 ⊢ iprop(owns (c : Thread nD τ) arg7 q7 Af ∗ (owns (c : Thread nD τ) arg7 q7 Af -∗ R X0)))
    (hL8 : R X0 ⊢ iprop(owns (c : Thread nD τ) arg8 q8 L ∗ (owns (c : Thread nD τ) arg8 q8 L -∗ R X0)))
    (hL10 : R X0 ⊢ iprop(owns (c : Thread nD τ) arg10 fullShare X0 ∗ (owns (c : Thread nD τ) arg10 fullShare X0 -∗ R X0)))
    (hS10 : R X0 ⊢ iprop(owns (c : Thread nD τ) arg10 fullShare X0 ∗ (∀ X, owns (c : Thread nD τ) arg10 fullShare X -∗ R X)))
    (hK : ∀ Gv' X,
      (∀ (x : S256x4096.Idx) (z : S8x4096.Idx), (x 0).val = (i 0).val * 8 + (z 0).val → x 1 = z 1 → Gv' x = rowsVal (actS Cw M KB L) (actC L Af) W E T G (i 0).val z) →
      (∀ x : S256x4096.Idx, (x 0).val / 8 ≠ (i 0).val → Gv' x = Gv x) →
      ((i 0).val ≠ 31 → X = X0) → ((i 0).val = 31 → X = k0_pay2 Gv' KB) →
      point c (idleSlot c E (slotOf (i 0).val)) (after c E T G (i 0).val 1) (after c E T G (i 0).val 2) q T q2 G (after c E T G (i 0).val 3)
        arg12 (actS Cw M KB L) arg13 (actC L Af) arg14 Gv' (R X) ⊢ K ⟨⟩) :
    point c (before c E T G (i 0).val 0) (before c E T G (i 0).val 1) (before c E T G (i 0).val 2) q T q2 G (idleSlot c E (slotOf ((i 0).val + 3)))
        arg12 A arg13 C arg14 Gv (R X0)
      ⊢ runs c (cc0__kernel i (Memref.whole main_call0_v21) h1 (Memref.whole main_arg2) h2 arg3 harg3 arg4 harg4 arg5 harg5 arg6 harg6 arg7 harg7 arg8 harg8 (Memref.whole main_arg5) h9 arg10 harg10 (Memref.whole cc0_scratch0) h11 arg12 harg12 arg13 harg13 arg14 harg14 cc0_scratch4) K := by
  rw [cc0__kernel_eq_skeleton]; unfold cc0__kernel_skel
  dsimp only
  have hrow : ∀ {Gv' : S256x4096.Idx → Elt F .f32} {v : S8x4096.Idx → Elt F .f32}, (∀ z, Gv' ((Rect.unit (s := S256x4096) (k0_off525 i) S8x4096.size (k0_off525_inb i)).emb z) = v z) →
      ∀ (x : S256x4096.Idx) (z : S8x4096.Idx), (x 0).val = (i 0).val * 8 + (z 0).val → x 1 = z 1 → Gv' x = v z := by
    intro Gv' v hin x z hx0 hx1
    rw [← hin z, rows_off i z (off525_eq i)]
    refine congrArg Gv' (funext fun a => ?_)
    fin_cases a
    · exact Fin.ext hx0
    · exact hx1
  refine step_bind (run_part87 hT hA hL3 hL4 hL5 hL6 hL7 hL8 ?_)
  intro Gv1 w36 hw36 hl1 hn1
  subst hw36
  dsimp only
  refine step_settle (fun Gv' : S256x4096.Idx → Elt F .f32 =>
      (∀ (x : S256x4096.Idx) (z : S8x4096.Idx), (x 0).val = (i 0).val * 8 + (z 0).val → x 1 = z 1 → Gv' x = rowsVal (actS Cw M KB L) (actC L Af) W E T G (i 0).val z) ∧
      (∀ x : S256x4096.Idx, (x 0).val / 8 ≠ (i 0).val → Gv' x = Gv x))
    (fun Gv' => point c (idleSlot c E (slotOf (i 0).val)) (after c E T G (i 0).val 1) (after c E T G (i 0).val 2) q T q2 G (after c E T G (i 0).val 3)
        arg12 (actS Cw M KB L) arg13 (actC L Af) arg14 Gv' (R X0)) ?_ ?_ ?_
  · intro Gv' ⟨hin, hout⟩
    by_cases h31 : k0_cond9 i = 1#1
    · have h31' := (cond9_iff i).mp h31
      rw [dif_pos h31]
      refine step_bind (step_loadAll (swap_next (swap_next (swap_next (swap_next (swap_next (swap_next (swap_next (swap_next (swap_next swap_here))))))))) ?_)
      refine step_bind (step_loadAll (swap_next (swap_next (swap_next (swap_next (swap_next (swap_next (swap_next (swap_next (swap_next (swap_next hL6)))))))))) ?_)
      refine step_bind (step_loadAll (swap_next (swap_next (swap_next (swap_next (swap_next (swap_next (swap_next (swap_next (swap_next (swap_next hL10)))))))))) ?_)
      refine step_bind (step_storeAll (P' := fun X => point c (idleSlot c E (slotOf (i 0).val)) (after c E T G (i 0).val 1) (after c E T G (i 0).val 2) q T q2 G (after c E T G (i 0).val 3)
        arg12 (actS Cw M KB L) arg13 (actC L Af) arg14 Gv' (R X)) (swapAll_next (swapAll_next (swapAll_next (swapAll_next (swapAll_next (swapAll_next (swapAll_next (swapAll_next (swapAll_next (swapAll_next hS10)))))))))) ?_)
      exact step_pure (hK Gv' _ hin hout (fun h => absurd h31' h) (fun _ => rfl))
    · have h31' : (i 0).val ≠ 31 := fun h => h31 ((cond9_iff i).mpr h)
      rw [dif_neg h31]
      exact step_pure (hK Gv' _ hin hout (fun _ => rfl) (fun h => absurd h h31'))
  · intro hz hJ
    have hdead : ¬ live G (i 0).val := by
      intro hl
      refine (sle_iff _ _).mp hz ?_
      rw [slotRow_eq]; exact hl.2
    rw [hn1 hdead]
    refine step_bind (step_load (swap_next (swap_next (swap_next (swap_next (swap_next (swap_next (swap_next (swap_next (swap_next swap_here))))))))) ?_)
    refine step_bind (step_store (P' := fun X => point c (idleSlot c E (slotOf (i 0).val)) (after c E T G (i 0).val 1) (after c E T G (i 0).val 2) q T q2 G (after c E T G (i 0).val 3)
        arg12 (actS Cw M KB L) arg13 (actC L Af) arg14 X (R X0)) (swapAll_next (swapAll_next (swapAll_next (swapAll_next (swapAll_next (swapAll_next (swapAll_next (swapAll_next (swapAll_next swapAll_here))))))))) (fun Gv' hin hout => ?_))
    refine hJ Gv' ⟨?_, ?_⟩
    · unfold rowsVal; rw [if_neg hdead]; exact hrow hin
    · exact fun x hx => hout x (fun h => hx (rows_mem i x (off526_eq i) h))
  · intro hz
    have hl : live G (i 0).val := by
      refine ⟨point_lt i, ?_⟩
      have h := not_not.mp (fun h => hz ((sle_iff _ _).mpr h))
      rwa [slotRow_eq] at h
    refine ⟨Gv1, ⟨?_, ?_⟩, .rfl⟩
    · unfold rowsVal; rw [if_pos hl]; exact hrow (hl1 hl).1
    · exact fun x hx => (hl1 hl).2 x (fun h => hx (rows_mem i x (off525_eq i) h))

end Cert.KernelIdeal.Hand
-- ==== Proof.Ideal.Slots.lean ====
/- The ring, the edge matrix and the four semaphores as the launch hands them over, cut into the four idle slots, and the
   four idle slots put back together. -/
module

public import proofs.«01_k».proof.Proof.Ideal.Point

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {c : Dev nD} {E : EdgeC F}

/-- What is left of the edge matrix once every row of the ring has its read share. -/
def edgeRest (c : Dev nD) (E : EdgeC F) : sProp 𝕄 := edgeLoc c ↦{Transfers.shareDrop fullShare 256} E

/-- All four slots idle. -/
def allIdle (c : Dev nD) (E : EdgeC F) : sProp 𝕄 := iprop(idleSlot c E 0 ∗ idleSlot c E 1 ∗ idleSlot c E 2 ∗ idleSlot c E 3)

/-- The four semaphores at zero. -/
def cells0 (c : Dev nD) : sProp 𝕄 :=
  iprop(semVal ((c : Thread nD τ), cell 0) 0 ∗ semVal ((c : Thread nD τ), cell 1) 0 ∗ semVal ((c : Thread nD τ), cell 2) 0 ∗ semVal ((c : Thread nD τ), cell 3) 0)

theorem rows_cover : (Finset.univ : Finset (Fin 4 × Fin 64)).biUnion (fun p => rowSet p.1 p.2) = (Finset.univ : Finset S4x8x8x4096.Idx) := by
  ext x
  simp only [Finset.mem_biUnion, Finset.mem_univ, true_and, iff_true]
  have h0 : (x 0).val < 4 := (x 0).isLt
  have h1 : (x 1).val < 8 := (x 1).isLt
  have h2 : (x 2).val < 8 := (x 2).isLt
  refine ⟨(⟨(x 0).val, h0⟩, ⟨(x 2).val * 8 + (x 1).val, by omega⟩), (mem_rowSet _ _ x).mpr ⟨rfl, ?_, ?_⟩⟩ <;> simp only <;> omega

theorem rows_apart : ∀ p ∈ (Finset.univ : Finset (Fin 4 × Fin 64)), ∀ p' ∈ (Finset.univ : Finset (Fin 4 × Fin 64)), p ≠ p' →
    Disjoint (rowSet p.1 p.2) (rowSet p'.1 p'.2) := by
  intro p _ p' _ hne
  rw [Finset.disjoint_left]
  intro x hx hx'
  obtain ⟨a0, a1, a2⟩ := (mem_rowSet _ _ x).mp hx
  obtain ⟨b0, b1, b2⟩ := (mem_rowSet _ _ x).mp hx'
  refine hne (Prod.ext (Fin.ext (by omega)) (Fin.ext (by omega)))

/-- The edge matrix whole: the rest, and a read share for each row of the ring. -/
theorem edge_tokens : (edgeLoc c ↦{fullShare} E : sProp 𝕄)
    = iprop(edgeRest c E ∗ bigSep Finset.univ (fun p : Fin 4 × Fin 64 => (edgeLoc c ↦{tok p.1 p.2} E : sProp 𝕄))) := by
  have h := Transfers.pointsTo_toks (Ix := Unit) (Name := ℕ) (U := Pipeline.UD sig nD τ) (Lvl := ℕ) (ℓ := edgeLoc c) (S := Finset.univ) (f := E) fullShare (4 * 64)
  rw [equiv_iff.mp ⟨h.1, h.2⟩]
  unfold edgeRest
  rw [bigSep_univ_equiv (finProdFinEquiv (m := 4) (n := 64))]
  refine congrArg (fun X : sProp 𝕄 => iprop((edgeLoc c ↦{Transfers.shareDrop fullShare 256} E) ∗ X)) (congrArg (bigSep Finset.univ) (funext fun p => ?_))
  show (edgeLoc c ↦{Transfers.shareTokN fullShare (p.2.val + 64 * p.1.val)} E : sProp 𝕄) = (edgeLoc c ↦{Transfers.shareTokN fullShare (p.1.val * 64 + p.2.val)} E : sProp 𝕄)
  rw [show p.2.val + 64 * p.1.val = p.1.val * 64 + p.2.val by omega]

theorem rows_split (f : RingC F) :
    (ringLoc c ↦{fullShare} f : sProp 𝕄) = bigSep Finset.univ (fun p : Fin 4 × Fin 64 => (ringLoc c ↦[rowSet p.1 p.2]{fullShare} f : sProp 𝕄)) := by
  have h := pointsTo_biUnion (Ix := Unit) (Name := ℕ) (U := Pipeline.UD sig nD τ) (Lvl := ℕ) (ℓ := ringLoc c) (q := fullShare) (f := f) Finset.univ
    (fun p : Fin 4 × Fin 64 => rowSet p.1 p.2) rows_apart
  rw [rows_cover] at h
  exact h

theorem rows_join (fs : Fin 4 × Fin 64 → RingC F) :
    bigSep Finset.univ (fun p : Fin 4 × Fin 64 => (ringLoc c ↦[rowSet p.1 p.2]{fullShare} fs p : sProp 𝕄)) ⊢ iprop(∃ f : RingC F, ringLoc c ↦{fullShare} f) := by
  have h := pointsTo_biUnion_join (Ix := Unit) (Name := ℕ) (U := Pipeline.UD sig nD τ) (Lvl := ℕ) (ℓ := ringLoc c) (q := fullShare) Finset.univ
    (fun p : Fin 4 × Fin 64 => rowSet p.1 p.2) fs (fs (0, 0)) rows_apart
  rw [rows_cover] at h
  refine weaken h ?_
  iintro ⟨%g, -, H⟩
  iexists g; iexact H

/-- Every row of the ring free, as one family and slot by slot. -/
theorem allIdle_eq : iprop(bigSep Finset.univ (fun p : Fin 4 × Fin 64 => freeRow c E p.1 p.2) ∗ cells0 c) ⊣⊢ allIdle c E := by
  have h : bigSep Finset.univ (fun p : Fin 4 × Fin 64 => freeRow c E p.1 p.2)
      = iprop(bigSep Finset.univ (freeRow c E 0) ∗ bigSep Finset.univ (freeRow c E 1) ∗ bigSep Finset.univ (freeRow c E 2) ∗ bigSep Finset.univ (freeRow c E 3)) := by
    rw [bigSep_univ_prod]
    exact bigSep_univ_eq_bigSepL [(0 : Fin 4), 1, 2, 3] (by decide) (by decide) _
  rw [h]
  unfold cells0 allIdle idleSlot
  constructor
  · iintro ⟨⟨H0, H1, H2, H3⟩, K0, K1, K2, K3⟩
    isplitl [H0 K0]
    · isplitl [H0]; · iexact H0
      iexact K0
    isplitl [H1 K1]
    · isplitl [H1]; · iexact H1
      iexact K1
    isplitl [H2 K2]
    · isplitl [H2]; · iexact H2
      iexact K2
    isplitl [H3]; · iexact H3
    iexact K3
  · iintro ⟨⟨H0, K0⟩, ⟨H1, K1⟩, ⟨H2, K2⟩, H3, K3⟩
    isplitl [H0 H1 H2 H3]
    · isplitl [H0]; · iexact H0
      isplitl [H1]; · iexact H1
      isplitl [H2]; · iexact H2
      iexact H3
    isplitl [K0]; · iexact K0
    isplitl [K1]; · iexact K1
    isplitl [K2]; · iexact K2
    iexact K3

/-- The ring, the edge matrix and the semaphores make four idle slots. -/
theorem slots_in : iprop((∃ f : RingC F, ringLoc c ↦{fullShare} f) ∗ (edgeLoc c ↦{fullShare} E) ∗ cells0 c) ⊢ iprop(edgeRest c E ∗ allIdle c E) := by
  have hrow : ∀ (f : RingC F) (p : Fin 4 × Fin 64), iprop((ringLoc c ↦[rowSet p.1 p.2]{fullShare} f) ∗ (edgeLoc c ↦{tok p.1 p.2} E)) ⊢ freeRow c E p.1 p.2 := by
    intro f p
    unfold freeRow
    iintro ⟨H1, H2⟩
    isplitl [H1]; · iexists _; iexact H1
    iexact H2
  have hrows : ∀ f : RingC F, iprop((ringLoc c ↦{fullShare} f) ∗ bigSep Finset.univ (fun p : Fin 4 × Fin 64 => (edgeLoc c ↦{tok p.1 p.2} E : sProp 𝕄)))
      ⊢ bigSep Finset.univ (fun p : Fin 4 × Fin 64 => freeRow c E p.1 p.2) := by
    intro f
    rw [rows_split f]
    exact weaken (Entails.of_eq (bigSep_sep _ _ _).symm) (bigSep_mono fun p _ => hrow f p)
  rw [edge_tokens]
  refine weaken ?_ (show iprop(edgeRest c E ∗ bigSep Finset.univ (fun p : Fin 4 × Fin 64 => freeRow c E p.1 p.2) ∗ cells0 c) ⊢ _ from ?_)
  · iintro ⟨⟨%f, HR⟩, ⟨HE, HT⟩, HC⟩
    isplitl [HE]; · iexact HE
    isplitl [HR HT]
    · iapply (hrows f)
      isplitl [HR]; · iexact HR
      iexact HT
    iexact HC
  · iintro ⟨HE, HC⟩
    isplitl [HE]; · iexact HE
    iapply (allIdle_eq (c := c) (E := E)).1
    iexact HC

/-- Four idle slots give the ring, the edge matrix and the semaphores back. -/
theorem slots_out : iprop(edgeRest c E ∗ allIdle c E) ⊢ iprop((∃ f : RingC F, ringLoc c ↦{fullShare} f) ∗ (edgeLoc c ↦{fullShare} E) ∗ cells0 c) := by
  have hrows : bigSep Finset.univ (fun p : Fin 4 × Fin 64 => freeRow c E p.1 p.2)
      ⊢ iprop((∃ f : RingC F, ringLoc c ↦{fullShare} f) ∗ bigSep Finset.univ (fun p : Fin 4 × Fin 64 => (edgeLoc c ↦{tok p.1 p.2} E : sProp 𝕄))) := by
    unfold freeRow
    refine weaken (show _ ⊢ iprop(bigSep Finset.univ (fun p : Fin 4 × Fin 64 => iprop(∃ f : RingC F, ringLoc c ↦[rowSet p.1 p.2]{fullShare} f))
      ∗ bigSep Finset.univ (fun p : Fin 4 × Fin 64 => (edgeLoc c ↦{tok p.1 p.2} E : sProp 𝕄))) from Entails.of_eq (bigSep_sep _ _ _)) ?_
    haveI : Nonempty (RingC F) := ⟨landed E (fun _ => 0#32) 0⟩
    have h := bigSep_exists_pi (Finset.univ) (fun (p : Fin 4 × Fin 64) (f : RingC F) => (ringLoc c ↦[rowSet p.1 p.2]{fullShare} f : sProp 𝕄))
    iintro ⟨HR, HT⟩
    isplitl [HR]
    · ihave HX := h $$ HR
      icases HX with ⟨%fs, HX⟩
      iapply (rows_join fs); iexact HX
    iexact HT
  rw [edge_tokens]
  refine weaken (show _ ⊢ iprop(edgeRest c E ∗ bigSep Finset.univ (fun p : Fin 4 × Fin 64 => freeRow c E p.1 p.2) ∗ cells0 c) from ?_) ?_
  · iintro ⟨HE, HC⟩
    isplitl [HE]; · iexact HE
    iapply (allIdle_eq (c := c) (E := E)).2
    iexact HC
  · iintro ⟨HE, HF, HC⟩
    ihave HX := hrows $$ HF
    icases HX with ⟨HR, HT⟩
    isplitl [HR]; · iexact HR
    isplitl [HE HT]
    · isplitl [HE]; · iexact HE
      iexact HT
    iexact HC

end Cert.KernelIdeal.Hand

end
-- ==== Proof.Ideal.Launch.lean ====
/- The kernel launched: what each grid point finds and leaves, and the run of the whole program. -/
module

public import proofs.«01_k».proof.Proof.Ideal.Slots
public import Idealize.ShloMosaic.Lib.Pipeline.FrameSuffix
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ)

/-- Every buffer when the kernel is entered: after the host operations before it. -/
def V0 (c : Dev nD) : Valuation τ sig (Elt F) := StableHlo.after hostOps0 (fun b => m (c, b))

/-- The prefetched tables' contents. -/
def adm : (p : Fin 1) → (pcfgs (F := F) p).Adm := fun _ => ⟨fun k => V0 m 0 (Proc.devRef .tc (pre0.ref k)), trivial⟩

/-! ## What the buffers hold -/

abbrev edgeV (c : Dev nD) : EdgeC F := V0 m c (Proc.devRef .tc main_arg5)
abbrev tabV (c : Dev nD) : TabC F := V0 m c (Proc.devRef .tc main_call0_v21)
abbrev segV (c : Dev nD) : SegC F := V0 m c (Proc.devRef .tc main_arg2)
abbrev weightV (c : Dev nD) : S32x8x8.Idx → Elt F .f32 := V0 m c (Proc.devRef .tc main_call0_v22)
abbrev countV (c : Dev nD) : S8x4096.Idx → Elt F .f32 := V0 m c (Proc.devRef .tc main_call0_v46)
abbrev embV (c : Dev nD) : S4096x128.Idx → Elt F .f32 := V0 m c (Proc.devRef .tc main_arg3)
abbrev kbV (c : Dev nD) : S4096x128.Idx → Elt F .f32 := V0 m c (Proc.devRef .tc main_arg4)
abbrev affV (c : Dev nD) : S1x4096.Idx → Elt F .f32 := V0 m c (Proc.devRef .tc main_call0_v47)
abbrev lamV (c : Dev nD) : S1x4096.Idx → Elt F .f32 := V0 m c (Proc.devRef .tc main_call0_v48)

/-- The weights of grid point `n`. -/
def weightAt (c : Dev nD) (n : ℕ) : S1x8x8.Idx → Elt F .f32 := fun z => weightV m c (ValueIdx.ix3 (⟨n % 32, Nat.mod_lt _ (by decide)⟩ : Fin 32) (z 1) (z 2))

/-- The two scratch arrays the first point fills. -/
def actA (c : Dev nD) : S8x4096.Idx → Elt F .f32 := actS (countV m c) (embV m c) (kbV m c) (lamV m c)
def affC (c : Dev nD) : S1x4096.Idx → Elt F .f32 := actC (lamV m c) (affV m c)

/-- The 256 rows the 32 points compute, eight each. -/
def gRows (c : Dev nD) : S256x4096.Idx → Elt F .f32 := fun x =>
  rowsVal (actA m c) (affC m c) (weightAt m c ((x 0).val / 8)) (edgeV m c) (tabV m c) (segV m c) ((x 0).val / 8)
    (ValueIdx.ix2 (⟨(x 0).val % 8, Nat.mod_lt _ (by decide)⟩ : Fin 8) (x 1))

/-- The result. -/
def outV (c : Dev nD) : S256x128.Idx → Elt F .f32 := k0_pay2 (gRows m c) (kbV m c)

/-! ## What is held between grid points -/

abbrev actM : Memref sig .tc .vmem S8x4096 .f32 := Memref.whole cc0_scratch1
abbrev affM : Memref sig .tc .vmem S1x4096 .f32 := Memref.whole cc0_scratch2
abbrev rowsM : Memref sig .tc .vmem S256x4096 .f32 := Memref.whole cc0_scratch3

/-- Beside the ring: the generator's register and what is left of the edge matrix. -/
def aside (c : Dev nD) : sProp 𝕄 := iprop((∃ r, prngReg c r) ∗ edgeRest c (edgeV m c))

/-- The contents the scratch arrays have before point `n`: the first two filled after point 0, the third's rows of the
    points before `n` computed. -/
def scratchOk (c : Dev nD) (n : ℕ) (A : S8x4096.Idx → Elt F .f32) (C : S1x4096.Idx → Elt F .f32) (Gv : S256x4096.Idx → Elt F .f32) : Prop :=
  (n ≠ 0 → A = actA m c ∧ C = affC m c) ∧ ∀ x : S256x4096.Idx, (x 0).val / 8 < n → Gv x = gRows m c x

/-- Before point `n`: three slots armed with the groups `n`, `n + 1`, `n + 2`, the fourth idle, the tables, the scratch
    arrays. -/
def inv (c : Dev nD) (n : ℕ) : sProp 𝕄 :=
  iprop(∃ A C Gv, ⌜scratchOk m c n A C Gv⌝
    ∗ before c (edgeV m c) (tabV m c) (segV m c) n 0 ∗ before c (edgeV m c) (tabV m c) (segV m c) n 1 ∗ before c (edgeV m c) (tabV m c) (segV m c) n 2
    ∗ (tabLoc c ↦{fullShare.right} tabV m c) ∗ (segLoc c ↦{fullShare.right} segV m c) ∗ idleSlot c (edgeV m c) (slotOf (n + 3))
    ∗ owns (c : Thread nD τ) actM fullShare A ∗ owns (c : Thread nD τ) affM fullShare C ∗ owns (c : Thread nD τ) rowsM fullShare Gv ∗ aside m c)

abbrev cfgA : Cfg sig Λ₀ := cfg0 (adm m 0)

/-- The proof data: the arrays as the kernel finds them, each input left as it is, the result at `outV`. -/
def dats (p : Fin 1) (c : Dev nD) : Dat τ (Elt F) Unit ℕ (Pipeline.UD sig nD τ) ℕ (Pipeline.pin pcfgs (adm m) p) c where
  A w := V0 m c (Proc.devRef .tc (Pipeline.arrRef spec0 w))
  after w t := match w with
    | ⟨0, _⟩ => weightAt m c t.val
    | ⟨1, _⟩ => countV m c
    | ⟨2, _⟩ => embV m c
    | ⟨3, _⟩ => kbV m c
    | ⟨4, _⟩ => affV m c
    | ⟨5, _⟩ => lamV m c
    | ⟨6, _⟩ => outV m c
  Φ t := inv m c t.val
  q _ := fullShare
  owed _ := 0

theorem coord_val (t : Fin (cfgA m).N) : (((cfgA m).grid.coords t) 0).val = t.val := by
  have ht : t.val < 32 := Nat.lt_of_lt_of_eq t.isLt N_0
  rw [show (((cfgA m).grid.coords t) 0).val = t.val / 1 % 32 from Pipeline.Grid.coords_val (G := grid0) t 0 (by decide) rfl]
  omega

variable {m}

theorem found0 (c : Dev nD) (t : Fin (cfgA m).N) (d) : (dats m 0 c).before 0 t d = weightAt m c t.val := by
  have hk : ∀ t : Fin (cfgA m).N, (dats m 0 c).blockOf 0 t = weightAt m c t.val := by
    intro t
    have ht : t.val < 32 := Nat.lt_of_lt_of_eq t.isLt N_0
    refine funext fun (z : S1x8x8.Idx) => ?_
    show V0 m c (Proc.devRef .tc main_call0_v22) ((((cfgA m).win 0).rect t).emb z) = _
    unfold weightAt
    refine congrArg (weightV m c) (funext fun a => Fin.ext ?_)
    have h0 : (z 0).val = 0 := Nat.lt_one_iff.mp (z 0).isLt
    have hc := coord_val m t
    refine (Window.rect_emb_val ((cfgA m).win 0) t z a rfl).trans ?_
    fin_cases a
    · show (BitVec.ofNat 32 (((cfgA m).grid.coords t) 0).val).toNat * 1 + (z 0).val = t.val % 32
      rw [hc, BitVec.toNat_ofNat]; omega
    · show 0 * 8 + (z 1).val = (z 1).val
      omega
    · show 0 * 8 + (z 2).val = (z 2).val
      omega
  exact ((dats m 0 c).before_in_eq_fetched 0 rfl (fun _ => rfl) (fun _ _ _ => rfl) (fun t => (hk t).symm) t d).trans (hk t)

/-- A window whose block is its whole array holds the array at every point. -/
theorem found_whole (c : Dev nD) (w : Fin 7) (hin : ((cfgA m).win w).isOut = false) (hlive : ∀ i, (cfgA m).idle w i = false)
    (hclip : ∀ t t' : Fin (cfgA m).N, ((cfgA m).win w).index t = ((cfgA m).win w).index t' →
      ((cfgA m).win w).clip ((cfgA m).grid.coords t) = ((cfgA m).win w).clip ((cfgA m).grid.coords t'))
    {X : ((cfgA m).win w).block.Idx → Elt F ((cfgA m).win w).elt} (hX : ∀ t, (dats m 0 c).after w t = X)
    (hk : ∀ t, (dats m 0 c).blockOf w t = ((cfgA m).win w).cut ((cfgA m).grid.coords t) X)
    (hf : ∀ t d, ((cfgA m).win w).fill ((cfgA m).grid.coords t) d (((cfgA m).win w).cut ((cfgA m).grid.coords t) X) = X)
    (t : Fin (cfgA m).N) (d) : (dats m 0 c).before w t d = X := by
  rw [(dats m 0 c).before_in_eq_fetched w hin hlive hclip (fun t => by rw [hX t, hk t]) t d]
  unfold Dat.fetched
  rw [hk t, hf t]

theorem found1 (c : Dev nD) (t : Fin (cfgA m).N) (d) : (dats m 0 c).before 1 t d = countV m c := by
  refine found_whole c 1 rfl (fun _ => rfl) (fun _ _ _ => rfl) (fun _ => rfl) (fun t => ?_) (fun _ _ => rfl) t d
  refine funext fun z => ?_
  show V0 m c (Proc.devRef .tc main_call0_v46) ((((cfgA m).win 1).rect t).emb z) = _
  refine congrArg (countV m c) (funext fun a => Fin.ext ((Window.rect_emb_val_of_index_zero _ t a ?_ z).trans rfl))
  fin_cases a <;> rfl

theorem found2 (c : Dev nD) (t : Fin (cfgA m).N) (d) : (dats m 0 c).before 2 t d = embV m c := by
  refine found_whole c 2 rfl (fun _ => rfl) (fun _ _ _ => rfl) (fun _ => rfl) (fun t => ?_) (fun _ _ => rfl) t d
  refine funext fun z => ?_
  show V0 m c (Proc.devRef .tc main_arg3) ((((cfgA m).win 2).rect t).emb z) = _
  refine congrArg (embV m c) (funext fun a => Fin.ext ((Window.rect_emb_val_of_index_zero _ t a ?_ z).trans rfl))
  fin_cases a <;> rfl

theorem found3 (c : Dev nD) (t : Fin (cfgA m).N) (d) : (dats m 0 c).before 3 t d = kbV m c := by
  refine found_whole c 3 rfl (fun _ => rfl) (fun _ _ _ => rfl) (fun _ => rfl) (fun t => ?_) (fun _ _ => rfl) t d
  refine funext fun z => ?_
  show V0 m c (Proc.devRef .tc main_arg4) ((((cfgA m).win 3).rect t).emb z) = _
  refine congrArg (kbV m c) (funext fun a => Fin.ext ((Window.rect_emb_val_of_index_zero _ t a ?_ z).trans rfl))
  fin_cases a <;> rfl

theorem found4 (c : Dev nD) (t : Fin (cfgA m).N) (d) : (dats m 0 c).before 4 t d = affV m c := by
  refine found_whole c 4 rfl (fun _ => rfl) (fun _ _ _ => rfl) (fun _ => rfl) (fun t => ?_) (fun _ _ => rfl) t d
  refine funext fun z => ?_
  show V0 m c (Proc.devRef .tc main_call0_v47) ((((cfgA m).win 4).rect t).emb z) = _
  refine congrArg (affV m c) (funext fun a => Fin.ext ((Window.rect_emb_val_of_index_zero _ t a ?_ z).trans rfl))
  fin_cases a <;> rfl

theorem found5 (c : Dev nD) (t : Fin (cfgA m).N) (d) : (dats m 0 c).before 5 t d = lamV m c := by
  refine found_whole c 5 rfl (fun _ => rfl) (fun _ _ _ => rfl) (fun _ => rfl) (fun t => ?_) (fun _ _ => rfl) t d
  refine funext fun z => ?_
  show V0 m c (Proc.devRef .tc main_call0_v48) ((((cfgA m).win 5).rect t).emb z) = _
  refine congrArg (lamV m c) (funext fun a => Fin.ext ((Window.rect_emb_val_of_index_zero _ t a ?_ z).trans rfl))
  fin_cases a <;> rfl

/-! ## The body at a point -/

/-- The staging buffer of window `w` at point `t`. -/
abbrev stageAt (m : (ℓ : Loc nD τ sig) → Buf (Elt F) ℓ) (w : Fin 7) (t : Fin (cfgA m).N) := ((cfgA m).win w).stage ((cfgA m).slots t w)

/-- The staging buffers at what the body finds and leaves, the result's at `X`, and what is set aside. -/
def staged (c : Dev nD) (t : Fin (cfgA m).N) (X : S256x128.Idx → Elt F .f32) : sProp 𝕄 :=
  iprop(owns (c : Thread nD τ) (stageAt m 0 t) fullShare (weightAt m c t.val : S1x8x8.Idx → Elt F .f32) ∗ owns (c : Thread nD τ) (stageAt m 1 t) fullShare (countV m c)
    ∗ owns (c : Thread nD τ) (stageAt m 2 t) fullShare (embV m c) ∗ owns (c : Thread nD τ) (stageAt m 3 t) fullShare (kbV m c)
    ∗ owns (c : Thread nD τ) (stageAt m 4 t) fullShare (affV m c) ∗ owns (c : Thread nD τ) (stageAt m 5 t) fullShare (lamV m c)
    ∗ owns (c : Thread nD τ) (stageAt m 6 t) fullShare X ∗ aside m c)

/-- The body at point `t`. -/
abbrev bodyAt (m : (ℓ : Loc nD τ sig) → Buf (Elt F) ℓ) (t : Fin (cfgA m).N) := (defs₀ (F := F)) .tc (cfgA m).body ((cfgA m).bodyArgs t ((cfgA m).slots t))

theorem run_at (hT : ∀ c x, (tabV m c x).toNat < 4096) (c : Dev nD) (t : Fin (cfgA m).N) {A C Gv X0} (hs : scratchOk m c t.val A C Gv) {K : PUnit.{1} → sProp 𝕄}
    (hK : ∀ Gv' X, scratchOk m c (t.val + 1) (actA m c) (affC m c) Gv' → (t.val ≠ 31 → X = X0) → (t.val = 31 → X = outV m c) →
      point c (idleSlot c (edgeV m c) (slotOf t.val)) (after c (edgeV m c) (tabV m c) (segV m c) t.val 1) (after c (edgeV m c) (tabV m c) (segV m c) t.val 2)
        fullShare.right (tabV m c) fullShare.right (segV m c) (after c (edgeV m c) (tabV m c) (segV m c) t.val 3)
        actM (actA m c) affM (affC m c) rowsM Gv' (staged c t X) ⊢ K ⟨⟩) :
    point c (before c (edgeV m c) (tabV m c) (segV m c) t.val 0) (before c (edgeV m c) (tabV m c) (segV m c) t.val 1) (before c (edgeV m c) (tabV m c) (segV m c) t.val 2)
        fullShare.right (tabV m c) fullShare.right (segV m c) (idleSlot c (edgeV m c) (slotOf (t.val + 3)))
        actM A affM C rowsM Gv (staged c t X0)
      ⊢ runs c (bodyAt m t) K := by
  have hc := coord_val m t
  have ht : t.val < 32 := Nat.lt_of_lt_of_eq t.isLt N_0
  have h := run_point (c := c) (E := edgeV m c) (T := tabV m c) (G := segV m c) (q := fullShare.right) (q2 := fullShare.right) (i := (cfgA m).grid.coords t) (A := A) (C := C) (Gv := Gv) (X0 := X0)
    (W := weightAt m c t.val) (Cw := countV m c) (M := embV m c) (KB := kbV m c) (L := lamV m c) (Af := affV m c)
    (arg3 := stageAt m 0 t) (arg4 := stageAt m 1 t) (arg5 := stageAt m 2 t) (arg6 := stageAt m 3 t) (arg7 := stageAt m 4 t) (arg8 := stageAt m 5 t) (arg10 := stageAt m 6 t)
    (arg12 := actM) (arg13 := affM) (arg14 := rowsM)
    (harg3 := hstage0_0 ((((cfgA m).slots t) 0).cast nbuf0_0)) (harg4 := hstage0_1 ((((cfgA m).slots t) 1).cast nbuf0_1)) (harg5 := hstage0_2 ((((cfgA m).slots t) 2).cast nbuf0_2))
    (harg6 := hstage0_3 ((((cfgA m).slots t) 3).cast nbuf0_3)) (harg7 := hstage0_4 ((((cfgA m).slots t) 4).cast nbuf0_4)) (harg8 := hstage0_5 ((((cfgA m).slots t) 5).cast nbuf0_5))
    (harg10 := hstage0_6 ((((cfgA m).slots t) 6).cast nbuf0_6))
    (harg12 := Memref.isWhole_whole _) (harg13 := Memref.isWhole_whole _) (harg14 := Memref.isWhole_whole _)
    (h1 := Memref.isWhole_whole _) (h2 := Memref.isWhole_whole _) (h9 := Memref.isWhole_whole _) (h11 := Memref.isWhole_whole _)
    (hT c) (R := staged c t) (K := K) (fun h0 => hs.1 (hc ▸ h0))
    swap_here (swap_next swap_here) (swap_next (swap_next swap_here)) (swap_next (swap_next (swap_next swap_here)))
    (swap_next (swap_next (swap_next (swap_next swap_here)))) (swap_next (swap_next (swap_next (swap_next (swap_next swap_here)))))
    (swap_next (swap_next (swap_next (swap_next (swap_next (swap_next swap_here))))))
    (swapAll_next (swapAll_next (swapAll_next (swapAll_next (swapAll_next (swapAll_next swapAll_here))))))
  rw [hc] at h
  refine weaken (h ?_) ?_
  · intro Gv' X hin hout hX hX'
    have hrows : ∀ x : S256x4096.Idx, (x 0).val / 8 < t.val + 1 → Gv' x = gRows m c x := by
      intro x hx
      by_cases hx' : (x 0).val / 8 = t.val
      · rw [hin x (ValueIdx.ix2 (⟨(x 0).val % 8, Nat.mod_lt _ (by decide)⟩ : Fin 8) (x 1)) (by show _ = t.val * 8 + (x 0).val % 8; omega) rfl]
        unfold gRows
        rw [hx']; rfl
      · rw [hout x hx']; exact hs.2 x (by omega)
    refine hK Gv' X ⟨fun _ => ⟨rfl, rfl⟩, hrows⟩ hX (fun h31 => ?_)
    rw [hX' h31]
    refine congrArg (fun g => k0_pay2 g (kbV m c)) (funext fun x => hrows x ?_)
    have hx0 : (x 0).val < 256 := (x 0).isLt
    omega
  · exact .rfl

end Cert.KernelIdeal.Hand

end
-- ==== Proof.Ideal.Frame.lean ====
/- The kernel's run: every grid point in turn, the host operations before and after, and what memory holds at the end. -/
module

public import proofs.«01_k».proof.Proof.Ideal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable {m : (ℓ : Loc nD τ sig) → Buf (Elt F) ℓ}

/-! ## The body obligation -/

/-- What the point after `n` finds is what point `n` leaves, one group on. -/
theorem before_succ (c : Dev nD) (E : EdgeC F) (T : TabC F) (G : SegC F) (n k : ℕ) : before c E T G (n + 1) k = after c E T G n (k + 1) := by
  unfold before after
  rw [show n + 1 + k = n + (k + 1) by omega]
  exact armed_congr ⟨fun h => h.2, fun h => ⟨by omega, h⟩⟩

theorem slotOf_next (n : ℕ) : slotOf (n + 1 + 3) = slotOf n := Fin.ext (by show (n + 1 + 3) % 4 = n % 4; omega)

/-- What a point leaves makes the invariant before the next. -/
theorem inv_succ (c : Dev nD) (n : ℕ) {A C Gv} (hs : scratchOk m c (n + 1) A C Gv) :
    iprop(idleSlot c (edgeV m c) (slotOf n) ∗ after c (edgeV m c) (tabV m c) (segV m c) n 1 ∗ after c (edgeV m c) (tabV m c) (segV m c) n 2
      ∗ (tabLoc c ↦{fullShare.right} tabV m c) ∗ (segLoc c ↦{fullShare.right} segV m c) ∗ after c (edgeV m c) (tabV m c) (segV m c) n 3
      ∗ owns (c : Thread nD τ) actM fullShare A ∗ owns (c : Thread nD τ) affM fullShare C ∗ owns (c : Thread nD τ) rowsM fullShare Gv ∗ aside m c) ⊢ inv m c (n + 1) := by
  unfold inv
  rw [before_succ, before_succ, before_succ, slotOf_next]
  iintro ⟨H0, H1, H2, HT, HG, H3, HA, HC, HR, Hx⟩
  iexists A; iexists C; iexists Gv
  isplitr; · ipureintro; exact hs
  isplitl [H1]; · iexact H1
  isplitl [H2]; · iexact H2
  isplitl [H3]; · iexact H3
  isplitl [HT]; · iexact HT
  isplitl [HG]; · iexact HG
  isplitl [H0]; · iexact H0
  isplitl [HA]; · iexact HA
  isplitl [HC]; · iexact HC
  isplitl [HR]; · iexact HR
  iexact Hx

/-- What the body finds at point `t`. -/
def bodyPre (m : (ℓ : Loc nD τ sig) → Buf (Elt F) ℓ) (c : Dev nD) (t : Fin (cfgA m).N) : sProp 𝕄 :=
  iprop((dats m 0 c).Φ t.castSucc ∗ (dats m 0 c).owesAt () t.castSucc
    ∗ (∃ d, owns (c : Thread nD τ) (stageAt m 0 t) fullShare ((dats m 0 c).before 0 t d))
    ∗ (∃ d, owns (c : Thread nD τ) (stageAt m 1 t) fullShare ((dats m 0 c).before 1 t d))
    ∗ (∃ d, owns (c : Thread nD τ) (stageAt m 2 t) fullShare ((dats m 0 c).before 2 t d))
    ∗ (∃ d, owns (c : Thread nD τ) (stageAt m 3 t) fullShare ((dats m 0 c).before 3 t d))
    ∗ (∃ d, owns (c : Thread nD τ) (stageAt m 4 t) fullShare ((dats m 0 c).before 4 t d))
    ∗ (∃ d, owns (c : Thread nD τ) (stageAt m 5 t) fullShare ((dats m 0 c).before 5 t d))
    ∗ (∃ d, owns (c : Thread nD τ) (stageAt m 6 t) fullShare ((dats m 0 c).before 6 t d)))

/-- What the body leaves at point `t`, the result's buffer as `L` says. -/
def bodyPost (m : (ℓ : Loc nD τ sig) → Buf (Elt F) ℓ) (c : Dev nD) (t : Fin (cfgA m).N) (L : sProp 𝕄) : sProp 𝕄 :=
  iprop((dats m 0 c).Φ t.succ ∗ (dats m 0 c).owesAt () t.succ
    ∗ owns (c : Thread nD τ) (stageAt m 0 t) fullShare ((dats m 0 c).after 0 t)
    ∗ owns (c : Thread nD τ) (stageAt m 1 t) fullShare ((dats m 0 c).after 1 t)
    ∗ owns (c : Thread nD τ) (stageAt m 2 t) fullShare ((dats m 0 c).after 2 t)
    ∗ owns (c : Thread nD τ) (stageAt m 3 t) fullShare ((dats m 0 c).after 3 t)
    ∗ owns (c : Thread nD τ) (stageAt m 4 t) fullShare ((dats m 0 c).after 4 t)
    ∗ owns (c : Thread nD τ) (stageAt m 5 t) fullShare ((dats m 0 c).after 5 t)
    ∗ L)

theorem sound_body (hT : ∀ c x, (tabV m c x).toNat < 4096) (c : Dev nD) (t : Fin (cfgA m).N) (L : sProp 𝕄)
    (hL : t.val ≠ 31 → iprop(∃ d, owns (c : Thread nD τ) (stageAt m 6 t) fullShare ((dats m 0 c).before 6 t d)) ⊢ L)
    (hL' : t.val = 31 → iprop(owns (c : Thread nD τ) (stageAt m 6 t) fullShare (outV m c)) ⊢ L) :
    bodyPre m c t ⊢ runs c (bodyAt m t) (fun _ => bodyPost m c t L) := by
  have hK : ∀ Gv' X, scratchOk m c (t.val + 1) (actA m c) (affC m c) Gv' → (∃ d, t.val ≠ 31 → X = (dats m 0 c).before 6 t d) → (t.val = 31 → X = outV m c) →
      point c (idleSlot c (edgeV m c) (slotOf t.val)) (after c (edgeV m c) (tabV m c) (segV m c) t.val 1) (after c (edgeV m c) (tabV m c) (segV m c) t.val 2)
        fullShare.right (tabV m c) fullShare.right (segV m c) (after c (edgeV m c) (tabV m c) (segV m c) t.val 3)
        actM (actA m c) affM (affC m c) rowsM Gv' (staged c t X) ⊢ bodyPost m c t L := by
    intro Gv' X hs' hX hX'
    obtain ⟨d6, hX⟩ := hX
    have hinv := inv_succ c t.val hs'
    have hL6 : iprop(owns (c : Thread nD τ) (stageAt m 6 t) fullShare X) ⊢ L := by
      by_cases h31 : t.val = 31
      · rw [hX' h31]; exact hL' h31
      · rw [hX h31]
        refine weaken ?_ (hL h31)
        iintro H; iexists d6; iexact H
    unfold bodyPost
    rw [show (dats m 0 c).Φ t.succ = inv m c (t.val + 1) from rfl]
    unfold Dat.owesAt Pipeline.owesWithin
    rw [show (dats m 0 c).owed t.succ = 0 from rfl]
    unfold point starting staged owesSome
    iintro ⟨H0, H1, H2, HT, HG, H3, ⟨%W, HW⟩, HA, HC, HR, G0, G1, G2, G3, G4, G5, G6, Hx⟩
    isplitl [H0 H1 H2 HT HG H3 HA HC HR Hx]
    · iapply hinv
      isplitl [H0]; · iexact H0
      isplitl [H1]; · iexact H1
      isplitl [H2]; · iexact H2
      isplitl [HT]; · iexact HT
      isplitl [HG]; · iexact HG
      isplitl [H3]; · iexact H3
      isplitl [HA]; · iexact HA
      isplitl [HC]; · iexact HC
      isplitl [HR]; · iexact HR
      iexact Hx
    isplitl [HW]
    · iexists W
      isplitr; · ipureintro; exact fun _ _ => Or.inl trivial
      iexact HW
    isplitl [G0]; · iexact G0
    isplitl [G1]; · iexact G1
    isplitl [G2]; · iexact G2
    isplitl [G3]; · iexact G3
    isplitl [G4]; · iexact G4
    isplitl [G5]; · iexact G5
    iapply hL6; iexact G6
  unfold bodyPre
  rw [show (dats m 0 c).Φ t.castSucc = inv m c t.val from rfl]
  unfold Dat.owesAt Pipeline.owesWithin
  rw [show (dats m 0 c).owed t.castSucc = 0 from rfl]
  iintro ⟨HI, ⟨%W, -, HW⟩, ⟨%d0, H0⟩, ⟨%d1, H1⟩, ⟨%d2, H2⟩, ⟨%d3, H3⟩, ⟨%d4, H4⟩, ⟨%d5, H5⟩, ⟨%d6, H6⟩⟩
  rw [found0, found1, found2, found3, found4, found5]
  unfold inv
  icases HI with ⟨%A, %C, %Gv, %hs, HB0, HB1, HB2, HT, HG, HS, HA, HC, HR, Hx⟩
  have hrun := run_at hT c t (A := A) (C := C) (Gv := Gv) (X0 := (dats m 0 c).before 6 t d6) hs (K := fun _ => bodyPost m c t L)
    (fun Gv' X hs' hX hX' => hK Gv' X hs' ⟨d6, hX⟩ hX')
  iapply hrun
  unfold point starting staged owesSome
  isplitl [HB0]; · iexact HB0
  isplitl [HB1]; · iexact HB1
  isplitl [HB2]; · iexact HB2
  isplitl [HT]; · iexact HT
  isplitl [HG]; · iexact HG
  isplitl [HS]; · iexact HS
  isplitl [HW]; · iexists W; iexact HW
  isplitl [HA]; · iexact HA
  isplitl [HC]; · iexact HC
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hx

/-- A window left as found at an idle point that writes nothing back, else as `Q` says. -/
theorem leave_idle {b f : Bool} {P Q : sProp 𝕄} (hb : b = true) (hf : f = false) : P ⊢ (match (generalizing := false) b with | true => (match (generalizing := false) f with | false => P | true => Q) | false => Q) := by
  subst hb hf; exact .rfl
theorem leave_live {b f : Bool} {P Q : sProp 𝕄} (hb : b = false) : Q ⊢ (match (generalizing := false) b with | true => (match (generalizing := false) f with | false => P | true => Q) | false => Q) := by
  subst hb; exact .rfl

theorem idle_out (t : Fin (cfgA m).N) : (cfgA m).idle 6 ((cfgA m).grid.coords t) = !decide (t.val = 31) := by
  show (!(k0_cond9 ((cfgA m).grid.coords t) == 1#1)) = !decide (t.val = 31)
  have h := cond9_iff ((cfgA m).grid.coords t)
  rw [coord_val m t] at h
  by_cases h31 : t.val = 31
  · rw [h.mpr h31, decide_eq_true h31]; rfl
  · rw [decide_eq_false h31, beq_eq_false_iff_ne.mpr (fun e => h31 (h.mp e))]

theorem flush_out (t : Fin (cfgA m).N) : ((cfgA m).win 6).flush t = true ↔ t.val = 31 := by
  have ht : t.val < 32 := Nat.lt_of_lt_of_eq t.isLt N_0
  rw [Pipeline.Window.flush_const ((cfgA m).win 6) rfl (fun _ _ => rfl) (n := 32) (m := 31) N_0 rfl t]
  omega

theorem idle_before (t : Fin (cfgA m).N) (h31 : t.val ≠ 31) : (cfgA m).idle 6 ((cfgA m).grid.coords t) = true := by
  rw [idle_out, decide_eq_false h31]; rfl
theorem idle_last (t : Fin (cfgA m).N) (h31 : t.val = 31) : (cfgA m).idle 6 ((cfgA m).grid.coords t) = false := by
  rw [idle_out, decide_eq_true h31]; rfl
theorem kept_before (t : Fin (cfgA m).N) (h31 : t.val ≠ 31) : ((cfgA m).win 6).flush t = false := by
  rw [← Bool.not_eq_true, flush_out]; exact h31

theorem body_obligation (hT : ∀ c x, (tabV m c x).toNat < 4096) (c : Dev nD) : BodyObligation (dats m 0 c) (defs₀ (F := F)) Variants.none () Set.univ := fun t => by
  rw [bigSep_W0, bigSep_W0]
  refine triple_restated (sound_body hT c t (match (cfgA m).idle 6 ((cfgA m).grid.coords t) with
      | true => (match ((cfgA m).win 6).flush t with
        | false => iprop(∃ d, owns (c : Thread nD τ) (stageAt m 6 t) fullShare ((dats m 0 c).before 6 t d))
        | true => owns (c : Thread nD τ) (stageAt m 6 t) fullShare ((dats m 0 c).after 6 t))
      | false => owns (c : Thread nD τ) (stageAt m 6 t) fullShare ((dats m 0 c).after 6 t))
    (fun h31 => leave_idle (idle_before t h31) (kept_before t h31))
    (fun h31 => leave_live (idle_last t h31))) rfl .rfl fun _ => .rfl

/-! ## The run -/

abbrev osem0 : Fin 4 → SemLoc sig := cell
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄) = cells0 c := by
  rw [Pipeline.ownSems0_eq_of_list c osem0 [0, 1, 2, 3] (by decide) (by decide)]; rfl

/-- The operand left in HBM, which the copies read. -/
def H0 : Finset (Ref sig .tc) := {main_arg5}
theorem H0_sub : H0 ⊆ Pipeline.restRefsP sig pre0 spec0 := by decide

theorem live_end (G : SegC F) (k : ℕ) : ¬ live G (32 + k) := fun h => by have := h.1; omega

theorem prefHeld0_eq (c : Dev nD) :
    (Pipeline.ΦT pre0 (adm m 0).1 c : sProp 𝕄)
      = iprop((tabLoc c ↦{fullShare.right} tabV m 0) ∗ (segLoc c ↦{fullShare.right} segV m 0)) := by
  unfold Pipeline.ΦT Pipeline.prefHeld
  exact bigSep_univ_eq_bigSepL [(0 : Fin 2), 1] (by decide) (by decide) _

theorem edgeHeld_eq (c : Dev nD) :
    (bigSep H0 (fun b => ((c : Thread nD τ).loc b) ↦{fullShare} V0 m c (Proc.devRef .tc b)) : sProp 𝕄) = (edgeLoc c ↦{fullShare} edgeV m c) := by
  unfold H0; rw [bigSep_singleton]

/-- What the launch hands the kernel makes the invariant before the first point. -/
theorem enter (c : Dev nD) :
    iprop(Pipeline.ΦD osem0 spec0 H0 (fun c b => V0 m c (Proc.devRef .tc b)) c ∗ Pipeline.ΦT pre0 (adm m 0).1 c) ⊢ inv m c 0 := by
  obtain rfl : c = 0 := Subsingleton.elim _ _
  unfold Pipeline.ΦD
  rw [prefHeld0_eq, edgeHeld_eq, ownSems00_eq, scopedRest0_eq]
  unfold inv
  rw [show ∀ k, before (0 : Dev nD) (edgeV m 0) (tabV m 0) (segV m 0) 0 k = idleSlot 0 (edgeV m 0) (slotOf (0 + k)) from fun k => armed_not (fun h => h.1 rfl)]
  rw [show ∀ k, before (0 : Dev nD) (edgeV m 0) (tabV m 0) (segV m 0) 0 k = idleSlot 0 (edgeV m 0) (slotOf (0 + k)) from fun k => armed_not (fun h => h.1 rfl)]
  rw [show ∀ k, before (0 : Dev nD) (edgeV m 0) (tabV m 0) (segV m 0) 0 k = idleSlot 0 (edgeV m 0) (slotOf (0 + k)) from fun k => armed_not (fun h => h.1 rfl)]
  iintro ⟨⟨⟨HR, ⟨%A, HA⟩, ⟨%C, HC⟩, ⟨%Gv, HG⟩⟩, Hp, Hc, HE⟩, HT, HS⟩
  ihave HI := (slots_in (c := (0 : Dev nD)) (E := edgeV m 0)) $$ [HR HE Hc]
  · isplitl [HR]; · iexact HR
    isplitl [HE]; · iexact HE
    iexact Hc
  unfold allIdle aside
  icases HI with ⟨HX, I0, I1, I2, I3⟩
  iexists A; iexists C; iexists Gv
  isplitr; · ipureintro; exact ⟨fun h => absurd rfl h, fun x hx => absurd hx (Nat.not_lt_zero _)⟩
  isplitl [I0]; · iexact I0
  isplitl [I1]; · iexact I1
  isplitl [I2]; · iexact I2
  isplitl [HT]; · iexact HT
  isplitl [HS]; · iexact HS
  isplitl [I3]; · iexact I3
  isplitl [HA]; · rw [owns_whole]; iexact HA
  isplitl [HC]; · rw [owns_whole]; iexact HC
  isplitl [HG]; · rw [owns_whole]; iexact HG
  isplitl [Hp]; · iexact Hp
  iexact HX

/-- The invariant after the last point gives back what the launch handed over, but for the tables. -/
theorem leave (c : Dev nD) : inv m c 32 ⊢ Pipeline.ΦD osem0 spec0 H0 (fun c b => V0 m c (Proc.devRef .tc b)) c := by
  unfold Pipeline.ΦD
  rw [edgeHeld_eq, ownSems00_eq, scopedRest0_eq]
  unfold inv
  rw [show ∀ k, before c (edgeV m c) (tabV m c) (segV m c) 32 k = idleSlot c (edgeV m c) (slotOf (32 + k)) from fun k => armed_not (fun h => live_end _ k h.2)]
  rw [show ∀ k, before c (edgeV m c) (tabV m c) (segV m c) 32 k = idleSlot c (edgeV m c) (slotOf (32 + k)) from fun k => armed_not (fun h => live_end _ k h.2)]
  rw [show ∀ k, before c (edgeV m c) (tabV m c) (segV m c) 32 k = idleSlot c (edgeV m c) (slotOf (32 + k)) from fun k => armed_not (fun h => live_end _ k h.2)]
  unfold aside
  iintro ⟨%A, %C, %Gv, -, I0, I1, I2, -, -, I3, HA, HC, HG, Hp, HX⟩
  ihave HI := (slots_out (c := c) (E := edgeV m c)) $$ [I0 I1 I2 I3 HX]
  · isplitl [HX]; · iexact HX
    unfold allIdle
    isplitl [I0]; · iexact I0
    isplitl [I1]; · iexact I1
    isplitl [I2]; · iexact I2
    iexact I3
  icases HI with ⟨HR, HE, Hc⟩
  isplitl [HR HA HC HG]
  · isplitl [HR]; · iexact HR
    isplitl [HA]; · iexists A; iapply (Entails.of_eq (owns_whole (c : Thread nD τ) _ _ A)); iexact HA
    isplitl [HC]; · iexists C; iapply (Entails.of_eq (owns_whole (c : Thread nD τ) _ _ C)); iexact HC
    iexists Gv; iapply (Entails.of_eq (owns_whole (c : Thread nD τ) _ _ Gv)); iexact HG
  isplitl [Hp]; · iexact Hp
  isplitl [Hc]; · iexact Hc
  iexact HE

theorem main_split : Pipeline.HMainPK (Ix := Unit) (Name := ℕ) (U := Pipeline.UD sig nD τ) (Lvl := ℕ) pcfgs 0 (defs₀ (F := F)) Variants.none m (main (F := F))
    (fun c b => V0 m c (Proc.devRef .tc b)) (fun _ => Pipeline.chain ([hostOps1 (F := F)].map StableHlo.seq)) := by
  have h := Pipeline.hmainP_around (Ix := Unit) (Name := ℕ) (U := Pipeline.UD sig nD τ) (Lvl := ℕ) pcfgs 0 (defs₀ (F := F)) Variants.none m (main (F := F)) [hostOps0] [hostOps1]
    hostOps0_sub (by simp only [List.Forall]; repeat' (first | exact rfl | constructor)) (fun c => main_chain c)
  rwa [show ([hostOps0 (F := F)].flatten) = hostOps0 from List.append_nil _] at h

theorem tail_bufs {r : Ref sig .tc} (h0 : r ≠ main_call0_v49) (h1 : r ≠ main_v0) :
    (Proc.devRef (τ := τ) .tc r) ∉ ({Proc.devRef .tc main_call0_v49, Proc.devRef .tc main_v0} : Finset (DevRef τ sig)) := by
  intro h
  rcases Finset.mem_insert.mp h with h | h
  · exact h0 (Proc.devRef_injective _ h)
  · exact h1 (Proc.devRef_injective _ (Finset.mem_singleton.mp h))

/-- The reshape after the region touches neither a table nor the edge matrix. -/
theorem tail_sub : ∀ ops ∈ [hostOps1 (F := F)], ∀ op ∈ ops, op.bufs ⊆ Pipeline.tailRefsBut (τ := τ) sig (pcfgs (F := F) 0).pre (pcfgs (F := F) 0).spec H0 := by
  intro ops ho op hop
  obtain rfl := List.mem_singleton.mp ho
  have h1 := List.forall_iff_forall_mem.mp (hostOps1_sub (F := F)) op hop
  obtain rfl := List.mem_singleton.mp hop
  refine Pipeline.sub_tailRefsBut _ _ H0 _ h1 ?_ ?_
  · intro k
    fin_cases k
    · exact tail_bufs (r := main_call0_v21) (by decide) (by decide)
    · exact tail_bufs (r := main_arg2) (by decide) (by decide)
  · intro b hb; obtain rfl := Finset.mem_singleton.mp hb
    exact tail_bufs (by decide) (by decide)

theorem tail_fresh : ∀ ops ∈ [hostOps1 (F := F)], ∀ op ∈ ops, op.fresh = ∅ := by
  intro ops ho op hop
  obtain rfl := List.mem_singleton.mp ho
  obtain rfl := List.mem_singleton.mp hop
  rfl

theorem arr_ne (w : Fin (pcfgs (F := F) 0).W) : Pipeline.arrRef (pcfgs (F := F) 0).spec w ≠ main_v0 := by
  fin_cases w
  · exact (by decide : main_call0_v22 ≠ main_v0)
  · exact (by decide : main_call0_v46 ≠ main_v0)
  · exact (by decide : main_arg3 ≠ main_v0)
  · exact (by decide : main_arg4 ≠ main_v0)
  · exact (by decide : main_call0_v47 ≠ main_v0)
  · exact (by decide : main_call0_v48 ≠ main_v0)
  · exact (by decide : main_call0_v49 ≠ main_v0)

/-- Nor does it write an array of a window. -/
theorem tail_keep : ∀ ops ∈ [hostOps1 (F := F)], ∀ op ∈ ops, ∀ w, Proc.devRef .tc (Pipeline.arrRef (pcfgs (F := F) 0).spec w) ∉ op.writes := by
  intro ops ho op hop w
  obtain rfl := List.mem_singleton.mp ho
  obtain rfl := List.mem_singleton.mp hop
  exact fun h => absurd (Proc.devRef_injective _ (Finset.mem_singleton.mp h)) (arr_ne w)

set_option backward.isDefEq.respectTransparency.types false in
/-- The whole program's run: the arrays of the pipeline at what the points left, every other buffer at what the last host
    operation leaves, the semaphores at zero. -/
theorem run_main (g : Dev nD → PrngReg) (hT : ∀ c x, (tabV m c x).toNat < 4096) :
    θ_run defs (onTc (τ := τ) (main (F := F))) ⟨m, fun _ => 0, g⟩ (fun r =>
      Pipeline.FramePost (Pipeline.pin pcfgs (adm m)) (dats m) 0 (Pipeline.afterTail pcfgs (adm m) (dats m) 0 (V0 m) [hostOps1]) r ∧ r.2.sem = fun _ => 0) :=
  Pipeline.θ_run_frameP_dma_around pcfgs (adm m) (dats m) (0 : Fin 1) launch0 osem0 (defs₀ (F := F)) Variants.none ownSemFacts0 H0 H0_sub m g main
    (fun c => (body_obligation hT c).loose) (fun c => (dats m 0 c).share_full fun _ => rfl) (fun _ _ => rfl) (V0 m) [hostOps1]
    tail_sub tail_fresh tail_keep main_split (fun _ _ => rfl) (fun c k => by obtain rfl : c = 0 := Subsingleton.elim _ _; rfl)
    (fun c => enter c) (fun c => leave c) _ (fun _ h => h)

end Cert.KernelIdeal.Hand

end
-- ==== Proof.Ideal.End.lean ====
/- Where the run ends: the result read off the last window, every argument as it was. -/
module

public import proofs.«01_k».proof.Proof.Ideal.Frame
public import Idealize.ShloMosaic.Lib.StableHlo.RunRead

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ)

/-- The buffers the operations before the region write, in order. -/
def written : List (Ref sig .tc) :=
  [main_call0_v0, main_call0_v1, main_call0_v2, main_call0_v3, main_call0_v4, main_call0_v5, main_call0_v6, main_call0_v7, main_call0_v8, main_call0_v9,
   main_call0_v10, main_call0_v11, main_call0_v12, main_call0_v13, main_call0_v14, main_call0_c, main_call0_v15, main_call0_v16, main_call0_v17,
   main_call0_v18, main_call0_v19, main_call0_v20, main_call0_v21, main_call0_v22, main_call0_cst, main_call0_v23, main_call0_v24, main_call0_v25,
   main_call0_v26, main_call0_v27, main_call0_v28, main_call0_v29, main_call0_v30, main_call0_v31, main_call0_c_0, main_call0_v32, main_call0_v33,
   main_call0_c_1, main_call0_v34, main_call0_v35, main_call0_v36, main_call0_c_2, main_call0_v37, main_call0_v38, main_call0_c_3, main_call0_v39,
   main_call0_v40, main_call0_v41, main_call0_v42, main_call0_v43, main_call0_v44, main_call0_v45, main_call0_v46, main_call0_v47, main_call0_v48]

/-- A buffer none of them writes enters the region as the program found it. -/
theorem entry_kept (c : Dev nD) (r : Ref sig .tc) (hr : r ∉ written) : V0 m c (Proc.devRef .tc r) = m ((c : Thread nD τ).loc r) :=
  StableHlo.after_unwritten written rfl hr _

/-- A buffer off the windows that the last reshape does not write ends as it entered. -/
theorem tail_kept (c : Dev nD) (r : Ref sig .tc) (h0 : r ≠ main_v0) (hw : ∀ w, Pipeline.arrRef (pcfgs (F := F) 0).spec w ≠ r) :
    Pipeline.afterTail pcfgs (adm m) (dats m) 0 (V0 m) [hostOps1] c r = V0 m c (Proc.devRef .tc r) := by
  unfold Pipeline.afterTail
  refine (StableHlo.after_unwritten [main_v0] rfl (fun h => h0 (List.mem_singleton.mp h)) _).trans ?_
  exact Pipeline.withArrays_of_ne _ _ _ _ _ hw

/-- The arrays of the windows. -/
def arrays : List (Ref sig .tc) := [main_call0_v22, main_call0_v46, main_arg3, main_arg4, main_call0_v47, main_call0_v48, main_call0_v49]

theorem arr_ne_of {r : Ref sig .tc} (h : r ∉ arrays)
    (w : Fin (pcfgs (F := F) 0).W) : Pipeline.arrRef (pcfgs (F := F) 0).spec w ≠ r := by
  intro e
  refine h (e ▸ ?_)
  fin_cases w
  · exact (by decide : main_call0_v22 ∈ arrays)
  · exact (by decide : main_call0_v46 ∈ arrays)
  · exact (by decide : main_arg3 ∈ arrays)
  · exact (by decide : main_arg4 ∈ arrays)
  · exact (by decide : main_call0_v47 ∈ arrays)
  · exact (by decide : main_call0_v48 ∈ arrays)
  · exact (by decide : main_call0_v49 ∈ arrays)

/-- The prefetched table is the concept array in one row. -/
theorem tab_eq (c : Dev nD) : tabV m c = shapeCast S2048 (m ((c.tc : Thread nD τ).loc main_arg0)) shapeCasts_S8x32x8_S2048 := by
  unfold tabV V0
  after_results_simp
  rfl

/-- The one block the last window has is its whole array. -/
theorem out_emb (t : Fin (cfgA m).N) (z : S256x128.Idx) : (((cfgA m).win 6).rect t).emb z = z :=
  funext fun a => Fin.ext (Window.rect_emb_val_of_index_zero _ t a (by fin_cases a <;> rfl) z)

/-- The array of the last window ends at the product of the gathered rows and the knowledge matrix. -/
theorem out_array (c : Dev nD) : (dats m 0 c).arrAt 6 (cfgA m).N = outV m c := by
  refine (dats m 0 c).arrAt_eq_of_cover 6 (outV m c) ?_ ?_
  · intro t ht
    refine funext fun (z : S256x128.Idx) => ?_
    show outV m c _ = outV m c ((((cfgA m).win 6).rect t).emb z)
    rw [out_emb]
    rfl
  · intro (i : S256x128.Idx)
    refine ⟨⟨31, Nat.lt_of_lt_of_eq (by omega) N_0.symm⟩, (flush_out _).mpr rfl, ?_⟩
    have h := (View.set_slice_whole main_call0_v49 (((cfgA m).win 6).rect ⟨31, Nat.lt_of_lt_of_eq (by omega) N_0.symm⟩)).trans (Rect.map_emb_univ _).symm
    exact (congrArg (fun s : Finset S256x128.Idx => i ∈ s) h).mpr (Finset.mem_map.mpr ⟨i, Finset.mem_univ _, out_emb m _ i⟩)

/-- The result: the last window's array, cut into sentences. -/
def resV (c : Dev nD) : S8x32x128.Idx → Elt F .f32 := shapeCast S8x32x128 (outV m c) shapeCasts_S256x128_S8x32x128

theorem result_end (c : Dev nD) : Pipeline.afterTail pcfgs (adm m) (dats m) 0 (V0 m) [hostOps1] c main_v0 = resV m c := by
  unfold Pipeline.afterTail
  show StableHlo.after hostOps1 _ _ = _
  after_results_simp
  unfold resV
  rw [← out_array]
  exact congrArg (fun x => shapeCast S8x32x128 x shapeCasts_S256x128_S8x32x128)
    (Pipeline.withArrays_arr _ winFacts0.arr_inj c (V0 m c) _ 6)

/-- The run of the whole program: the result at the value above, every argument unchanged, the semaphores at zero. -/
theorem run_end (g : Dev nD → PrngReg) (hT : ∀ c x, (tabV m c x).toNat < 4096) :
    θ_run defs (onTc (τ := τ) (main (F := F))) ⟨m, fun _ => 0, g⟩ (fun r =>
      (∀ c : Dev nD, r.2.mem ((c.tc : Thread nD τ).loc main_v0) = resV m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) ∧ r.2.sem = fun _ => 0) := by
  refine (θ_run defs _ _).mono (fun r hr => ?_) (run_main g hT)
  obtain ⟨h, hs⟩ := hr
  refine ⟨fun c => ?_, hs⟩
  have rest : ∀ b : Ref sig .tc, b.isScoped = false → b ≠ main_v0 → b ∉ written →
      b ∉ arrays →
      r.2.mem ((c.tc : Thread nD τ).loc b) = m ((c.tc : Thread nD τ).loc b) := fun b hb h0 hw ha =>
    ((h c).2 b (Pipeline.mem_restRefs_of b hb (arr_ne_of (F := F) ha))).trans ((tail_kept m c b h0 (arr_ne_of (F := F) ha)).trans (entry_kept m c b hw))
  refine ⟨((h c).2 main_v0 (Pipeline.mem_restRefs_of _ (by decide) (arr_ne_of (F := F) (by decide)))).trans (result_end m c),
    rest _ (by decide) (by decide) (by decide) (by decide), rest _ (by decide) (by decide) (by decide) (by decide),
    rest _ (by decide) (by decide) (by decide) (by decide), ?_, ?_,
    rest _ (by decide) (by decide) (by decide) (by decide), rest _ (by decide) (by decide) (by decide) (by decide),
    rest _ (by decide) (by decide) (by decide) (by decide)⟩
  · exact ((h c).1 2).trans (((dats m 0 c).arrAt_in 2 rfl _).trans (entry_kept m c main_arg3 (by decide)))
  · exact ((h c).1 3).trans (((dats m 0 c).arrAt_in 3 rfl _).trans (entry_kept m c main_arg4 (by decide)))

end Cert.KernelIdeal.Hand

end
-- ==== Proof.Reference.lean ====
/- The reference as one straight line of host operations, and its run. -/
module

public import proofs.«01_k».proof.Defs
public import proofs.«01_k».proof.Proof.Gen.ReferenceIdeal
public import Idealize.ShloMosaic.Lib.StableHlo.RunRead

@[expose] public section

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable {F : FTy → Type} [FloatOps F]

/-- Up to the contexts. -/
def opsA : List (HloOp τ sig (Elt F)) :=
  [ nullary main_c (constantI S_ 32 0#32),
    unary main_c main_v0 (broadcastInDim S8x32x8 ![] bcast_S_S8x32x8 : (⟨S_, .i32⟩ : BufTy).Contents (Elt F) → (⟨S8x32x8, .i32⟩ : BufTy).Contents (Elt F)),
    binary main_arg0 main_v0 main_v1 (cmpi .slt : (⟨S8x32x8, .i32⟩ : BufTy).Contents (Elt F) → (⟨S8x32x8, .i32⟩ : BufTy).Contents (Elt F) → (⟨S8x32x8, .i1⟩ : BufTy).Contents (Elt F)),
    nullary main_c_0 (constantI S_ 32 4096#32),
    unary main_c_0 main_v2 (broadcastInDim S8x32x8 ![] bcast_S_S8x32x8 : (⟨S_, .i32⟩ : BufTy).Contents (Elt F) → (⟨S8x32x8, .i32⟩ : BufTy).Contents (Elt F)),
    binary main_arg0 main_v2 main_v3 (addi : (⟨S8x32x8, .i32⟩ : BufTy).Contents (Elt F) → (⟨S8x32x8, .i32⟩ : BufTy).Contents (Elt F) → (⟨S8x32x8, .i32⟩ : BufTy).Contents (Elt F)),
    ternary main_v1 main_v3 main_arg0 main_v4 (select : (⟨S8x32x8, .i1⟩ : BufTy).Contents (Elt F) → (⟨S8x32x8, .i32⟩ : BufTy).Contents (Elt F) → (⟨S8x32x8, .i32⟩ : BufTy).Contents (Elt F) → (⟨S8x32x8, .i32⟩ : BufTy).Contents (Elt F)),
    unary main_v4 main_v5 (broadcastInDim S8x32x8x1 ![0, 1, 2] bcast_S8x32x8_S8x32x8x1_0_1_2 : (⟨S8x32x8, .i32⟩ : BufTy).Contents (Elt F) → (⟨S8x32x8x1, .i32⟩ : BufTy).Contents (Elt F)),
    binary main_arg3 main_v5 main_v6 ((fun x i => Host.gather gather_S4096x128_S8x32x8x1_S8x32x8x128_3_0_n_n_0_3_1128 x i) : (⟨S4096x128, .f32⟩ : BufTy).Contents (Elt F) → (⟨S8x32x8x1, .i32⟩ : BufTy).Contents (Elt F) → (⟨S8x32x8x128, .f32⟩ : BufTy).Contents (Elt F)),
    nullary main_v7 (iotaInDim S8 32 0),
    unary main_v7 main_v8 (broadcastInDim S1x1x8 ![2] bcast_S8_S1x1x8_2 : (⟨S8, .i32⟩ : BufTy).Contents (Elt F) → (⟨S1x1x8, .i32⟩ : BufTy).Contents (Elt F)),
    unary main_arg1 main_v9 (broadcastInDim S8x32x1 ![0, 1] bcast_S8x32_S8x32x1_0_1 : (⟨S8x32, .i32⟩ : BufTy).Contents (Elt F) → (⟨S8x32x1, .i32⟩ : BufTy).Contents (Elt F)),
    unary main_v8 main_v10 (broadcastInDim S8x32x8 ![0, 1, 2] bcast_S1x1x8_S8x32x8_0_1_2 : (⟨S1x1x8, .i32⟩ : BufTy).Contents (Elt F) → (⟨S8x32x8, .i32⟩ : BufTy).Contents (Elt F)),
    unary main_v9 main_v11 (broadcastInDim S8x32x8 ![0, 1, 2] bcast_S8x32x1_S8x32x8_0_1_2 : (⟨S8x32x1, .i32⟩ : BufTy).Contents (Elt F) → (⟨S8x32x8, .i32⟩ : BufTy).Contents (Elt F)),
    binary main_v10 main_v11 main_v12 (cmpi .slt : (⟨S8x32x8, .i32⟩ : BufTy).Contents (Elt F) → (⟨S8x32x8, .i32⟩ : BufTy).Contents (Elt F) → (⟨S8x32x8, .i1⟩ : BufTy).Contents (Elt F)),
    unary main_v12 main_v13 (uitofp .f32 : (⟨S8x32x8, .i1⟩ : BufTy).Contents (Elt F) → (⟨S8x32x8, .f32⟩ : BufTy).Contents (Elt F)),
    nullary main_c_1 (constantI S_ 32 1#32),
    unary main_c_1 main_v14 (broadcastInDim S8x32 ![] bcast_S_S8x32 : (⟨S_, .i32⟩ : BufTy).Contents (Elt F) → (⟨S8x32, .i32⟩ : BufTy).Contents (Elt F)),
    binary main_arg1 main_v14 main_v15 (maxsi : (⟨S8x32, .i32⟩ : BufTy).Contents (Elt F) → (⟨S8x32, .i32⟩ : BufTy).Contents (Elt F) → (⟨S8x32, .i32⟩ : BufTy).Contents (Elt F)),
    unary main_v15 main_v16 (broadcastInDim S8x32x1 ![0, 1] bcast_S8x32_S8x32x1_0_1 : (⟨S8x32, .i32⟩ : BufTy).Contents (Elt F) → (⟨S8x32x1, .i32⟩ : BufTy).Contents (Elt F)),
    unary main_v16 main_v17 (sitofp .f32 : (⟨S8x32x1, .i32⟩ : BufTy).Contents (Elt F) → (⟨S8x32x1, .f32⟩ : BufTy).Contents (Elt F)),
    unary main_v13 main_v18 (broadcastInDim S8x32x8x1 ![0, 1, 2] bcast_S8x32x8_S8x32x8x1_0_1_2 : (⟨S8x32x8, .f32⟩ : BufTy).Contents (Elt F) → (⟨S8x32x8x1, .f32⟩ : BufTy).Contents (Elt F)),
    unary main_v18 main_v19 (broadcastInDim S8x32x8x128 ![0, 1, 2, 3] bcast_S8x32x8x1_S8x32x8x128_0_1_2_3 : (⟨S8x32x8x1, .f32⟩ : BufTy).Contents (Elt F) → (⟨S8x32x8x128, .f32⟩ : BufTy).Contents (Elt F)),
    binary main_v6 main_v19 main_v20 (mulf : (⟨S8x32x8x128, .f32⟩ : BufTy).Contents (Elt F) → (⟨S8x32x8x128, .f32⟩ : BufTy).Contents (Elt F) → (⟨S8x32x8x128, .f32⟩ : BufTy).Contents (Elt F)),
    nullary main_cst (constant S_ .f32 0x00000000#32),
    binary main_v20 main_cst main_v21 ((fun x v => Host.reduceAdd x v reducesTo_S8x32x8x128_S8x32x128_d2 h_S_) : (⟨S8x32x8x128, .f32⟩ : BufTy).Contents (Elt F) → (⟨S_, .f32⟩ : BufTy).Contents (Elt F) → (⟨S8x32x128, .f32⟩ : BufTy).Contents (Elt F)),
    unary main_v17 main_v22 (broadcastInDim S8x32x128 ![0, 1, 2] bcast_S8x32x1_S8x32x128_0_1_2 : (⟨S8x32x1, .f32⟩ : BufTy).Contents (Elt F) → (⟨S8x32x128, .f32⟩ : BufTy).Contents (Elt F)),
    binary main_v21 main_v22 main_v23 (Host.divf : (⟨S8x32x128, .f32⟩ : BufTy).Contents (Elt F) → (⟨S8x32x128, .f32⟩ : BufTy).Contents (Elt F) → (⟨S8x32x128, .f32⟩ : BufTy).Contents (Elt F)),
    nullary main_v24 (iotaInDim S32 32 0),
    unary main_v24 main_v25 (broadcastInDim S1x32 ![1] bcast_S32_S1x32_1 : (⟨S32, .i32⟩ : BufTy).Contents (Elt F) → (⟨S1x32, .i32⟩ : BufTy).Contents (Elt F)),
    unary main_arg2 main_v26 (broadcastInDim S8x1 ![0] bcast_S8_S8x1_0 : (⟨S8, .i32⟩ : BufTy).Contents (Elt F) → (⟨S8x1, .i32⟩ : BufTy).Contents (Elt F)),
    unary main_v25 main_v27 (broadcastInDim S8x32 ![0, 1] bcast_S1x32_S8x32_0_1 : (⟨S1x32, .i32⟩ : BufTy).Contents (Elt F) → (⟨S8x32, .i32⟩ : BufTy).Contents (Elt F)),
    unary main_v26 main_v28 (broadcastInDim S8x32 ![0, 1] bcast_S8x1_S8x32_0_1 : (⟨S8x1, .i32⟩ : BufTy).Contents (Elt F) → (⟨S8x32, .i32⟩ : BufTy).Contents (Elt F)),
    binary main_v27 main_v28 main_v29 (cmpi .slt : (⟨S8x32, .i32⟩ : BufTy).Contents (Elt F) → (⟨S8x32, .i32⟩ : BufTy).Contents (Elt F) → (⟨S8x32, .i1⟩ : BufTy).Contents (Elt F)),
    unary main_v29 main_v30 (uitofp .f32 : (⟨S8x32, .i1⟩ : BufTy).Contents (Elt F) → (⟨S8x32, .f32⟩ : BufTy).Contents (Elt F)),
    unary main_v30 main_v31 (broadcastInDim S8x32x1 ![0, 1] bcast_S8x32_S8x32x1_0_1 : (⟨S8x32, .f32⟩ : BufTy).Contents (Elt F) → (⟨S8x32x1, .f32⟩ : BufTy).Contents (Elt F)),
    unary main_v31 main_v32 (broadcastInDim S8x32x128 ![0, 1, 2] bcast_S8x32x1_S8x32x128_0_1_2 : (⟨S8x32x1, .f32⟩ : BufTy).Contents (Elt F) → (⟨S8x32x128, .f32⟩ : BufTy).Contents (Elt F)),
    binary main_v23 main_v32 main_v33 (mulf : (⟨S8x32x128, .f32⟩ : BufTy).Contents (Elt F) → (⟨S8x32x128, .f32⟩ : BufTy).Contents (Elt F) → (⟨S8x32x128, .f32⟩ : BufTy).Contents (Elt F)),
    nullary main_cst_2 (constant S_ .f32 0x00000000#32),
    binary main_v33 main_cst_2 main_v34 ((fun x v => Host.reduceAdd x v reducesTo_S8x32x128_S8x128_d1 h_S_) : (⟨S8x32x128, .f32⟩ : BufTy).Contents (Elt F) → (⟨S_, .f32⟩ : BufTy).Contents (Elt F) → (⟨S8x128, .f32⟩ : BufTy).Contents (Elt F)),
    unary main_arg2 main_v35 (broadcastInDim S8x1 ![0] bcast_S8_S8x1_0 : (⟨S8, .i32⟩ : BufTy).Contents (Elt F) → (⟨S8x1, .i32⟩ : BufTy).Contents (Elt F)),
    unary main_v35 main_v36 (sitofp .f32 : (⟨S8x1, .i32⟩ : BufTy).Contents (Elt F) → (⟨S8x1, .f32⟩ : BufTy).Contents (Elt F)),
    unary main_v36 main_v37 (broadcastInDim S8x128 ![0, 1] bcast_S8x1_S8x128_0_1 : (⟨S8x1, .f32⟩ : BufTy).Contents (Elt F) → (⟨S8x128, .f32⟩ : BufTy).Contents (Elt F)),
    binary main_v34 main_v37 main_v38 (Host.divf : (⟨S8x128, .f32⟩ : BufTy).Contents (Elt F) → (⟨S8x128, .f32⟩ : BufTy).Contents (Elt F) → (⟨S8x128, .f32⟩ : BufTy).Contents (Elt F)) ]

/-- Up to the cosines of the contexts with the knowledge rows. -/
def opsB : List (HloOp τ sig (Elt F)) :=
  [ TRef.binary (.of main_v38) (.of main_v38) main_call0.v0 mulf,
    TRef.nullary main_call0.cst (constant S_ .f32 0x00000000#32),
    TRef.binary main_call0.v0 main_call0.cst main_call0.v1 (fun x v => Host.reduceAdd x v reducesTo_S8x128_S8_d1 h_S_),
    TRef.unary main_call0.v1 main_call0.v2 (broadcastInDim S8x1 ![0] bcast_S8_S8x1_0),
    TRef.unary main_call0.v2 main_call0.v3 Host.sqrt,
    nullary main_cst_3 (constant S_ .f32 0x322BCC77#32),
    unary main_cst_3 main_v40 (broadcastInDim S8x1 ![] bcast_S_S8x1 : (⟨S_, .f32⟩ : BufTy).Contents (Elt F) → (⟨S8x1, .f32⟩ : BufTy).Contents (Elt F)),
    binary main_v39 main_v40 main_v41 (maximumf : (⟨S8x1, .f32⟩ : BufTy).Contents (Elt F) → (⟨S8x1, .f32⟩ : BufTy).Contents (Elt F) → (⟨S8x1, .f32⟩ : BufTy).Contents (Elt F)),
    unary main_v41 main_v42 (broadcastInDim S8x128 ![0, 1] bcast_S8x1_S8x128_0_1 : (⟨S8x1, .f32⟩ : BufTy).Contents (Elt F) → (⟨S8x128, .f32⟩ : BufTy).Contents (Elt F)),
    binary main_v38 main_v42 main_v43 (Host.divf : (⟨S8x128, .f32⟩ : BufTy).Contents (Elt F) → (⟨S8x128, .f32⟩ : BufTy).Contents (Elt F) → (⟨S8x128, .f32⟩ : BufTy).Contents (Elt F)),
    TRef.binary (.of main_arg4) (.of main_arg4) main_call1.v0 mulf,
    TRef.nullary main_call1.cst (constant S_ .f32 0x00000000#32),
    TRef.binary main_call1.v0 main_call1.cst main_call1.v1 (fun x v => Host.reduceAdd x v reducesTo_S4096x128_S4096_d1 h_S_),
    TRef.unary main_call1.v1 main_call1.v2 (broadcastInDim S4096x1 ![0] bcast_S4096_S4096x1_0),
    TRef.unary main_call1.v2 main_call1.v3 Host.sqrt,
    nullary main_cst_4 (constant S_ .f32 0x322BCC77#32),
    unary main_cst_4 main_v45 (broadcastInDim S4096x1 ![] bcast_S_S4096x1 : (⟨S_, .f32⟩ : BufTy).Contents (Elt F) → (⟨S4096x1, .f32⟩ : BufTy).Contents (Elt F)),
    binary main_v44 main_v45 main_v46 (maximumf : (⟨S4096x1, .f32⟩ : BufTy).Contents (Elt F) → (⟨S4096x1, .f32⟩ : BufTy).Contents (Elt F) → (⟨S4096x1, .f32⟩ : BufTy).Contents (Elt F)),
    unary main_v46 main_v47 (broadcastInDim S4096x128 ![0, 1] bcast_S4096x1_S4096x128_0_1 : (⟨S4096x1, .f32⟩ : BufTy).Contents (Elt F) → (⟨S4096x128, .f32⟩ : BufTy).Contents (Elt F)),
    binary main_arg4 main_v47 main_v48 (Host.divf : (⟨S4096x128, .f32⟩ : BufTy).Contents (Elt F) → (⟨S4096x128, .f32⟩ : BufTy).Contents (Elt F) → (⟨S4096x128, .f32⟩ : BufTy).Contents (Elt F)),
    unary main_v48 main_v49 ((transpose S128x4096 [1, 0] · transposes_S4096x128_S128x4096_1_0) : (⟨S4096x128, .f32⟩ : BufTy).Contents (Elt F) → (⟨S128x4096, .f32⟩ : BufTy).Contents (Elt F)),
    binary main_v43 main_v49 main_v50 ((fun l r => Host.dotGeneral dot_S8x128_S128x4096_S8x4096_1_0_0_1_n_n none l r) : (⟨S8x128, .f32⟩ : BufTy).Contents (Elt F) → (⟨S128x4096, .f32⟩ : BufTy).Contents (Elt F) → (⟨S8x4096, .f32⟩ : BufTy).Contents (Elt F)),
    unary main_v50 main_v51 (Host.absf : (⟨S8x4096, .f32⟩ : BufTy).Contents (Elt F) → (⟨S8x4096, .f32⟩ : BufTy).Contents (Elt F)) ]

/-- Up to the logits. -/
def opsC : List (HloOp τ sig (Elt F)) :=
  [ nullary main_c_5 (constantI S_ 32 0#32),
    unary main_c_5 main_v52 (broadcastInDim S8x32x8 ![] bcast_S_S8x32x8 : (⟨S_, .i32⟩ : BufTy).Contents (Elt F) → (⟨S8x32x8, .i32⟩ : BufTy).Contents (Elt F)),
    binary main_arg0 main_v52 main_v53 (cmpi .slt : (⟨S8x32x8, .i32⟩ : BufTy).Contents (Elt F) → (⟨S8x32x8, .i32⟩ : BufTy).Contents (Elt F) → (⟨S8x32x8, .i1⟩ : BufTy).Contents (Elt F)),
    nullary main_c_6 (constantI S_ 32 4096#32),
    unary main_c_6 main_v54 (broadcastInDim S8x32x8 ![] bcast_S_S8x32x8 : (⟨S_, .i32⟩ : BufTy).Contents (Elt F) → (⟨S8x32x8, .i32⟩ : BufTy).Contents (Elt F)),
    binary main_arg0 main_v54 main_v55 (addi : (⟨S8x32x8, .i32⟩ : BufTy).Contents (Elt F) → (⟨S8x32x8, .i32⟩ : BufTy).Contents (Elt F) → (⟨S8x32x8, .i32⟩ : BufTy).Contents (Elt F)),
    ternary main_v53 main_v55 main_arg0 main_v56 (select : (⟨S8x32x8, .i1⟩ : BufTy).Contents (Elt F) → (⟨S8x32x8, .i32⟩ : BufTy).Contents (Elt F) → (⟨S8x32x8, .i32⟩ : BufTy).Contents (Elt F) → (⟨S8x32x8, .i32⟩ : BufTy).Contents (Elt F)),
    unary main_v56 main_v57 (broadcastInDim S8x32x8x1 ![0, 1, 2] bcast_S8x32x8_S8x32x8x1_0_1_2 : (⟨S8x32x8, .i32⟩ : BufTy).Contents (Elt F) → (⟨S8x32x8x1, .i32⟩ : BufTy).Contents (Elt F)),
    binary main_arg5 main_v57 main_v58 ((fun x i => Host.gather gather_S4096x4096_S8x32x8x1_S8x32x8x4096_3_0_n_n_0_3_14096 x i) : (⟨S4096x4096, .f32⟩ : BufTy).Contents (Elt F) → (⟨S8x32x8x1, .i32⟩ : BufTy).Contents (Elt F) → (⟨S8x32x8x4096, .f32⟩ : BufTy).Contents (Elt F)),
    unary main_v51 main_v59 (broadcastInDim S8x1x1x4096 ![0, 3] bcast_S8x4096_S8x1x1x4096_0_3 : (⟨S8x4096, .f32⟩ : BufTy).Contents (Elt F) → (⟨S8x1x1x4096, .f32⟩ : BufTy).Contents (Elt F)),
    unary main_v59 main_v60 (broadcastInDim S8x32x8x4096 ![0, 1, 2, 3] bcast_S8x1x1x4096_S8x32x8x4096_0_1_2_3 : (⟨S8x1x1x4096, .f32⟩ : BufTy).Contents (Elt F) → (⟨S8x32x8x4096, .f32⟩ : BufTy).Contents (Elt F)),
    binary main_v58 main_v60 main_v61 (mulf : (⟨S8x32x8x4096, .f32⟩ : BufTy).Contents (Elt F) → (⟨S8x32x8x4096, .f32⟩ : BufTy).Contents (Elt F) → (⟨S8x32x8x4096, .f32⟩ : BufTy).Contents (Elt F)),
    nullary main_cst_7 (constant S_ .f32 0x00000000#32),
    unary main_cst_7 main_v62 (broadcastInDim S8x32x8x4096 ![] bcast_S_S8x32x8x4096 : (⟨S_, .f32⟩ : BufTy).Contents (Elt F) → (⟨S8x32x8x4096, .f32⟩ : BufTy).Contents (Elt F)),
    binary main_v58 main_v62 main_v63 (cmpf .ogt : (⟨S8x32x8x4096, .f32⟩ : BufTy).Contents (Elt F) → (⟨S8x32x8x4096, .f32⟩ : BufTy).Contents (Elt F) → (⟨S8x32x8x4096, .i1⟩ : BufTy).Contents (Elt F)),
    unary main_v63 main_v64 (uitofp .f32 : (⟨S8x32x8x4096, .i1⟩ : BufTy).Contents (Elt F) → (⟨S8x32x8x4096, .f32⟩ : BufTy).Contents (Elt F)),
    unary main_arg6 main_v65 (broadcastInDim S1x1x1x4096 ![3] bcast_S4096_S1x1x1x4096_3 : (⟨S4096, .f32⟩ : BufTy).Contents (Elt F) → (⟨S1x1x1x4096, .f32⟩ : BufTy).Contents (Elt F)),
    unary main_v65 main_v66 (broadcastInDim S8x32x8x4096 ![0, 1, 2, 3] bcast_S1x1x1x4096_S8x32x8x4096_0_1_2_3 : (⟨S1x1x1x4096, .f32⟩ : BufTy).Contents (Elt F) → (⟨S8x32x8x4096, .f32⟩ : BufTy).Contents (Elt F)),
    binary main_v64 main_v66 main_v67 (mulf : (⟨S8x32x8x4096, .f32⟩ : BufTy).Contents (Elt F) → (⟨S8x32x8x4096, .f32⟩ : BufTy).Contents (Elt F) → (⟨S8x32x8x4096, .f32⟩ : BufTy).Contents (Elt F)),
    unary main_arg7 main_v68 (broadcastInDim S1x1x1x4096 ![3] bcast_S4096_S1x1x1x4096_3 : (⟨S4096, .f32⟩ : BufTy).Contents (Elt F) → (⟨S1x1x1x4096, .f32⟩ : BufTy).Contents (Elt F)),
    unary main_v68 main_v69 (broadcastInDim S8x32x8x4096 ![0, 1, 2, 3] bcast_S1x1x1x4096_S8x32x8x4096_0_1_2_3 : (⟨S1x1x1x4096, .f32⟩ : BufTy).Contents (Elt F) → (⟨S8x32x8x4096, .f32⟩ : BufTy).Contents (Elt F)),
    binary main_v69 main_v61 main_v70 (mulf : (⟨S8x32x8x4096, .f32⟩ : BufTy).Contents (Elt F) → (⟨S8x32x8x4096, .f32⟩ : BufTy).Contents (Elt F) → (⟨S8x32x8x4096, .f32⟩ : BufTy).Contents (Elt F)),
    nullary main_cst_8 (constant S_ .f32 0x3F800000#32),
    unary main_cst_8 main_v71 (broadcastInDim S4096 ![] bcast_S_S4096 : (⟨S_, .f32⟩ : BufTy).Contents (Elt F) → (⟨S4096, .f32⟩ : BufTy).Contents (Elt F)),
    binary main_v71 main_arg7 main_v72 (subf : (⟨S4096, .f32⟩ : BufTy).Contents (Elt F) → (⟨S4096, .f32⟩ : BufTy).Contents (Elt F) → (⟨S4096, .f32⟩ : BufTy).Contents (Elt F)),
    unary main_v72 main_v73 (broadcastInDim S1x1x1x4096 ![3] bcast_S4096_S1x1x1x4096_3 : (⟨S4096, .f32⟩ : BufTy).Contents (Elt F) → (⟨S1x1x1x4096, .f32⟩ : BufTy).Contents (Elt F)),
    unary main_v73 main_v74 (broadcastInDim S8x32x8x4096 ![0, 1, 2, 3] bcast_S1x1x1x4096_S8x32x8x4096_0_1_2_3 : (⟨S1x1x1x4096, .f32⟩ : BufTy).Contents (Elt F) → (⟨S8x32x8x4096, .f32⟩ : BufTy).Contents (Elt F)),
    binary main_v74 main_v67 main_v75 (mulf : (⟨S8x32x8x4096, .f32⟩ : BufTy).Contents (Elt F) → (⟨S8x32x8x4096, .f32⟩ : BufTy).Contents (Elt F) → (⟨S8x32x8x4096, .f32⟩ : BufTy).Contents (Elt F)),
    binary main_v70 main_v75 main_v76 (addf : (⟨S8x32x8x4096, .f32⟩ : BufTy).Contents (Elt F) → (⟨S8x32x8x4096, .f32⟩ : BufTy).Contents (Elt F) → (⟨S8x32x8x4096, .f32⟩ : BufTy).Contents (Elt F)),
    nullary main_cst_9 (constant S_ .f32 0x40A00000#32),
    unary main_cst_9 main_v77 (broadcastInDim S8x32x8x4096 ![] bcast_S_S8x32x8x4096 : (⟨S_, .f32⟩ : BufTy).Contents (Elt F) → (⟨S8x32x8x4096, .f32⟩ : BufTy).Contents (Elt F)),
    binary main_v76 main_v77 main_v78 (mulf : (⟨S8x32x8x4096, .f32⟩ : BufTy).Contents (Elt F) → (⟨S8x32x8x4096, .f32⟩ : BufTy).Contents (Elt F) → (⟨S8x32x8x4096, .f32⟩ : BufTy).Contents (Elt F)) ]

/-- The largest logits. -/
def opsD : List (HloOp τ sig (Elt F)) :=
  [ nullary main_cst_10 (constant S_ .f32 0xFF800000#32),
    binary main_v78 main_cst_10 main_v79 ((fun x v => Host.reduce FloatOps.maximumf x v reducesTo_S8x32x8x4096_S8x32x8_d3 h_S_) : (⟨S8x32x8x4096, .f32⟩ : BufTy).Contents (Elt F) → (⟨S_, .f32⟩ : BufTy).Contents (Elt F) → (⟨S8x32x8, .f32⟩ : BufTy).Contents (Elt F)),
    nullary main_cst_11 (constant S_ .f32 0xFF800000#32),
    unary main_cst_11 main_v80 (broadcastInDim S8x32x8 ![] bcast_S_S8x32x8 : (⟨S_, .f32⟩ : BufTy).Contents (Elt F) → (⟨S8x32x8, .f32⟩ : BufTy).Contents (Elt F)),
    binary main_v80 main_v79 main_v81 (maximumf : (⟨S8x32x8, .f32⟩ : BufTy).Contents (Elt F) → (⟨S8x32x8, .f32⟩ : BufTy).Contents (Elt F) → (⟨S8x32x8, .f32⟩ : BufTy).Contents (Elt F)) ]

/-- The softmax and the rest. -/
def opsE : List (HloOp τ sig (Elt F)) :=
  [ unary main_v81 main_v82 (broadcastInDim S8x32x8x1 ![0, 1, 2] bcast_S8x32x8_S8x32x8x1_0_1_2 : (⟨S8x32x8, .f32⟩ : BufTy).Contents (Elt F) → (⟨S8x32x8x1, .f32⟩ : BufTy).Contents (Elt F)),
    unary main_v82 main_v83 (broadcastInDim S8x32x8x4096 ![0, 1, 2, 3] bcast_S8x32x8x1_S8x32x8x4096_0_1_2_3 : (⟨S8x32x8x1, .f32⟩ : BufTy).Contents (Elt F) → (⟨S8x32x8x4096, .f32⟩ : BufTy).Contents (Elt F)),
    binary main_v78 main_v83 main_v84 (subf : (⟨S8x32x8x4096, .f32⟩ : BufTy).Contents (Elt F) → (⟨S8x32x8x4096, .f32⟩ : BufTy).Contents (Elt F) → (⟨S8x32x8x4096, .f32⟩ : BufTy).Contents (Elt F)),
    unary main_v84 main_v85 (Host.exp : (⟨S8x32x8x4096, .f32⟩ : BufTy).Contents (Elt F) → (⟨S8x32x8x4096, .f32⟩ : BufTy).Contents (Elt F)),
    nullary main_cst_12 (constant S_ .f32 0x00000000#32),
    binary main_v85 main_cst_12 main_v86 ((fun x v => Host.reduceAdd x v reducesTo_S8x32x8x4096_S8x32x8_d3 h_S_) : (⟨S8x32x8x4096, .f32⟩ : BufTy).Contents (Elt F) → (⟨S_, .f32⟩ : BufTy).Contents (Elt F) → (⟨S8x32x8, .f32⟩ : BufTy).Contents (Elt F)),
    unary main_v86 main_v87 (broadcastInDim S8x32x8x1 ![0, 1, 2] bcast_S8x32x8_S8x32x8x1_0_1_2 : (⟨S8x32x8, .f32⟩ : BufTy).Contents (Elt F) → (⟨S8x32x8x1, .f32⟩ : BufTy).Contents (Elt F)),
    unary main_v87 main_v88 (broadcastInDim S8x32x8x4096 ![0, 1, 2, 3] bcast_S8x32x8x1_S8x32x8x4096_0_1_2_3 : (⟨S8x32x8x1, .f32⟩ : BufTy).Contents (Elt F) → (⟨S8x32x8x4096, .f32⟩ : BufTy).Contents (Elt F)),
    binary main_v85 main_v88 main_v89 (Host.divf : (⟨S8x32x8x4096, .f32⟩ : BufTy).Contents (Elt F) → (⟨S8x32x8x4096, .f32⟩ : BufTy).Contents (Elt F) → (⟨S8x32x8x4096, .f32⟩ : BufTy).Contents (Elt F)),
    binary main_v89 main_arg4 main_v90 ((fun l r => Host.dotGeneral dot_S8x32x8x4096_S4096x128_S8x32x8x128_3_0_012_1_n_n none l r) : (⟨S8x32x8x4096, .f32⟩ : BufTy).Contents (Elt F) → (⟨S4096x128, .f32⟩ : BufTy).Contents (Elt F) → (⟨S8x32x8x128, .f32⟩ : BufTy).Contents (Elt F)),
    unary main_v13 main_v91 (broadcastInDim S8x32x8x1 ![0, 1, 2] bcast_S8x32x8_S8x32x8x1_0_1_2 : (⟨S8x32x8, .f32⟩ : BufTy).Contents (Elt F) → (⟨S8x32x8x1, .f32⟩ : BufTy).Contents (Elt F)),
    unary main_v91 main_v92 (broadcastInDim S8x32x8x128 ![0, 1, 2, 3] bcast_S8x32x8x1_S8x32x8x128_0_1_2_3 : (⟨S8x32x8x1, .f32⟩ : BufTy).Contents (Elt F) → (⟨S8x32x8x128, .f32⟩ : BufTy).Contents (Elt F)),
    binary main_v90 main_v92 main_v93 (mulf : (⟨S8x32x8x128, .f32⟩ : BufTy).Contents (Elt F) → (⟨S8x32x8x128, .f32⟩ : BufTy).Contents (Elt F) → (⟨S8x32x8x128, .f32⟩ : BufTy).Contents (Elt F)),
    nullary main_cst_13 (constant S_ .f32 0x00000000#32),
    binary main_v93 main_cst_13 main_v94 ((fun x v => Host.reduceAdd x v reducesTo_S8x32x8x128_S8x32x128_d2 h_S_) : (⟨S8x32x8x128, .f32⟩ : BufTy).Contents (Elt F) → (⟨S_, .f32⟩ : BufTy).Contents (Elt F) → (⟨S8x32x128, .f32⟩ : BufTy).Contents (Elt F)),
    unary main_v17 main_v95 (broadcastInDim S8x32x128 ![0, 1, 2] bcast_S8x32x1_S8x32x128_0_1_2 : (⟨S8x32x1, .f32⟩ : BufTy).Contents (Elt F) → (⟨S8x32x128, .f32⟩ : BufTy).Contents (Elt F)),
    binary main_v94 main_v95 main_v96 (Host.divf : (⟨S8x32x128, .f32⟩ : BufTy).Contents (Elt F) → (⟨S8x32x128, .f32⟩ : BufTy).Contents (Elt F) → (⟨S8x32x128, .f32⟩ : BufTy).Contents (Elt F)),
    unary main_v30 main_v97 (broadcastInDim S8x32x1 ![0, 1] bcast_S8x32_S8x32x1_0_1 : (⟨S8x32, .f32⟩ : BufTy).Contents (Elt F) → (⟨S8x32x1, .f32⟩ : BufTy).Contents (Elt F)),
    unary main_v97 main_v98 (broadcastInDim S8x32x128 ![0, 1, 2] bcast_S8x32x1_S8x32x128_0_1_2 : (⟨S8x32x1, .f32⟩ : BufTy).Contents (Elt F) → (⟨S8x32x128, .f32⟩ : BufTy).Contents (Elt F)),
    binary main_v96 main_v98 main_v99 (mulf : (⟨S8x32x128, .f32⟩ : BufTy).Contents (Elt F) → (⟨S8x32x128, .f32⟩ : BufTy).Contents (Elt F) → (⟨S8x32x128, .f32⟩ : BufTy).Contents (Elt F)) ]

/-- The first half of the line. -/
def ops0 : List (HloOp τ sig (Elt F)) := opsA ++ opsB

/-- The second half. -/
def ops1 : List (HloOp τ sig (Elt F)) := opsC ++ (opsD ++ opsE)

/-- The buffers written, in order. -/
def written0 : List (Ref sig .tc) :=
  [main_c, main_v0, main_v1, main_c_0, main_v2, main_v3, main_v4, main_v5, main_v6, main_v7, main_v8, main_v9, main_v10, main_v11, main_v12,
   main_v13, main_c_1, main_v14, main_v15, main_v16, main_v17, main_v18, main_v19, main_v20, main_cst, main_v21, main_v22, main_v23, main_v24,
   main_v25, main_v26, main_v27, main_v28, main_v29, main_v30, main_v31, main_v32, main_v33, main_cst_2, main_v34, main_v35, main_v36,
   main_v37, main_v38, main_call0_v0, main_call0_cst, main_call0_v1, main_call0_v2, main_v39, main_cst_3, main_v40, main_v41, main_v42,
   main_v43, main_call1_v0, main_call1_cst, main_call1_v1, main_call1_v2, main_v44, main_cst_4, main_v45, main_v46, main_v47, main_v48,
   main_v49, main_v50, main_v51]

def written1 : List (Ref sig .tc) :=
  [main_c_5, main_v52, main_v53, main_c_6, main_v54, main_v55, main_v56, main_v57, main_v58, main_v59, main_v60, main_v61, main_cst_7,
   main_v62, main_v63, main_v64, main_v65, main_v66, main_v67, main_v68, main_v69, main_v70, main_cst_8, main_v71, main_v72, main_v73,
   main_v74, main_v75, main_v76, main_cst_9, main_v77, main_v78, main_cst_10, main_v79, main_cst_11, main_v80, main_v81, main_v82, main_v83,
   main_v84, main_v85, main_cst_12, main_v86, main_v87, main_v88, main_v89, main_v90, main_v91, main_v92, main_v93, main_cst_13, main_v94,
   main_v95, main_v96, main_v97, main_v98, main_v99]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
   unary_bufs_sub .., binary_bufs_sub .., nullary_bufs_sub .., unary_bufs_sub .., unary_bufs_sub .., unary_bufs_sub .., unary_bufs_sub ..,
   binary_bufs_sub .., unary_bufs_sub .., nullary_bufs_sub .., unary_bufs_sub .., binary_bufs_sub .., unary_bufs_sub .., unary_bufs_sub ..,
   unary_bufs_sub .., unary_bufs_sub .., binary_bufs_sub .., nullary_bufs_sub .., binary_bufs_sub .., unary_bufs_sub .., binary_bufs_sub ..,
   nullary_bufs_sub .., unary_bufs_sub .., unary_bufs_sub .., unary_bufs_sub .., unary_bufs_sub .., binary_bufs_sub .., unary_bufs_sub ..,
   unary_bufs_sub .., unary_bufs_sub .., binary_bufs_sub .., nullary_bufs_sub .., binary_bufs_sub .., unary_bufs_sub .., unary_bufs_sub ..,
   unary_bufs_sub .., binary_bufs_sub .., binary_bufs_sub .., nullary_bufs_sub .., binary_bufs_sub .., unary_bufs_sub .., unary_bufs_sub ..,
   nullary_bufs_sub .., unary_bufs_sub .., binary_bufs_sub .., unary_bufs_sub .., binary_bufs_sub .., binary_bufs_sub .., nullary_bufs_sub ..,
   binary_bufs_sub .., unary_bufs_sub .., unary_bufs_sub .., nullary_bufs_sub .., unary_bufs_sub .., binary_bufs_sub .., unary_bufs_sub ..,
   binary_bufs_sub .., unary_bufs_sub .., binary_bufs_sub .., unary_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
   unary_bufs_sub .., binary_bufs_sub .., unary_bufs_sub .., unary_bufs_sub .., binary_bufs_sub .., nullary_bufs_sub .., unary_bufs_sub ..,
   binary_bufs_sub .., unary_bufs_sub .., unary_bufs_sub .., unary_bufs_sub .., binary_bufs_sub .., unary_bufs_sub .., unary_bufs_sub ..,
   binary_bufs_sub .., nullary_bufs_sub .., unary_bufs_sub .., binary_bufs_sub .., unary_bufs_sub .., unary_bufs_sub .., binary_bufs_sub ..,
   binary_bufs_sub .., nullary_bufs_sub .., unary_bufs_sub .., binary_bufs_sub .., nullary_bufs_sub .., binary_bufs_sub .., nullary_bufs_sub
   .., unary_bufs_sub .., binary_bufs_sub .., unary_bufs_sub .., unary_bufs_sub .., binary_bufs_sub .., unary_bufs_sub .., nullary_bufs_sub ..,
   binary_bufs_sub .., unary_bufs_sub .., unary_bufs_sub .., binary_bufs_sub .., binary_bufs_sub .., unary_bufs_sub .., unary_bufs_sub ..,
   binary_bufs_sub .., nullary_bufs_sub .., binary_bufs_sub .., unary_bufs_sub .., binary_bufs_sub .., unary_bufs_sub .., unary_bufs_sub ..,
   binary_bufs_sub ..⟩

theorem ops_sub : (ops0 ++ ops1 : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

set_option maxRecDepth 4096 in
/-- The program is that line. -/
theorem main_eq (c : Dev nD) : main (F := F) c = seq (ops0 ++ ops1) := by
  simp only [main, main_part0, main_part1, fn_norm.body, fn_norm_0.body, ops0, ops1, opsA, opsB, opsC, opsD, opsE, List.cons_append, List.nil_append, seq, bind_assoc, pure_bind]

/-- The run: every buffer at what the line leaves there. -/
theorem run_main (m : (ℓ : Loc nD τ sig) → Buf (Elt F) ℓ) (g : Dev nD → PrngReg) :
    θ_run defs (onTc (τ := τ) (main (F := F))) ⟨m, fun _ => 0, g⟩ fun r =>
      ∀ (c : Dev nD) (b : Ref sig .tc), r.2.mem ((c.tc : Thread nD τ).loc b) = after (ops0 ++ ops1) (launchContents m c) (Proc.devRef .tc b) :=
  run_seq scopedRefs_eq scopedSems_eq defs main (fun _ => ops0 ++ ops1) main_eq (fun _ => ops_sub) m g

/-- A buffer the line does not write keeps its contents. -/
theorem kept (V : Valuation τ sig (Elt F)) (r : Ref sig .tc) (h0 : r ∉ written0) (h1 : r ∉ written1) :
    after (ops0 ++ ops1) V (Proc.devRef .tc r) = V (Proc.devRef .tc r) :=
  after_unwritten (written0 ++ written1) rfl (fun h => (List.mem_append.mp h).elim h0 h1) V

end Cert.ReferenceIdeal.Hand

end
-- ==== Proof.Reals.lean ====
/- The exact operations on extended reals that are real numbers. -/
module

public import Idealize.ShloMosaic.Lib.Pointwise
public import Idealize.ShloMosaic.Lib.IdealHost

@[expose] public section

noncomputable section

namespace Cert.Reals

open Idealize.ShloMosaic

/-- A sum of real numbers, taken among the extended reals, is their real sum. -/
theorem sum_coe {ι : Type} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- Division of real numbers by one that is not zero. -/
theorem div_coe {x y : ℝ} (h : y ≠ 0) : Ideal.div (x : EReal) (y : EReal) = ((x / y : ℝ) : EReal) := by
  rw [Ideal.div, if_neg (by exact_mod_cast h), div_eq_mul_inv, EReal.coe_mul, EReal.coe_inv]

/-- The root of a real number that is not negative. -/
theorem sqrt_coe {x : ℝ} (h : 0 ≤ x) : Ideal.sqrt (x : EReal) = ((Real.sqrt x : ℝ) : EReal) := by
  show (if x < 0 then (⊥ : EReal) else _) = _
  rw [if_neg (not_lt.mpr h)]

/-- The exponential of a real number. -/
theorem exp_coe (x : ℝ) : Ideal.exp (x : EReal) = ((Real.exp x : ℝ) : EReal) := rfl

/-- The larger of two real numbers. -/
theorem max_coe (x y : ℝ) : max (x : EReal) (y : EReal) = ((max x y : ℝ) : EReal) :=
  (EReal.coe_strictMono.monotone.map_max).symm

/-- The absolute value as the larger of a number and its opposite. -/
theorem abs_coe (x : ℝ) : max (x : EReal) (-(x : EReal)) = ((|x| : ℝ) : EReal) := by
  rw [← EReal.coe_neg, max_coe]; rfl

/-- The same as the operation of that name. -/
theorem absf_coe (x : ℝ) : FloatOps.absf (F := Ideal) (φ := .f32) (x : EReal) = ((|x| : ℝ) : EReal) := abs_coe x

/-- The largest of finitely many real numbers, at least one, is a real number. -/
theorem fold_real {ι : Type} (x : ι → EReal) {t : Finset ι} (hx : ∀ i ∈ t, ∃ r : ℝ, x i = (r : EReal)) (ht : t.Nonempty) :
    ∃ M : ℝ, Finset.fold max (⊥ : EReal) x t = (M : EReal) := by
  induction ht using Finset.Nonempty.cons_induction with
  | singleton a => exact (hx a (Finset.mem_singleton_self a)).imp fun r hr => by rw [Finset.fold_singleton, max_bot_right, hr]
  | cons a t ha ht ih =>
    obtain ⟨M, hM⟩ := ih fun i hi => hx i (Finset.mem_cons_of_mem hi)
    obtain ⟨r, hr⟩ := hx a (Finset.mem_cons_self a t)
    exact ⟨max r M, by rw [Finset.fold_cons, hM, hr, max_coe]⟩

/-- So is a largest-element reduction from minus infinity, where some element reduces to the index. -/
theorem reduce_real {s t u : Shape} {axes : List (Fin s.rank)} (x : s.Idx → EReal) (init : u.Idx → EReal) (h : s.ReducesTo axes t) (hu : 0 < u.numel)
    (j : t.Idx) (hx : ∀ i, h.drop i = j → ∃ r : ℝ, x i = (r : EReal)) (hi : init (Shape.Idx.first hu) = ⊥) (i : s.Idx) (e : h.drop i = j) :
    ∃ M : ℝ, Host.reduce (FloatOps.maximumf (F := Ideal) (φ := .f32)) x init h hu j = (M : EReal) := by
  rw [Ideal.maximumf_eq_max]
  rw [Host.reduce_eq_fold, hi]
  exact fold_real x (fun a ha => hx a (by simpa using ha)) ⟨i, by simp [e]⟩

/-- The floor of the norms, a positive real number. -/
theorem eps_coe : ∃ ε : ℝ, 0 < ε ∧ Ideal.ofBits .f32 0x322BCC77#32 = (ε : EReal) := by
  refine ⟨_, ?_, by simp [Ideal.ofBits, Ideal.ieee, -EReal.coe_mul]; rfl⟩
  positivity

/-- The concentration factor. -/
theorem five_coe : Ideal.ofBits .f32 0x40A00000#32 = ((5 : ℝ) : EReal) := by
  simp [Ideal.ofBits, Ideal.ieee, -EReal.coe_mul]; norm_num

/-- The word for minus infinity. -/
theorem negInf_eq : Ideal.ofBits .f32 0xFF800000#32 = (⊥ : EReal) := by
  simp [Ideal.ofBits, Ideal.ieee]

/-- The word for infinity. -/
theorem posInf_eq : Ideal.ofBits .f32 0x7F800000#32 = (⊤ : EReal) := by
  simp [Ideal.ofBits, Ideal.ieee]

/-- The float of a truth bit. -/
theorem bit_coe (p : Prop) [Decidable p] : FloatOps.uitofp (F := Ideal) .f32 (BitVec.ofBool (decide p)) = (((if p then 1 else 0 : ℝ)) : EReal) := by
  show (((BitVec.ofBool (decide p)).toNat : ℝ) : EReal) = _
  by_cases h : p <;> simp [h]

/-- A choice between a real number and zero. -/
theorem ite_coe (p : Prop) [Decidable p] (x : ℝ) : (if p then (x : EReal) else 0) = (((if p then x else 0 : ℝ)) : EReal) := by
  split <;> rfl

/-- A real number whose absolute value is below infinity. -/
theorem real_of_lt {x : EReal} (h : max x (-x) < ⊤) : ∃ r : ℝ, x = (r : EReal) := by
  induction x with
  | bot => simp at h
  | top => simp at h
  | coe r => exact ⟨r, rfl⟩

/-- The larger of two signed words. -/
theorem maxsi_toInt (x y : BitVec 32) : (IntOp.maxsi x y).toInt = max x.toInt y.toInt := by
  unfold IntOp.maxsi
  split <;> rename_i h <;> simp [BitVec.sle, BitVec.slt] at h <;> omega

/-- The float of a signed comparison. -/
theorem less_coe (x y : BitVec 32) :
    FloatOps.uitofp (F := Ideal) .f32 (IntOp.cmpi .slt x y) = (((if x.toInt < y.toInt then 1 else 0 : ℝ)) : EReal) := by
  rw [← bit_coe]; rfl

/-- A small number as a word and back. -/
theorem ofNat_toInt {n : Nat} (h : n < 64) : (BitVec.ofNat 32 n).toInt = (n : ℤ) := by
  rw [BitVec.toInt_ofNat']; simp [Int.bmod]; omega

/-- The float of a signed word. -/
theorem signed_coe (x : BitVec 32) : FloatOps.sitofp (F := Ideal) .f32 x = (((x.toInt : ℤ) : ℝ) : EReal) := rfl

theorem toInt_one : (1#32).toInt = 1 := by decide

/-- The float of two signed comparisons together. -/
theorem both_coe (x y z w : BitVec 32) :
    FloatOps.uitofp (F := Ideal) .f32 (IntOp.andi (IntOp.cmpi .slt x y) (IntOp.cmpi .slt z w)) = (((if x.toInt < y.toInt ∧ z.toInt < w.toInt then 1 else 0 : ℝ)) : EReal) := by
  rw [← bit_coe]
  refine congrArg _ ?_
  by_cases h1 : x.toInt < y.toInt <;> by_cases h2 : z.toInt < w.toInt <;> simp [IntOp.andi, IntOp.cmpi, BitVec.slt, h1, h2]

end Cert.Reals

end
-- ==== Proof.Extended.lean ====
/- Sums with real coefficients and floored norms of vectors of extended reals. -/
module

public import proofs.«01_k».proof.Proof.Reals

@[expose] public section

noncomputable section

namespace Cert.Reals

open Idealize.ShloMosaic

/-- A real factor that is not negative goes into a sum. -/
theorem sum_mul_real {ι : Type} (t : Finset ι) (f : ι → EReal) {c : ℝ} (hc : 0 ≤ c) : (∑ i ∈ t, f i) * (c : EReal) = ∑ i ∈ t, f i * (c : EReal) := by
  classical
  induction t using Finset.induction_on with
  | empty => simp
  | insert a t ha ih =>
    rw [Finset.sum_insert ha, Finset.sum_insert ha, EReal.right_distrib_of_nonneg_of_ne_top (by exact_mod_cast hc) (EReal.coe_ne_top c), ih]

/-- A sum of reals that are not negative, times an extended real. -/
theorem real_sum_mul {ι : Type} (t : Finset ι) {f : ι → ℝ} (hf : ∀ i, 0 ≤ f i) (x : EReal) :
    ((∑ i ∈ t, f i : ℝ) : EReal) * x = ∑ i ∈ t, (f i : EReal) * x := by
  classical
  induction t using Finset.induction_on with
  | empty => simp
  | insert a t ha ih =>
    rw [Finset.sum_insert ha, Finset.sum_insert ha, EReal.coe_add,
      EReal.right_distrib_of_nonneg (by exact_mod_cast hf a) (by exact_mod_cast Finset.sum_nonneg fun i _ => hf i), ih]

/-- Division by a real number that is not zero is multiplication by its inverse. -/
theorem div_real (x : EReal) {y : ℝ} (h : y ≠ 0) : Ideal.div x (y : EReal) = x * ((y⁻¹ : ℝ) : EReal) := by
  rw [Ideal.div, if_neg (by exact_mod_cast h), EReal.coe_inv]

/-- The floored norm of a vector. -/
def fl {n : Nat} (ε : ℝ) (x : Fin n → EReal) : EReal := max (Ideal.sqrt (∑ d, x d * x d)) (ε : EReal)
/-- A vector over its floored norm. -/
def normed {n : Nat} (ε : ℝ) (x : Fin n → EReal) (d : Fin n) : EReal := Ideal.div (x d) (fl ε x)

/-- A square is not negative, infinite numbers included. -/
theorem square_nonneg (x : EReal) : 0 ≤ x * x := by
  induction x with
  | bot => simp
  | top => simp
  | coe r => exact_mod_cast mul_self_nonneg r

/-- A vector has real entries and a positive real floored norm, or its floored norm is infinite. -/
theorem fl_cases {n : Nat} {ε : ℝ} (h : 0 < ε) (x : Fin n → EReal) :
    (∃ (y : Fin n → ℝ) (N : ℝ), 0 < N ∧ (∀ d, x d = (y d : EReal)) ∧ fl ε x = (N : EReal)) ∨ fl ε x = ⊤ := by
  by_cases hx : ∀ d, ∃ r : ℝ, x d = (r : EReal)
  · choose y hy using hx
    refine Or.inl ⟨y, max (Real.sqrt (∑ d, y d * y d)) ε, lt_of_lt_of_le h (le_max_right _ _), hy, ?_⟩
    unfold fl
    simp only [hy, ← EReal.coe_mul, sum_coe]
    rw [sqrt_coe (Finset.sum_nonneg fun _ _ => mul_self_nonneg _), max_coe]
  · push Not at hx
    obtain ⟨d, hd⟩ := hx
    have e : x d * x d = ⊤ := by
      generalize x d = z at hd
      induction z with
      | bot => simp
      | top => simp
      | coe r => exact absurd rfl (hd r)
    have hs : ∑ d, x d * x d = ⊤ := top_le_iff.1 (e ▸ Finset.single_le_sum (f := fun d => x d * x d) (fun i _ => square_nonneg _) (Finset.mem_univ d))
    refine Or.inr ?_
    unfold fl
    rw [hs]
    exact max_eq_left le_top

/-- Division by infinity gives zero. -/
theorem div_top (x : EReal) : Ideal.div x ⊤ = 0 := by
  rw [Ideal.div, if_neg EReal.top_ne_zero, EReal.inv_top, mul_zero]

/-- A vector over its floored norm has real entries. -/
theorem normed_coe {n : Nat} {ε : ℝ} (h : 0 < ε) (x : Fin n → EReal) (d : Fin n) : normed ε x d = (((normed ε x d).toReal : ℝ) : EReal) := by
  unfold normed
  rcases fl_cases h x with ⟨y, N, hN, hy, e⟩ | e
  · rw [hy, e, div_coe hN.ne', EReal.toReal_coe]
  · rw [e, div_top]; rfl

/-- A product with a vector, scaled by that vector's floored norm afterwards, in absolute value. -/
theorem scaled_coe {n : Nat} {ε : ℝ} (h : 0 < ε) (c : Fin n → ℝ) (x : Fin n → EReal) (a : ℝ) :
    FloatOps.absf (F := Ideal) (φ := .f32) (∑ d, (c d : EReal) * x d) * Ideal.div (a : EReal) (fl ε x)
      = ((|∑ d, c d * (normed ε x d).toReal| * a : ℝ) : EReal) := by
  unfold normed
  rcases fl_cases h x with ⟨y, N, hN, hy, e⟩ | e
  · simp only [hy, e, div_coe hN.ne', EReal.toReal_coe, ← EReal.coe_mul, sum_coe, absf_coe]
    refine congrArg _ ?_
    simp only [mul_div_assoc', ← Finset.sum_div, abs_div, abs_of_pos hN]
    ring
  · simp [e, div_top]

end Cert.Reals

end
-- ==== Proof.Formula.lean ====
/- The operator over the extended real numbers: the reference's form of it. -/
module

public import proofs.«01_k».proof.Proof.Extended

@[expose] public section

noncomputable section

namespace Cert.Formula

open Idealize.ShloMosaic Cert.Reals

/-- The inputs as numbers: concepts, their counts, the sentence lengths, the two embedding tables, the edge matrix, the
    affectiveness and lambda vectors, and the floor of the norms. -/
structure Inp where
  con : Fin 8 → Fin 32 → Fin 8 → Fin 4096
  n : Fin 8 → Fin 32 → ℤ
  L : Fin 8 → ℤ
  e : Fin 4096 → Fin 128 → EReal
  k : Fin 4096 → Fin 128 → EReal
  E : Fin 4096 → Fin 4096 → ℝ
  f : Fin 4096 → ℝ
  l : Fin 4096 → ℝ
  ε : ℝ

variable (I : Inp)

/-- The eight arrays hold these numbers. -/
structure Holds (a0 : IVec ⟨3, ![8, 32, 8]⟩ 32) (a1 : IVec ⟨2, ![8, 32]⟩ 32) (a2 : IVec ⟨1, ![8]⟩ 32) (a3 a4 : FVec Ideal ⟨2, ![4096, 128]⟩ .f32)
    (a5 : FVec Ideal ⟨2, ![4096, 4096]⟩ .f32) (a6 a7 : FVec Ideal ⟨1, ![4096]⟩ .f32) : Prop where
  con : ∀ b s p, (a0 (ix3 b s p)).toInt = ((I.con b s p : ℕ) : ℤ)
  n : ∀ b s, (a1 (ix2 b s)).toInt = I.n b s
  L : ∀ b, (a2 (ix1 b)).toInt = I.L b
  e : ∀ v d, a3 (ix2 v d) = I.e v d
  k : ∀ v d, a4 (ix2 v d) = I.k v d
  E : ∀ v u, a5 (ix2 v u) = ((I.E v u : ℝ) : EReal)
  f : ∀ v, a6 (ix1 v) = ((I.f v : ℝ) : EReal)
  l : ∀ v, a7 (ix1 v) = ((I.l v : ℝ) : EReal)
  ε0 : 0 < I.ε
  ε : Ideal.ofBits .f32 0x322BCC77#32 = (I.ε : EReal)

/-- Whether place `p` of a position is used. -/
def pm (b : Fin 8) (s : Fin 32) (p : Fin 8) : ℝ := if ((p : ℕ) : ℤ) < I.n b s then 1 else 0
/-- Whether position `s` is inside the sentence. -/
def sm (b : Fin 8) (s : Fin 32) : ℝ := if ((s : ℕ) : ℤ) < I.L b then 1 else 0
/-- The divisor of a position's mean. -/
def den (b : Fin 8) (s : Fin 32) : ℝ := ((max (I.n b s) 1 : ℤ) : ℝ)
/-- The context of a sentence. -/
def ctx (b : Fin 8) (d : Fin 128) : EReal :=
  Ideal.div (∑ s, Ideal.div (∑ p, I.e (I.con b s p) d * (pm I b s p : EReal)) (den I b s : EReal) * (sm I b s : EReal)) (((I.L b : ℤ) : ℝ) : EReal)
/-- The absolute cosine of sentence `b`'s context with knowledge row `v`: vectors over their floored norms have real entries. -/
def cosv (b : Fin 8) (v : Fin 4096) : ℝ := |∑ d, (normed I.ε (ctx I b) d).toReal * (normed I.ε (I.k v) d).toReal|
/-- The logit of knowledge row `v` for a concept. -/
def logit (b : Fin 8) (s : Fin 32) (p : Fin 8) (v : Fin 4096) : ℝ :=
  (I.l v * (I.E (I.con b s p) v * cosv I b v) + (1 - I.l v) * ((if 0 < I.E (I.con b s p) v then 1 else 0) * I.f v)) * 5
/-- The result. -/
def out (b : Fin 8) (s : Fin 32) (d : Fin 128) : EReal :=
  Ideal.div (∑ p, (∑ v, ((Real.exp (logit I b s p v) / (∑ u, Real.exp (logit I b s p u)) : ℝ) : EReal) * I.k v d) * (pm I b s p : EReal)) (den I b s : EReal)
    * (sm I b s : EReal)

/-- The divisor of a position's mean is positive. -/
theorem den_pos (b : Fin 8) (s : Fin 32) : 0 < den I b s := by
  have : (1 : ℤ) ≤ max (I.n b s) 1 := le_max_right _ _
  unfold den; exact_mod_cast (by omega : 0 < max (I.n b s) 1)

/-- So it is not zero. -/
theorem den_ne (b : Fin 8) (s : Fin 32) : den I b s ≠ 0 := (den_pos I b s).ne'

/-- A sum of exponentials is not zero. -/
theorem sumexp_ne {n : Nat} [NeZero n] (g : Fin n → ℝ) : (∑ u, Real.exp (g u)) ≠ 0 :=
  (Finset.sum_pos (fun _ _ => Real.exp_pos _) ⟨0, Finset.mem_univ _⟩).ne'

end Cert.Formula

end
-- ==== Proof.RefRows.lean ====
/- The reference's gathers of table rows. -/
module

public import proofs.«01_k».proof.Proof.Reference
public import proofs.«01_k».proof.Proof.Formula
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.StableHlo
open Idealize.SL.Sem Cert.Formula Cert.Reals

/-- The rows of a table of `D` columns at a batch of row numbers. -/
abbrev rowDims (D : Nat) (wf : GatherDims.WF ⟨2, ![4096, D]⟩ ⟨4, ![8, 32, 8, 1]⟩ ⟨4, ![8, 32, 8, D]⟩ [3] [0] [] [0] [] 3 ![1, D]) :
    GatherDims ⟨2, ![4096, D]⟩ ⟨4, ![8, 32, 8, 1]⟩ ⟨4, ![8, 32, 8, D]⟩ where
  offsetDims := [3]
  collapsedSliceDims := [0]
  operandBatchingDims := []
  startIndicesBatchingDims := []
  startIndexMap := [0]
  indexVectorDim := 3
  sliceSizes := ![1, D]
  wf := wf

/-- Such a gather at an index: the named row, the same column. -/
theorem rows_apply {α : Type} {D : Nat} (wf) (x : (⟨2, ![4096, D]⟩ : Shape).Idx → α) (idx : IVec ⟨4, ![8, 32, 8, 1]⟩ 32)
    (b : Fin 8) (s : Fin 32) (p : Fin 8) (d : Fin D) (r : Fin 4096) (h : (idx (ix4 b s p 0)).toInt = ((r : ℕ) : ℤ)) :
    Host.gather (rowDims D wf) x idx (ix4 b s p d) = x (ix2 r d) := by
  unfold Host.gather
  congr 1
  funext a
  refine Fin.ext ?_
  show (rowDims D wf).start (ix4 b s p d) idx a + (rowDims D wf).batchCoord (ix4 b s p d) a + (rowDims D wf).offCoord (ix4 b s p d) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims D wf).startIndexMap from List.mem_singleton.mpr rfl)]
    have hsi : (rowDims D wf).siIdx (ix4 b s p d) ⟨List.idxOf (0 : Fin 2) (rowDims D wf).startIndexMap,
        List.idxOf_lt_length_iff.2 (List.mem_singleton.mpr rfl)⟩ = ix4 b s p 0 := by
      funext c; refine Fin.ext ?_
      match c with
      | ⟨0, _⟩ => rfl
      | ⟨1, _⟩ => rfl
      | ⟨2, _⟩ => rfl
      | ⟨3, _⟩ => rfl
    have hr := r.isLt
    simp only [hsi, h]
    show min (((r : ℕ) : ℤ).toNat) (4096 - 1) + 0 + 0 = (r : ℕ)
    omega
  · unfold GatherDims.start
    rw [dif_neg (show ¬ (1 : Fin 2) ∈ (rowDims D wf).startIndexMap from (by decide : ¬ (1 : Fin 2) ∈ ([0] : List (Fin 2))))]
    show 0 + 0 + (rowDims D wf).offCoord (ix4 b s p d) 1 = (d : ℕ)
    rw [Nat.zero_add]
    rfl

/-- The row numbers as the program normalises them: a negative one counts from the end. -/
abbrev normed (a0 : IVec S8x32x8 32) : IVec S8x32x8x1 32 :=
  broadcastInDim S8x32x8x1 ![0, 1, 2] bcast_S8x32x8_S8x32x8x1_0_1_2
    (select (cmpi CmpIPredicate.slt a0 (broadcastInDim S8x32x8 ![] bcast_S_S8x32x8 (constantI S_ 32 0#32)))
      (addi a0 (broadcastInDim S8x32x8 ![] bcast_S_S8x32x8 (constantI S_ 32 4096#32))) a0)

/-- A row number that is not negative is kept. -/
theorem normed_apply (a0 : IVec S8x32x8 32) (b : Fin 8) (s : Fin 32) (p : Fin 8) (h : 0 ≤ (a0 (ix3 b s p)).toInt) :
    normed a0 (ix4 b s p 0) = a0 (ix3 b s p) := by
  pointwise [normed]
  have hn : ¬ (IntOp.cmpi CmpIPredicate.slt (a0 (ix3 b s p)) 0#32) = 1#1 := fun e => by
    have := IntOp.cmpi_slt.1 e
    simp at this
    omega
  exact if_neg hn

variable {I : Inp}

/-- A gathered embedding row. -/
theorem pick_emb {a0 : IVec S8x32x8 32} (x : FVec Ideal S4096x128 .f32) (h : ∀ b s p, (a0 (ix3 b s p)).toInt = ((I.con b s p : ℕ) : ℤ))
    (b : Fin 8) (s : Fin 32) (p : Fin 8) (d : Fin 128) :
    Host.gather gather_S4096x128_S8x32x8x1_S8x32x8x128_3_0_n_n_0_3_1128 x (normed a0) (ix4 b s p d) = x (ix2 (I.con b s p) d) :=
  rows_apply _ _ _ _ _ _ _ _ (by rw [normed_apply _ _ _ _ (by rw [h]; omega), h])

/-- A gathered edge row. -/
theorem pick_edge {a0 : IVec S8x32x8 32} (x : FVec Ideal S4096x4096 .f32) (h : ∀ b s p, (a0 (ix3 b s p)).toInt = ((I.con b s p : ℕ) : ℤ))
    (b : Fin 8) (s : Fin 32) (p : Fin 8) (d : Fin 4096) :
    Host.gather gather_S4096x4096_S8x32x8x1_S8x32x8x4096_3_0_n_n_0_3_14096 x (normed a0) (ix4 b s p d) = x (ix2 (I.con b s p) d) :=
  rows_apply _ _ _ _ _ _ _ _ (by rw [normed_apply _ _ _ _ (by rw [h]; omega), h])

end Cert.ReferenceIdeal.Hand

end
-- ==== Proof.RefVal.lean ====
/- The reference's context, cosines and logits. -/
module

public import proofs.«01_k».proof.Proof.RefRows
public import proofs.«01_k».proof.Proof.Formula
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.StableHlo
open Idealize.SL.Sem Cert.Formula Cert.Reals

variable {F : FTy → Type} [FloatOps F] {I : Inp}

/-- The valuation's argument buffers hold the numbers. -/
abbrev Has (I : Inp) (V : Valuation τ sig (Elt Ideal)) : Prop :=
  Cert.Formula.Holds I (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))

set_option maxHeartbeats 1000000 in
/-- The context at an index. -/
theorem ctx_at {V : Valuation τ sig (Elt Ideal)} (h : Has I V) (b : Fin 8) (d : Fin 128) :
    (after (opsA (F := Ideal)) V (Proc.devRef .tc main_v38) (ix2 b d) : EReal) = ctx I b d := by
  unfold opsA
  after_results_simp
  pointwise []
  simp only [pick_emb _ h.con, h.e, less_coe, signed_coe, maxsi_toInt, toInt_one, h.n, h.L, ofNat_toInt (Nat.lt_of_lt_of_le (Fin.isLt _) (by decide : 8 ≤ 64)),
    ofNat_toInt (Nat.lt_of_lt_of_le (Fin.isLt _) (by decide : 32 ≤ 64))]
  rfl

/-- The second stretch with its calls written out. -/
def opsN : List (HloOp τ sig (Elt F)) :=
  [ binary main_v38 main_v38 main_call0_v0 (mulf : (⟨S8x128, .f32⟩ : BufTy).Contents (Elt F) → (⟨S8x128, .f32⟩ : BufTy).Contents (Elt F) → (⟨S8x128, .f32⟩ : BufTy).Contents (Elt F)),
    nullary main_call0_cst (constant S_ .f32 0x00000000#32),
    binary main_call0_v0 main_call0_cst main_call0_v1 ((fun x v => Host.reduceAdd x v reducesTo_S8x128_S8_d1 h_S_) : (⟨S8x128, .f32⟩ : BufTy).Contents (Elt F) → (⟨S_, .f32⟩ : BufTy).Contents (Elt F) → (⟨S8, .f32⟩ : BufTy).Contents (Elt F)),
    unary main_call0_v1 main_call0_v2 (broadcastInDim S8x1 ![0] bcast_S8_S8x1_0 : (⟨S8, .f32⟩ : BufTy).Contents (Elt F) → (⟨S8x1, .f32⟩ : BufTy).Contents (Elt F)),
    unary main_call0_v2 main_v39 (Host.sqrt : (⟨S8x1, .f32⟩ : BufTy).Contents (Elt F) → (⟨S8x1, .f32⟩ : BufTy).Contents (Elt F)),
    nullary main_cst_3 (constant S_ .f32 0x322BCC77#32),
    unary main_cst_3 main_v40 (broadcastInDim S8x1 ![] bcast_S_S8x1 : (⟨S_, .f32⟩ : BufTy).Contents (Elt F) → (⟨S8x1, .f32⟩ : BufTy).Contents (Elt F)),
    binary main_v39 main_v40 main_v41 (maximumf : (⟨S8x1, .f32⟩ : BufTy).Contents (Elt F) → (⟨S8x1, .f32⟩ : BufTy).Contents (Elt F) → (⟨S8x1, .f32⟩ : BufTy).Contents (Elt F)),
    unary main_v41 main_v42 (broadcastInDim S8x128 ![0, 1] bcast_S8x1_S8x128_0_1 : (⟨S8x1, .f32⟩ : BufTy).Contents (Elt F) → (⟨S8x128, .f32⟩ : BufTy).Contents (Elt F)),
    binary main_v38 main_v42 main_v43 (Host.divf : (⟨S8x128, .f32⟩ : BufTy).Contents (Elt F) → (⟨S8x128, .f32⟩ : BufTy).Contents (Elt F) → (⟨S8x128, .f32⟩ : BufTy).Contents (Elt F)),
    binary main_arg4 main_arg4 main_call1_v0 (mulf : (⟨S4096x128, .f32⟩ : BufTy).Contents (Elt F) → (⟨S4096x128, .f32⟩ : BufTy).Contents (Elt F) → (⟨S4096x128, .f32⟩ : BufTy).Contents (Elt F)),
    nullary main_call1_cst (constant S_ .f32 0x00000000#32),
    binary main_call1_v0 main_call1_cst main_call1_v1 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_call1_v1 main_call1_v2 (broadcastInDim S4096x1 ![0] bcast_S4096_S4096x1_0 : (⟨S4096, .f32⟩ : BufTy).Contents (Elt F) → (⟨S4096x1, .f32⟩ : BufTy).Contents (Elt F)),
    unary main_call1_v2 main_v44 (Host.sqrt : (⟨S4096x1, .f32⟩ : BufTy).Contents (Elt F) → (⟨S4096x1, .f32⟩ : BufTy).Contents (Elt F)),
    nullary main_cst_4 (constant S_ .f32 0x322BCC77#32),
    unary main_cst_4 main_v45 (broadcastInDim S4096x1 ![] bcast_S_S4096x1 : (⟨S_, .f32⟩ : BufTy).Contents (Elt F) → (⟨S4096x1, .f32⟩ : BufTy).Contents (Elt F)),
    binary main_v44 main_v45 main_v46 (maximumf : (⟨S4096x1, .f32⟩ : BufTy).Contents (Elt F) → (⟨S4096x1, .f32⟩ : BufTy).Contents (Elt F) → (⟨S4096x1, .f32⟩ : BufTy).Contents (Elt F)),
    unary main_v46 main_v47 (broadcastInDim S4096x128 ![0, 1] bcast_S4096x1_S4096x128_0_1 : (⟨S4096x1, .f32⟩ : BufTy).Contents (Elt F) → (⟨S4096x128, .f32⟩ : BufTy).Contents (Elt F)),
    binary main_arg4 main_v47 main_v48 (Host.divf : (⟨S4096x128, .f32⟩ : BufTy).Contents (Elt F) → (⟨S4096x128, .f32⟩ : BufTy).Contents (Elt F) → (⟨S4096x128, .f32⟩ : BufTy).Contents (Elt F)),
    unary main_v48 main_v49 ((transpose S128x4096 [1, 0] · transposes_S4096x128_S128x4096_1_0) : (⟨S4096x128, .f32⟩ : BufTy).Contents (Elt F) → (⟨S128x4096, .f32⟩ : BufTy).Contents (Elt F)),
    binary main_v43 main_v49 main_v50 ((fun l r => Host.dotGeneral dot_S8x128_S128x4096_S8x4096_1_0_0_1_n_n none l r) : (⟨S8x128, .f32⟩ : BufTy).Contents (Elt F) → (⟨S128x4096, .f32⟩ : BufTy).Contents (Elt F) → (⟨S8x4096, .f32⟩ : BufTy).Contents (Elt F)),
    unary main_v50 main_v51 (Host.absf : (⟨S8x4096, .f32⟩ : BufTy).Contents (Elt F) → (⟨S8x4096, .f32⟩ : BufTy).Contents (Elt F)) ]

/-- That is the same list. -/
theorem opsN_eq : opsB (F := F) = opsN := rfl

set_option maxHeartbeats 1000000 in
/-- The absolute cosine at an index. -/
theorem cos_at {V : Valuation τ sig (Elt Ideal)} (ε0 : 0 < I.ε) (ε : Ideal.ofBits .f32 0x322BCC77#32 = (I.ε : EReal))
    (hk : ∀ v d, (V (Proc.devRef .tc main_arg4) (ix2 v d) : EReal) = I.k v d)
    (b : Fin 8) (hx : ∀ d, (V (Proc.devRef .tc main_v38) (ix2 b d) : EReal) = ctx I b d) (v : Fin 4096) :
    (after (opsB (F := Ideal)) V (Proc.devRef .tc main_v51) (ix2 b v) : EReal) = ((cosv I b v : ℝ) : EReal) := by
  rw [opsN_eq]
  unfold opsN
  after_results_simp
  pointwise []
  simp only [hk, hx, ε]
  show FloatOps.absf (F := Ideal) (φ := .f32) (∑ d, Cert.Reals.normed I.ε (ctx I b) d * Cert.Reals.normed I.ε (I.k v) d) = _
  rw [show Cert.Reals.normed I.ε (ctx I b) = _ from funext (normed_coe ε0 (ctx I b)), show Cert.Reals.normed I.ε (I.k v) = _ from funext (normed_coe ε0 (I.k v))]
  simp only [← EReal.coe_mul, sum_coe, absf_coe]
  rfl

set_option maxHeartbeats 1000000 in
/-- The logit at an index. -/
theorem logit_at {V : Valuation τ sig (Elt Ideal)} (h : Has I V)
    (b : Fin 8) (hx : ∀ v, (V (Proc.devRef .tc main_v51) (ix2 b v) : EReal) = ((cosv I b v : ℝ) : EReal)) (s : Fin 32) (p : Fin 8) (v : Fin 4096) :
    (after (opsC (F := Ideal)) V (Proc.devRef .tc main_v78) (ix4 b s p v) : EReal) = ((logit I b s p v : ℝ) : EReal) := by
  unfold opsC
  after_results_simp
  pointwise []
  simp only [pick_edge _ h.con, h.E, h.f, h.l, hx, five_coe, bit_coe, EReal.coe_pos, ← EReal.coe_one, ← EReal.coe_sub, ← EReal.coe_mul, ← EReal.coe_add]
  rfl

end Cert.ReferenceIdeal.Hand

end
-- ==== Proof.RefOut.lean ====
/- The reference's softmax, product and masked mean. -/
module

public import proofs.«01_k».proof.Proof.RefRows
public import proofs.«01_k».proof.Proof.Formula
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.StableHlo
open Idealize.SL.Sem Cert.Formula Cert.Reals

variable {F : FTy → Type} [FloatOps F] {I : Inp}

/-- Subtracting one number from every logit leaves the softmax. -/
theorem softmax_shift {n : Nat} (g : Fin n → ℝ) (M : ℝ) (v : Fin n) :
    Real.exp (g v - M) / (∑ u, Real.exp (g u - M)) = Real.exp (g v) / ∑ u, Real.exp (g u) := by
  have hM : Real.exp M ≠ 0 := (Real.exp_pos M).ne'
  simp only [Real.exp_sub, ← Finset.sum_div]
  rw [div_div_div_cancel_right₀ hM]

/-- Every index of the logits has a four-coordinate form. -/
theorem ix4_eta (i : S8x32x8x4096.Idx) : ∃ b s p v, i = ix4 b s p v :=
  ⟨i 0, i 1, i 2, i 3, by funext a; match a with | ⟨0, _⟩ => rfl | ⟨1, _⟩ => rfl | ⟨2, _⟩ => rfl | ⟨3, _⟩ => rfl⟩

/-- The reduction drops the last coordinate. -/
theorem drop_ix4 (b : Fin 8) (s : Fin 32) (p : Fin 8) (v : Fin 4096) : reducesTo_S8x32x8x4096_S8x32x8_d3.drop (ix4 b s p v) = ix3 b s p := by
  funext a; match a with | ⟨0, _⟩ => rfl | ⟨1, _⟩ => rfl | ⟨2, _⟩ => rfl

/-- The largest logit of a concept is a real number. -/
theorem top_at {V : Valuation τ sig (Elt Ideal)}
    (b : Fin 8) (hx : ∀ s p v, (V (Proc.devRef .tc main_v78) (ix4 b s p v) : EReal) = ((logit I b s p v : ℝ) : EReal)) (s : Fin 32) (p : Fin 8) :
    ∃ M : ℝ, (after (opsD (F := Ideal)) V (Proc.devRef .tc main_v81) (ix3 b s p) : EReal) = (M : EReal) := by
  obtain ⟨M, hM⟩ := reduce_real (V (Proc.devRef .tc main_v78)) (constant (F := Ideal) S_ .f32 0xFF800000#32) reducesTo_S8x32x8x4096_S8x32x8_d3 h_S_ (ix3 b s p)
    (fun i hi => by
      obtain ⟨b', s', p', v, rfl⟩ := ix4_eta i
      rw [drop_ix4] at hi
      have hb : b' = b := congrFun hi 0
      exact ⟨_, hb ▸ hx s' p' v⟩) negInf_eq (ix4 b s p 0)
    (drop_ix4 b s p 0)
  refine ⟨M, ?_⟩
  unfold opsD
  after_results_simp
  rw [maximumf_apply, hM]
  exact (congrArg (fun x : EReal => max x (M : EReal)) negInf_eq).trans (max_bot_left _)

set_option maxHeartbeats 1000000 in
/-- The last stretch at an index, from real logits: the result. -/
theorem out_at {V : Valuation τ sig (Elt Ideal)} (b : Fin 8) (M : Fin 32 → Fin 8 → ℝ)
    (hk : ∀ v d, (V (Proc.devRef .tc main_arg4) (ix2 v d) : EReal) = I.k v d)
    (hx : ∀ s p v, (V (Proc.devRef .tc main_v78) (ix4 b s p v) : EReal) = ((logit I b s p v : ℝ) : EReal))
    (hM : ∀ s p, (V (Proc.devRef .tc main_v81) (ix3 b s p) : EReal) = ((M s p : ℝ) : EReal))
    (hp : ∀ b s p, (V (Proc.devRef .tc main_v13) (ix3 b s p) : EReal) = ((pm I b s p : ℝ) : EReal))
    (hd : ∀ b s, (V (Proc.devRef .tc main_v17) (ix3 b s 0) : EReal) = ((den I b s : ℝ) : EReal))
    (hs : ∀ b s, (V (Proc.devRef .tc main_v30) (ix2 b s) : EReal) = ((sm I b s : ℝ) : EReal))
    (s : Fin 32) (d : Fin 128) :
    (after (opsE (F := Ideal)) V (Proc.devRef .tc main_v99) (ix3 b s d) : EReal) = out I b s d := by
  unfold opsE
  after_results_simp
  pointwise []
  have hz : ∀ s p, (∑ u, Real.exp (logit I b s p u - M s p)) ≠ 0 := fun s p => sumexp_ne fun u => logit I b s p u - M s p
  simp only [hk, hx, hp, hd, hs, hM, ← EReal.coe_sub, exp_coe, sum_coe, div_coe (hz _ _), softmax_shift]
  unfold out
  rfl

/-- Outside the sentence the result is zero, whatever the attention is. -/
theorem out_zero {V : Valuation τ sig (Elt Ideal)} (b : Fin 8) (s : Fin 32) (hs : (V (Proc.devRef .tc main_v30) (ix2 b s) : EReal) = (0 : EReal)) (d : Fin 128) :
    (after (opsE (F := Ideal)) V (Proc.devRef .tc main_v99) (ix3 b s d) : EReal) = (0 : EReal) := by
  unfold opsE
  after_results_simp
  pointwise []
  rw [hs]
  exact mul_zero (M₀ := EReal) _

end Cert.ReferenceIdeal.Hand

end
-- ==== Proof.RefEnd.lean ====
/- The reference's stretches put together: its result as numbers. -/
module

public import proofs.«01_k».proof.Proof.RefVal
public import proofs.«01_k».proof.Proof.RefOut
public import proofs.«01_k».proof.Proof.Formula
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.ShloMosaic.StableHlo
open Idealize.SL.Sem Cert.Formula Cert.Reals

variable {F : FTy → Type} [FloatOps F] {I : Inp}

/-- The first stretch leaves the arguments. -/
theorem kept_A (V : Valuation τ sig (Elt F)) {r : Ref sig .tc} (hr : r = main_arg0 ∨ r = main_arg1 ∨ r = main_arg2 ∨ r = main_arg3 ∨ r = main_arg4 ∨ r = main_arg5 ∨ r = main_arg6 ∨ r = main_arg7) :
    after (opsA (F := F)) V (Proc.devRef .tc r) = V (Proc.devRef .tc r) := by
  rcases hr with rfl | rfl | rfl | rfl | rfl | rfl | rfl | rfl <;> (unfold opsA; after_results_simp)

/-- The second leaves the arguments, the masks and the divisors. -/
theorem kept_B (V : Valuation τ sig (Elt F)) {r : Ref sig .tc} (hr : r = main_arg0 ∨ r = main_arg1 ∨ r = main_arg2 ∨ r = main_arg3 ∨ r = main_arg4 ∨ r = main_arg5 ∨ r = main_arg6 ∨ r = main_arg7 ∨ r = main_v13 ∨ r = main_v17 ∨ r = main_v30) :
    after (opsB (F := F)) V (Proc.devRef .tc r) = V (Proc.devRef .tc r) := by
  rw [opsN_eq]
  rcases hr with rfl | rfl | rfl | rfl | rfl | rfl | rfl | rfl | rfl | rfl | rfl <;> (unfold opsN; after_results_simp)

/-- The third leaves the knowledge rows, the masks and the divisors. -/
theorem kept_C (V : Valuation τ sig (Elt F)) {r : Ref sig .tc} (hr : r = main_arg4 ∨ r = main_v13 ∨ r = main_v17 ∨ r = main_v30) :
    after (opsC (F := F)) V (Proc.devRef .tc r) = V (Proc.devRef .tc r) := by
  rcases hr with rfl | rfl | rfl | rfl <;> (unfold opsC; after_results_simp)

/-- So does the fourth, and the logits. -/
theorem kept_D (V : Valuation τ sig (Elt F)) {r : Ref sig .tc} (hr : r = main_arg4 ∨ r = main_v13 ∨ r = main_v17 ∨ r = main_v30 ∨ r = main_v78) :
    after (opsD (F := F)) V (Proc.devRef .tc r) = V (Proc.devRef .tc r) := by
  rcases hr with rfl | rfl | rfl | rfl | rfl <;> (unfold opsD; after_results_simp)

/-- The mask of places. -/
theorem place_at {V : Valuation τ sig (Elt Ideal)} (h : Has I V) (b : Fin 8) (s : Fin 32) (p : Fin 8) :
    (after (opsA (F := Ideal)) V (Proc.devRef .tc main_v13) (ix3 b s p) : EReal) = ((pm I b s p : ℝ) : EReal) := by
  unfold opsA
  after_results_simp
  pointwise []
  simp only [less_coe, h.n, ofNat_toInt (Nat.lt_of_lt_of_le (Fin.isLt p) (by decide : 8 ≤ 64))]
  rfl

/-- The divisors of the means. -/
theorem divisor_at {V : Valuation τ sig (Elt Ideal)} (h : Has I V) (b : Fin 8) (s : Fin 32) :
    (after (opsA (F := Ideal)) V (Proc.devRef .tc main_v17) (ix3 b s 0) : EReal) = ((den I b s : ℝ) : EReal) := by
  unfold opsA
  after_results_simp
  pointwise []
  simp only [signed_coe, maxsi_toInt, h.n, toInt_one]
  rfl

/-- The mask of positions. -/
theorem inside_at {V : Valuation τ sig (Elt Ideal)} (h : Has I V) (b : Fin 8) (s : Fin 32) :
    (after (opsA (F := Ideal)) V (Proc.devRef .tc main_v30) (ix2 b s) : EReal) = ((sm I b s : ℝ) : EReal) := by
  unfold opsA
  after_results_simp
  pointwise []
  simp only [less_coe, h.L, ofNat_toInt (Nat.lt_of_lt_of_le (Fin.isLt s) (by decide : 32 ≤ 64))]
  rfl

/-- The reference's result at an index. -/
theorem result_at {V : Valuation τ sig (Elt Ideal)} (h : Has I V) (b : Fin 8) (s : Fin 32) (d : Fin 128) :
    (after (ops0 ++ ops1 (F := Ideal)) V (Proc.devRef .tc main_v99) (ix3 b s d) : EReal) = out I b s d := by
  have h1 : Has I (after (opsB (F := Ideal)) (after opsA V)) := by
    have hk : ∀ r : Ref sig .tc, (r = main_arg0 ∨ r = main_arg1 ∨ r = main_arg2 ∨ r = main_arg3 ∨ r = main_arg4 ∨ r = main_arg5 ∨ r = main_arg6 ∨ r = main_arg7) →
        after (opsB (F := Ideal)) (after opsA V) (Proc.devRef .tc r) = V (Proc.devRef .tc r) := fun r hr =>
      (kept_B _ (by tauto)).trans (kept_A V hr)
    unfold Has
    rw [hk main_arg0 (by simp), hk main_arg1 (by simp), hk main_arg2 (by simp), hk main_arg3 (by simp), hk main_arg4 (by simp), hk main_arg5 (by simp),
      hk main_arg6 (by simp), hk main_arg7 (by simp)]
    exact h
  have hs : ∀ b s, (after (opsD (F := Ideal)) (after opsC (after opsB (after opsA V))) (Proc.devRef .tc main_v30) (ix2 b s) : EReal) = ((sm I b s : ℝ) : EReal) :=
    fun b s => by rw [kept_D _ (by simp), kept_C _ (by simp), kept_B _ (by simp)]; exact inside_at h b s
  unfold ops0 ops1
  rw [after_append, after_append, after_append, after_append]
  by_cases h0 : I.L b = 0
  · have hz : sm I b s = 0 := if_neg (by rw [h0]; omega)
    rw [out_zero b s (by rw [hs, hz]; rfl)]
    unfold out
    rw [hz]
    exact (mul_zero (M₀ := EReal) _).symm
  have hc := cos_at (V := after (opsA (F := Ideal)) V) h.ε0 h.ε (fun v d => by rw [kept_A _ (by simp)]; exact h.k v d) b (ctx_at h b)
  have hl := logit_at h1 b hc
  choose M hM using top_at b hl
  refine out_at b M ?_ ?_ hM ?_ ?_ hs s d
  · intro v d; rw [kept_D _ (by simp), kept_C _ (by simp)]; exact h1.k v d
  · intro s p v; rw [kept_D _ (by simp)]; exact hl s p v
  · intro b s p; rw [kept_D _ (by simp), kept_C _ (by simp), kept_B _ (by simp)]; exact place_at h b s p
  · intro b s; rw [kept_D _ (by simp), kept_C _ (by simp), kept_B _ (by simp)]; exact divisor_at h b s

end Cert.ReferenceIdeal.Hand

end
-- ==== Proof.KerHost.lean ====
/- The arrays that the kernel's host part makes, as terms in its arguments. -/
module

public import proofs.«01_k».proof.Proof.Ideal.End
public import proofs.«01_k».proof.Proof.Formula
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

/-- The masked reciprocal counts as the program computes them. -/
def wts (a1 : IVec S8x32 32) (a2 : IVec S8 32) : FVec F S8x32x8 .f32 :=
  Host.divf
    (uitofp .f32
      (andi
        (cmpi .slt (broadcastInDim S8x32x8 ![0, 1, 2] bcast_S1x1x8_S8x32x8_0_1_2 (broadcastInDim S1x1x8 ![2] bcast_S8_S1x1x8_2 (iotaInDim S8 32 0)))
          (broadcastInDim S8x32x8 ![0, 1, 2] bcast_S8x32x1_S8x32x8_0_1_2 (broadcastInDim S8x32x1 ![0, 1] bcast_S8x32_S8x32x1_0_1 a1)))
        (broadcastInDim S8x32x8 ![0, 1, 2] bcast_S8x32x1_S8x32x8_0_1_2
          (cmpi .slt (broadcastInDim S8x32x1 ![0, 1, 2] bcast_S1x32x1_S8x32x1_0_1_2 (broadcastInDim S1x32x1 ![1] bcast_S32_S1x32x1_1 (iotaInDim S32 32 0)))
            (broadcastInDim S8x32x1 ![0, 1, 2] bcast_S8x1x1_S8x32x1_0_1_2 (broadcastInDim S8x1x1 ![0] bcast_S8_S8x1x1_0 a2))))))
    (broadcastInDim S8x32x8 ![0, 1, 2] bcast_S8x32x1_S8x32x8_0_1_2
      (sitofp .f32 (broadcastInDim S8x32x1 ![0, 1] bcast_S8x32_S8x32x1_0_1 (maxsi a1 (broadcastInDim S8x32 ![] bcast_S_S8x32 (constantI S_ 32 1#32))))))

/-- The places the updates land at. -/
def places (a0 : IVec S8x32x8 32) : IVec S8x256x2 32 :=
  concatenate S8x256x2 2 [⟨S8x256x1,
    (broadcastInDim S8x256x1 ![0, 1] bcast_S8x256_S8x256x1_0_1
      (broadcastInDim S8x256 ![0, 1] bcast_S8x1_S8x256_0_1
        (select (cmpi .slt (broadcastInDim S8x1 ![0] bcast_S8_S8x1_0 (iotaInDim S8 32 0)) (broadcastInDim S8x1 ![] bcast_S_S8x1 (constantI S_ 32 0#32)))
          (addi (broadcastInDim S8x1 ![0] bcast_S8_S8x1_0 (iotaInDim S8 32 0)) (broadcastInDim S8x1 ![] bcast_S_S8x1 (constantI S_ 32 8#32)))
          (broadcastInDim S8x1 ![0] bcast_S8_S8x1_0 (iotaInDim S8 32 0)))))⟩, ⟨S8x256x1,
    (broadcastInDim S8x256x1 ![0, 1] bcast_S8x256_S8x256x1_0_1
      (select (cmpi .slt (shapeCast S8x256 a0 shapeCasts_S8x32x8_S8x256) (broadcastInDim S8x256 ![] bcast_S_S8x256 (constantI S_ 32 0#32)))
        (addi (shapeCast S8x256 a0 shapeCasts_S8x32x8_S8x256) (broadcastInDim S8x256 ![] bcast_S_S8x256 (constantI S_ 32 4096#32)))
        (shapeCast S8x256 a0 shapeCasts_S8x32x8_S8x256)))⟩]
    concatenates_S8x256x1_S8x256x1_S8x256x2_d2

/-- What each update adds. -/
def adds (a1 : IVec S8x32 32) (a2 : IVec S8 32) : FVec F S8x256 .f32 :=
  Host.divf (shapeCast S8x256 (wts a1 a2) shapeCasts_S8x32x8_S8x256)
    (broadcastInDim S8x256 ![0, 1] bcast_S8x1_S8x256_0_1 (sitofp .f32 (broadcastInDim S8x1 ![0] bcast_S8_S8x1_0 a2)))

variable (m : (ℓ : Loc nD τ sig) → Buf (Elt F) ℓ) (c : Dev nD)

/-- The weights' window holds those. -/
theorem weight_eq : weightV m c = shapeCast S32x8x8 (wts (m ((c.tc : Thread nD τ).loc main_arg1)) (m ((c.tc : Thread nD τ).loc main_arg2))) shapeCasts_S8x32x8_S32x8x8 := by
  unfold weightV V0
  after_results_simp
  rfl

set_option maxHeartbeats 2000000 in
/-- The context weights as that scatter. -/
theorem count_eq : countV m c = Host.scatterAdd scatter_S8x4096_S8x256x2_S8x256_n_01_01_2 (broadcastInDim S8x4096 ![] bcast_S_S8x4096 (constant S_ .f32 0x00000000#32))
    (places (m ((c.tc : Thread nD τ).loc main_arg0))) (adds (m ((c.tc : Thread nD τ).loc main_arg1)) (m ((c.tc : Thread nD τ).loc main_arg2))) := by
  unfold countV V0
  after_results_simp
  rfl

/-- The affectiveness row. -/
theorem aff_eq : affV m c = shapeCast S1x4096 (m ((c.tc : Thread nD τ).loc main_arg6)) shapeCasts_S4096_S1x4096 := by
  unfold affV V0
  after_results_simp
  rfl

/-- The lambda row. -/
theorem lam_eq : lamV m c = shapeCast S1x4096 (m ((c.tc : Thread nD τ).loc main_arg7)) shapeCasts_S4096_S1x4096 := by
  unfold lamV V0
  after_results_simp
  rfl

/-- The edge matrix, the two tables and the lengths are the arguments themselves. -/
theorem edge_eq : edgeV m c = m ((c.tc : Thread nD τ).loc main_arg5) := by unfold edgeV V0; after_results_simp
theorem emb_eq : embV m c = m ((c.tc : Thread nD τ).loc main_arg3) := by unfold embV V0; after_results_simp
theorem kb_eq : kbV m c = m ((c.tc : Thread nD τ).loc main_arg4) := by unfold kbV V0; after_results_simp
theorem seg_eq : segV m c = m ((c.tc : Thread nD τ).loc main_arg2) := by unfold segV V0; after_results_simp

end Cert.KernelIdeal.Hand

end
-- ==== Proof.KerBlock.lean ====
/- The eight rows of a live grid point, as numbers. -/
module

public import proofs.«01_k».proof.Proof.Ideal.Point
public import proofs.«01_k».proof.Proof.Formula
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.StableHlo
open Idealize.SL.Sem

/-- Eight rows of a live point, at an index: with the edge rows, the activations, the affective terms and the weights real numbers. -/
theorem block_at (A : FVec Ideal S8x4096 .f32) (C : FVec Ideal S1x4096 .f32) (W : FVec Ideal S1x8x8 .f32) (E : EdgeC Ideal) (T : TabC Ideal) (n : ℕ)
    (r : Fin 8) (v : Fin 4096) (α κ : Fin 4096 → ℝ) (ρ : Fin 8 → Fin 4096 → ℝ) (w : Fin 8 → ℝ)
    (hA : ∀ v, (sentRow (F := Ideal) A n (ix2 0 v) : EReal) = ((α v : ℝ) : EReal)) (hC : ∀ v, (C (ix2 0 v) : EReal) = ((κ v : ℝ) : EReal))
    (hE : ∀ (p : Fin 8) (v : Fin 4096), (ringRow (F := Ideal) E T n p.val (ix4 0 0 r v) : EReal) = ((ρ p v : ℝ) : EReal)) (hW : ∀ p, (W (ix3 0 r p) : EReal) = ((w p : ℝ) : EReal)) :
    (blockVal (F := Ideal) A C W E T n (ix2 r v) : EReal)
      = ((∑ p : Fin 8, Real.exp (ρ p v * α v + if 0 < ρ p v then κ v else 0)
          * (w p / ∑ u, Real.exp (ρ p u * α u + if 0 < ρ p u then κ u else 0)) : ℝ) : EReal) := by
  have hz : ∀ p, (∑ u, Real.exp (ρ p u * α u + if 0 < ρ p u then κ u else 0)) ≠ 0 := fun p => Cert.Formula.sumexp_ne _
  have e0 : ∀ v, (ringRow (F := Ideal) E T n 0 (ix4 0 0 r v) : EReal) = ((ρ 0 v : ℝ) : EReal) := hE 0
  have e1 : ∀ v, (ringRow (F := Ideal) E T n 1 (ix4 0 0 r v) : EReal) = ((ρ 1 v : ℝ) : EReal) := hE 1
  have e2 : ∀ v, (ringRow (F := Ideal) E T n 2 (ix4 0 0 r v) : EReal) = ((ρ 2 v : ℝ) : EReal) := hE 2
  have e3 : ∀ v, (ringRow (F := Ideal) E T n 3 (ix4 0 0 r v) : EReal) = ((ρ 3 v : ℝ) : EReal) := hE 3
  have e4 : ∀ v, (ringRow (F := Ideal) E T n 4 (ix4 0 0 r v) : EReal) = ((ρ 4 v : ℝ) : EReal) := hE 4
  have e5 : ∀ v, (ringRow (F := Ideal) E T n 5 (ix4 0 0 r v) : EReal) = ((ρ 5 v : ℝ) : EReal) := hE 5
  have e6 : ∀ v, (ringRow (F := Ideal) E T n 6 (ix4 0 0 r v) : EReal) = ((ρ 6 v : ℝ) : EReal) := hE 6
  have e7 : ∀ v, (ringRow (F := Ideal) E T n 7 (ix4 0 0 r v) : EReal) = ((ρ 7 v : ℝ) : EReal) := hE 7
  pointwise [blockVal, k0_pay16, k0_pay12, k0_pay10, k0_pay6, k0_pay5, k0_pay4, k0_pay8, k0_pay9, k0_pay7, k0_pay11]
  simp only [hA, hC, e0, e1, e2, e3, e4, e5, e6, e7, hW, EReal.coe_pos, Cert.Reals.ite_coe, ← EReal.coe_mul, ← EReal.coe_add, Cert.Reals.exp_coe, Cert.Reals.sum_coe, Cert.Reals.div_coe (hz _)]
  rw [Fin.sum_univ_eight]

end Cert.KernelIdeal.Hand

end
-- ==== Proof.Equal.lean ====
/- The kernel's form of the operator over the extended real numbers, and its equality with the reference's. -/
module

public import proofs.«01_k».proof.Proof.Formula

@[expose] public section

noncomputable section

namespace Cert.Formula

open Idealize.ShloMosaic Cert.Reals

variable (I : Inp)

/-- The masked reciprocal count of a place. -/
def wt (b : Fin 8) (s : Fin 32) (p : Fin 8) : ℝ :=
  (if ((p : ℕ) : ℤ) < I.n b s ∧ ((s : ℕ) : ℤ) < I.L b then 1 else 0) / den I b s
/-- The weight of vocabulary row `v` in sentence `b`'s context. -/
def cw (b : Fin 8) (v : Fin 4096) : ℝ := ∑ s, ∑ p, if I.con b s p = v then wt I b s p / ((I.L b : ℤ) : ℝ) else 0
/-- The context as the weighted sum of the table's rows. -/
def kctx (b : Fin 8) (d : Fin 128) : EReal := ∑ v, (cw I b v : EReal) * I.e v d
/-- The activations. -/
def act (b : Fin 8) (v : Fin 4096) : ℝ := cosv I b v * (5 * I.l v)
/-- The affective terms. -/
def affc (v : Fin 4096) : ℝ := 5 * (1 - I.l v) * I.f v
/-- The logit as the kernel forms it. -/
def klog (b : Fin 8) (s : Fin 32) (p : Fin 8) (v : Fin 4096) : ℝ :=
  I.E (I.con b s p) v * act I b v + if 0 < I.E (I.con b s p) v then affc I v else 0
/-- A gathered row. -/
def krow (b : Fin 8) (s : Fin 32) (v : Fin 4096) : ℝ :=
  if (((s : ℕ) / 8 * 8 : ℕ) : ℤ) < I.L b then ∑ p, Real.exp (klog I b s p v) * (wt I b s p / ∑ u, Real.exp (klog I b s p u)) else 0
/-- The kernel's result. -/
def kout (b : Fin 8) (s : Fin 32) (d : Fin 128) : EReal := ∑ v, (krow I b s v : EReal) * I.k v d

/-- The weight as the product of the masks over the divisor. -/
theorem wt_eq (b : Fin 8) (s : Fin 32) (p : Fin 8) : wt I b s p = pm I b s p * sm I b s / den I b s := by
  unfold wt pm sm
  by_cases h1 : ((p : ℕ) : ℤ) < I.n b s <;> by_cases h2 : ((s : ℕ) : ℤ) < I.L b <;> simp [h1, h2]

/-- The masks and the weights are not negative. -/
theorem pm_nonneg (b : Fin 8) (s : Fin 32) (p : Fin 8) : 0 ≤ pm I b s p := by unfold pm; split <;> norm_num
theorem sm_nonneg (b : Fin 8) (s : Fin 32) : 0 ≤ sm I b s := by unfold sm; split <;> norm_num
theorem wt_nonneg (b : Fin 8) (s : Fin 32) (p : Fin 8) : 0 ≤ wt I b s p := by
  rw [wt_eq]; exact div_nonneg (mul_nonneg (pm_nonneg I b s p) (sm_nonneg I b s)) (den_pos I b s).le

/-- In a sentence of positive length the two contexts are one. -/
theorem kctx_eq (b : Fin 8) (hL : 0 < I.L b) (d : Fin 128) : kctx I b d = ctx I b d := by
  have hl : (0 : ℝ) < ((I.L b : ℤ) : ℝ) := by exact_mod_cast hL
  have hc : ∀ v s p, 0 ≤ (if I.con b s p = v then wt I b s p / ((I.L b : ℤ) : ℝ) else 0) := fun v s p => by
    split
    · exact div_nonneg (wt_nonneg I b s p) hl.le
    · exact le_rfl
  unfold kctx cw ctx
  rw [div_real _ hl.ne', sum_mul_real _ _ (inv_nonneg.2 hl.le)]
  simp only [real_sum_mul _ fun s => Finset.sum_nonneg fun p _ => hc _ s p, real_sum_mul _ fun p => hc _ _ p]
  rw [Finset.sum_comm]
  refine Finset.sum_congr rfl fun s _ => ?_
  rw [Finset.sum_comm, div_real _ (den_ne I b s), sum_mul_real _ _ (inv_nonneg.2 (den_pos I b s).le), sum_mul_real _ _ (sm_nonneg I b s),
    sum_mul_real _ _ (inv_nonneg.2 hl.le)]
  refine Finset.sum_congr rfl fun p _ => ?_
  rw [Finset.sum_eq_single (I.con b s p) (fun v _ hv => by rw [if_neg hv.symm]; simp) (fun h => absurd (Finset.mem_univ _) h), if_pos rfl, wt_eq,
    mul_assoc, mul_assoc, mul_assoc, ← EReal.coe_mul, ← EReal.coe_mul, ← EReal.coe_mul, mul_comm]
  refine congrArg (fun r : ℝ => I.e (I.con b s p) d * (r : EReal)) ?_
  ring

/-- The two logits are one. -/
theorem klog_eq (b : Fin 8) (s : Fin 32) (p : Fin 8) (v : Fin 4096) : klog I b s p v = logit I b s p v := by
  unfold klog logit act affc
  split <;> ring

/-- The two results are one. -/
theorem kout_eq (b : Fin 8) (s : Fin 32) (d : Fin 128) : kout I b s d = out I b s d := by
  unfold kout krow out
  simp only [klog_eq I]
  split
  · have hw : ∀ (v : Fin 4096) (p : Fin 8), 0 ≤ Real.exp (logit I b s p v) * (wt I b s p / ∑ u, Real.exp (logit I b s p u)) := fun v p =>
      mul_nonneg (Real.exp_pos _).le (div_nonneg (wt_nonneg I b s p) (Finset.sum_nonneg fun u _ => (Real.exp_pos _).le))
    rw [div_real _ (den_ne I b s), sum_mul_real _ _ (inv_nonneg.2 (den_pos I b s).le), sum_mul_real _ _ (sm_nonneg I b s)]
    simp only [real_sum_mul _ fun p => hw _ p]
    rw [Finset.sum_comm]
    refine Finset.sum_congr rfl fun p _ => ?_
    rw [sum_mul_real _ _ (pm_nonneg I b s p), sum_mul_real _ _ (inv_nonneg.2 (den_pos I b s).le), sum_mul_real _ _ (sm_nonneg I b s)]
    refine Finset.sum_congr rfl fun v _ => ?_
    rw [mul_comm (((Real.exp (logit I b s p v) / ∑ u, Real.exp (logit I b s p u) : ℝ)) : EReal), mul_assoc, mul_assoc, mul_assoc, ← EReal.coe_mul, ← EReal.coe_mul,
      ← EReal.coe_mul, mul_comm, wt_eq]
    refine congrArg (fun r : ℝ => I.k v d * (r : EReal)) ?_
    ring
  · rename_i hd
    have : sm I b s = 0 := if_neg fun h1 => hd (lt_of_le_of_lt (by have := Nat.div_mul_le_self (s : ℕ) 8; exact_mod_cast this) h1)
    simp [this]

end Cert.Formula

end
-- ==== Proof.KerVal.lean ====
/- The masked weights and the scatter-added context weights, as numbers. -/
module

public import proofs.«01_k».proof.Proof.KerHost
public import proofs.«01_k».proof.Proof.KerBlock
public import proofs.«01_k».proof.Proof.Equal
public import proofs.«01_k».proof.Proof.Formula
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.StableHlo
open Idealize.SL.Sem Cert.Reals Cert.Formula

variable {I : Inp} {a0 : IVec S8x32x8 32} {a1 : IVec S8x32 32} {a2 : IVec S8 32} {a3 a4 : FVec Ideal S4096x128 .f32} {a5 : FVec Ideal S4096x4096 .f32}
  {a6 a7 : FVec Ideal S4096 .f32}

/-- The masked reciprocal counts at an index. -/
theorem wts_at (h : Holds I a0 a1 a2 a3 a4 a5 a6 a7) (b : Fin 8) (s : Fin 32) (p : Fin 8) :
    (wts (F := Ideal) a1 a2 (ix3 b s p) : EReal) = ((wt I b s p : ℝ) : EReal) := by
  have hden : (((max (I.n b s) 1 : ℤ)) : ℝ) ≠ 0 := den_ne I b s
  pointwise [wts]
  simp only [both_coe, signed_coe, maxsi_toInt, toInt_one, h.n, h.L, ofNat_toInt (Nat.lt_of_lt_of_le (Fin.isLt p) (by decide : 8 ≤ 64)),
    ofNat_toInt (Nat.lt_of_lt_of_le (Fin.isLt s) (by decide : 32 ≤ 64)), div_coe hden]
  rfl

/-- What an update adds, at an index. -/
theorem adds_at (h : Holds I a0 a1 a2 a3 a4 a5 a6 a7) (b : Fin 8) (hL : (((I.L b : ℤ) : ℝ)) ≠ 0) (s : Fin 32) (p : Fin 8) (hq : s.val * 8 + p.val < 256) :
    (adds (F := Ideal) a1 a2 (ix2 b ⟨s.val * 8 + p.val, hq⟩) : EReal) = ((wt I b s p / ((I.L b : ℤ) : ℝ) : ℝ) : EReal) := by
  pointwise [adds]
  simp only [wts_at h, signed_coe, h.L, div_coe hL]

/-- The choice that normalises a number keeps one that is not negative. -/
theorem keep (x y : BitVec 32) (h : 0 ≤ x.toInt) : Scalar.select (IntOp.cmpi .slt x 0#32) y x = x :=
  if_neg fun e => by
    have := IntOp.cmpi_slt.1 e
    simp at this
    omega

/-- An update's row and column. -/
theorem places_at (h : Holds I a0 a1 a2 a3 a4 a5 a6 a7) (b : Fin 8) (s : Fin 32) (p : Fin 8) (hq : s.val * 8 + p.val < 256) :
    (places a0 (ix3 b ⟨s.val * 8 + p.val, hq⟩ 0)).toInt = ((b : ℕ) : ℤ)
      ∧ (places a0 (ix3 b ⟨s.val * 8 + p.val, hq⟩ 1)).toInt = ((I.con b s p : ℕ) : ℤ) := by
  have hb := ofNat_toInt (Nat.lt_of_lt_of_le (Fin.isLt b) (by decide : 8 ≤ 64))
  constructor
  · pointwise [places]
    rw [keep _ _ (by rw [hb]; omega), hb]
  · pointwise [places]
    rw [keep _ _ (by rw [h.con]; omega), h.con]

/-- The scatter's dimension numbers. -/
abbrev sdims := scatter_S8x4096_S8x256x2_S8x256_n_01_01_2

/-- Each update is one element: it has no offset inside a window. -/
theorem window_zero (j : S8x256.Idx) (a : Fin 2) : sdims.window j a = 0 := by
  unfold ScatterDims.window
  exact dif_neg (by revert a; decide)

/-- An update's row is the first component of its place. -/
theorem start_row (b : Fin 8) (q : Fin 256) (idx : IVec S8x256x2 32) : sdims.start (ix2 b q) idx (0 : Fin 2) = (idx (ix3 b q 0)).toInt := by
  unfold ScatterDims.start
  rw [dif_pos (show (0 : Fin 2) ∈ sdims.scatterDimsToOperandDims by decide)]
  refine congrArg (fun z => (idx z).toInt) ?_
  funext c; refine Fin.ext ?_
  match c with
  | ⟨0, _⟩ => rfl
  | ⟨1, _⟩ => rfl
  | ⟨2, _⟩ => rfl

/-- Its column is the second. -/
theorem start_col (b : Fin 8) (q : Fin 256) (idx : IVec S8x256x2 32) : sdims.start (ix2 b q) idx (1 : Fin 2) = (idx (ix3 b q 1)).toInt := by
  unfold ScatterDims.start
  rw [dif_pos (show (1 : Fin 2) ∈ sdims.scatterDimsToOperandDims by decide)]
  refine congrArg (fun z => (idx z).toInt) ?_
  funext c; refine Fin.ext ?_
  match c with
  | ⟨0, _⟩ => rfl
  | ⟨1, _⟩ => rfl
  | ⟨2, _⟩ => rfl

/-- Where an update lands. -/
theorem lands (h : Holds I a0 a1 a2 a3 a4 a5 a6 a7) (b : Fin 8) (s : Fin 32) (p : Fin 8) (hq : s.val * 8 + p.val < 256) :
    sdims.resultIdx? (ix2 b ⟨s.val * 8 + p.val, hq⟩) (places a0) = some (ix2 b (I.con b s p)) := by
  obtain ⟨h0, h1⟩ := places_at h b s p hq
  have s0 := (start_row b ⟨s.val * 8 + p.val, hq⟩ (places a0)).trans h0
  have s1 := (start_col b ⟨s.val * 8 + p.val, hq⟩ (places a0)).trans h1
  have hb := b.isLt
  have hc := (I.con b s p).isLt
  have key : ∀ a : Fin 2, sdims.start (ix2 b ⟨s.val * 8 + p.val, hq⟩) (places a0) a + sdims.window (ix2 b ⟨s.val * 8 + p.val, hq⟩) a
      = (((ix2 b (I.con b s p) : S8x4096.Idx) a).val : ℤ) := by
    intro a
    rw [window_zero]
    match a with
    | ⟨0, _⟩ => rw [Nat.cast_zero, add_zero]; exact s0
    | ⟨1, _⟩ => rw [Nat.cast_zero, add_zero]; exact s1
  unfold ScatterDims.resultIdx?
  rw [dif_pos (fun a => by rw [key a]; exact ⟨Int.natCast_nonneg _, by exact_mod_cast ((ix2 b (I.con b s p) : S8x4096.Idx) a).isLt⟩)]
  refine congrArg some ?_
  funext a
  refine Fin.ext ?_
  show (sdims.start (ix2 b ⟨s.val * 8 + p.val, hq⟩) (places a0) a + sdims.window (ix2 b ⟨s.val * 8 + p.val, hq⟩) a).toNat = _
  rw [key a]
  exact Int.toNat_natCast _

/-- An update's index as a sentence, a position and a place. -/
theorem split_ix (j : S8x256.Idx) : ∃ (b : Fin 8) (s : Fin 32) (p : Fin 8) (hq : s.val * 8 + p.val < 256), j = ix2 b ⟨s.val * 8 + p.val, hq⟩ := by
  have hq : (j 1).val < 256 := (j 1).isLt
  refine ⟨j 0, ⟨(j 1).val / 8, by omega⟩, ⟨(j 1).val % 8, by omega⟩, by show (j 1).val / 8 * 8 + (j 1).val % 8 < 256; omega, ?_⟩
  funext a; refine Fin.ext ?_
  match a with
  | ⟨0, _⟩ => rfl
  | ⟨1, _⟩ => show (j 1).val = (j 1).val / 8 * 8 + (j 1).val % 8; omega

/-- The context weights at an index. -/
theorem scattered_at (h : Holds I a0 a1 a2 a3 a4 a5 a6 a7) (b : Fin 8) (hL : (((I.L b : ℤ) : ℝ)) ≠ 0) (v : Fin 4096) :
    (Ideal.hostScatterAdd sdims (fun _ => 0) (places a0) (adds (F := Ideal) a1 a2) (ix2 b v) : EReal) = ((cw I b v : ℝ) : EReal) := by
  have e : (∑ j ∈ Finset.univ.filter (fun j => sdims.resultIdx? j (places a0) = some (ix2 b v)), (adds (F := Ideal) a1 a2 j : EReal))
      = ∑ x ∈ (Finset.univ : Finset (Fin 32 × Fin 8)).filter (fun x => I.con b x.1 x.2 = v), ((wt I b x.1 x.2 / ((I.L b : ℤ) : ℝ) : ℝ) : EReal) := by
    symm
    refine Finset.sum_bij (fun x _ => (ix2 b ⟨x.1.val * 8 + x.2.val, by omega⟩ : S8x256.Idx)) ?_ ?_ ?_ ?_
    · intro x hx
      rw [Finset.mem_filter] at hx ⊢
      exact ⟨Finset.mem_univ _, by rw [lands h, hx.2]⟩
    · intro x _ y _ hxy
      have := congrArg Fin.val (congrFun hxy 1)
      simp only [ix2] at this
      exact Prod.ext (Fin.ext (by omega)) (Fin.ext (by omega))
    · intro j hj
      obtain ⟨b', s, p, hq, rfl⟩ := split_ix j
      rw [Finset.mem_filter] at hj
      have h2 := hj.2
      rw [lands h] at h2
      have h3 := Option.some.inj h2
      have hb : b' = b := congrFun h3 0
      have hv : I.con b' s p = v := congrFun h3 1
      subst hb
      exact ⟨(s, p), by rw [Finset.mem_filter]; exact ⟨Finset.mem_univ _, hv⟩, rfl⟩
    · intro x hx
      exact (adds_at h b hL x.1 x.2 _).symm
  unfold Ideal.hostScatterAdd
  rw [e, sum_coe, zero_add, Finset.sum_filter, Fintype.sum_prod_type]
  rfl

end Cert.KernelIdeal.Hand

end
-- ==== Proof.KerAt.lean ====
/- The kernel's arrays at an index, down to its result. -/
module

public import proofs.«01_k».proof.Proof.KerVal

@[expose] public section

noncomputable section

namespace Cert.KernelIdeal.Hand

open Cert.KernelIdeal Cert.KernelIdeal.Gen
open Idealize.ShloMosaic Idealize.ShloMosaic.TcCoe Idealize.ShloMosaic.StableHlo
open Idealize.SL.Sem Cert.Reals Cert.Formula

/-- A launch's memory holds the numbers `I` at device `c`. -/
abbrev Has (I : Inp) (m : (ℓ : Loc nD τ sig) → Buf (Elt Ideal) ℓ) (c : Dev nD) : Prop :=
  Holds I (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

variable {I : Inp} {m : (ℓ : Loc nD τ sig) → Buf (Elt Ideal) ℓ} {c : Dev nD}

/-- The context weights. -/
theorem count_at (h : Has I m c) (b : Fin 8) (hL : (((I.L b : ℤ) : ℝ)) ≠ 0) (v : Fin 4096) : (countV m c (ix2 b v) : EReal) = ((cw I b v : ℝ) : EReal) := by
  refine Eq.trans ?_ (scattered_at h b hL v)
  rw [count_eq]
  refine congrArg (fun x => Ideal.hostScatterAdd sdims x _ _ (ix2 b v)) ?_
  funext z
  exact Ideal.ofBits_zero_f32

/-- A vector as a row. -/
theorem row_at (x : FVec Ideal S4096 .f32) (v : Fin 4096) : shapeCast S1x4096 x shapeCasts_S4096_S1x4096 (ix2 0 v) = x (ix1 v) := by
  pointwise []

/-- The lambda row. -/
theorem lam_at (h : Has I m c) (v : Fin 4096) : (lamV m c (ix2 0 v) : EReal) = ((I.l v : ℝ) : EReal) := by
  rw [lam_eq]
  exact (row_at _ v).trans (h.l v)

/-- The affectiveness row. -/
theorem aff_at (h : Has I m c) (v : Fin 4096) : (affV m c (ix2 0 v) : EReal) = ((I.f v : ℝ) : EReal) := by
  rw [aff_eq]
  exact (row_at _ v).trans (h.f v)

/-- A point's weights. -/
theorem weight_at (h : Has I m c) (b : Fin 8) (s : Fin 32) (p : Fin 8) (n : ℕ) (hn : n = b.val * 4 + s.val / 8) (r : Fin 8) (hr : r.val = s.val % 8) :
    (weightAt m c n (ix3 0 r p) : EReal) = ((wt I b s p : ℝ) : EReal) := by
  refine Eq.trans ?_ (wts_at h b s p)
  obtain rfl : r = ⟨s.val % 8, Nat.mod_lt _ (by decide)⟩ := Fin.ext hr
  unfold weightAt
  rw [weight_eq]
  show shapeCast S32x8x8 _ _ (ix3 _ (⟨s.val % 8, Nat.mod_lt _ (by decide)⟩ : Fin 8) p) = _
  rw [show (⟨n % 32, Nat.mod_lt _ (by decide)⟩ : Fin 32) = ⟨b.val * 4 + s.val / 8, by omega⟩ from Fin.ext (by show n % 32 = b.val * 4 + s.val / 8; omega)]
  pointwise []

/-- The activation scale. -/
theorem act_at (h : Has I m c) (b : Fin 8) (hL : 0 < I.L b) (v : Fin 4096) : (actA m c (ix2 b v) : EReal) = ((act I b v : ℝ) : EReal) := by
  have hl := lam_at h
  have hc := count_at h b (by exact_mod_cast hL.ne')
  have he : ∀ v d, (embV m c (ix2 v d) : EReal) = I.e v d := fun v d => by rw [emb_eq]; exact h.e v d
  have hk : ∀ v d, (kbV m c (ix2 v d) : EReal) = I.k v d := fun v d => by rw [kb_eq]; exact h.k v d
  have hx : (fun d => ∑ v, (cw I b v : EReal) * I.e v d) = ctx I b := funext (kctx_eq I b hL)
  unfold actA actS
  generalize lamV m c = l at hl ⊢
  generalize countV m c = a at hc ⊢
  generalize embV m c = e at he ⊢
  generalize kbV m c = k at hk ⊢
  pointwise [k0_pay14, k0_pay13, k0_pay3]
  simp only [hl, hc, he, hk, h.ε, five_coe, ← EReal.coe_mul]
  show FloatOps.absf (F := Ideal) (φ := .f32) (∑ d, normed I.ε (fun d => ∑ v, (cw I b v : EReal) * I.e v d) d * I.k v d)
    * Ideal.div ((5 * I.l v : ℝ) : EReal) (fl I.ε (I.k v)) = _
  rw [hx]
  rw [show normed I.ε (ctx I b) = _ from funext (normed_coe h.ε0 (ctx I b))]
  exact scaled_coe h.ε0 _ _ _

/-- The affective term. -/
theorem affc_at (h : Has I m c) (v : Fin 4096) : (affC m c (ix2 0 v) : EReal) = ((affc I v : ℝ) : EReal) := by
  have hl := lam_at h
  have hf := aff_at h
  unfold affC actC
  generalize lamV m c = l at hl ⊢
  generalize affV m c = f at hf ⊢
  pointwise [k0_pay15, k0_pay13]
  rw [hl, hf, five_coe, ← EReal.coe_one, ← EReal.coe_sub, ← EReal.coe_mul, ← EReal.coe_mul]
  rfl

/-- The flat table at an index. -/
theorem tab_ix (x : IVec S8x32x8 32) (b : Fin 8) (s : Fin 32) (p : Fin 8) (n : ℕ) (hn : n = b.val * 256 + s.val * 8 + p.val) :
    word (F := Ideal) (shapeCast S2048 x shapeCasts_S8x32x8_S2048) n = x (ix3 b s p) := by
  have e : (fun a => ⟨n % 2048, by match a with | ⟨0, _⟩ => exact Nat.mod_lt _ (by decide)⟩ : S2048.Idx) = ix1 ⟨b.val * 256 + s.val * 8 + p.val, by omega⟩ := by
    funext a; refine Fin.ext ?_
    match a with
    | ⟨0, _⟩ => show n % 2048 = b.val * 256 + s.val * 8 + p.val; omega
  refine Eq.trans (congrArg (shapeCast S2048 x shapeCasts_S8x32x8_S2048) e) ?_
  pointwise []

/-- The word of the table for place `p` of position `s`. -/
theorem word_at (h : Has I m c) (b : Fin 8) (s : Fin 32) (p : Fin 8) (n : ℕ) (hn : n = b.val * 256 + s.val * 8 + p.val) :
    rowOf (tabV m c) n = I.con b s p := by
  refine Fin.ext ?_
  have e : word (tabV m c) n = m ((c.tc : Thread nD τ).loc main_arg0) (ix3 b s p) := by
    rw [tab_eq]
    generalize m ((c.tc : Thread nD τ).loc main_arg0) = x
    exact tab_ix x b s p n hn
  have hc := h.con b s p
  have hl := (I.con b s p).isLt
  show (word (tabV m c) n).toNat % 4096 = _
  rw [e]
  rw [BitVec.toInt_eq_toNat_cond] at hc
  have := (m ((c.tc : Thread nD τ).loc main_arg0) (ix3 b s p)).isLt
  split at hc <;> omega

/-- A gathered row. -/
theorem rows_at (h : Has I m c) (b : Fin 8) (s : Fin 32) (v : Fin 4096) (hx : b.val * 32 + s.val < 256) :
    (gRows m c (ix2 ⟨b.val * 32 + s.val, hx⟩ v) : EReal) = ((krow I b s v : ℝ) : EReal) := by
  have hb := b.isLt
  have hs := s.isLt
  have hg : segWord (segV m c) ((b.val * 32 + s.val) / 8 / 4) = m ((c.tc : Thread nD τ).loc main_arg2) (ix1 b) := by
    rw [seg_eq]
    refine congrArg (m ((c.tc : Thread nD τ).loc main_arg2)) (funext fun a => Fin.ext ?_)
    match a with
    | ⟨0, _⟩ => show (b.val * 32 + s.val) / 8 / 4 % 8 = b.val; omega
  have hl : live (segV m c) ((b.val * 32 + s.val) / 8) ↔ (((s.val / 8 * 8 : ℕ)) : ℤ) < I.L b := by
    unfold live
    rw [hg, h.L, show (b.val * 32 + s.val) / 8 % 4 = s.val / 8 by omega]
    exact ⟨fun h => h.2, fun h => ⟨by omega, h⟩⟩
  show (rowsVal (actA m c) (affC m c) (weightAt m c ((b.val * 32 + s.val) / 8)) (edgeV m c) (tabV m c) (segV m c) ((b.val * 32 + s.val) / 8)
    (ix2 (⟨(b.val * 32 + s.val) % 8, Nat.mod_lt _ (by decide)⟩ : Fin 8) v) : EReal) = _
  unfold rowsVal krow
  by_cases hv : (((s.val / 8 * 8 : ℕ)) : ℤ) < I.L b
  · have hL : 0 < I.L b := by omega
    rw [if_pos (hl.2 hv), if_pos hv]
    refine block_at _ _ _ _ _ _ _ v (act I b) (affc I) (fun p => I.E (I.con b s p)) (wt I b s) (fun v => ?_) (affc_at h) (fun p v => ?_) (fun p => ?_)
    · refine Eq.trans (congrArg (actA m c) ?_) (act_at h b hL v)
      refine congrArg (fun b => (ix2 b v : S8x4096.Idx)) (Fin.ext ?_)
      show (b.val * 32 + s.val) / 8 / 4 % 8 = b.val
      omega
    · refine Eq.trans ?_ (h.E (I.con b s p) v)
      rw [← word_at h b s p ((b.val * 32 + s.val) / 8 * 64 + ((b.val * 32 + s.val) % 8 * 8 + p.val)) (by omega), ← edge_eq m c]
      rfl
    · exact weight_at h b s p _ (by omega) _ (by show (b.val * 32 + s.val) % 8 = s.val % 8; omega)
  · rw [if_neg (fun e => hv (hl.1 e)), if_neg hv]
    exact Ideal.ofBits_zero_f32

/-- The result at an index. -/
theorem res_at (h : Has I m c) (b : Fin 8) (s : Fin 32) (d : Fin 128) : (resV m c (ix3 b s d) : EReal) = kout I b s d := by
  have hk : ∀ v d, (kbV m c (ix2 v d) : EReal) = I.k v d := fun v d => by rw [kb_eq]; exact h.k v d
  have hr := rows_at h b s
  unfold resV outV
  generalize gRows m c = g at hr ⊢
  generalize kbV m c = k at hk ⊢
  pointwise [k0_pay2]
  simp only [hr, hk]
  rfl

end Cert.KernelIdeal.Hand

end
-- ==== Proof.Inputs.lean ====
/- The precondition's arrays as numbers. -/
module

public import proofs.«01_k».proof.Proof.Domain
public import proofs.«01_k».proof.Proof.Formula

@[expose] public section

noncomputable section

open Idealize.ShloMosaic

namespace Cert.Domain

open Cert.Pre_domain Cert.Pre_domain.Gen Cert.Reals

/-- A finite element is a real number. -/
theorem Fin1.real {x : EReal} (h : Fin1 (F := Ideal) x) : ∃ r : ℝ, x = (r : EReal) := by
  have j : S_.Idx := fun a => a.elim0
  have h0 : BitVec.ofBool (decide (max x (-x) < Ideal.ofBits .f32 0x7F800000#32)) = 1#1 := congrFun h j
  rw [posInf_eq] at h0
  refine real_of_lt ?_
  by_contra hn
  rw [decide_eq_false hn] at h0
  exact absurd h0 (by decide)

variable {a0 : IVec S8x32x8 32} {a1 : IVec S8x32 32} {a2 : IVec S8 32} {a3 a4 : FVec Ideal S4096x128 .f32}
    {a5 : FVec Ideal S4096x4096 .f32} {a6 a7 : FVec Ideal S4096 .f32}

/-- Arrays in the domain hold some numbers. -/
theorem Holds.inp (h : Holds (F := Ideal) a0 a1 a2 a3 a4 a5 a6 a7) : ∃ I : Cert.Formula.Inp, Cert.Formula.Holds I a0 a1 a2 a3 a4 a5 a6 a7 := by
  obtain ⟨ε, ε0, hε⟩ := eps_coe
  choose E hE using fun i => (h.edge i).real
  choose f hf using fun i => (h.aff i).real
  choose l hl using fun i => (h.lam i).real
  refine ⟨⟨fun b s p => ⟨(a0 (ix3 b s p)).toInt.toNat, ?_⟩, fun b s => (a1 (ix2 b s)).toInt, fun b => (a2 (ix1 b)).toInt, fun v d => a3 (ix2 v d),
    fun v d => a4 (ix2 v d), fun v u => E (ix2 v u), fun v => f (ix1 v), fun v => l (ix1 v), ε⟩, ?_⟩
  · have := h.concept (ix3 b s p)
    omega
  · exact ⟨fun b s p => (Int.toNat_of_nonneg (h.concept (ix3 b s p)).1).symm, fun _ _ => rfl, fun _ => rfl,
      fun _ _ => rfl, fun _ _ => rfl, fun v u => hE _, fun v => hf _, fun v => hl _, ε0, hε⟩

end Cert.Domain

/-- Equal arrays hold the same numbers. -/
theorem Cert.Formula.Holds.of_eq {I : Cert.Formula.Inp} {a0 b0 : IVec ⟨3, ![8, 32, 8]⟩ 32} {a1 b1 : IVec ⟨2, ![8, 32]⟩ 32} {a2 b2 : IVec ⟨1, ![8]⟩ 32}
    {a3 b3 a4 b4 : FVec Ideal ⟨2, ![4096, 128]⟩ .f32} {a5 b5 : FVec Ideal ⟨2, ![4096, 4096]⟩ .f32} {a6 b6 a7 b7 : FVec Ideal ⟨1, ![4096]⟩ .f32}
    (h : Cert.Formula.Holds I a0 a1 a2 a3 a4 a5 a6 a7) (e0 : b0 = a0) (e1 : b1 = a1) (e2 : b2 = a2) (e3 : b3 = a3) (e4 : b4 = a4)
    (e5 : b5 = a5) (e6 : b6 = a6) (e7 : b7 = a7) : Cert.Formula.Holds I b0 b1 b2 b3 b4 b5 b6 b7 := by
  subst e0 e1 e2 e3 e4 e5 e6 e7
  exact h

end
-- ==== Proof.lean ====
/- The claims: the kernel and the reference run, leave their arguments unchanged, end with every semaphore at zero, and over
   the extended reals end with equal results. -/
module

public import proofs.«01_k».proof.Defs
public import proofs.«01_k».proof.Proof.Domain
public import proofs.«01_k».proof.Proof.End
public import proofs.«01_k».proof.Proof.Ideal.End
public import proofs.«01_k».proof.Proof.Reference
public import proofs.«01_k».proof.Proof.RefEnd
public import proofs.«01_k».proof.Proof.KerAt
public import proofs.«01_k».proof.Proof.Inputs
public import proofs.«01_k».proof.Proof.Gen.Kernel
public import proofs.«01_k».proof.Proof.Gen.KernelIdeal
public import proofs.«01_k».proof.Proof.Gen.ReferenceIdeal
public import proofs.«01_k».proof.Proof.Gen.Pre_domain
public import Idealize.ShloMosaic.Adequacy
public import Idealize.ShloMosaic.Init

@[expose] public section

noncomputable section

namespace Cert.Proof

open Idealize.ShloMosaic Idealize.SL.Sem

/-- Every entry of the kernel's prefetched table is a row number. -/
theorem table_lt (m : (ℓ : Loc Cert.Kernel.nD Cert.Kernel.τ Cert.Kernel.sig) → Buf (Elt Bits) ℓ) (h : Cert.Pre_Kernel m)
    (c : Dev Cert.Kernel.nD) (x : Cert.Kernel.S2048.Idx) : (Cert.Kernel.Hand.tabV m c x).toNat < 4096 := by
  rw [Cert.Kernel.Hand.tab_eq]
  exact (Cert.Domain.holds_of (h c)).concept_lt _

/-- The same over the extended reals. -/
theorem table_lt_ideal (m : (ℓ : Loc Cert.KernelIdeal.nD Cert.KernelIdeal.τ Cert.KernelIdeal.sig) → Buf (Elt Ideal) ℓ) (h : Cert.Pre_KernelIdeal m)
    (c : Dev Cert.KernelIdeal.nD) (x : Cert.KernelIdeal.S2048.Idx) : (Cert.KernelIdeal.Hand.tabV m c x).toNat < 4096 := by
  rw [Cert.KernelIdeal.Hand.tab_eq]
  exact (Cert.Domain.holds_of (h c)).concept_lt _

/-- The kernel's frame. -/
theorem frame_kernel : Cert.quiescent_Kernel := fun m g hm =>
  (θ_run Cert.Kernel.defs _ _).mono (fun r h => ⟨fun c => (h.1 c).2, h.2⟩) (Cert.Kernel.Hand.run_end m g (table_lt m hm))

/-- The frame of the kernel over the extended reals. -/
theorem frame_ideal : Cert.quiescent_KernelIdeal := fun m g hm =>
  (θ_run Cert.KernelIdeal.defs _ _).mono (fun r h => ⟨fun c => (h.1 c).2, h.2⟩) (Cert.KernelIdeal.Hand.run_end m g (table_lt_ideal m hm))

/-- The reference's arguments after its run. -/
theorem reference_kept (m : (ℓ : Loc Cert.ReferenceIdeal.nD Cert.ReferenceIdeal.τ Cert.ReferenceIdeal.sig) → Buf (Elt Ideal) ℓ)
    (c : Dev Cert.ReferenceIdeal.nD) (b : Ref Cert.ReferenceIdeal.sig .tc) (h0 : b ∉ Cert.ReferenceIdeal.Hand.written0)
    (h1 : b ∉ Cert.ReferenceIdeal.Hand.written1) {x : Buf (Elt Ideal) ((c.tc : Thread Cert.ReferenceIdeal.nD Cert.ReferenceIdeal.τ).loc b)}
    (h : x = StableHlo.after (Cert.ReferenceIdeal.Hand.ops0 ++ Cert.ReferenceIdeal.Hand.ops1) (StableHlo.launchContents m c) (Proc.devRef .tc b)) :
    x = m ((c.tc : Thread Cert.ReferenceIdeal.nD Cert.ReferenceIdeal.τ).loc b) :=
  h.trans (Cert.ReferenceIdeal.Hand.kept _ b h0 h1)

/-- The reference's frame. -/
theorem frame_reference : Cert.quiescent_ReferenceIdeal := fun m g _ =>
  (θ_run Cert.ReferenceIdeal.defs _ _).mono
    (fun r h => ⟨fun c => ⟨reference_kept m c _ (by decide) (by decide) (h c _), reference_kept m c _ (by decide) (by decide) (h c _),
      reference_kept m c _ (by decide) (by decide) (h c _), reference_kept m c _ (by decide) (by decide) (h c _),
      reference_kept m c _ (by decide) (by decide) (h c _), reference_kept m c _ (by decide) (by decide) (h c _),
      reference_kept m c _ (by decide) (by decide) (h c _), reference_kept m c _ (by decide) (by decide) (h c _)⟩,
      Idealize.ShloMosaic.sem_eq_zero_of_no_sems (by decide) r.2⟩)
    (Cert.ReferenceIdeal.Hand.run_main m g)

/-- The same from memories in the kernel's domain. -/
theorem frame_reference_domain : Cert.quiescent_ReferenceIdeal_pre_domain := fun m g _ => frame_reference m g trivial

/-- From memories that agree on the arguments, the reference's result is the kernel's. -/
theorem results_agree (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal)) {I : Cert.Formula.Inp}
    (hk : Cert.KernelIdeal.Hand.Has I m c) (hr : Cert.ReferenceIdeal.Hand.Has I V) :
    StableHlo.after (Cert.ReferenceIdeal.Hand.ops0 ++ Cert.ReferenceIdeal.Hand.ops1) V (Proc.devRef .tc Cert.ReferenceIdeal.main_v99)
      = Cert.KernelIdeal.Hand.resV m c := by
  funext i
  have e : i = ix3 (i 0) (i 1) (i 2) := by
    funext a
    match a with
    | ⟨0, _⟩ => rfl
    | ⟨1, _⟩ => rfl
    | ⟨2, _⟩ => rfl
  rw [e]
  exact (Cert.ReferenceIdeal.Hand.result_at hr (i 0) (i 1) (i 2)).trans
    ((Cert.Formula.kout_eq I (i 0) (i 1) (i 2)).symm.trans (Cert.KernelIdeal.Hand.res_at hk (i 0) (i 1) (i 2)).symm)

/-- Over the extended reals the kernel and the reference end with equal results. -/
theorem algebraic : Cert.algebraic_KernelIdeal_ReferenceIdeal := fun m g m' g' hm ha =>
  ⟨fun c => Cert.KernelIdeal.Hand.resV m c,
    (θ_run Cert.KernelIdeal.defs _ _).mono (fun r h => h.1) (Cert.KernelIdeal.Hand.run_end m g (table_lt_ideal m hm)),
    (θ_run Cert.ReferenceIdeal.defs _ _).mono
      (fun r h c => ⟨by
          obtain ⟨I, hI⟩ := (Cert.Domain.holds_of (hm c)).inp
          obtain ⟨e0, e1, e2, e3, e4, e5, e6, e7⟩ := ha c
          exact (h c _).trans (results_agree m c _ hI (hI.of_eq e0 e1 e2 e3 e4 e5 e6 e7)),
        reference_kept m' c _ (by decide) (by decide) (h c _), reference_kept m' c _ (by decide) (by decide) (h c _),
        reference_kept m' c _ (by decide) (by decide) (h c _), reference_kept m' c _ (by decide) (by decide) (h c _),
        reference_kept m' c _ (by decide) (by decide) (h c _), reference_kept m' c _ (by decide) (by decide) (h c _),
        reference_kept m' c _ (by decide) (by decide) (h c _), reference_kept m' c _ (by decide) (by decide) (h c _)⟩)
      (Cert.ReferenceIdeal.Hand.run_main m' g')⟩

theorem claim : Cert.Claim := ⟨Cert.Kernel.Gen.facts, Cert.KernelIdeal.Gen.facts, Cert.ReferenceIdeal.Gen.facts, Cert.Pre_domain.Gen.facts,
  frame_kernel, frame_ideal, frame_reference, frame_reference_domain, trivial, algebraic⟩

end Cert.Proof

end
